-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)) (v4 : (c : Dev Cert.KernelIdeal.nD) → Buf (Elt Ideal) ((c.tc : Thread Cert.KernelIdeal.nD Cert.KernelIdeal.τ).loc Cert.KernelIdeal.main_v33_4)) (v5 : (c : Dev Cert.KernelIdeal.nD) → Buf (Elt Ideal) ((c.tc : Thread Cert.KernelIdeal.nD Cert.KernelIdeal.τ).loc Cert.KernelIdeal.main_v33_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_v33_4) = v4 c
          ∧ r.2.mem ((c.tc : Thread Cert.KernelIdeal.nD Cert.KernelIdeal.τ).loc Cert.KernelIdeal.main_v33_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v81) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v44) = v3 c
          ∧ r.2.mem ((c.tc : Thread Cert.Reference4Ideal.nD Cert.Reference4Ideal.τ).loc Cert.Reference4Ideal.main_v45) = v4 c
          ∧ r.2.mem ((c.tc : Thread Cert.Reference4Ideal.nD Cert.Reference4Ideal.τ).loc Cert.Reference4Ideal.main_v46) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)) (v4 : (c : Dev Cert.Kernel11Ideal.nD) → Buf (Elt Ideal) ((c.tc : Thread Cert.Kernel11Ideal.nD Cert.Kernel11Ideal.τ).loc Cert.Kernel11Ideal.main_v5_4)) (v5 : (c : Dev Cert.Kernel11Ideal.nD) → Buf (Elt Ideal) ((c.tc : Thread Cert.Kernel11Ideal.nD Cert.Kernel11Ideal.τ).loc Cert.Kernel11Ideal.main_v5_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_v5_4) = v4 c
          ∧ r.2.mem ((c.tc : Thread Cert.Kernel11Ideal.nD Cert.Kernel11Ideal.τ).loc Cert.Kernel11Ideal.main_v5_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v49) = v0 c
          ∧ r.2.mem ((c.tc : Thread Cert.Reference11Ideal.nD Cert.Reference11Ideal.τ).loc Cert.Reference11Ideal.main_v50) = v1 c
          ∧ r.2.mem ((c.tc : Thread Cert.Reference11Ideal.nD Cert.Reference11Ideal.τ).loc Cert.Reference11Ideal.main_v51) = v2 c
          ∧ r.2.mem ((c.tc : Thread Cert.Reference11Ideal.nD Cert.Reference11Ideal.τ).loc Cert.Reference11Ideal.main_v19) = v3 c
          ∧ r.2.mem ((c.tc : Thread Cert.Reference11Ideal.nD Cert.Reference11Ideal.τ).loc Cert.Reference11Ideal.main_v34) = v4 c
          ∧ r.2.mem ((c.tc : Thread Cert.Reference11Ideal.nD Cert.Reference11Ideal.τ).loc Cert.Reference11Ideal.main_v52) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_v54) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_v56) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)) (v4 : (c : Dev Cert.Kernel12Ideal.nD) → Buf (Elt Ideal) ((c.tc : Thread Cert.Kernel12Ideal.nD Cert.Kernel12Ideal.τ).loc Cert.Kernel12Ideal.main_v3_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_v3_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v33) = v0 c
          ∧ r.2.mem ((c.tc : Thread Cert.Reference12Ideal.nD Cert.Reference12Ideal.τ).loc Cert.Reference12Ideal.main_v34) = v1 c
          ∧ r.2.mem ((c.tc : Thread Cert.Reference12Ideal.nD Cert.Reference12Ideal.τ).loc Cert.Reference12Ideal.main_v35) = v2 c
          ∧ r.2.mem ((c.tc : Thread Cert.Reference12Ideal.nD Cert.Reference12Ideal.τ).loc Cert.Reference12Ideal.main_v36) = v3 c
          ∧ r.2.mem ((c.tc : Thread Cert.Reference12Ideal.nD Cert.Reference12Ideal.τ).loc Cert.Reference12Ideal.main_v37) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)) (v3 : (c : Dev Cert.Kernel13Ideal.nD) → Buf (Elt Ideal) ((c.tc : Thread Cert.Kernel13Ideal.nD Cert.Kernel13Ideal.τ).loc Cert.Kernel13Ideal.main_v6_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_v6_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v29) = v2 c
          ∧ r.2.mem ((c.tc : Thread Cert.Reference13Ideal.nD Cert.Reference13Ideal.τ).loc Cert.Reference13Ideal.main_v30) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)) (v2 : (c : Dev Cert.Kernel14Ideal.nD) → Buf (Elt Ideal) ((c.tc : Thread Cert.Kernel14Ideal.nD Cert.Kernel14Ideal.τ).loc Cert.Kernel14Ideal.main_v6_2)) (v3 : (c : Dev Cert.Kernel14Ideal.nD) → Buf (Elt Ideal) ((c.tc : Thread Cert.Kernel14Ideal.nD Cert.Kernel14Ideal.τ).loc Cert.Kernel14Ideal.main_v6_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_v6_2) = v2 c
          ∧ r.2.mem ((c.tc : Thread Cert.Kernel14Ideal.nD Cert.Kernel14Ideal.τ).loc Cert.Kernel14Ideal.main_v6_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel4 : Cert.Kernel4.Facts) (hKernel4Ideal : Cert.Kernel4Ideal.Facts) (hReference4Ideal : Cert.Reference4Ideal.Facts) (hKernel11 : Cert.Kernel11.Facts) (hKernel11Ideal : Cert.Kernel11Ideal.Facts) (hReference11Ideal : Cert.Reference11Ideal.Facts) (hKernel7 : Cert.Kernel7.Facts) (hKernel7Ideal : Cert.Kernel7Ideal.Facts) (hReference7Ideal : Cert.Reference7Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel4_Kernel4Ideal
    ∧ algebraic_Kernel4Ideal_Reference4Ideal (hKernel4Ideal := hKernel4Ideal) (hReference4Ideal := hReference4Ideal)
    ∧ preserves_Kernel11_Kernel11Ideal
    ∧ algebraic_Kernel11Ideal_Reference11Ideal (hKernel11Ideal := hKernel11Ideal) (hReference11Ideal := hReference11Ideal)
    ∧ preserves_Kernel7_Kernel7Ideal
    ∧ algebraic_Kernel7Ideal_Reference7Ideal (hKernel7Ideal := hKernel7Ideal) (hReference7Ideal := hReference7Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S1x2048x5632 : Shape := ⟨3, ![1, 2048, 5632]⟩
abbrev S3x5632 : Shape := ⟨2, ![3, 5632]⟩
abbrev S5632 : Shape := ⟨1, ![5632]⟩
abbrev S2816x1024 : Shape := ⟨2, ![2816, 1024]⟩
abbrev S2048x1024 : Shape := ⟨2, ![2048, 1024]⟩
abbrev S_ : Shape := ⟨0, ![]⟩

class Facts : Prop where
  bcast_S_S1x2048x5632 : S_.BroadcastsInDim S1x2048x5632 (![] : Fin 0 → Fin S1x2048x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S2048x1024 : S_.BroadcastsInDim S2048x1024 (![] : Fin 0 → Fin S2048x1024.rank)

variable [Facts]

def fn {F : FTy → Type} [FloatOps F] (main_arg0 : FVec F S1x2048x5632 .f32) (main_arg1 : FVec F S3x5632 .f32) (main_arg2 : FVec F S5632 .f32) (main_arg3 : FVec F S2816x1024 .f32) (main_arg4 : FVec F S2048x1024 .f32) : IVec S1x2048x5632 1 × IVec S3x5632 1 × IVec S5632 1 × IVec S2816x1024 1 × IVec S2048x1024 1 :=
  let main_v0 : FVec F S1x2048x5632 .f32 := Host.absf main_arg0
  let main_cst : FVec F S_ .f32 := constant S_ .f32 0x7F800000#32
  let main_v1 : FVec F S1x2048x5632 .f32 := broadcastInDim S1x2048x5632 ![] bcast_S_S1x2048x5632 main_cst
  let main_v2 : IVec S1x2048x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Kernel.lean ====
abbrev S1x2048x5632 : Shape := ⟨3, ![1, 2048, 5632]⟩
abbrev S3x5632 : Shape := ⟨2, ![3, 5632]⟩
abbrev S5632 : Shape := ⟨1, ![5632]⟩
abbrev S2816x1024 : Shape := ⟨2, ![2816, 1024]⟩
abbrev S2048x1024 : Shape := ⟨2, ![2048, 1024]⟩
abbrev S_ : Shape := ⟨0, ![]⟩
abbrev S1x2x5632 : Shape := ⟨3, ![1, 2, 5632]⟩
abbrev S1x2050x5632 : Shape := ⟨3, ![1, 2050, 5632]⟩
abbrev S1x5632 : Shape := ⟨2, ![1, 5632]⟩
abbrev S1x1x5632 : Shape := ⟨3, ![1, 1, 5632]⟩
abbrev S2048x5632 : Shape := ⟨2, ![2048, 5632]⟩
abbrev S2048x2816 : Shape := ⟨2, ![2048, 2816]⟩
abbrev S3x2816 : Shape := ⟨2, ![3, 2816]⟩
abbrev S1x2816 : Shape := ⟨2, ![1, 2816]⟩
abbrev S256x1024 : Shape := ⟨2, ![256, 1024]⟩
abbrev S1408x1024 : Shape := ⟨2, ![1408, 1024]⟩
abbrev S256x1408 : Shape := ⟨2, ![256, 1408]⟩
abbrev S3x1408 : Shape := ⟨2, ![3, 1408]⟩
abbrev S1x1408 : Shape := ⟨2, ![1, 1408]⟩
abbrev S16x1408 : Shape := ⟨2, ![16, 1408]⟩
abbrev S8x1408 : Shape := ⟨2, ![8, 1408]⟩
abbrev S1408 : Shape := ⟨1, ![1408]⟩

abbrev nBuf : Space → Nat
  | .hbm => 45
  | .vmem => 29
  | .smem => 0
  | _ => 0

abbrev bufTy : (tb : Table) → Fin (tcTables nBuf tb) → BufTy
  | .hbm, ⟨0, _⟩ => ⟨S1x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S2048x1024, .f32⟩
  | .hbm, ⟨5, _⟩ => ⟨S_, .f32⟩
  | .hbm, ⟨6, _⟩ => ⟨S1x2x5632, .f32⟩
  | .hbm, ⟨7, _⟩ => ⟨S1x2050x5632, .f32⟩
  | .hbm, ⟨8, _⟩ => ⟨S1x5632, .f32⟩
  | .hbm, ⟨9, _⟩ => ⟨S5632, .f32⟩
  | .hbm, ⟨10, _⟩ => ⟨S1x2048x5632, .f32⟩
  | .hbm, ⟨11, _⟩ => ⟨S1x1x5632, .f32⟩
  | .hbm, ⟨12, _⟩ => ⟨S1x2048x5632, .f32⟩
  | .hbm, ⟨13, _⟩ => ⟨S1x2048x5632, .f32⟩
  | .hbm, ⟨14, _⟩ => ⟨S1x1x5632, .f32⟩
  | .hbm, ⟨15, _⟩ => ⟨S1x2048x5632, .f32⟩
  | .hbm, ⟨16, _⟩ => ⟨S1x2048x5632, .f32⟩
  | .hbm, ⟨17, _⟩ => ⟨S1x5632, .f32⟩
  | .hbm, ⟨18, _⟩ => ⟨S5632, .f32⟩
  | .hbm, ⟨19, _⟩ => ⟨S1x2048x5632, .f32⟩
  | .hbm, ⟨20, _⟩ => ⟨S1x1x5632, .f32⟩
  | .hbm, ⟨21, _⟩ => ⟨S1x2048x5632, .f32⟩
  | .hbm, ⟨22, _⟩ => ⟨S1x2048x5632, .f32⟩
  | .hbm, ⟨23, _⟩ => ⟨S1x2048x5632, .f32⟩
  | .hbm, ⟨24, _⟩ => ⟨S1x5632, .f32⟩
  | .hbm, ⟨25, _⟩ => ⟨S5632, .f32⟩
  | .hbm, ⟨26, _⟩ => ⟨S1x2048x5632, .f32⟩
  | .hbm, ⟨27, _⟩ => ⟨S1x1x5632, .f32⟩
  | .hbm, ⟨28, _⟩ => ⟨S1x2048x5632, .f32⟩
  | .hbm, ⟨29, _⟩ => ⟨S1x2048x5632, .f32⟩
  | .hbm, ⟨30, _⟩ => ⟨S1x2048x5632, .f32⟩
  | .hbm, ⟨31, _⟩ => ⟨S2048x5632, .f32⟩
  | .hbm, ⟨32, _⟩ => ⟨S2048x5632, .f32⟩
  | .hbm, ⟨33, _⟩ => ⟨S2048x1024, .bf16⟩
  | .hbm, ⟨34, _⟩ => ⟨S2816x1024, .bf16⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S3x2816, .f32⟩
  | .hbm, ⟨40, _⟩ => ⟨S3x2816, .f32⟩
  | .hbm, ⟨41, _⟩ => ⟨S1x2816, .f32⟩
  | .hbm, ⟨42, _⟩ => ⟨S1x2816, .f32⟩
  | .hbm, ⟨43, _⟩ => ⟨S2048x2816, .bf16⟩
  | .hbm, ⟨44, _⟩ => ⟨S2048x2816, .bf16⟩
  | .local _ .vmem, ⟨0, _⟩ => ⟨S256x1024, .bf16⟩
  | .local _ .vmem, ⟨1, _⟩ => ⟨S256x1024, .bf16⟩
  | .local _ .vmem, ⟨2, _⟩ => ⟨S1408x1024, .bf16⟩
  | .local _ .vmem, ⟨3, _⟩ => ⟨S1408x1024, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S3x1408, .f32⟩
  | .local _ .vmem, ⟨13, _⟩ => ⟨S3x1408, .f32⟩
  | .local _ .vmem, ⟨14, _⟩ => ⟨S3x1408, .f32⟩
  | .local _ .vmem, ⟨15, _⟩ => ⟨S3x1408, .f32⟩
  | .local _ .vmem, ⟨16, _⟩ => ⟨S3x1408, .f32⟩
  | .local _ .vmem, ⟨17, _⟩ => ⟨S3x1408, .f32⟩
  | .local _ .vmem, ⟨18, _⟩ => ⟨S3x1408, .f32⟩
  | .local _ .vmem, ⟨19, _⟩ => ⟨S3x1408, .f32⟩
  | .local _ .vmem, ⟨20, _⟩ => ⟨S1x1408, .f32⟩
  | .local _ .vmem, ⟨21, _⟩ => ⟨S1x1408, .f32⟩
  | .local _ .vmem, ⟨22, _⟩ => ⟨S1x1408, .f32⟩
  | .local _ .vmem, ⟨23, _⟩ => ⟨S1x1408, .f32⟩
  | .local _ .vmem, ⟨24, _⟩ => ⟨S256x1408, .bf16⟩
  | .local _ .vmem, ⟨25, _⟩ => ⟨S256x1408, .bf16⟩
  | .local _ .vmem, ⟨26, _⟩ => ⟨S256x1408, .bf16⟩
  | .local _ .vmem, ⟨27, _⟩ => ⟨S256x1408, .bf16⟩
  | .local _ .vmem, ⟨28, _⟩ => ⟨S16x1408, .f32⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev main_v33_3 : Ref sig .tc := ⟨.hbm, 42, rfl⟩
abbrev main_v33_4 : Ref sig .tc := ⟨.hbm, 43, rfl⟩
abbrev main_v33_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S1x2048x5632 : Shape := ⟨3, ![1, 2048, 5632]⟩
abbrev S3x5632 : Shape := ⟨2, ![3, 5632]⟩
abbrev S5632 : Shape := ⟨1, ![5632]⟩
abbrev S2816x1024 : Shape := ⟨2, ![2816, 1024]⟩
abbrev S2048x1024 : Shape := ⟨2, ![2048, 1024]⟩
abbrev S_ : Shape := ⟨0, ![]⟩
abbrev S1x2x5632 : Shape := ⟨3, ![1, 2, 5632]⟩
abbrev S1x2050x5632 : Shape := ⟨3, ![1, 2050, 5632]⟩
abbrev S1x5632 : Shape := ⟨2, ![1, 5632]⟩
abbrev S1x1x5632 : Shape := ⟨3, ![1, 1, 5632]⟩
abbrev S1x2048x2816 : Shape := ⟨3, ![1, 2048, 2816]⟩
abbrev S1x2048x1024 : Shape := ⟨3, ![1, 2048, 1024]⟩
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩

abbrev nBuf : Space → Nat
  | .hbm => 123
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S2048x1024, .f32⟩
  | .hbm, ⟨5, _⟩ => ⟨S_, .f32⟩
  | .hbm, ⟨6, _⟩ => ⟨S1x2x5632, .f32⟩
  | .hbm, ⟨7, _⟩ => ⟨S1x2050x5632, .f32⟩
  | .hbm, ⟨8, _⟩ => ⟨S_, .f32⟩
  | .hbm, ⟨9, _⟩ => ⟨S1x2x5632, .f32⟩
  | .hbm, ⟨10, _⟩ => ⟨S1x5632, .f32⟩
  | .hbm, ⟨11, _⟩ => ⟨S5632, .f32⟩
  | .hbm, ⟨12, _⟩ => ⟨S1x2048x5632, .f32⟩
  | .hbm, ⟨13, _⟩ => ⟨S1x1x5632, .f32⟩
  | .hbm, ⟨14, _⟩ => ⟨S1x2048x5632, .f32⟩
  | .hbm, ⟨15, _⟩ => ⟨S1x2048x5632, .f32⟩
  | .hbm, ⟨16, _⟩ => ⟨S1x1x5632, .f32⟩
  | .hbm, ⟨17, _⟩ => ⟨S1x2048x5632, .f32⟩
  | .hbm, ⟨18, _⟩ => ⟨S1x2048x5632, .f32⟩
  | .hbm, ⟨19, _⟩ => ⟨S1x5632, .f32⟩
  | .hbm, ⟨20, _⟩ => ⟨S5632, .f32⟩
  | .hbm, ⟨21, _⟩ => ⟨S1x2048x5632, .f32⟩
  | .hbm, ⟨22, _⟩ => ⟨S1x1x5632, .f32⟩
  | .hbm, ⟨23, _⟩ => ⟨S1x2048x5632, .f32⟩
  | .hbm, ⟨24, _⟩ => ⟨S1x2048x5632, .f32⟩
  | .hbm, ⟨25, _⟩ => ⟨S1x2048x5632, .f32⟩
  | .hbm, ⟨26, _⟩ => ⟨S1x5632, .f32⟩
  | .hbm, ⟨27, _⟩ => ⟨S5632, .f32⟩
  | .hbm, ⟨28, _⟩ => ⟨S1x2048x5632, .f32⟩
  | .hbm, ⟨29, _⟩ => ⟨S1x1x5632, .f32⟩
  | .hbm, ⟨30, _⟩ => ⟨S1x2048x5632, .f32⟩
  | .hbm, ⟨31, _⟩ => ⟨S1x2048x5632, .f32⟩
  | .hbm, ⟨32, _⟩ => ⟨S1x2048x5632, .f32⟩
  | .hbm, ⟨33, _⟩ => ⟨S1x2048x2816, .f32⟩
  | .hbm, ⟨34, _⟩ => ⟨S1x2048x2816, .f32⟩
  | .hbm, ⟨35, _⟩ => ⟨S1x2048x2816, .f32⟩
  | .hbm, ⟨36, _⟩ => ⟨S1x2048x2816, .f32⟩
  | .hbm, ⟨37, _⟩ => ⟨S_, .f32⟩
  | .hbm, ⟨38, _⟩ => ⟨S1x2048x2816, .f32⟩
  | .hbm, ⟨39, _⟩ => ⟨S1x2048x2816, .f32⟩
  | .hbm, ⟨40, _⟩ => ⟨S_, .f32⟩
  | .hbm, ⟨41, _⟩ => ⟨S1x2048x2816, .f32⟩
  | .hbm, ⟨42, _⟩ => ⟨S1x2048x2816, .f32⟩
  | .hbm, ⟨43, _⟩ => ⟨S_, .f32⟩
  | .hbm, ⟨44, _⟩ => ⟨S1x2048x2816, .f32⟩
  | .hbm, ⟨45, _⟩ => ⟨S1x2048x2816, .f32⟩
  | .hbm, ⟨46, _⟩ => ⟨S1x2048x2816, .f32⟩
  | .hbm, ⟨47, _⟩ => ⟨S1x2048x2816, .f32⟩
  | .hbm, ⟨48, _⟩ => ⟨S1x2048x2816, .f32⟩
  | .hbm, ⟨49, _⟩ => ⟨S1x2048x1024, .f32⟩
  | .hbm, ⟨50, _⟩ => ⟨S1x2048x1024, .f32⟩
  | .hbm, ⟨51, _⟩ => ⟨S1x2048x2816, .f32⟩
  | .hbm, ⟨52, _⟩ => ⟨S1x2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S1x2048x2816, .f32⟩
  | .hbm, ⟨57, _⟩ => ⟨S1x2048x2816, .f32⟩
  | .hbm, ⟨58, _⟩ => ⟨S_, .f32⟩
  | .hbm, ⟨59, _⟩ => ⟨S1x2048x5632, .f32⟩
  | .hbm, ⟨60, _⟩ => ⟨S_, .f32⟩
  | .hbm, ⟨61, _⟩ => ⟨S1x2048x5632, .f32⟩
  | .hbm, ⟨62, _⟩ => ⟨S1x2048x5632, .f32⟩
  | .hbm, ⟨63, _⟩ => ⟨S1x2048x5632, .f32⟩
  | .hbm, ⟨64, _⟩ => ⟨S1x2048x5632, .f32⟩
  | .hbm, ⟨65, _⟩ => ⟨S1x2048x5632, .f32⟩
  | .hbm, ⟨66, _⟩ => ⟨S_, .f32⟩
  | .hbm, ⟨67, _⟩ => ⟨S1x5632, .f32⟩
  | .hbm, ⟨68, _⟩ => ⟨S1x1x5632, .f32⟩
  | .hbm, ⟨69, _⟩ => ⟨S_, .f32⟩
  | .hbm, ⟨70, _⟩ => ⟨S5632, .f32⟩
  | .hbm, ⟨71, _⟩ => ⟨S_, .f32⟩
  | .hbm, ⟨72, _⟩ => ⟨S1x2050x5632, .f32⟩
  | .hbm, ⟨73, _⟩ => ⟨S1x5632, .f32⟩
  | .hbm, ⟨74, _⟩ => ⟨S_, .f32⟩
  | .hbm, ⟨75, _⟩ => ⟨S3x5632, .f32⟩
  | .hbm, ⟨76, _⟩ => ⟨S1x2048x5632, .f32⟩
  | .hbm, ⟨77, _⟩ => ⟨S1x2048x5632, .f32⟩
  | .hbm, ⟨78, _⟩ => ⟨S1x2048x5632, .f32⟩
  | .hbm, ⟨79, _⟩ => ⟨S_, .f32⟩
  | .hbm, ⟨80, _⟩ => ⟨S1x5632, .f32⟩
  | .hbm, ⟨81, _⟩ => ⟨S1x1x5632, .f32⟩
  | .hbm, ⟨82, _⟩ => ⟨S_, .f32⟩
  | .hbm, ⟨83, _⟩ => ⟨S5632, .f32⟩
  | .hbm, ⟨84, _⟩ => ⟨S_, .f32⟩
  | .hbm, ⟨85, _⟩ => ⟨S1x2050x5632, .f32⟩
  | .hbm, ⟨86, _⟩ => ⟨S1x2050x5632, .f32⟩
  | .hbm, ⟨87, _⟩ => ⟨S1x5632, .f32⟩
  | .hbm, ⟨88, _⟩ => ⟨S_, .f32⟩
  | .hbm, ⟨89, _⟩ => ⟨S3x5632, .f32⟩
  | .hbm, ⟨90, _⟩ => ⟨S3x5632, .f32⟩
  | .hbm, ⟨91, _⟩ => ⟨S_, .f32⟩
  | .hbm, ⟨92, _⟩ => ⟨S1x5632, .f32⟩
  | .hbm, ⟨93, _⟩ => ⟨S1x1x5632, .f32⟩
  | .hbm, ⟨94, _⟩ => ⟨S_, .f32⟩
  | .hbm, ⟨95, _⟩ => ⟨S5632, .f32⟩
  | .hbm, ⟨96, _⟩ => ⟨S1x2048x5632, .f32⟩
  | .hbm, ⟨97, _⟩ => ⟨S1x2048x5632, .f32⟩
  | .hbm, ⟨98, _⟩ => ⟨S1x2048x5632, .f32⟩
  | .hbm, ⟨99, _⟩ => ⟨S_, .f32⟩
  | .hbm, ⟨100, _⟩ => ⟨S1x5632, .f32⟩
  | .hbm, ⟨101, _⟩ => ⟨S1x1x5632, .f32⟩
  | .hbm, ⟨102, _⟩ => ⟨S_, .f32⟩
  | .hbm, ⟨103, _⟩ => ⟨S5632, .f32⟩
  | .hbm, ⟨104, _⟩ => ⟨S_, .f32⟩
  | .hbm, ⟨105, _⟩ => ⟨S1x2050x5632, .f32⟩
  | .hbm, ⟨106, _⟩ => ⟨S1x2050x5632, .f32⟩
  | .hbm, ⟨107, _⟩ => ⟨S1x5632, .f32⟩
  | .hbm, ⟨108, _⟩ => ⟨S_, .f32⟩
  | .hbm, ⟨109, _⟩ => ⟨S3x5632, .f32⟩
  | .hbm, ⟨110, _⟩ => ⟨S3x5632, .f32⟩
  | .hbm, ⟨111, _⟩ => ⟨S1x2x5632, .f32⟩
  | .hbm, ⟨112, _⟩ => ⟨S1x2048x5632, .f32⟩
  | .hbm, ⟨113, _⟩ => ⟨S2048x5632, .f32⟩
  | .hbm, ⟨114, _⟩ => ⟨S1x5632, .f32⟩
  | .hbm, ⟨115, _⟩ => ⟨S3x2816, .f32⟩
  | .hbm, ⟨116, _⟩ => ⟨S3x2816, .f32⟩
  | .hbm, ⟨117, _⟩ => ⟨S1x2816, .f32⟩
  | .hbm, ⟨118, _⟩ => ⟨S1x2816, .f32⟩
  | .hbm, ⟨119, _⟩ => ⟨S2048x2816, .f32⟩
  | .hbm, ⟨120, _⟩ => ⟨S2048x2816, .bf16⟩
  | .hbm, ⟨121, _⟩ => ⟨S2048x2816, .f32⟩
  | .hbm, ⟨122, _⟩ => ⟨S2048x2816, .bf16⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v28_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v28_1 : Ref sig .tc := ⟨.hbm, 46, rfl⟩
abbrev main_v28_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_cst_1 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_16 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x5632 : Shape := ⟨2, ![1024, 5632]⟩
abbrev S2048x5632 : Shape := ⟨2, ![2048, 5632]⟩
abbrev S2048x2816 : Shape := ⟨2, ![2048, 2816]⟩
abbrev S5632x1024 : Shape := ⟨2, ![5632, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x5632, .bf16⟩
  | .hbm, ⟨8, _⟩ => ⟨S2048x2816, .bf16⟩
  | .hbm, ⟨9, _⟩ => ⟨S2048x2816, .bf16⟩
  | .hbm, ⟨10, _⟩ => ⟨S5632x1024, .f32⟩
  | .hbm, ⟨11, _⟩ => ⟨S5632x1024, .bf16⟩
  | .hbm, ⟨12, _⟩ => ⟨S1x1024, .f32⟩
  | .hbm, ⟨13, _⟩ => ⟨S1x1024, .f32⟩
  | .hbm, ⟨14, _⟩ => ⟨S2048x1024, .f32⟩
  | .hbm, ⟨15, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S2048x1024 : Shape := ⟨2, ![2048, 1024]⟩
abbrev S1x1024 : Shape := ⟨2, ![1, 1024]⟩
abbrev S1024x5632 : Shape := ⟨2, ![1024, 5632]⟩
abbrev S2048x5632 : Shape := ⟨2, ![2048, 5632]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 107
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x5632, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S1024, .f32⟩
  | .hbm, ⟨88, _⟩ => ⟨S2048x1024, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S2048x1024, .f32⟩
  | .hbm, ⟨93, _⟩ => ⟨S2048x1024, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S1x1024, .f32⟩
  | .hbm, ⟨106, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x9472 : Shape := ⟨2, ![1024, 9472]⟩
abbrev S2048x9472 : Shape := ⟨2, ![2048, 9472]⟩
abbrev S2048x7424 : Shape := ⟨2, ![2048, 7424]⟩
abbrev S9472x1024 : Shape := ⟨2, ![9472, 1024]⟩
abbrev S_ : Shape := ⟨0, ![]⟩
abbrev S8x128 : Shape := ⟨2, ![8, 128]⟩
abbrev S256x7424 : Shape := ⟨2, ![256, 7424]⟩
abbrev S256x1024 : Shape := ⟨2, ![256, 1024]⟩
abbrev S7424x1024 : Shape := ⟨2, ![7424, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x9472, .f32⟩
  | .hbm, ⟨3, _⟩ => ⟨S2048x1024, .f32⟩
  | .hbm, ⟨4, _⟩ => ⟨S2048x9472, .f32⟩
  | .hbm, ⟨5, _⟩ => ⟨S2048x9472, .bf16⟩
  | .hbm, ⟨6, _⟩ => ⟨S2048x7424, .bf16⟩
  | .hbm, ⟨7, _⟩ => ⟨S2048x1024, .bf16⟩
  | .hbm, ⟨8, _⟩ => ⟨S2048x1024, .bf16⟩
  | .hbm, ⟨9, _⟩ => ⟨S9472x1024, .f32⟩
  | .hbm, ⟨10, _⟩ => ⟨S9472x1024, .bf16⟩
  | .hbm, ⟨11, _⟩ => ⟨S_, .f32⟩
  | .hbm, ⟨12, _⟩ => ⟨S8x128, .f32⟩
  | .hbm, ⟨13, _⟩ => ⟨S1x1024, .f32⟩
  | .hbm, ⟨14, _⟩ => ⟨S2048x1024, .f32⟩
  | .local _ .vmem, ⟨0, _⟩ => ⟨S256x7424, .bf16⟩
  | .local _ .vmem, ⟨1, _⟩ => ⟨S256x7424, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S9472x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S8x128, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7424 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9472x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2048x1024 : Shape := ⟨2, ![2048, 1024]⟩
abbrev S1x1024 : Shape := ⟨2, ![1, 1024]⟩
abbrev S1024x9472 : Shape := ⟨2, ![1024, 9472]⟩
abbrev S2048x9472 : Shape := ⟨2, ![2048, 9472]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x9472, .f32⟩
  | .hbm, ⟨3, _⟩ => ⟨S2048x1024, .f32⟩
  | .hbm, ⟨4, _⟩ => ⟨S2048x9472, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x9472, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S2048x1024 : Shape := ⟨2, ![2048, 1024]⟩
abbrev S1024x9472 : Shape := ⟨2, ![1024, 9472]⟩
abbrev S2048x9472 : Shape := ⟨2, ![2048, 9472]⟩
abbrev S2048x7424 : Shape := ⟨2, ![2048, 7424]⟩
abbrev S9472x1024 : Shape := ⟨2, ![9472, 1024]⟩
abbrev S2048x256 : Shape := ⟨2, ![2048, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x9472, .f32⟩
  | .hbm, ⟨2, _⟩ => ⟨S2048x9472, .f32⟩
  | .hbm, ⟨3, _⟩ => ⟨S2048x9472, .bf16⟩
  | .hbm, ⟨4, _⟩ => ⟨S2048x7424, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S9472x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x1024, .bf16⟩
  | .local _ .vmem, ⟨7, _⟩ => ⟨S256x1024, .bf16⟩
  | .local _ .vmem, ⟨8, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c29_i32 : BitVec 32 := 29#32
  let v1 : BitVec 1 := Scalar.cmpi .slt arg0 c29_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c29_i32_1 : BitVec 32 := 29#32
  let v5 : BitVec 1 := Scalar.cmpi .sge arg0 c29_i32_1
  let c33_i32 : BitVec 32 := 33#32
  let v6 : BitVec 1 := Scalar.cmpi .slt arg0 c33_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c33_i32_3 : BitVec 32 := 33#32
  let v10 : BitVec 1 := Scalar.cmpi .sge arg0 c33_i32_3
  let c37_i32 : BitVec 32 := 37#32
  let v11 : BitVec 1 := Scalar.cmpi .slt arg0 c37_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c28_i32 : BitVec 32 := 28#32
  let v1 : BitVec 32 := Scalar.maxsi c0_i32_0 v0
  let v2 : BitVec 32 := Scalar.minsi c28_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c29_i32 : BitVec 32 := 29#32
  let v0 : BitVec 32 := Scalar.subi arg0 c29_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2048x1024 : Shape := ⟨2, ![2048, 1024]⟩
abbrev S1024x9472 : Shape := ⟨2, ![1024, 9472]⟩
abbrev S2048x9472 : Shape := ⟨2, ![2048, 9472]⟩
abbrev S9472x1024 : Shape := ⟨2, ![9472, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x9472, .f32⟩
  | .hbm, ⟨2, _⟩ => ⟨S2048x9472, .f32⟩
  | .hbm, ⟨3, _⟩ => ⟨S2048x9472, .f32⟩
  | .hbm, ⟨4, _⟩ => ⟨S9472x1024, .f32⟩
  | .hbm, ⟨5, _⟩ => ⟨S1024x9472, .f32⟩
  | .hbm, ⟨6, _⟩ => ⟨S9472x1024, .f32⟩
  | .hbm, ⟨7, _⟩ => ⟨S9472x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S5632x1024 : Shape := ⟨2, ![5632, 1024]⟩
abbrev S2048x1408 : Shape := ⟨2, ![2048, 1408]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .bf16⟩
  | .hbm, ⟨4, _⟩ => ⟨S2048x2816, .bf16⟩
  | .hbm, ⟨5, _⟩ => ⟨S2048x2816, .bf16⟩
  | .hbm, ⟨6, _⟩ => ⟨S2048x1024, .bf16⟩
  | .hbm, ⟨7, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S1408x1024, .bf16⟩
  | .local _ .vmem, ⟨6, _⟩ => ⟨S1408x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S5632x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x2816 : Shape := ⟨2, ![2048, 2816]⟩
abbrev S2816x1024 : Shape := ⟨2, ![2816, 1024]⟩
abbrev S2048x1024 : Shape := ⟨2, ![2048, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2048x1024, .bf16⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 18
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S2048x1024 : Shape := ⟨2, ![2048, 1024]⟩
abbrev S1024x1024 : Shape := ⟨2, ![1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Kernel10.lean ====
abbrev S2048x1024 : Shape := ⟨2, ![2048, 1024]⟩
abbrev S1x1024 : Shape := ⟨2, ![1, 1024]⟩
abbrev S1024x9472 : Shape := ⟨2, ![1024, 9472]⟩
abbrev S9472x1024 : Shape := ⟨2, ![9472, 1024]⟩
abbrev S2x2048x1024 : Shape := ⟨3, ![2, 2048, 1024]⟩
abbrev S2048x9472 : Shape := ⟨2, ![2048, 9472]⟩
abbrev S512x1024 : Shape := ⟨2, ![512, 1024]⟩
abbrev S4736x1024 : Shape := ⟨2, ![4736, 1024]⟩
abbrev S1x512x1024 : Shape := ⟨3, ![1, 512, 1024]⟩
abbrev S512x4736 : Shape := ⟨2, ![512, 4736]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x9472, .f32⟩
  | .hbm, ⟨3, _⟩ => ⟨S9472x1024, .f32⟩
  | .hbm, ⟨4, _⟩ => ⟨S9472x1024, .bf16⟩
  | .hbm, ⟨5, _⟩ => ⟨S2x2048x1024, .bf16⟩
  | .hbm, ⟨6, _⟩ => ⟨S2048x9472, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4736x1024, .bf16⟩
  | .local _ .vmem, ⟨4, _⟩ => ⟨S4736x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S512x4736, .f32⟩
  | .local _ .vmem, ⟨8, _⟩ => ⟨S512x4736, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4736x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4736 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S2048x1024 : Shape := ⟨2, ![2048, 1024]⟩
abbrev S1x1024 : Shape := ⟨2, ![1, 1024]⟩
abbrev S1024x9472 : Shape := ⟨2, ![1024, 9472]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x2048x1024 : Shape := ⟨3, ![1, 2048, 1024]⟩
abbrev S2x2048x1024 : Shape := ⟨3, ![2, 2048, 1024]⟩
abbrev S2048x9472 : Shape := ⟨2, ![2048, 9472]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x9472, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x2048x1024, .f32⟩
  | .hbm, ⟨21, _⟩ => ⟨S1x2048x1024, .f32⟩
  | .hbm, ⟨22, _⟩ => ⟨S2x2048x1024, .f32⟩
  | .hbm, ⟨23, _⟩ => ⟨S2x2048x1024, .bf16⟩
  | .hbm, ⟨24, _⟩ => ⟨S2048x9472, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S2048x1024 : Shape := ⟨2, ![2048, 1024]⟩
abbrev S2048x9472 : Shape := ⟨2, ![2048, 9472]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 21
  | .vmem => 37
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x9472, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S2048x1024, .f32⟩
  | .hbm, ⟨11, _⟩ => ⟨S2048x1024, .bf16⟩
  | .hbm, ⟨12, _⟩ => ⟨S2048x1024, .f32⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .hbm, ⟨20, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_5 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_6 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_7 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_8 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_9 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_10 (i : grid0.Coords) : Fin 2 → Nat :=
  let arg0 : BitVec 32 := BitVec.ofNat 32 (i 0).val
  let c35_i32 : BitVec 32 := 35#32
  let c0_i32 : BitVec 32 := 0#32
  ![arg0.toNat, c35_i32.toNat]

def cc0_transform_11 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S2048x1024 : Shape := ⟨2, ![2048, 1024]⟩
abbrev S2048x9472 : Shape := ⟨2, ![2048, 9472]⟩
abbrev S1024x1024 : Shape := ⟨2, ![1024, 1024]⟩
abbrev S2048x2048 : Shape := ⟨2, ![2048, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x9472, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .bf16⟩
  | .hbm, ⟨57, _⟩ => ⟨S2048x1024, .bf16⟩
  | .hbm, ⟨58, _⟩ => ⟨S2048x1024, .bf16⟩
  | .hbm, ⟨59, _⟩ => ⟨S2048x1024, .bf16⟩
  | .hbm, ⟨60, _⟩ => ⟨S2048x1024, .bf16⟩
  | .hbm, ⟨61, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel11.lean ====
abbrev S2048x9472 : Shape := ⟨2, ![2048, 9472]⟩
abbrev S2048x1024 : Shape := ⟨2, ![2048, 1024]⟩
abbrev S1024x1024 : Shape := ⟨2, ![1024, 1024]⟩
abbrev S1x1024 : Shape := ⟨2, ![1, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 39
  | .smem => 0
  | _ => 0

abbrev bufTy : (tb : Table) → Fin (tcTables nBuf tb) → BufTy
  | .hbm, ⟨0, _⟩ => ⟨S2048x9472, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1024, .f32⟩
  | .hbm, ⟨18, _⟩ => ⟨S2048x1024, .f32⟩
  | .hbm, ⟨19, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x1024, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .bf16⟩
  | .local _ .vmem, ⟨38, _⟩ => ⟨S512x1024, .bf16⟩
  | _, _ => ⟨S2048x9472, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_1 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_2 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_5 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_6 (i : grid0.Coords) : Fin 2 → Nat :=
  let arg0 : BitVec 32 := BitVec.ofNat 32 (i 0).val
  let c35_i32 : BitVec 32 := 35#32
  let c0_i32 : BitVec 32 := 0#32
  ![arg0.toNat, c35_i32.toNat]

def cc0_transform_7 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference11Ideal.lean ====
abbrev S2048x9472 : Shape := ⟨2, ![2048, 9472]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x9472, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S2048x1024, .bf16⟩
  | .hbm, ⟨69, _⟩ => ⟨S2048x1024, .bf16⟩
  | .hbm, ⟨70, _⟩ => ⟨S2048x1024, .bf16⟩
  | .hbm, ⟨71, _⟩ => ⟨S2048x1024, .bf16⟩
  | _, _ => ⟨S2048x9472, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel7.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x2816, .bf16⟩
  | .hbm, ⟨6, _⟩ => ⟨S2816x1024, .bf16⟩
  | .hbm, ⟨7, _⟩ => ⟨S1x128, .f32⟩
  | .hbm, ⟨8, _⟩ => ⟨S1x1024, .f32⟩
  | .hbm, ⟨9, _⟩ => ⟨S2048x1024, .f32⟩
  | .hbm, ⟨10, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S1x128, .f32⟩
  | .hbm, ⟨78, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel12.lean ====
abbrev S2048x1024 : Shape := ⟨2, ![2048, 1024]⟩
abbrev S1024x5632 : Shape := ⟨2, ![1024, 5632]⟩
abbrev S3x5632 : Shape := ⟨2, ![3, 5632]⟩
abbrev S1x5632 : Shape := ⟨2, ![1, 5632]⟩
abbrev S5632x1024 : Shape := ⟨2, ![5632, 1024]⟩
abbrev S2048x2816 : Shape := ⟨2, ![2048, 2816]⟩
abbrev S512x1024 : Shape := ⟨2, ![512, 1024]⟩
abbrev S1408x1024 : Shape := ⟨2, ![1408, 1024]⟩
abbrev S3x1408 : Shape := ⟨2, ![3, 1408]⟩
abbrev S1x1408 : Shape := ⟨2, ![1, 1408]⟩
abbrev S512x1408 : Shape := ⟨2, ![512, 1408]⟩
abbrev S16x1408 : Shape := ⟨2, ![16, 1408]⟩
abbrev S8x1408 : Shape := ⟨2, ![8, 1408]⟩
abbrev S1408 : Shape := ⟨1, ![1408]⟩

abbrev nBuf : Space → Nat
  | .hbm => 12
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2048x1024, .bf16⟩
  | .hbm, ⟨5, _⟩ => ⟨S5632x1024, .f32⟩
  | .hbm, ⟨6, _⟩ => ⟨S5632x1024, .bf16⟩
  | .hbm, ⟨7, _⟩ => ⟨S2048x2816, .f32⟩
  | .hbm, ⟨8, _⟩ => ⟨S2048x2816, .f32⟩
  | .hbm, ⟨9, _⟩ => ⟨S2048x2816, .bf16⟩
  | .hbm, ⟨10, _⟩ => ⟨S2048x2816, .f32⟩
  | .hbm, ⟨11, _⟩ => ⟨S2048x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S512x1408, .f32⟩
  | .local _ .vmem, ⟨15, _⟩ => ⟨S512x1408, .f32⟩
  | .local _ .vmem, ⟨16, _⟩ => ⟨S512x1408, .f32⟩
  | .local _ .vmem, ⟨17, _⟩ => ⟨S512x1408, .f32⟩
  | .local _ .vmem, ⟨18, _⟩ => ⟨S512x1408, .bf16⟩
  | .local _ .vmem, ⟨19, _⟩ => ⟨S512x1408, .bf16⟩
  | .local _ .vmem, ⟨20, _⟩ => ⟨S512x1408, .f32⟩
  | .local _ .vmem, ⟨21, _⟩ => ⟨S512x1408, .f32⟩
  | .local _ .vmem, ⟨22, _⟩ => ⟨S512x1408, .f32⟩
  | .local _ .vmem, ⟨23, _⟩ => ⟨S512x1408, .f32⟩
  | .local _ .vmem, ⟨24, _⟩ => ⟨S16x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference12Ideal.lean ====
abbrev S2048x1024 : Shape := ⟨2, ![2048, 1024]⟩
abbrev S1024x5632 : Shape := ⟨2, ![1024, 5632]⟩
abbrev S3x5632 : Shape := ⟨2, ![3, 5632]⟩
abbrev S1x5632 : Shape := ⟨2, ![1, 5632]⟩
abbrev S2048x5632 : Shape := ⟨2, ![2048, 5632]⟩
abbrev S1x2048x5632 : Shape := ⟨3, ![1, 2048, 5632]⟩
abbrev S5632 : Shape := ⟨1, ![5632]⟩
abbrev S_ : Shape := ⟨0, ![]⟩
abbrev S1x2x5632 : Shape := ⟨3, ![1, 2, 5632]⟩
abbrev S1x2050x5632 : Shape := ⟨3, ![1, 2050, 5632]⟩
abbrev S1x1x5632 : Shape := ⟨3, ![1, 1, 5632]⟩
abbrev S2048x2816 : Shape := ⟨2, ![2048, 2816]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2048x5632, .f32⟩
  | .hbm, ⟨5, _⟩ => ⟨S1x2048x5632, .f32⟩
  | .hbm, ⟨6, _⟩ => ⟨S5632, .f32⟩
  | .hbm, ⟨7, _⟩ => ⟨S_, .f32⟩
  | .hbm, ⟨8, _⟩ => ⟨S1x2x5632, .f32⟩
  | .hbm, ⟨9, _⟩ => ⟨S1x2050x5632, .f32⟩
  | .hbm, ⟨10, _⟩ => ⟨S1x5632, .f32⟩
  | .hbm, ⟨11, _⟩ => ⟨S5632, .f32⟩
  | .hbm, ⟨12, _⟩ => ⟨S1x2048x5632, .f32⟩
  | .hbm, ⟨13, _⟩ => ⟨S1x1x5632, .f32⟩
  | .hbm, ⟨14, _⟩ => ⟨S1x2048x5632, .f32⟩
  | .hbm, ⟨15, _⟩ => ⟨S1x2048x5632, .f32⟩
  | .hbm, ⟨16, _⟩ => ⟨S1x1x5632, .f32⟩
  | .hbm, ⟨17, _⟩ => ⟨S1x2048x5632, .f32⟩
  | .hbm, ⟨18, _⟩ => ⟨S1x2048x5632, .f32⟩
  | .hbm, ⟨19, _⟩ => ⟨S1x5632, .f32⟩
  | .hbm, ⟨20, _⟩ => ⟨S5632, .f32⟩
  | .hbm, ⟨21, _⟩ => ⟨S1x2048x5632, .f32⟩
  | .hbm, ⟨22, _⟩ => ⟨S1x1x5632, .f32⟩
  | .hbm, ⟨23, _⟩ => ⟨S1x2048x5632, .f32⟩
  | .hbm, ⟨24, _⟩ => ⟨S1x2048x5632, .f32⟩
  | .hbm, ⟨25, _⟩ => ⟨S1x2048x5632, .f32⟩
  | .hbm, ⟨26, _⟩ => ⟨S1x5632, .f32⟩
  | .hbm, ⟨27, _⟩ => ⟨S5632, .f32⟩
  | .hbm, ⟨28, _⟩ => ⟨S1x2048x5632, .f32⟩
  | .hbm, ⟨29, _⟩ => ⟨S1x1x5632, .f32⟩
  | .hbm, ⟨30, _⟩ => ⟨S1x2048x5632, .f32⟩
  | .hbm, ⟨31, _⟩ => ⟨S1x2048x5632, .f32⟩
  | .hbm, ⟨32, _⟩ => ⟨S1x2048x5632, .f32⟩
  | .hbm, ⟨33, _⟩ => ⟨S2048x5632, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .bf16⟩
  | .hbm, ⟨49, _⟩ => ⟨S2048x2816, .f32⟩
  | .hbm, ⟨50, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel13.lean ====
abbrev S1184x1024 : Shape := ⟨2, ![1184, 1024]⟩
abbrev S3x1184x1024 : Shape := ⟨3, ![3, 1184, 1024]⟩
abbrev S1024x1184 : Shape := ⟨2, ![1024, 1184]⟩
abbrev S_ : Shape := ⟨0, ![]⟩
abbrev S1 : Shape := ⟨1, ![1]⟩
abbrev S1x1184x1024 : Shape := ⟨3, ![1, 1184, 1024]⟩
abbrev S1x592x1024 : Shape := ⟨3, ![1, 592, 1024]⟩
abbrev S3x592x1024 : Shape := ⟨3, ![3, 592, 1024]⟩
abbrev S592x1024 : Shape := ⟨2, ![592, 1024]⟩

abbrev nBuf : Space → Nat
  | .hbm => 15
  | .vmem => 18
  | .smem => 1
  | _ => 0

abbrev bufTy : (tb : Table) → Fin (tcTables nBuf tb) → BufTy
  | .hbm, ⟨0, _⟩ => ⟨S1184x1024, .f32⟩
  | .hbm, ⟨1, _⟩ => ⟨S3x1184x1024, .f32⟩
  | .hbm, ⟨2, _⟩ => ⟨S1024x1184, .f32⟩
  | .hbm, ⟨3, _⟩ => ⟨S1024x1184, .f32⟩
  | .hbm, ⟨4, _⟩ => ⟨S1024x1184, .f32⟩
  | .hbm, ⟨5, _⟩ => ⟨S_, .i32⟩
  | .hbm, ⟨6, _⟩ => ⟨S1x1184x1024, .f32⟩
  | .hbm, ⟨7, _⟩ => ⟨S3x1184x1024, .bf16⟩
  | .hbm, ⟨8, _⟩ => ⟨S1184x1024, .f32⟩
  | .hbm, ⟨9, _⟩ => ⟨S1184x1024, .f32⟩
  | .hbm, ⟨10, _⟩ => ⟨S1184x1024, .f32⟩
  | .hbm, ⟨11, _⟩ => ⟨S1184x1024, .f32⟩
  | .hbm, ⟨12, _⟩ => ⟨S1184x1024, .f32⟩
  | .hbm, ⟨13, _⟩ => ⟨S1184x1024, .f32⟩
  | .hbm, ⟨14, _⟩ => ⟨S1184x1024, .f32⟩
  | .local _ .vmem, ⟨0, _⟩ => ⟨S1x592x1024, .f32⟩
  | .local _ .vmem, ⟨1, _⟩ => ⟨S1x592x1024, .f32⟩
  | .local _ .vmem, ⟨2, _⟩ => ⟨S3x592x1024, .bf16⟩
  | .local _ .vmem, ⟨3, _⟩ => ⟨S3x592x1024, .bf16⟩
  | .local _ .vmem, ⟨4, _⟩ => ⟨S592x1024, .f32⟩
  | .local _ .vmem, ⟨5, _⟩ => ⟨S592x1024, .f32⟩
  | .local _ .vmem, ⟨6, _⟩ => ⟨S592x1024, .f32⟩
  | .local _ .vmem, ⟨7, _⟩ => ⟨S592x1024, .f32⟩
  | .local _ .vmem, ⟨8, _⟩ => ⟨S592x1024, .f32⟩
  | .local _ .vmem, ⟨9, _⟩ => ⟨S592x1024, .f32⟩
  | .local _ .vmem, ⟨10, _⟩ => ⟨S592x1024, .f32⟩
  | .local _ .vmem, ⟨11, _⟩ => ⟨S592x1024, .f32⟩
  | .local _ .vmem, ⟨12, _⟩ => ⟨S592x1024, .f32⟩
  | .local _ .vmem, ⟨13, _⟩ => ⟨S592x1024, .f32⟩
  | .local _ .vmem, ⟨14, _⟩ => ⟨S592x1024, .f32⟩
  | .local _ .vmem, ⟨15, _⟩ => ⟨S592x1024, .f32⟩
  | .local _ .vmem, ⟨16, _⟩ => ⟨S592x1024, .f32⟩
  | .local _ .vmem, ⟨17, _⟩ => ⟨S592x1024, .f32⟩
  | .local _ .smem, ⟨0, _⟩ => ⟨S1, .i32⟩
  | _, _ => ⟨S1184x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x592x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x592x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S592x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S592x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S592x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S592x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S592x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S592x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S592x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1184x1024 : Shape := ⟨2, ![1184, 1024]⟩
abbrev S3x1184x1024 : Shape := ⟨3, ![3, 1184, 1024]⟩
abbrev S1024x1184 : Shape := ⟨2, ![1024, 1184]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1184x1024, .f32⟩
  | .hbm, ⟨1, _⟩ => ⟨S3x1184x1024, .f32⟩
  | .hbm, ⟨2, _⟩ => ⟨S1024x1184, .f32⟩
  | .hbm, ⟨3, _⟩ => ⟨S1024x1184, .f32⟩
  | .hbm, ⟨4, _⟩ => ⟨S1024x1184, .f32⟩
  | .hbm, ⟨5, _⟩ => ⟨S_, .f32⟩
  | .hbm, ⟨6, _⟩ => ⟨S1184x1024, .f32⟩
  | .hbm, ⟨7, _⟩ => ⟨S1184x1024, .f32⟩
  | .hbm, ⟨8, _⟩ => ⟨S1024x1184, .f32⟩
  | .hbm, ⟨9, _⟩ => ⟨S_, .f32⟩
  | .hbm, ⟨10, _⟩ => ⟨S1024x1184, .f32⟩
  | .hbm, ⟨11, _⟩ => ⟨S1024x1184, .f32⟩
  | .hbm, ⟨12, _⟩ => ⟨S_, .f32⟩
  | .hbm, ⟨13, _⟩ => ⟨S1024x1184, .f32⟩
  | .hbm, ⟨14, _⟩ => ⟨S1024x1184, .f32⟩
  | .hbm, ⟨15, _⟩ => ⟨S1024x1184, .f32⟩
  | .hbm, ⟨16, _⟩ => ⟨S_, .f32⟩
  | .hbm, ⟨17, _⟩ => ⟨S1024x1184, .f32⟩
  | .hbm, ⟨18, _⟩ => ⟨S1024x1184, .f32⟩
  | .hbm, ⟨19, _⟩ => ⟨S1024x1184, .f32⟩
  | .hbm, ⟨20, _⟩ => ⟨S_, .f32⟩
  | .hbm, ⟨21, _⟩ => ⟨S1024x1184, .f32⟩
  | .hbm, ⟨22, _⟩ => ⟨S1024x1184, .f32⟩
  | .hbm, ⟨23, _⟩ => ⟨S1024x1184, .f32⟩
  | .hbm, ⟨24, _⟩ => ⟨S_, .f32⟩
  | .hbm, ⟨25, _⟩ => ⟨S1024x1184, .f32⟩
  | .hbm, ⟨26, _⟩ => ⟨S1024x1184, .f32⟩
  | .hbm, ⟨27, _⟩ => ⟨S_, .f32⟩
  | .hbm, ⟨28, _⟩ => ⟨S1024x1184, .f32⟩
  | .hbm, ⟨29, _⟩ => ⟨S1024x1184, .f32⟩
  | .hbm, ⟨30, _⟩ => ⟨S1024x1184, .f32⟩
  | .hbm, ⟨31, _⟩ => ⟨S_, .f32⟩
  | .hbm, ⟨32, _⟩ => ⟨S1024x1184, .f32⟩
  | .hbm, ⟨33, _⟩ => ⟨S1024x1184, .f32⟩
  | .hbm, ⟨34, _⟩ => ⟨S1024x1184, .f32⟩
  | .hbm, ⟨35, _⟩ => ⟨S_, .f32⟩
  | .hbm, ⟨36, _⟩ => ⟨S1024x1184, .f32⟩
  | .hbm, ⟨37, _⟩ => ⟨S1024x1184, .f32⟩
  | .hbm, ⟨38, _⟩ => ⟨S1024x1184, .f32⟩
  | .hbm, ⟨39, _⟩ => ⟨S_, .f32⟩
  | .hbm, ⟨40, _⟩ => ⟨S1024x1184, .f32⟩
  | .hbm, ⟨41, _⟩ => ⟨S1024x1184, .f32⟩
  | .hbm, ⟨42, _⟩ => ⟨S1184x1024, .f32⟩
  | .hbm, ⟨43, _⟩ => ⟨S1184x1024, .f32⟩
  | .hbm, ⟨44, _⟩ => ⟨S1184x1024, .f32⟩
  | .hbm, ⟨45, _⟩ => ⟨S1184x1024, .f32⟩
  | _, _ => ⟨S1184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel14.lean ====
abbrev S256x128 : Shape := ⟨2, ![256, 128]⟩
abbrev S3x256x128 : Shape := ⟨3, ![3, 256, 128]⟩
abbrev S64x128 : Shape := ⟨2, ![64, 128]⟩
abbrev S128x128 : Shape := ⟨2, ![128, 128]⟩
abbrev S_ : Shape := ⟨0, ![]⟩
abbrev S1 : Shape := ⟨1, ![1]⟩
abbrev S1x256x128 : Shape := ⟨3, ![1, 256, 128]⟩

abbrev nBuf : Space → Nat
  | .hbm => 21
  | .vmem => 9
  | .smem => 1
  | _ => 0

abbrev bufTy : (tb : Table) → Fin (tcTables nBuf tb) → BufTy
  | .hbm, ⟨0, _⟩ => ⟨S256x128, .f32⟩
  | .hbm, ⟨1, _⟩ => ⟨S3x256x128, .f32⟩
  | .hbm, ⟨2, _⟩ => ⟨S64x128, .f32⟩
  | .hbm, ⟨3, _⟩ => ⟨S64x128, .f32⟩
  | .hbm, ⟨4, _⟩ => ⟨S128x128, .f32⟩
  | .hbm, ⟨5, _⟩ => ⟨S64x128, .f32⟩
  | .hbm, ⟨6, _⟩ => ⟨S64x128, .f32⟩
  | .hbm, ⟨7, _⟩ => ⟨S128x128, .f32⟩
  | .hbm, ⟨8, _⟩ => ⟨S64x128, .f32⟩
  | .hbm, ⟨9, _⟩ => ⟨S64x128, .f32⟩
  | .hbm, ⟨10, _⟩ => ⟨S128x128, .f32⟩
  | .hbm, ⟨11, _⟩ => ⟨S_, .i32⟩
  | .hbm, ⟨12, _⟩ => ⟨S1x256x128, .f32⟩
  | .hbm, ⟨13, _⟩ => ⟨S3x256x128, .bf16⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S256x128, .f32⟩
  | .local _ .vmem, ⟨0, _⟩ => ⟨S1x256x128, .f32⟩
  | .local _ .vmem, ⟨1, _⟩ => ⟨S3x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .smem, ⟨0, _⟩ => ⟨S1, .i32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference14Ideal.lean ====
abbrev S256x128 : Shape := ⟨2, ![256, 128]⟩
abbrev S3x256x128 : Shape := ⟨3, ![3, 256, 128]⟩
abbrev S64x128 : Shape := ⟨2, ![64, 128]⟩
abbrev S128x128 : Shape := ⟨2, ![128, 128]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S3x256x128, .f32⟩
  | .hbm, ⟨2, _⟩ => ⟨S64x128, .f32⟩
  | .hbm, ⟨3, _⟩ => ⟨S64x128, .f32⟩
  | .hbm, ⟨4, _⟩ => ⟨S128x128, .f32⟩
  | .hbm, ⟨5, _⟩ => ⟨S64x128, .f32⟩
  | .hbm, ⟨6, _⟩ => ⟨S64x128, .f32⟩
  | .hbm, ⟨7, _⟩ => ⟨S128x128, .f32⟩
  | .hbm, ⟨8, _⟩ => ⟨S64x128, .f32⟩
  | .hbm, ⟨9, _⟩ => ⟨S64x128, .f32⟩
  | .hbm, ⟨10, _⟩ => ⟨S128x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S_, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S_, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S_, .f32⟩
  | .hbm, ⟨48, _⟩ => ⟨S256x128, .f32⟩
  | .hbm, ⟨49, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Proof.Pay.lean ====
/-
  The values of one grid point of the convolution's backward kernel, read at an index: the gate's two gradients, the tile
  shifted up by one and by two rows (the rows carried from the tile below come in at the end), the input gradient, and what
  the tile adds to the weight and bias gradients.
-/
module

public import proofs.«01_k».proof.Defs
public import proofs.«01_k».proof.Proof.Gen.KernelIdeal.Skeleton
public import Idealize.ShloMosaic.Lib.Pointwise

@[expose] public section

set_option maxRecDepth 16384

noncomputable section

namespace Cert.Proof.Conv

open Idealize.ShloMosaic Cert.KernelIdeal Cert.KernelIdeal.Gen

/-- A select on "this number is that one". -/
theorem select_eq_nat {α : Type} (n c : Nat) (hn : n < 2 ^ 32) (hc : c < 2 ^ 32) (a b : α) :
    Scalar.select (IntOp.cmpi CmpIPredicate.eq (BitVec.ofNat 32 n) (BitVec.ofNat 32 c)) a b = if n = c then a else b := by
  unfold Scalar.select IntOp.cmpi
  by_cases h : n = c
  · subst h
    simp
  · have : ¬ (BitVec.ofNat 32 n = BitVec.ofNat 32 c) := by
      intro e
      have e' := congrArg BitVec.toNat e
      simp only [BitVec.toNat_ofNat] at e'
      rw [Nat.mod_eq_of_lt hn, Nat.mod_eq_of_lt hc] at e'
      exact h e'
    have hb : (BitVec.ofNat 32 n == BitVec.ofNat 32 c) = false := by simpa using this
    rw [if_neg h]
    show (if BitVec.ofBool (BitVec.ofNat 32 n == BitVec.ofNat 32 c) = 1#1 then a else b) = b
    rw [hb]
    rfl

/-- A sum that keeps one row is that row. -/
theorem sum_pick {n : Nat} (hn : n < 2 ^ 32) (c : Nat) (i : Fin n) (hi : i.val = c) (f : Fin n → EReal) :
    (∑ k : Fin n, Scalar.select (IntOp.cmpi CmpIPredicate.eq (BitVec.ofNat 32 k.val) (BitVec.ofNat 32 c)) (f k) 0) = f i := by
  subst hi
  have h : ∀ k : Fin n, Scalar.select (IntOp.cmpi CmpIPredicate.eq (BitVec.ofNat 32 k.val) (BitVec.ofNat 32 i.val)) (f k) 0
      = if k = i then f k else 0 := by
    intro k
    rw [select_eq_nat _ _ (lt_trans k.isLt hn) (lt_trans i.isLt hn)]
    simp only [Fin.ext_iff]
  simp only [h]
  simp

/-- A tile of rows followed by the carried rows. -/
def nx (X : Vec Ideal S256x1408 .f32) (a : Vec Ideal S8x1408 .f32) (r : Nat) (n : Fin 1408) : EReal :=
  if h : r < 256 then X (ix2 ⟨r, h⟩ n) else if h : r - 256 < 8 then a (ix2 ⟨r - 256, h⟩ n) else 0

theorem p7 (x0 : Vec Ideal S256x1024 .bf16) (x1 : Vec Ideal S1408x1024 .bf16) (r : Fin 256) (n : Fin 1408) :
    k0_pay7 (F := Ideal) x0 x1 (ix2 r n) = ∑ k : Fin 1024, x0 (ix2 r k) * x1 (ix2 n k) := by
  pointwise [k0_pay7]

theorem p10 (x0 : Vec Ideal S256x1024 .bf16) (x1 : Vec Ideal S1408x1024 .bf16) (x4 : Vec Ideal S256x1408 .f32)
    (r : Fin 256) (n : Fin 1408) :
    k0_pay10 (F := Ideal) x0 x1 x4 (ix2 r n)
      = (∑ k : Fin 1024, x0 (ix2 r k) * x1 (ix2 n k)) * (x4 (ix2 r n) * Ideal.logistic (x4 (ix2 r n))) := by
  rw [← p7]
  pointwise [k0_pay10, k0_pay8, k0_pay9]

theorem p11 (x0 : Vec Ideal S256x1024 .bf16) (x1 : Vec Ideal S1408x1024 .bf16) (x4 x5 : Vec Ideal S256x1408 .f32)
    (r : Fin 256) (n : Fin 1408) :
    k0_pay11 (F := Ideal) x0 x1 x4 x5 (ix2 r n)
      = (∑ k : Fin 1024, x0 (ix2 r k) * x1 (ix2 n k)) * x5 (ix2 r n)
        * (Ideal.logistic (x4 (ix2 r n)) * (1 + x4 (ix2 r n) * (1 - Ideal.logistic (x4 (ix2 r n))))) := by
  rw [← p7]
  pointwise [k0_pay11, k0_pay8, k0_pay9]

section gate
variable (X : Vec Ideal S256x1408 .f32) (a : Vec Ideal S8x1408 .f32) (w : Vec Ideal S3x1408 .f32)

theorem p14 (r : Fin 256) (n : Fin 1408) : k0_pay14 (F := Ideal) a (ix2 r n) = a (ix2 0 n) := by
  pointwise [k0_pay14]
  exact sum_pick (n := 8) (by norm_num) 0 0 rfl (fun k => a (ix2 k n))

/-- One row up. -/
theorem p15 (r : Fin 256) (n : Fin 1408) :
    k0_pay15 (F := Ideal) k0_pay12 (dynamicRotate 0 255#32 none X rotates_S256x1408_d0) (k0_pay14 a) (ix2 r n)
      = nx X a (r.val + 1) n := by
  rw [show k0_pay15 (F := Ideal) k0_pay12 (dynamicRotate 0 255#32 none X rotates_S256x1408_d0) (k0_pay14 a) (ix2 r n)
      = Scalar.select (k0_pay12 (ix2 r n)) (k0_pay14 (F := Ideal) a (ix2 r n))
        (dynamicRotate 0 255#32 none X rotates_S256x1408_d0 (ix2 r n)) from rfl, p14]
  pointwise [k0_pay12]
  rw [select_eq_nat _ 255 (by omega) (by norm_num)]
  unfold nx
  have hr := r.isLt
  split_ifs with h1 h2 h3 h4
  · omega
  · congr 2; apply Fin.ext; show (0 : Nat) = _; simp; try omega
  · omega
  · congr 2; apply Fin.ext; show (r.val + 256 - 255) % 256 = r.val + 1; omega
  all_goals omega

/-- Two rows up. -/
theorem p16 (r : Fin 256) (n : Fin 1408) :
    k0_pay16 (F := Ideal) a k0_pay12 (dynamicRotate 0 255#32 none X rotates_S256x1408_d0) (k0_pay14 a) (ix2 r n)
      = nx X a (r.val + 2) n := by
  pointwise [k0_pay16]
  rw [select_eq_nat _ 255 (by omega) (by norm_num)]
  rw [p15, sum_pick (n := 8) (by norm_num) 1 1 rfl (fun k => a (ix2 k n))]
  have hr := r.isLt
  split_ifs with h1
  · unfold nx
    rw [dif_neg (by omega), dif_pos (by omega)]
    congr 2; apply Fin.ext; show (1 : Nat) = _; simp; omega
  · congr 1
    show (r.val + 256 - 255) % 256 + 1 = _
    omega

/-- The input gradient of the gate's half. -/
theorem p19 (r : Fin 256) (n : Fin 1408) :
    k0_pay19 (F := Ideal)
      (k0_pay17 X k0_pay12 (dynamicRotate 0 255#32 none X rotates_S256x1408_d0) (k0_pay14 a) w)
      (k0_pay18 a k0_pay12 (dynamicRotate 0 255#32 none X rotates_S256x1408_d0) (k0_pay14 a) w) (ix2 r n)
      = w (ix2 2 n) * X (ix2 r n) + w (ix2 1 n) * nx X a (r.val + 1) n + w (ix2 0 n) * nx X a (r.val + 2) n := by
  pointwise [k0_pay19, k0_pay17, k0_pay18]
  rw [p15, p16, sum_pick (n := 3) (by norm_num) 2 2 rfl (fun k => w (ix2 k n)),
    sum_pick (n := 3) (by norm_num) 1 1 rfl (fun k => w (ix2 k n)), sum_pick (n := 3) (by norm_num) 0 0 rfl (fun k => w (ix2 k n))]

/-- What the tile adds to the weight gradient, tap by tap. -/
theorem p20 (x : Vec Ideal S256x1408 .f32) (acc : Vec Ideal S3x1408 .f32) (j : Fin 3) (n : Fin 1408) :
    k0_pay20 (F := Ideal) X
      (k0_pay15 k0_pay12 (dynamicRotate 0 255#32 none X rotates_S256x1408_d0) (k0_pay14 a))
      (k0_pay16 a k0_pay12 (dynamicRotate 0 255#32 none X rotates_S256x1408_d0) (k0_pay14 a)) x acc (ix2 j n)
      = acc (ix2 j n) + ∑ r : Fin 256, nx X a (r.val + (2 - j.val)) n * x (ix2 r n) := by
  have h0 : ∀ r : Fin 256, X (ix2 r n) = nx X a (r.val + 0) n := fun r => by
    unfold nx; rw [dif_pos (by omega)]; rfl
  pointwise [k0_pay20]
  simp only [p15, p16, h0]
  fin_cases j
  · simp
    exact congrArg _ (Finset.sum_congr rfl fun r _ => congrArg (· * _) (p16 X a r n))
  · simp
    exact congrArg _ (Finset.sum_congr rfl fun r _ => congrArg (· * _) (p15 X a r n))
  · simp

theorem p21 (acc : Vec Ideal S1x1408 .f32) (n : Fin 1408) :
    k0_pay21 (F := Ideal) X acc (ix2 0 n) = acc (ix2 0 n) + ∑ r : Fin 256, X (ix2 r n) := by
  pointwise [k0_pay21]

theorem p22 (r : Fin 8) (n : Fin 1408) : k0_pay22 (F := Ideal) X (ix2 r n) = X (ix2 ⟨r.val, by omega⟩ n) := by
  pointwise [k0_pay22]

end gate

section val
variable (X : Vec Ideal S256x1408 .f32) (a : Vec Ideal S8x1408 .f32) (w : Vec Ideal S3x1408 .f32)

/-- The value half is computed by the gate half's operations. -/
theorem p25 : k0_pay25 (F := Ideal) X a k0_pay23 k0_pay24
    = k0_pay15 k0_pay12 (dynamicRotate 0 255#32 none X rotates_S256x1408_d0) (k0_pay14 a) := rfl

theorem p26 : k0_pay26 (F := Ideal) X a k0_pay23 k0_pay24
    = k0_pay16 a k0_pay12 (dynamicRotate 0 255#32 none X rotates_S256x1408_d0) (k0_pay14 a) := rfl

theorem p28 : k0_pay28 (F := Ideal) (k0_pay26 X a k0_pay23 k0_pay24) w (k0_pay27 X a k0_pay23 k0_pay24 w)
    = k0_pay19 (k0_pay17 X k0_pay12 (dynamicRotate 0 255#32 none X rotates_S256x1408_d0) (k0_pay14 a) w)
      (k0_pay18 a k0_pay12 (dynamicRotate 0 255#32 none X rotates_S256x1408_d0) (k0_pay14 a) w) := rfl

theorem p29 : k0_pay29 (F := Ideal) = k0_pay20 := rfl
theorem p30 : k0_pay30 (F := Ideal) = k0_pay21 := rfl
theorem p31 : k0_pay1 (F := Ideal) (k0_pay31 X) = k0_pay22 X := rfl

end val

end Cert.Proof.Conv
-- ==== Proof.Outs.lean ====
/-
  What the convolution's backward kernel leaves at one grid point, as its payloads of the point's blocks: at the first
  point of a column block (the carried rows and the sums start at zero) and at a later one.
-/
module

public import proofs.«01_k».proof.Proof.Pay
public import proofs.«01_k».proof.Proof.Gen.KernelIdeal.Frame
public import Idealize.ShloMosaic.Lib.Pipeline.Value
public import Idealize.ShloMosaic.Lib.Tactic

@[expose] public section

set_option maxRecDepth 16384

noncomputable section

namespace Cert.Proof.Conv

open Idealize.ShloMosaic Cert.KernelIdeal Cert.KernelIdeal.Gen

variable {F : FTy → Type} [FloatOps F]

theorem hz : (![0, 0] : Fin 2 → Nat) = fun _ => 0 := funext fun a => by fin_cases a <;> rfl

/-- The rows the gate's half carries: rows 0 to 7 of the scratch. -/
def rows0 (xs : Vec F S16x1408 .f32) : Vec F S8x1408 .f32 :=
  View.ld xs (Rect.unit (s := S16x1408) ![0, 0] ![8, 1408] inb_S16x1408_S8x1408_0_0)

/-- The rows the value's half carries: rows 8 to 15. -/
def rows8 (xs : Vec F S16x1408 .f32) : Vec F S8x1408 .f32 :=
  View.ld xs (Rect.unit (s := S16x1408) ![8, 0] ![8, 1408] inb_S16x1408_S8x1408_8_0)

/-- The input gradient of one half, from its tile `X` of the convolution's gradient, the carried rows `a` and the taps. -/
def dxOf (X : Vec F S256x1408 .f32) (a : Vec F S8x1408 .f32) (w : Vec F S3x1408 .f32) : Vec F S256x1408 .bf16 :=
  k0_pay19 (k0_pay17 X k0_pay12 (dynamicRotate 0 255#32 none X rotates_S256x1408_d0) (k0_pay14 a) w)
    (k0_pay18 a k0_pay12 (dynamicRotate 0 255#32 none X rotates_S256x1408_d0) (k0_pay14 a) w)

/-- The taps' gradient of one half after a tile, from what it was before. -/
def dwOf (X : Vec F S256x1408 .f32) (a : Vec F S8x1408 .f32) (x : Vec F S256x1408 .f32) (acc : Vec F S3x1408 .f32) : Vec F S3x1408 .f32 :=
  k0_pay20 X (k0_pay15 k0_pay12 (dynamicRotate 0 255#32 none X rotates_S256x1408_d0) (k0_pay14 a))
    (k0_pay16 a k0_pay12 (dynamicRotate 0 255#32 none X rotates_S256x1408_d0) (k0_pay14 a)) x acc

theorem rows8_rows_disjoint : Disjoint (Rect.unit (s := S16x1408) ![0, 0] ![8, 1408] inb_S16x1408_S8x1408_0_0).set (Rect.unit (s := S16x1408) ![8, 0] ![8, 1408] inb_S16x1408_S8x1408_8_0).set :=
  Rect.unit_disjoint 0 (.inl (by decide))

/-- Rows read through the rectangle last stored are what was stored; -/
theorem ld_cons (S : Shape) (r : Rect S) (p : r.shape.Idx → Elt F .f32) (L : List (View.Piece (Elt F) S .f32)) :
    View.ld (View.canon (⟨r, p⟩ :: L)) r = p :=
  funext fun j => View.canon_cons_emb r p L j

/-- rows elsewhere are those of before. -/
theorem ld_skip (S : Shape) (r r' : Rect S) (p : r.shape.Idx → Elt F .f32) (L : List (View.Piece (Elt F) S .f32)) (h : Disjoint r.set r'.set) :
    View.ld (View.canon (⟨r, p⟩ :: L)) r' = View.ld (View.canon L) r' :=
  funext fun j => View.canon_cons_of_not_mem (⟨r, p⟩ : View.Piece (Elt F) S .f32) L (Finset.disjoint_right.mp h (r'.toLoadRect.idx_mem j))

/-- The carried rows after a point: what it stored in each half. -/
theorem rows8_canon (p : (Rect.unit (s := S16x1408) ![8, 0] ![8, 1408] inb_S16x1408_S8x1408_8_0).shape.Idx → Elt F .f32) (L : List (View.Piece (Elt F) S16x1408 .f32)) :
    rows8 (View.canon (⟨(Rect.unit (s := S16x1408) ![8, 0] ![8, 1408] inb_S16x1408_S8x1408_8_0), p⟩ :: L)) = p := by
  unfold rows8
  exact ld_cons _ _ p L

theorem rows0_canon (p : (Rect.unit (s := S16x1408) ![8, 0] ![8, 1408] inb_S16x1408_S8x1408_8_0).shape.Idx → Elt F .f32) (q : (Rect.unit (s := S16x1408) ![0, 0] ![8, 1408] inb_S16x1408_S8x1408_0_0).shape.Idx → Elt F .f32) (L : List (View.Piece (Elt F) S16x1408 .f32)) :
    rows0 (View.canon (⟨(Rect.unit (s := S16x1408) ![8, 0] ![8, 1408] inb_S16x1408_S8x1408_8_0), p⟩ :: ⟨(Rect.unit (s := S16x1408) ![0, 0] ![8, 1408] inb_S16x1408_S8x1408_0_0), q⟩ :: L)) = q := by
  unfold rows0
  exact (ld_skip _ _ _ p _ rows8_rows_disjoint.symm).trans (ld_cons _ _ q L)

/-- At the first point the rows read are the zeros just stored: -/
theorem load0 (v : View sig .tc .vmem S16x1408 .f32) (z : Vec F S16x1408 .f32) :
    v.readCov [⟨Rect.unit (s := S16x1408) ![0, 0] ![16, 1408] inb_S16x1408_S16x1408_0_0, z⟩]
      (Rect.unit (s := S16x1408) ![0, 0] ![8, 1408] inb_S16x1408_S8x1408_0_0).toLoadRect = rows0 z := by
  rw [View.readCov_eq_canon']
  unfold rows0
  exact congrArg (fun X => View.ld X (Rect.unit (s := S16x1408) ![0, 0] ![8, 1408] inb_S16x1408_S8x1408_0_0)) (View.canon_unit_zero (S := S16x1408) hz inb_S16x1408_S16x1408_0_0 z)

/-- the value half's too, the gate half's new rows being elsewhere. -/
theorem load8 (v : View sig .tc .vmem S16x1408 .f32) (z : Vec F S16x1408 .f32)
    (q : (Rect.unit (s := S16x1408) ![0, 0] ![8, 1408] inb_S16x1408_S8x1408_0_0).shape.Idx → Elt F .f32) :
    v.readCov [⟨Rect.unit (s := S16x1408) ![0, 0] ![8, 1408] inb_S16x1408_S8x1408_0_0, q⟩,
        ⟨Rect.unit (s := S16x1408) ![0, 0] ![16, 1408] inb_S16x1408_S16x1408_0_0, z⟩]
      (Rect.unit (s := S16x1408) ![8, 0] ![8, 1408] inb_S16x1408_S8x1408_8_0).toLoadRect = rows8 z := by
  rw [View.readCov_eq_canon']
  unfold rows8
  refine (ld_skip _ _ (Rect.unit (s := S16x1408) ![8, 0] ![8, 1408] inb_S16x1408_S8x1408_8_0) q _ rows8_rows_disjoint).trans ?_
  exact congrArg (fun X => View.ld X (Rect.unit (s := S16x1408) ![8, 0] ![8, 1408] inb_S16x1408_S8x1408_8_0)) (View.canon_unit_zero (S := S16x1408) hz inb_S16x1408_S16x1408_0_0 z)

section caseB
variable (c : Dev nD) (i : grid0.Coords) (a0 : Memref sig .tc .vmem S256x1024 .bf16) (h0 : a0.IsWhole) (a1 : Memref sig .tc .vmem S1408x1024 .bf16) (h1 : a1.IsWhole) (a2 : Memref sig .tc .vmem S256x1408 .f32) (h2 : a2.IsWhole) (a3 : Memref sig .tc .vmem S256x1408 .f32) (h3 : a3.IsWhole) (a4 : Memref sig .tc .vmem S256x1408 .f32) (h4 : a4.IsWhole) (a5 : Memref sig .tc .vmem S256x1408 .f32) (h5 : a5.IsWhole) (a6 : Memref sig .tc .vmem S3x1408 .f32) (h6 : a6.IsWhole) (a7 : Memref sig .tc .vmem S3x1408 .f32) (h7 : a7.IsWhole) (a8 : Memref sig .tc .vmem S3x1408 .f32) (h8 : a8.IsWhole) (a9 : Memref sig .tc .vmem S3x1408 .f32) (h9 : a9.IsWhole) (a10 : Memref sig .tc .vmem S1x1408 .f32) (h10 : a10.IsWhole) (a11 : Memref sig .tc .vmem S1x1408 .f32) (h11 : a11.IsWhole) (a12 : Memref sig .tc .vmem S256x1408 .bf16) (h12 : a12.IsWhole) (a13 : Memref sig .tc .vmem S256x1408 .bf16) (h13 : a13.IsWhole) (a14 : Memref sig .tc .vmem S16x1408 .f32) (h14 : a14.IsWhole) (hc : ¬cond0_0 i) (x0 : Vec F S256x1024 .bf16) (x1 : Vec F S1408x1024 .bf16) (x2 : Vec F S256x1408 .f32) (x3 : Vec F S256x1408 .f32) (x4 : Vec F S256x1408 .f32) (x5 : Vec F S256x1408 .f32) (x6 : Vec F S3x1408 .f32) (x7 : Vec F S3x1408 .f32) (xo8 : Vec F S3x1408 .f32) (xo9 : Vec F S3x1408 .f32) (xo10 : Vec F S1x1408 .f32) (xo11 : Vec F S1x1408 .f32) (xs : Vec F S16x1408 .f32)

theorem out_B_8 : out0_B_8 (F := F) c i a0 h0 a1 h1 a2 h2 a3 h3 a4 h4 a5 h5 a6 h6 a7 h7 a8 h8 a9 h9 a10 h10 a11 h11 a12 h12 a13 h13 a14 h14 hc x0 x1 x2 x3 x4 x5 x6 x7 xo8 xo9 xo10 xo11 xs = dwOf (k0_pay11 x0 x1 x4 x5) (rows0 xs) x2 xo8 := by
  unfold out0_B_8
  rw [View.read_writes_junk_eq_canon]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]
  rfl

theorem out_B_9 : out0_B_9 (F := F) c i a0 h0 a1 h1 a2 h2 a3 h3 a4 h4 a5 h5 a6 h6 a7 h7 a8 h8 a9 h9 a10 h10 a11 h11 a12 h12 a13 h13 a14 h14 hc x0 x1 x2 x3 x4 x5 x6 x7 xo8 xo9 xo10 xo11 xs = dwOf (k0_pay10 x0 x1 x4) (rows8 xs) x3 xo9 := by
  unfold out0_B_9
  rw [View.read_writes_junk_eq_canon]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]
  rfl

theorem out_B_10 : out0_B_10 (F := F) c i a0 h0 a1 h1 a2 h2 a3 h3 a4 h4 a5 h5 a6 h6 a7 h7 a8 h8 a9 h9 a10 h10 a11 h11 a12 h12 a13 h13 a14 h14 hc x0 x1 x2 x3 x4 x5 x6 x7 xo8 xo9 xo10 xo11 xs = k0_pay21 (k0_pay11 x0 x1 x4 x5) xo10 := by
  unfold out0_B_10
  rw [View.read_writes_junk_eq_canon]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]

theorem out_B_11 : out0_B_11 (F := F) c i a0 h0 a1 h1 a2 h2 a3 h3 a4 h4 a5 h5 a6 h6 a7 h7 a8 h8 a9 h9 a10 h10 a11 h11 a12 h12 a13 h13 a14 h14 hc x0 x1 x2 x3 x4 x5 x6 x7 xo8 xo9 xo10 xo11 xs = k0_pay21 (k0_pay10 x0 x1 x4) xo11 := by
  unfold out0_B_11
  rw [View.read_writes_junk_eq_canon]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]
  rfl

theorem out_B_12 : out0_B_12 (F := F) c i a0 h0 a1 h1 a2 h2 a3 h3 a4 h4 a5 h5 a6 h6 a7 h7 a8 h8 a9 h9 a10 h10 a11 h11 a12 h12 a13 h13 a14 h14 hc x0 x1 x2 x3 x4 x5 x6 x7 xo8 xo9 xo10 xo11 xs = dxOf (k0_pay11 x0 x1 x4 x5) (rows0 xs) x6 := by
  unfold out0_B_12
  rw [View.read_writes_junk_eq_canon]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]
  rfl

theorem out_B_13 : out0_B_13 (F := F) c i a0 h0 a1 h1 a2 h2 a3 h3 a4 h4 a5 h5 a6 h6 a7 h7 a8 h8 a9 h9 a10 h10 a11 h11 a12 h12 a13 h13 a14 h14 hc x0 x1 x2 x3 x4 x5 x6 x7 xo8 xo9 xo10 xo11 xs = dxOf (k0_pay10 x0 x1 x4) (rows8 xs) x7 := by
  unfold out0_B_13
  rw [View.read_writes_junk_eq_canon]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]
  rfl

theorem sout_B_rows0 : rows0 (sout0_B_0 (F := F) c i a0 h0 a1 h1 a2 h2 a3 h3 a4 h4 a5 h5 a6 h6 a7 h7 a8 h8 a9 h9 a10 h10 a11 h11 a12 h12 a13 h13 a14 h14 hc x0 x1 x2 x3 x4 x5 x6 x7 xo8 xo9 xo10 xo11 xs) = k0_pay22 (k0_pay11 x0 x1 x4 x5) := by
  unfold sout0_B_0
  rw [View.read_writes_junk_eq_canon]
  unfold kernelRun0_B
  dsimp only
  sl_unfold_words
  refine (rows0_canon _ _ _).trans ?_
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]

theorem sout_B_rows8 : rows8 (sout0_B_0 (F := F) c i a0 h0 a1 h1 a2 h2 a3 h3 a4 h4 a5 h5 a6 h6 a7 h7 a8 h8 a9 h9 a10 h10 a11 h11 a12 h12 a13 h13 a14 h14 hc x0 x1 x2 x3 x4 x5 x6 x7 xo8 xo9 xo10 xo11 xs) = k0_pay22 (k0_pay10 x0 x1 x4) := by
  unfold sout0_B_0
  rw [View.read_writes_junk_eq_canon]
  unfold kernelRun0_B
  dsimp only
  sl_unfold_words
  refine (rows8_canon _ _).trans ?_
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]
  rfl

end caseB

section caseA
variable (c : Dev nD) (i : grid0.Coords) (a0 : Memref sig .tc .vmem S256x1024 .bf16) (h0 : a0.IsWhole) (a1 : Memref sig .tc .vmem S1408x1024 .bf16) (h1 : a1.IsWhole) (a2 : Memref sig .tc .vmem S256x1408 .f32) (h2 : a2.IsWhole) (a3 : Memref sig .tc .vmem S256x1408 .f32) (h3 : a3.IsWhole) (a4 : Memref sig .tc .vmem S256x1408 .f32) (h4 : a4.IsWhole) (a5 : Memref sig .tc .vmem S256x1408 .f32) (h5 : a5.IsWhole) (a6 : Memref sig .tc .vmem S3x1408 .f32) (h6 : a6.IsWhole) (a7 : Memref sig .tc .vmem S3x1408 .f32) (h7 : a7.IsWhole) (a8 : Memref sig .tc .vmem S3x1408 .f32) (h8 : a8.IsWhole) (a9 : Memref sig .tc .vmem S3x1408 .f32) (h9 : a9.IsWhole) (a10 : Memref sig .tc .vmem S1x1408 .f32) (h10 : a10.IsWhole) (a11 : Memref sig .tc .vmem S1x1408 .f32) (h11 : a11.IsWhole) (a12 : Memref sig .tc .vmem S256x1408 .bf16) (h12 : a12.IsWhole) (a13 : Memref sig .tc .vmem S256x1408 .bf16) (h13 : a13.IsWhole) (a14 : Memref sig .tc .vmem S16x1408 .f32) (h14 : a14.IsWhole) (hc : cond0_0 i) (x0 : Vec F S256x1024 .bf16) (x1 : Vec F S1408x1024 .bf16) (x2 : Vec F S256x1408 .f32) (x3 : Vec F S256x1408 .f32) (x4 : Vec F S256x1408 .f32) (x5 : Vec F S256x1408 .f32) (x6 : Vec F S3x1408 .f32) (x7 : Vec F S3x1408 .f32)

theorem out_A_8 : out0_A_8 (F := F) c i a0 h0 a1 h1 a2 h2 a3 h3 a4 h4 a5 h5 a6 h6 a7 h7 a8 h8 a9 h9 a10 h10 a11 h11 a12 h12 a13 h13 a14 h14 hc x0 x1 x2 x3 x4 x5 x6 x7 = dwOf (k0_pay11 x0 x1 x4 x5) (rows0 k0_pay2) x2 k0_pay3 := by
  unfold out0_A_8
  rw [View.read_writes_junk_eq_canon]
  unfold kernelRun0_A
  dsimp only
  sl_unfold_words
  rw [View.canon_cons_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz, load0, load8, View.readCov_unit_zero (S := S3x1408) _ hz, View.readCov_unit_zero (S := S1x1408) _ hz]
  rfl

theorem out_A_9 : out0_A_9 (F := F) c i a0 h0 a1 h1 a2 h2 a3 h3 a4 h4 a5 h5 a6 h6 a7 h7 a8 h8 a9 h9 a10 h10 a11 h11 a12 h12 a13 h13 a14 h14 hc x0 x1 x2 x3 x4 x5 x6 x7 = dwOf (k0_pay10 x0 x1 x4) (rows8 k0_pay2) x3 k0_pay4 := by
  unfold out0_A_9
  rw [View.read_writes_junk_eq_canon]
  unfold kernelRun0_A
  dsimp only
  sl_unfold_words
  rw [View.canon_cons_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz, load0, load8, View.readCov_unit_zero (S := S3x1408) _ hz, View.readCov_unit_zero (S := S1x1408) _ hz]
  rfl

theorem out_A_10 : out0_A_10 (F := F) c i a0 h0 a1 h1 a2 h2 a3 h3 a4 h4 a5 h5 a6 h6 a7 h7 a8 h8 a9 h9 a10 h10 a11 h11 a12 h12 a13 h13 a14 h14 hc x0 x1 x2 x3 x4 x5 x6 x7 = k0_pay21 (k0_pay11 x0 x1 x4 x5) k0_pay5 := by
  unfold out0_A_10
  rw [View.read_writes_junk_eq_canon]
  unfold kernelRun0_A
  dsimp only
  sl_unfold_words
  rw [View.canon_cons_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz, load0, load8, View.readCov_unit_zero (S := S3x1408) _ hz, View.readCov_unit_zero (S := S1x1408) _ hz]

theorem out_A_11 : out0_A_11 (F := F) c i a0 h0 a1 h1 a2 h2 a3 h3 a4 h4 a5 h5 a6 h6 a7 h7 a8 h8 a9 h9 a10 h10 a11 h11 a12 h12 a13 h13 a14 h14 hc x0 x1 x2 x3 x4 x5 x6 x7 = k0_pay21 (k0_pay10 x0 x1 x4) k0_pay6 := by
  unfold out0_A_11
  rw [View.read_writes_junk_eq_canon]
  unfold kernelRun0_A
  dsimp only
  sl_unfold_words
  rw [View.canon_cons_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz, load0, load8, View.readCov_unit_zero (S := S3x1408) _ hz, View.readCov_unit_zero (S := S1x1408) _ hz]
  rfl

theorem out_A_12 : out0_A_12 (F := F) c i a0 h0 a1 h1 a2 h2 a3 h3 a4 h4 a5 h5 a6 h6 a7 h7 a8 h8 a9 h9 a10 h10 a11 h11 a12 h12 a13 h13 a14 h14 hc x0 x1 x2 x3 x4 x5 x6 x7 = dxOf (k0_pay11 x0 x1 x4 x5) (rows0 k0_pay2) x6 := by
  unfold out0_A_12
  rw [View.read_writes_junk_eq_canon]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz, load0, load8, View.readCov_unit_zero (S := S3x1408) _ hz, View.readCov_unit_zero (S := S1x1408) _ hz]
  rfl

theorem out_A_13 : out0_A_13 (F := F) c i a0 h0 a1 h1 a2 h2 a3 h3 a4 h4 a5 h5 a6 h6 a7 h7 a8 h8 a9 h9 a10 h10 a11 h11 a12 h12 a13 h13 a14 h14 hc x0 x1 x2 x3 x4 x5 x6 x7 = dxOf (k0_pay10 x0 x1 x4) (rows8 k0_pay2) x7 := by
  unfold out0_A_13
  rw [View.read_writes_junk_eq_canon]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz, load0, load8, View.readCov_unit_zero (S := S3x1408) _ hz, View.readCov_unit_zero (S := S1x1408) _ hz]
  rfl

theorem sout_A_rows0 : rows0 (sout0_A_0 (F := F) c i a0 h0 a1 h1 a2 h2 a3 h3 a4 h4 a5 h5 a6 h6 a7 h7 a8 h8 a9 h9 a10 h10 a11 h11 a12 h12 a13 h13 a14 h14 hc x0 x1 x2 x3 x4 x5 x6 x7) = k0_pay22 (k0_pay11 x0 x1 x4 x5) := by
  unfold sout0_A_0
  rw [View.read_writes_junk_eq_canon]
  unfold kernelRun0_A
  dsimp only
  sl_unfold_words
  refine (rows0_canon _ _ _).trans ?_
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]

theorem sout_A_rows8 : rows8 (sout0_A_0 (F := F) c i a0 h0 a1 h1 a2 h2 a3 h3 a4 h4 a5 h5 a6 h6 a7 h7 a8 h8 a9 h9 a10 h10 a11 h11 a12 h12 a13 h13 a14 h14 hc x0 x1 x2 x3 x4 x5 x6 x7) = k0_pay22 (k0_pay10 x0 x1 x4) := by
  unfold sout0_A_0
  rw [View.read_writes_junk_eq_canon]
  unfold kernelRun0_A
  dsimp only
  sl_unfold_words
  refine (rows8_canon _ _).trans ?_
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1408) hz, View.ld_unit_zero (S := S256x1024) hz, View.ld_unit_zero (S := S1408x1024) hz, View.ld_unit_zero (S := S3x1408) hz, View.ld_unit_zero (S := S1x1408) hz]
  rfl

end caseA

end Cert.Proof.Conv
-- ==== Proof.Blocks.lean ====
/-
  The blocks the convolution's backward kernel reads at a grid point, at an index of the whole arrays. Row tile
  `7 - t % 8` of column block `t / 8` is taken at point `t`, from the last rows to the first.
-/
module

public import proofs.«01_k».proof.Proof.Outs
public import proofs.«01_k».proof.Proof.Gen.KernelIdeal.Value

@[expose] public section

set_option maxRecDepth 16384

noncomputable section

namespace Cert.Proof.Conv

open Idealize.ShloMosaic Idealize.ShloMosaic.TcCoe Cert.KernelIdeal Cert.KernelIdeal.Gen

section blocks
variable {F : FTy → Type} [FloatOps F] (m : (ℓ : Loc nD τ sig) → Buf (Elt F) ℓ)

/-- The first row of the tile point `t` takes. -/
def base (t : Nat) : Nat := 256 * (7 - t % 8)

theorem lt16 (t : Fin cfg0.N) : t.val < 16 := lt_of_lt_of_eq t.isLt N_0

/-- A row of the tile in the whole array, -/
def row (t : Nat) (r : Fin 256) : Fin 2048 := ⟨256 * (7 - t % 8) + r.val, by omega⟩

/-- and a column of the block in the whole array. -/
def col (t : Fin cfg0.N) (n : Fin 1408) : Fin 2816 := ⟨1408 * (t.val / 8) + n.val, by have := lt16 t; omega⟩

theorem iblk0 (c : Dev nD) (t : Fin cfg0.N) (r : Fin 256) (k : Fin 1024) :
    (iblk m c 0 t : Vec F S256x1024 .bf16) (ix2 r k) = (V m c main_v27 : Vec F S2048x1024 .bf16) (ix2 (row t.val r) k) := by
  have hi := (by decide +kernel : ∀ t : Fin cfg0.N, win0_0.index t 0 = 7 - t.val % 8 ∧ win0_0.index t 1 = 0) t
  unfold iblk
  rw [View.read_apply]
  show V m c main_v27 _ = V m c main_v27 _
  congr 1
  funext a
  apply Fin.ext
  match a with
  | ⟨0, _⟩ => show win0_0.index t 0 * 256 + 1 * r.val = _; rw [hi.1]; simp [row, col]; try omega
  | ⟨1, _⟩ => show win0_0.index t 1 * 1024 + 1 * k.val = _; rw [hi.2]; simp [row, col]; try omega

theorem iblk1 (c : Dev nD) (t : Fin cfg0.N) (r : Fin 1408) (k : Fin 1024) :
    (iblk m c 1 t : Vec F S1408x1024 .bf16) (ix2 r k) = (V m c main_v28 : Vec F S2816x1024 .bf16) (ix2 (col t r) k) := by
  have hi := (by decide +kernel : ∀ t : Fin cfg0.N, win0_1.index t 0 = t.val / 8 ∧ win0_1.index t 1 = 0) t
  unfold iblk
  rw [View.read_apply]
  show V m c main_v28 _ = V m c main_v28 _
  congr 1
  funext a
  apply Fin.ext
  match a with
  | ⟨0, _⟩ => show win0_1.index t 0 * 1408 + 1 * r.val = _; rw [hi.1]; simp [row, col]; try omega
  | ⟨1, _⟩ => show win0_1.index t 1 * 1024 + 1 * k.val = _; rw [hi.2]; simp [row, col]; try omega

theorem iblk2 (c : Dev nD) (t : Fin cfg0.N) (r : Fin 256) (k : Fin 1408) :
    (iblk m c 2 t : Vec F S256x1408 .f32) (ix2 r k) = (V m c main_v29 : Vec F S2048x2816 .f32) (ix2 (row t.val r) (col t k)) := by
  have hi := (by decide +kernel : ∀ t : Fin cfg0.N, win0_2.index t 0 = 7 - t.val % 8 ∧ win0_2.index t 1 = t.val / 8) t
  unfold iblk
  rw [View.read_apply]
  show V m c main_v29 _ = V m c main_v29 _
  congr 1
  funext a
  apply Fin.ext
  match a with
  | ⟨0, _⟩ => show win0_2.index t 0 * 256 + 1 * r.val = _; rw [hi.1]; simp [row, col]; try omega
  | ⟨1, _⟩ => show win0_2.index t 1 * 1408 + 1 * k.val = _; rw [hi.2]; simp [row, col]; try omega

theorem iblk3 (c : Dev nD) (t : Fin cfg0.N) (r : Fin 256) (k : Fin 1408) :
    (iblk m c 3 t : Vec F S256x1408 .f32) (ix2 r k) = (V m c main_v30 : Vec F S2048x2816 .f32) (ix2 (row t.val r) (col t k)) := by
  have hi := (by decide +kernel : ∀ t : Fin cfg0.N, win0_3.index t 0 = 7 - t.val % 8 ∧ win0_3.index t 1 = t.val / 8) t
  unfold iblk
  rw [View.read_apply]
  show V m c main_v30 _ = V m c main_v30 _
  congr 1
  funext a
  apply Fin.ext
  match a with
  | ⟨0, _⟩ => show win0_3.index t 0 * 256 + 1 * r.val = _; rw [hi.1]; simp [row, col]; try omega
  | ⟨1, _⟩ => show win0_3.index t 1 * 1408 + 1 * k.val = _; rw [hi.2]; simp [row, col]; try omega

theorem iblk4 (c : Dev nD) (t : Fin cfg0.N) (r : Fin 256) (k : Fin 1408) :
    (iblk m c 4 t : Vec F S256x1408 .f32) (ix2 r k) = (V m c main_v31 : Vec F S2048x2816 .f32) (ix2 (row t.val r) (col t k)) := by
  have hi := (by decide +kernel : ∀ t : Fin cfg0.N, win0_4.index t 0 = 7 - t.val % 8 ∧ win0_4.index t 1 = t.val / 8) t
  unfold iblk
  rw [View.read_apply]
  show V m c main_v31 _ = V m c main_v31 _
  congr 1
  funext a
  apply Fin.ext
  match a with
  | ⟨0, _⟩ => show win0_4.index t 0 * 256 + 1 * r.val = _; rw [hi.1]; simp [row, col]; try omega
  | ⟨1, _⟩ => show win0_4.index t 1 * 1408 + 1 * k.val = _; rw [hi.2]; simp [row, col]; try omega

theorem iblk5 (c : Dev nD) (t : Fin cfg0.N) (r : Fin 256) (k : Fin 1408) :
    (iblk m c 5 t : Vec F S256x1408 .f32) (ix2 r k) = (V m c main_v32 : Vec F S2048x2816 .f32) (ix2 (row t.val r) (col t k)) := by
  have hi := (by decide +kernel : ∀ t : Fin cfg0.N, win0_5.index t 0 = 7 - t.val % 8 ∧ win0_5.index t 1 = t.val / 8) t
  unfold iblk
  rw [View.read_apply]
  show V m c main_v32 _ = V m c main_v32 _
  congr 1
  funext a
  apply Fin.ext
  match a with
  | ⟨0, _⟩ => show win0_5.index t 0 * 256 + 1 * r.val = _; rw [hi.1]; simp [row, col]; try omega
  | ⟨1, _⟩ => show win0_5.index t 1 * 1408 + 1 * k.val = _; rw [hi.2]; simp [row, col]; try omega

theorem iblk6 (c : Dev nD) (t : Fin cfg0.N) (r : Fin 3) (k : Fin 1408) :
    (iblk m c 6 t : Vec F S3x1408 .f32) (ix2 r k) = (V m c main_arg1 : Vec F S3x5632 .f32) (ix2 r ⟨(col t k).val, by omega⟩) := by
  have hi := (by decide +kernel : ∀ t : Fin cfg0.N, win0_6.index t 0 = 0 ∧ win0_6.index t 1 = t.val / 8) t
  unfold iblk
  rw [View.read_apply]
  show V m c main_arg1 _ = V m c main_arg1 _
  congr 1
  funext a
  apply Fin.ext
  match a with
  | ⟨0, _⟩ => show win0_6.index t 0 * 3 + 1 * r.val = _; rw [hi.1]; simp [row, col]; try omega
  | ⟨1, _⟩ => show win0_6.index t 1 * 1408 + 1 * k.val = _; rw [hi.2]; simp [row, col]; try omega

theorem iblk7 (c : Dev nD) (t : Fin cfg0.N) (r : Fin 3) (k : Fin 1408) :
    (iblk m c 7 t : Vec F S3x1408 .f32) (ix2 r k) = (V m c main_arg1 : Vec F S3x5632 .f32) (ix2 r ⟨2816 + (col t k).val, by omega⟩) := by
  have hi := (by decide +kernel : ∀ t : Fin cfg0.N, win0_7.index t 0 = 0 ∧ win0_7.index t 1 = 2 + t.val / 8) t
  unfold iblk
  rw [View.read_apply]
  show V m c main_arg1 _ = V m c main_arg1 _
  congr 1
  funext a
  apply Fin.ext
  match a with
  | ⟨0, _⟩ => show win0_7.index t 0 * 3 + 1 * r.val = _; rw [hi.1]; simp [row, col]; try omega
  | ⟨1, _⟩ => show win0_7.index t 1 * 1408 + 1 * k.val = _; rw [hi.2]; simp [row, col]; try omega

end blocks

end Cert.Proof.Conv
-- ==== Proof.Fold.lean ====
/-
  The convolution's backward kernel over its grid: what each grid point leaves, as sums over rows of the whole arrays
  (by induction on the point).
-/
module

public import proofs.«01_k».proof.Proof.Blocks

@[expose] public section

set_option maxRecDepth 16384

noncomputable section

namespace Cert.Proof.Conv

open Idealize.ShloMosaic Idealize.ShloMosaic.TcCoe Cert.KernelIdeal Cert.KernelIdeal.Gen

/-! ## The gradients of the convolution's output, row by row (zero past the last row) -/

section rows
variable (d : Vec Ideal S2048x1024 .bf16) (w : Vec Ideal S2816x1024 .bf16) (cg cv : Vec Ideal S2048x2816 .f32)

/-- The gradient of the gated product, `dff · w_downᵀ`. -/
def dact (t : Fin 2048) (n : Fin 2816) : EReal := ∑ k : Fin 1024, d (ix2 t k) * w (ix2 n k)

/-- Of the value half: times the gate's silu. -/
def DV (t : Nat) (n : Fin 2816) : EReal :=
  if h : t < 2048 then dact d w ⟨t, h⟩ n * (cg (ix2 ⟨t, h⟩ n) * Ideal.logistic (cg (ix2 ⟨t, h⟩ n))) else 0

/-- Of the gate half: times the value and the silu's derivative. -/
def DG (t : Nat) (n : Fin 2816) : EReal :=
  if h : t < 2048 then dact d w ⟨t, h⟩ n * cv (ix2 ⟨t, h⟩ n)
      * (Ideal.logistic (cg (ix2 ⟨t, h⟩ n)) * (1 + cg (ix2 ⟨t, h⟩ n) * (1 - Ideal.logistic (cg (ix2 ⟨t, h⟩ n))))) else 0

end rows

/-! ## One tile, given what its gradient and the carried rows are -/

section tile
variable (X : Vec Ideal S256x1408 .f32) (a : Vec Ideal S8x1408 .f32) (f : Nat → Fin 1408 → EReal) (b : Nat)
variable (hX : ∀ (r : Fin 256) n, X (ix2 r n) = f (b + r.val) n) (ha : ∀ (q : Fin 8) n, a (ix2 q n) = f (b + 256 + q.val) n)

include hX ha in
theorem nx_of (r : Nat) (hr : r < 264) (n : Fin 1408) : nx X a r n = f (b + r) n := by
  unfold nx
  split_ifs with h1 h2
  · exact hX ⟨r, h1⟩ n
  · rw [ha]; congr 1; show b + 256 + (r - 256) = b + r; omega
  · omega

include hX ha in
theorem dx_of (w : Vec Ideal S3x1408 .f32) (r : Fin 256) (n : Fin 1408) :
    dxOf X a w (ix2 r n)
      = w (ix2 2 n) * f (b + r.val) n + w (ix2 1 n) * f (b + r.val + 1) n + w (ix2 0 n) * f (b + r.val + 2) n := by
  unfold dxOf
  rw [p19, hX, nx_of X a f b hX ha _ (by omega), nx_of X a f b hX ha _ (by omega)]
  rfl

include hX ha in
theorem dw_of (x : Vec Ideal S256x1408 .f32) (acc : Vec Ideal S3x1408 .f32) (p : Fin 3) (n : Fin 1408) :
    dwOf X a x acc (ix2 p n) = acc (ix2 p n) + ∑ r : Fin 256, f (b + r.val + (2 - p.val)) n * x (ix2 r n) := by
  unfold dwOf
  rw [p20]
  congr 1
  refine Finset.sum_congr rfl fun r _ => ?_
  rw [nx_of X a f b hX ha _ (by omega), ← Nat.add_assoc]

include hX in
theorem db_of (acc : Vec Ideal S1x1408 .f32) (n : Fin 1408) :
    k0_pay21 (F := Ideal) X acc (ix2 0 n) = acc (ix2 0 n) + ∑ r : Fin 256, f (b + r.val) n := by
  rw [p21]
  simp only [hX]

include hX in
theorem carry_of (q : Fin 8) (n : Fin 1408) : k0_pay22 (F := Ideal) X (ix2 q n) = f (b + q.val) n := by
  rw [p22]
  exact hX _ n

end tile

/-! ## The grid -/

section grid
variable (m : (ℓ : Loc nD τ sig) → Buf (Elt Ideal) ℓ) (c : Dev nD)

/-- The gate half's gradient of the arrays the kernel is launched on, -/
abbrev G (t : Nat) (n : Fin 2816) : EReal := DG (V m c main_v27) (V m c main_v28) (V m c main_v31) (V m c main_v32) t n
/-- and the value half's. -/
abbrev H (t : Nat) (n : Fin 2816) : EReal := DV (V m c main_v27) (V m c main_v28) (V m c main_v31) t n

/-- The input's gate half, -/
abbrev xg (t : Fin 2048) (n : Fin 2816) : EReal := (V m c main_v29 : Vec Ideal S2048x2816 .f32) (ix2 t n)
/-- and its value half. -/
abbrev xv (t : Fin 2048) (n : Fin 2816) : EReal := (V m c main_v30 : Vec Ideal S2048x2816 .f32) (ix2 t n)

/-- The taps of the gate half, -/
abbrev wg (p : Fin 3) (n : Fin 2816) : EReal := (V m c main_arg1 : Vec Ideal S3x5632 .f32) (ix2 p ⟨n.val, by omega⟩)
/-- and of the value half. -/
abbrev wv (p : Fin 3) (n : Fin 2816) : EReal := (V m c main_arg1 : Vec Ideal S3x5632 .f32) (ix2 p ⟨2816 + n.val, by omega⟩)

theorem dg_tile (t : Fin cfg0.N) (r : Fin 256) (n : Fin 1408) :
    k0_pay11 (F := Ideal) (iblk m c 0 t) (iblk m c 1 t) (iblk m c 4 t) (iblk m c 5 t) (ix2 r n)
      = G m c (base t.val + r.val) (col t n) := by
  have hb : base t.val + r.val < 2048 := by unfold base; omega
  refine (p11 _ _ _ _ r n).trans ?_
  simp only [iblk0, iblk1, iblk4, iblk5]
  unfold G DG
  rw [dif_pos hb]
  rfl

theorem dv_tile (t : Fin cfg0.N) (r : Fin 256) (n : Fin 1408) :
    k0_pay10 (F := Ideal) (iblk m c 0 t) (iblk m c 1 t) (iblk m c 4 t) (ix2 r n)
      = H m c (base t.val + r.val) (col t n) := by
  have hb : base t.val + r.val < 2048 := by unfold base; omega
  refine (p10 _ _ _ r n).trans ?_
  simp only [iblk0, iblk1, iblk4]
  unfold H DV
  rw [dif_pos hb]
  rfl

/-- A tap's gradient from the tiles `7`, `6`, …, `7 - i`. -/
def part (f : Nat → EReal) (x : Fin 2048 → EReal) (p i : Nat) : EReal :=
  ∑ k ∈ Finset.range (i + 1), ∑ r : Fin 256, f (base k + r.val + p) * x (row k r)

/-- A bias gradient from the same tiles. -/
def partB (f : Nat → EReal) (i : Nat) : EReal := ∑ k ∈ Finset.range (i + 1), ∑ r : Fin 256, f (base k + r.val)

/-- What the staging buffers and the scratch hold after point `t`. -/
structure AtPoint (t : Fin cfg0.N) (o : Vec Ideal S3x1408 .f32 × Vec Ideal S3x1408 .f32 × Vec Ideal S1x1408 .f32
    × Vec Ideal S1x1408 .f32 × Vec Ideal S256x1408 .bf16 × Vec Ideal S256x1408 .bf16 × Vec Ideal S16x1408 .f32) : Prop where
  dwg : ∀ (p : Fin 3) n, o.1 (ix2 p n) = part (G m c · (col t n)) (xg m c · (col t n)) (2 - p.val) (t.val % 8)
  dwv : ∀ (p : Fin 3) n, o.2.1 (ix2 p n) = part (H m c · (col t n)) (xv m c · (col t n)) (2 - p.val) (t.val % 8)
  dbg : ∀ n, o.2.2.1 (ix2 0 n) = partB (G m c · (col t n)) (t.val % 8)
  dbv : ∀ n, o.2.2.2.1 (ix2 0 n) = partB (H m c · (col t n)) (t.val % 8)
  dxg : ∀ (r : Fin 256) n, o.2.2.2.2.1 (ix2 r n)
    = wg m c 2 (col t n) * G m c (base t.val + r.val) (col t n)
      + wg m c 1 (col t n) * G m c (base t.val + r.val + 1) (col t n)
      + wg m c 0 (col t n) * G m c (base t.val + r.val + 2) (col t n)
  dxv : ∀ (r : Fin 256) n, o.2.2.2.2.2.1 (ix2 r n)
    = wv m c 2 (col t n) * H m c (base t.val + r.val) (col t n)
      + wv m c 1 (col t n) * H m c (base t.val + r.val + 1) (col t n)
      + wv m c 0 (col t n) * H m c (base t.val + r.val + 2) (col t n)
  cg : ∀ (q : Fin 8) n, rows0 o.2.2.2.2.2.2 (ix2 q n) = G m c (base t.val + q.val) (col t n)
  cv : ∀ (q : Fin 8) n, rows8 o.2.2.2.2.2.2 (ix2 q n) = H m c (base t.val + q.val) (col t n)

theorem G_past (t : Nat) (h : 2048 ≤ t) (n : Fin 2816) : G m c t n = 0 := by
  unfold G DG; rw [dif_neg (by omega)]
theorem H_past (t : Nat) (h : 2048 ≤ t) (n : Fin 2816) : H m c t n = 0 := by
  unfold H DV; rw [dif_neg (by omega)]

theorem zero0 (q : Fin 8) (n : Fin 1408) : rows0 (F := Ideal) (k0_pay2 (F := Ideal)) (ix2 q n) = 0 := by
  unfold rows0; pointwise [k0_pay2]
theorem zero8 (q : Fin 8) (n : Fin 1408) : rows8 (F := Ideal) (k0_pay2 (F := Ideal)) (ix2 q n) = 0 := by
  unfold rows8; pointwise [k0_pay2]
theorem zero3 (p : Fin 3) (n : Fin 1408) : k0_pay3 (F := Ideal) (ix2 p n) = 0 := by pointwise [k0_pay3]
theorem zero4 (p : Fin 3) (n : Fin 1408) : k0_pay4 (F := Ideal) (ix2 p n) = 0 := by pointwise [k0_pay4]
theorem zero5 (p : Fin 1) (n : Fin 1408) : k0_pay5 (F := Ideal) (ix2 p n) = 0 := by pointwise [k0_pay5]
theorem zero6 (p : Fin 1) (n : Fin 1408) : k0_pay6 (F := Ideal) (ix2 p n) = 0 := by pointwise [k0_pay6]

/-- A point that starts a column block. -/
theorem inv_A (t : Fin cfg0.N) (h0 : t.val % 8 = 0) : AtPoint m c t (outsAt0 m c t.val t.isLt) := by
  rw [outsAt0_A m c t h0]
  have hb : base t.val = 1792 := by unfold base; rw [h0]
  have hbr : ∀ r : Fin 256, base t.val + r.val = base 0 + r.val := fun r => by unfold base; rw [h0]
  have hr : ∀ r : Fin 256, row t.val r = row 0 r := fun r => by unfold row; simp only [h0]
  have hG := dg_tile m c t
  have hH := dv_tile m c t
  have aG : ∀ (q : Fin 8) n, rows0 (F := Ideal) (k0_pay2 (F := Ideal)) (ix2 q n) = G m c (base t.val + 256 + q.val) (col t n) :=
    fun q n => by rw [zero0, G_past _ _ _ (by omega)]
  have aH : ∀ (q : Fin 8) n, rows8 (F := Ideal) (k0_pay2 (F := Ideal)) (ix2 q n) = H m c (base t.val + 256 + q.val) (col t n) :=
    fun q n => by rw [zero8, H_past _ _ _ (by omega)]
  constructor
  · intro p n
    simp only [out_A_8]
    refine (dw_of _ _ (fun s n => G m c s (col t n)) (base t.val) hG aG _ _ p n).trans ?_
    rw [zero3, zero_add, h0]
    unfold part
    rw [Finset.sum_range_one]
    exact Finset.sum_congr rfl fun r _ => by rw [iblk2, hr, hbr]
  · intro p n
    simp only [out_A_9]
    refine (dw_of _ _ (fun s n => H m c s (col t n)) (base t.val) hH aH _ _ p n).trans ?_
    rw [zero4, zero_add, h0]
    unfold part
    rw [Finset.sum_range_one]
    exact Finset.sum_congr rfl fun r _ => by rw [iblk3, hr, hbr]
  · intro n
    simp only [out_A_10]
    refine (db_of _ (fun s n => G m c s (col t n)) (base t.val) hG _ n).trans ?_
    rw [zero5, zero_add, h0]
    unfold partB
    rw [Finset.sum_range_one]
    exact Finset.sum_congr rfl fun r _ => by rw [hbr]
  · intro n
    simp only [out_A_11]
    refine (db_of _ (fun s n => H m c s (col t n)) (base t.val) hH _ n).trans ?_
    rw [zero6, zero_add, h0]
    unfold partB
    rw [Finset.sum_range_one]
    exact Finset.sum_congr rfl fun r _ => by rw [hbr]
  · intro r n
    simp only [out_A_12]
    refine (dx_of _ _ (fun s n => G m c s (col t n)) (base t.val) hG aG _ r n).trans ?_
    rw [iblk6, iblk6, iblk6]
  · intro r n
    simp only [out_A_13]
    refine (dx_of _ _ (fun s n => H m c s (col t n)) (base t.val) hH aH _ r n).trans ?_
    rw [iblk7, iblk7, iblk7]
  · intro q n
    simp only [sout_A_rows0]
    exact carry_of _ (fun s n => G m c s (col t n)) (base t.val) hG q n
  · intro q n
    simp only [sout_A_rows8]
    exact carry_of _ (fun s n => H m c s (col t n)) (base t.val) hH q n

/-- A later point, from the one before it. -/
theorem inv_B (t : Fin cfg0.N) (h0 : ¬t.val % 8 = 0)
    (ih : AtPoint m c ⟨t.val - 1, Nat.lt_of_le_of_lt (Nat.sub_le _ _) t.isLt⟩ (outsAt0 m c (t.val - 1) (Nat.lt_of_le_of_lt (Nat.sub_le _ _) t.isLt))) :
    AtPoint m c t (outsAt0 m c t.val t.isLt) := by
  rw [outsAt0_B m c t h0]
  have hc : ∀ n, col ⟨t.val - 1, Nat.lt_of_le_of_lt (Nat.sub_le _ _) t.isLt⟩ n = col t n := fun n => by
    unfold col; apply Fin.ext; show 1408 * ((t.val - 1) / 8) + n.val = 1408 * (t.val / 8) + n.val; omega
  have hi : (t.val - 1) % 8 + 1 = t.val % 8 := by omega
  have hbs : base (t.val - 1) = base t.val + 256 := by unfold base; omega
  have hbr : ∀ r : Fin 256, base t.val + r.val = base (t.val % 8) + r.val := fun r => by unfold base; omega
  have hr : ∀ r : Fin 256, row t.val r = row (t.val % 8) r := fun r => by
    unfold row; apply Fin.ext; show 256 * (7 - t.val % 8) + r.val = 256 * (7 - t.val % 8 % 8) + r.val; omega
  have hG := dg_tile m c t
  have hH := dv_tile m c t
  have aG : ∀ (q : Fin 8) n, rows0 (F := Ideal) (outsAt0 m c (t.val - 1) (Nat.lt_of_le_of_lt (Nat.sub_le _ _) t.isLt)).2.2.2.2.2.2 (ix2 q n)
      = G m c (base t.val + 256 + q.val) (col t n) := fun q n => by rw [ih.cg, hc, ← hbs]
  have aH : ∀ (q : Fin 8) n, rows8 (F := Ideal) (outsAt0 m c (t.val - 1) (Nat.lt_of_le_of_lt (Nat.sub_le _ _) t.isLt)).2.2.2.2.2.2 (ix2 q n)
      = H m c (base t.val + 256 + q.val) (col t n) := fun q n => by rw [ih.cv, hc, ← hbs]
  constructor
  · intro p n
    simp only [out_B_8]
    refine (dw_of _ _ (fun s n => G m c s (col t n)) (base t.val) hG aG _ _ p n).trans ?_
    rw [ih.dwg, hc]
    unfold part
    rw [Finset.sum_range_succ _ (t.val % 8), ← hi]
    rw [hi]
    congr 1
    exact Finset.sum_congr rfl fun r _ => by rw [iblk2, hr, hbr]
  · intro p n
    simp only [out_B_9]
    refine (dw_of _ _ (fun s n => H m c s (col t n)) (base t.val) hH aH _ _ p n).trans ?_
    rw [ih.dwv, hc]
    unfold part
    rw [Finset.sum_range_succ _ (t.val % 8), ← hi]
    rw [hi]
    congr 1
    exact Finset.sum_congr rfl fun r _ => by rw [iblk3, hr, hbr]
  · intro n
    simp only [out_B_10]
    refine (db_of _ (fun s n => G m c s (col t n)) (base t.val) hG _ n).trans ?_
    rw [ih.dbg, hc]
    unfold partB
    rw [Finset.sum_range_succ _ (t.val % 8), ← hi]
    rw [hi]
    congr 1
    exact Finset.sum_congr rfl fun r _ => by rw [hbr]
  · intro n
    simp only [out_B_11]
    refine (db_of _ (fun s n => H m c s (col t n)) (base t.val) hH _ n).trans ?_
    rw [ih.dbv, hc]
    unfold partB
    rw [Finset.sum_range_succ _ (t.val % 8), ← hi]
    rw [hi]
    congr 1
    exact Finset.sum_congr rfl fun r _ => by rw [hbr]
  · intro r n
    simp only [out_B_12]
    refine (dx_of _ _ (fun s n => G m c s (col t n)) (base t.val) hG aG _ r n).trans ?_
    rw [iblk6, iblk6, iblk6]
  · intro r n
    simp only [out_B_13]
    refine (dx_of _ _ (fun s n => H m c s (col t n)) (base t.val) hH aH _ r n).trans ?_
    rw [iblk7, iblk7, iblk7]
  · intro q n
    simp only [sout_B_rows0]
    exact carry_of _ (fun s n => G m c s (col t n)) (base t.val) hG q n
  · intro q n
    simp only [sout_B_rows8]
    exact carry_of _ (fun s n => H m c s (col t n)) (base t.val) hH q n

/-- Every point. -/
theorem inv : ∀ (n : Nat) (h : n < cfg0.N), AtPoint m c ⟨n, h⟩ (outsAt0 m c n h)
  | 0, h => inv_A m c ⟨0, h⟩ rfl
  | n + 1, h => by
    by_cases h0 : (n + 1) % 8 = 0
    · exact inv_A m c ⟨n + 1, h⟩ h0
    · exact inv_B m c ⟨n + 1, h⟩ h0 (inv n (Nat.lt_of_succ_lt h))

end grid

end Cert.Proof.Conv
-- ==== Proof.Final.lean ====
/-
  What the convolution's backward kernel leaves in its six result arrays, at every index.
-/
module

public import proofs.«01_k».proof.Proof.Fold

@[expose] public section

set_option maxRecDepth 16384

noncomputable section

namespace Cert.Proof.Conv

open Idealize.ShloMosaic Idealize.ShloMosaic.TcCoe Cert.KernelIdeal Cert.KernelIdeal.Gen

/-- The eight tiles' rows are all the rows. -/
theorem sum_rows (g : Fin 2048 → EReal) :
    (∑ k ∈ Finset.range 8, ∑ r : Fin 256, g (row k r)) = ∑ t : Fin 2048, g t := by
  rw [Finset.sum_range (fun k => ∑ r : Fin 256, g (row k r))]
  refine (Fintype.sum_prod_type' (fun (k : Fin 8) (r : Fin 256) => g (row k.val r))).symm.trans ?_
  refine Finset.sum_bij' (fun p _ => row p.1.val p.2)
    (fun t _ => ((⟨7 - t.val / 256, by omega⟩ : Fin 8), (⟨t.val % 256, by omega⟩ : Fin 256))) ?_ ?_ ?_ ?_ ?_
  · intro p _; exact Finset.mem_univ _
  · intro t _; exact Finset.mem_univ _
  · rintro ⟨k, r⟩ _
    refine Prod.ext (Fin.ext ?_) (Fin.ext ?_)
    · show 7 - (256 * (7 - k.val % 8) + r.val) / 256 = k.val; omega
    · show (256 * (7 - k.val % 8) + r.val) % 256 = r.val; omega
  · intro t _
    apply Fin.ext
    show 256 * (7 - (7 - t.val / 256) % 8) + t.val % 256 = t.val
    omega
  · intro p _; rfl

theorem part_all (f : Nat → EReal) (x : Fin 2048 → EReal) (p : Nat) :
    part f x p 7 = ∑ t : Fin 2048, f (t.val + p) * x t :=
  (Finset.sum_congr rfl fun k _ => Finset.sum_congr rfl fun r _ => rfl).trans (sum_rows fun t => f (t.val + p) * x t)

theorem partB_all (f : Nat → EReal) : partB f 7 = ∑ t : Fin 2048, f t.val :=
  (Finset.sum_congr rfl fun k _ => Finset.sum_congr rfl fun r _ => rfl).trans (sum_rows fun t => f t.val)

section final
variable (m : (ℓ : Loc nD τ sig) → Buf (Elt Ideal) ℓ) (c : Dev nD)

/-- Result 1. -/
def R8 : Vec Ideal S3x2816 .f32 := fun i => ∑ t : Fin 2048, G m c (t.val + (2 - (i 0).val)) (i 1) * xg m c t (i 1)

theorem idx8 (t : Fin cfg0.N) : win0_8.index t 0 = 0 ∧ win0_8.index t 1 = t.val / 8 :=
  (by decide +kernel : ∀ t : Fin cfg0.N, win0_8.index t 0 = 0 ∧ win0_8.index t 1 = t.val / 8) t

theorem flushed_8 (t : Fin cfg0.N) (hf : (cfg0.win 8).flush t = true) :
    (dats m 0 c).flushed 8 t = ((cfg0.win 8).blk t).view.read (Elt Ideal) (R8 m c) := by
  have h7 := (flush0_8 t).mp hf
  rw [Cert.KernelIdeal.Value.flushed8 m c t]
  have hinv := inv m c t.val t.isLt
  have hi := idx8 t
  funext j
  rw [View.read_apply]
  obtain ⟨p, q, rfl⟩ : ∃ (p : Fin 3) (q : Fin 1408), j = ix2 p q := ⟨j 0, j 1, eq_ix2 j⟩
  have h2 : ∀ (X : Vec Ideal S3x1408 .f32), (cfg0.win 8).cut (grid0.coords t) X (ix2 p q) = X (ix2 p q) := fun _ => rfl
  refine (h2 _).trans ?_
  rw [hinv.dwg, h7, part_all]
  show _ = R8 m c _
  have he : (((cfg0.win 8).blk t).view.emb (ix2 p q) : S3x2816.Idx) = ix2 p (col t q) := by
    funext a
    apply Fin.ext
    match a with
    | ⟨0, _⟩ => show win0_8.index t 0 * 3 + 1 * p.val = _; rw [hi.1]; simp [row, col]; try omega
    | ⟨1, _⟩ => show win0_8.index t 1 * 1408 + 1 * q.val = _; rw [hi.2]; simp [row, col]; try omega
  rw [he]
  rfl

theorem final_8 : (dats m 0 c).arrAt 8 cfg0.N = R8 m c :=
  (dats m 0 c).arrAt_eq_of_cover 8 (R8 m c) (flushed_8 m c) fun i => by
    have h0 : (i 0 : Nat) < 3 := (i 0).isLt
    have h1 : (i 1 : Nat) < 2816 := (i 1).isLt
    have hN : cfg0.N = 16 := N_0
    let t : Fin cfg0.N := ⟨8 * ((i 1 : Nat) / 1408) + 7, by omega⟩
    have ht : t.val = 8 * ((i 1 : Nat) / 1408) + 7 := rfl
    have hi := idx8 t
    refine ⟨t, (flush0_8 t).mpr (by omega), ?_⟩
    show i ∈ ((View.whole main_v33_0).slice (win0_8.rect t)).set
    rw [View.set_slice_whole, Rect.mem_set_unit]
    intro a
    match a with
    | ⟨0, _⟩ =>
      show win0_8.index t 0 * 3 ≤ (i 0 : Nat) ∧ (i 0 : Nat) < win0_8.index t 0 * 3 + 3
      rw [hi.1]; omega
    | ⟨1, _⟩ =>
      show win0_8.index t 1 * 1408 ≤ (i 1 : Nat) ∧ (i 1 : Nat) < win0_8.index t 1 * 1408 + 1408
      rw [hi.2]; omega

/-- Result 2. -/
def R9 : Vec Ideal S3x2816 .f32 := fun i => ∑ t : Fin 2048, H m c (t.val + (2 - (i 0).val)) (i 1) * xv m c t (i 1)

theorem idx9 (t : Fin cfg0.N) : win0_9.index t 0 = 0 ∧ win0_9.index t 1 = t.val / 8 :=
  (by decide +kernel : ∀ t : Fin cfg0.N, win0_9.index t 0 = 0 ∧ win0_9.index t 1 = t.val / 8) t

theorem flushed_9 (t : Fin cfg0.N) (hf : (cfg0.win 9).flush t = true) :
    (dats m 0 c).flushed 9 t = ((cfg0.win 9).blk t).view.read (Elt Ideal) (R9 m c) := by
  have h7 := (flush0_9 t).mp hf
  rw [Cert.KernelIdeal.Value.flushed9 m c t]
  have hinv := inv m c t.val t.isLt
  have hi := idx9 t
  funext j
  rw [View.read_apply]
  obtain ⟨p, q, rfl⟩ : ∃ (p : Fin 3) (q : Fin 1408), j = ix2 p q := ⟨j 0, j 1, eq_ix2 j⟩
  have h2 : ∀ (X : Vec Ideal S3x1408 .f32), (cfg0.win 9).cut (grid0.coords t) X (ix2 p q) = X (ix2 p q) := fun _ => rfl
  refine (h2 _).trans ?_
  rw [hinv.dwv, h7, part_all]
  show _ = R9 m c _
  have he : (((cfg0.win 9).blk t).view.emb (ix2 p q) : S3x2816.Idx) = ix2 p (col t q) := by
    funext a
    apply Fin.ext
    match a with
    | ⟨0, _⟩ => show win0_9.index t 0 * 3 + 1 * p.val = _; rw [hi.1]; simp [row, col]; try omega
    | ⟨1, _⟩ => show win0_9.index t 1 * 1408 + 1 * q.val = _; rw [hi.2]; simp [row, col]; try omega
  rw [he]
  rfl

theorem final_9 : (dats m 0 c).arrAt 9 cfg0.N = R9 m c :=
  (dats m 0 c).arrAt_eq_of_cover 9 (R9 m c) (flushed_9 m c) fun i => by
    have h0 : (i 0 : Nat) < 3 := (i 0).isLt
    have h1 : (i 1 : Nat) < 2816 := (i 1).isLt
    have hN : cfg0.N = 16 := N_0
    let t : Fin cfg0.N := ⟨8 * ((i 1 : Nat) / 1408) + 7, by omega⟩
    have ht : t.val = 8 * ((i 1 : Nat) / 1408) + 7 := rfl
    have hi := idx9 t
    refine ⟨t, (flush0_9 t).mpr (by omega), ?_⟩
    show i ∈ ((View.whole main_v33_1).slice (win0_9.rect t)).set
    rw [View.set_slice_whole, Rect.mem_set_unit]
    intro a
    match a with
    | ⟨0, _⟩ =>
      show win0_9.index t 0 * 3 ≤ (i 0 : Nat) ∧ (i 0 : Nat) < win0_9.index t 0 * 3 + 3
      rw [hi.1]; omega
    | ⟨1, _⟩ =>
      show win0_9.index t 1 * 1408 ≤ (i 1 : Nat) ∧ (i 1 : Nat) < win0_9.index t 1 * 1408 + 1408
      rw [hi.2]; omega

/-- Result 3. -/
def R10 : Vec Ideal S1x2816 .f32 := fun i => ∑ t : Fin 2048, G m c t.val (i 1)

theorem idx10 (t : Fin cfg0.N) : win0_10.index t 0 = 0 ∧ win0_10.index t 1 = t.val / 8 :=
  (by decide +kernel : ∀ t : Fin cfg0.N, win0_10.index t 0 = 0 ∧ win0_10.index t 1 = t.val / 8) t

theorem flushed_10 (t : Fin cfg0.N) (hf : (cfg0.win 10).flush t = true) :
    (dats m 0 c).flushed 10 t = ((cfg0.win 10).blk t).view.read (Elt Ideal) (R10 m c) := by
  have h7 := (flush0_10 t).mp hf
  rw [Cert.KernelIdeal.Value.flushed10 m c t]
  have hinv := inv m c t.val t.isLt
  have hi := idx10 t
  funext j
  rw [View.read_apply]
  obtain ⟨p, q, rfl⟩ : ∃ (p : Fin 1) (q : Fin 1408), j = ix2 p q := ⟨j 0, j 1, eq_ix2 j⟩
  have h2 : ∀ (X : Vec Ideal S1x1408 .f32), (cfg0.win 10).cut (grid0.coords t) X (ix2 p q) = X (ix2 p q) := fun _ => rfl
  refine (h2 _).trans ?_
  obtain rfl : p = 0 := Subsingleton.elim _ _
  rw [hinv.dbg, h7, partB_all]
  show _ = R10 m c _
  have he : (((cfg0.win 10).blk t).view.emb (ix2 0 q) : S1x2816.Idx) = ix2 0 (col t q) := by
    funext a
    apply Fin.ext
    match a with
    | ⟨0, _⟩ => show win0_10.index t 0 * 1 + 1 * (0 : Fin 1).val = _; rw [hi.1]; simp [row, col]; try omega
    | ⟨1, _⟩ => show win0_10.index t 1 * 1408 + 1 * q.val = _; rw [hi.2]; simp [row, col]; try omega
  rw [he]
  rfl

theorem final_10 : (dats m 0 c).arrAt 10 cfg0.N = R10 m c :=
  (dats m 0 c).arrAt_eq_of_cover 10 (R10 m c) (flushed_10 m c) fun i => by
    have h0 : (i 0 : Nat) < 1 := (i 0).isLt
    have h1 : (i 1 : Nat) < 2816 := (i 1).isLt
    have hN : cfg0.N = 16 := N_0
    let t : Fin cfg0.N := ⟨8 * ((i 1 : Nat) / 1408) + 7, by omega⟩
    have ht : t.val = 8 * ((i 1 : Nat) / 1408) + 7 := rfl
    have hi := idx10 t
    refine ⟨t, (flush0_10 t).mpr (by omega), ?_⟩
    show i ∈ ((View.whole main_v33_2).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [hi.1]; omega
    | ⟨1, _⟩ =>
      show win0_10.index t 1 * 1408 ≤ (i 1 : Nat) ∧ (i 1 : Nat) < win0_10.index t 1 * 1408 + 1408
      rw [hi.2]; omega

/-- Result 4. -/
def R11 : Vec Ideal S1x2816 .f32 := fun i => ∑ t : Fin 2048, H m c t.val (i 1)

theorem idx11 (t : Fin cfg0.N) : win0_11.index t 0 = 0 ∧ win0_11.index t 1 = t.val / 8 :=
  (by decide +kernel : ∀ t : Fin cfg0.N, win0_11.index t 0 = 0 ∧ win0_11.index t 1 = t.val / 8) t

theorem flushed_11 (t : Fin cfg0.N) (hf : (cfg0.win 11).flush t = true) :
    (dats m 0 c).flushed 11 t = ((cfg0.win 11).blk t).view.read (Elt Ideal) (R11 m c) := by
  have h7 := (flush0_11 t).mp hf
  rw [Cert.KernelIdeal.Value.flushed11 m c t]
  have hinv := inv m c t.val t.isLt
  have hi := idx11 t
  funext j
  rw [View.read_apply]
  obtain ⟨p, q, rfl⟩ : ∃ (p : Fin 1) (q : Fin 1408), j = ix2 p q := ⟨j 0, j 1, eq_ix2 j⟩
  have h2 : ∀ (X : Vec Ideal S1x1408 .f32), (cfg0.win 11).cut (grid0.coords t) X (ix2 p q) = X (ix2 p q) := fun _ => rfl
  refine (h2 _).trans ?_
  obtain rfl : p = 0 := Subsingleton.elim _ _
  rw [hinv.dbv, h7, partB_all]
  show _ = R11 m c _
  have he : (((cfg0.win 11).blk t).view.emb (ix2 0 q) : S1x2816.Idx) = ix2 0 (col t q) := by
    funext a
    apply Fin.ext
    match a with
    | ⟨0, _⟩ => show win0_11.index t 0 * 1 + 1 * (0 : Fin 1).val = _; rw [hi.1]; simp [row, col]; try omega
    | ⟨1, _⟩ => show win0_11.index t 1 * 1408 + 1 * q.val = _; rw [hi.2]; simp [row, col]; try omega
  rw [he]
  rfl

theorem final_11 : (dats m 0 c).arrAt 11 cfg0.N = R11 m c :=
  (dats m 0 c).arrAt_eq_of_cover 11 (R11 m c) (flushed_11 m c) fun i => by
    have h0 : (i 0 : Nat) < 1 := (i 0).isLt
    have h1 : (i 1 : Nat) < 2816 := (i 1).isLt
    have hN : cfg0.N = 16 := N_0
    let t : Fin cfg0.N := ⟨8 * ((i 1 : Nat) / 1408) + 7, by omega⟩
    have ht : t.val = 8 * ((i 1 : Nat) / 1408) + 7 := rfl
    have hi := idx11 t
    refine ⟨t, (flush0_11 t).mpr (by omega), ?_⟩
    show i ∈ ((View.whole main_v33_3).slice (win0_11.rect t)).set
    rw [View.set_slice_whole, Rect.mem_set_unit]
    intro a
    match a with
    | ⟨0, _⟩ =>
      show win0_11.index t 0 * 1 ≤ (i 0 : Nat) ∧ (i 0 : Nat) < win0_11.index t 0 * 1 + 1
      rw [hi.1]; omega
    | ⟨1, _⟩ =>
      show win0_11.index t 1 * 1408 ≤ (i 1 : Nat) ∧ (i 1 : Nat) < win0_11.index t 1 * 1408 + 1408
      rw [hi.2]; omega

/-- Result 5. -/
def R12 : Vec Ideal S2048x2816 .bf16 := fun i => wg m c 2 (i 1) * G m c (i 0).val (i 1) + wg m c 1 (i 1) * G m c ((i 0).val + 1) (i 1) + wg m c 0 (i 1) * G m c ((i 0).val + 2) (i 1)

theorem idx12 (t : Fin cfg0.N) : win0_12.index t 0 = 7 - t.val % 8 ∧ win0_12.index t 1 = t.val / 8 :=
  (by decide +kernel : ∀ t : Fin cfg0.N, win0_12.index t 0 = 7 - t.val % 8 ∧ win0_12.index t 1 = t.val / 8) t

theorem flushed_12 (t : Fin cfg0.N) (hf : (cfg0.win 12).flush t = true) :
    (dats m 0 c).flushed 12 t = ((cfg0.win 12).blk t).view.read (Elt Ideal) (R12 m c) := by
  skip
  rw [Cert.KernelIdeal.Value.flushed12 m c t]
  have hinv := inv m c t.val t.isLt
  have hi := idx12 t
  funext j
  rw [View.read_apply]
  obtain ⟨p, q, rfl⟩ : ∃ (p : Fin 256) (q : Fin 1408), j = ix2 p q := ⟨j 0, j 1, eq_ix2 j⟩
  have h2 : ∀ (X : Vec Ideal S256x1408 .bf16), (cfg0.win 12).cut (grid0.coords t) X (ix2 p q) = X (ix2 p q) := fun _ => rfl
  refine (h2 _).trans ?_
  rw [hinv.dxg]
  show _ = R12 m c _
  have he : (((cfg0.win 12).blk t).view.emb (ix2 p q) : S2048x2816.Idx) = ix2 (row t.val p) (col t q) := by
    funext a
    apply Fin.ext
    match a with
    | ⟨0, _⟩ => show win0_12.index t 0 * 256 + 1 * p.val = _; rw [hi.1]; simp [row, col]; try omega
    | ⟨1, _⟩ => show win0_12.index t 1 * 1408 + 1 * q.val = _; rw [hi.2]; simp [row, col]; try omega
  rw [he]
  rfl

theorem final_12 : (dats m 0 c).arrAt 12 cfg0.N = R12 m c :=
  (dats m 0 c).arrAt_eq_of_cover 12 (R12 m c) (flushed_12 m c) fun i => by
    have h0 : (i 0 : Nat) < 2048 := (i 0).isLt
    have h1 : (i 1 : Nat) < 2816 := (i 1).isLt
    have hN : cfg0.N = 16 := N_0
    let t : Fin cfg0.N := ⟨8 * ((i 1 : Nat) / 1408) + (7 - (i 0 : Nat) / 256), by omega⟩
    have ht : t.val = 8 * ((i 1 : Nat) / 1408) + (7 - (i 0 : Nat) / 256) := rfl
    have hi := idx12 t
    refine ⟨t, flush0_12 t, ?_⟩
    show i ∈ ((View.whole main_v33_4).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + 256
      rw [hi.1]; omega
    | ⟨1, _⟩ =>
      show win0_12.index t 1 * 1408 ≤ (i 1 : Nat) ∧ (i 1 : Nat) < win0_12.index t 1 * 1408 + 1408
      rw [hi.2]; omega

/-- Result 6. -/
def R13 : Vec Ideal S2048x2816 .bf16 := fun i => wv m c 2 (i 1) * H m c (i 0).val (i 1) + wv m c 1 (i 1) * H m c ((i 0).val + 1) (i 1) + wv m c 0 (i 1) * H m c ((i 0).val + 2) (i 1)

theorem idx13 (t : Fin cfg0.N) : win0_13.index t 0 = 7 - t.val % 8 ∧ win0_13.index t 1 = t.val / 8 :=
  (by decide +kernel : ∀ t : Fin cfg0.N, win0_13.index t 0 = 7 - t.val % 8 ∧ win0_13.index t 1 = t.val / 8) t

theorem flushed_13 (t : Fin cfg0.N) (hf : (cfg0.win 13).flush t = true) :
    (dats m 0 c).flushed 13 t = ((cfg0.win 13).blk t).view.read (Elt Ideal) (R13 m c) := by
  skip
  rw [Cert.KernelIdeal.Value.flushed13 m c t]
  have hinv := inv m c t.val t.isLt
  have hi := idx13 t
  funext j
  rw [View.read_apply]
  obtain ⟨p, q, rfl⟩ : ∃ (p : Fin 256) (q : Fin 1408), j = ix2 p q := ⟨j 0, j 1, eq_ix2 j⟩
  have h2 : ∀ (X : Vec Ideal S256x1408 .bf16), (cfg0.win 13).cut (grid0.coords t) X (ix2 p q) = X (ix2 p q) := fun _ => rfl
  refine (h2 _).trans ?_
  rw [hinv.dxv]
  show _ = R13 m c _
  have he : (((cfg0.win 13).blk t).view.emb (ix2 p q) : S2048x2816.Idx) = ix2 (row t.val p) (col t q) := by
    funext a
    apply Fin.ext
    match a with
    | ⟨0, _⟩ => show win0_13.index t 0 * 256 + 1 * p.val = _; rw [hi.1]; simp [row, col]; try omega
    | ⟨1, _⟩ => show win0_13.index t 1 * 1408 + 1 * q.val = _; rw [hi.2]; simp [row, col]; try omega
  rw [he]
  rfl

theorem final_13 : (dats m 0 c).arrAt 13 cfg0.N = R13 m c :=
  (dats m 0 c).arrAt_eq_of_cover 13 (R13 m c) (flushed_13 m c) fun i => by
    have h0 : (i 0 : Nat) < 2048 := (i 0).isLt
    have h1 : (i 1 : Nat) < 2816 := (i 1).isLt
    have hN : cfg0.N = 16 := N_0
    let t : Fin cfg0.N := ⟨8 * ((i 1 : Nat) / 1408) + (7 - (i 0 : Nat) / 256), by omega⟩
    have ht : t.val = 8 * ((i 1 : Nat) / 1408) + (7 - (i 0 : Nat) / 256) := rfl
    have hi := idx13 t
    refine ⟨t, flush0_13 t, ?_⟩
    show i ∈ ((View.whole main_v33_5).slice (win0_13.rect t)).set
    rw [View.set_slice_whole, Rect.mem_set_unit]
    intro a
    match a with
    | ⟨0, _⟩ =>
      show win0_13.index t 0 * 256 ≤ (i 0 : Nat) ∧ (i 0 : Nat) < win0_13.index t 0 * 256 + 256
      rw [hi.1]; omega
    | ⟨1, _⟩ =>
      show win0_13.index t 1 * 1408 ≤ (i 1 : Nat) ∧ (i 1 : Nat) < win0_13.index t 1 * 1408 + 1408
      rw [hi.2]; omega

end final

end Cert.Proof.Conv
-- ==== Proof.RefA.lean ====
module

public import proofs.«01_k».proof.Proof.Gen.ReferenceIdeal.Read
public import Idealize.ShloMosaic.Lib.Pointwise

@[expose] public section

set_option maxRecDepth 16384

noncomputable section

namespace Cert.Proof.Conv

open Cert.ReferenceIdeal Cert.ReferenceIdeal.Gen Cert.ReferenceIdeal.Read Idealize.ShloMosaic Idealize.ShloMosaic.TcCoe

variable (x0 : (⟨S1x2048x5632, .f32⟩ : BufTy).Contents (Elt Ideal)) (x1 : (⟨S3x5632, .f32⟩ : BufTy).Contents (Elt Ideal))
  (x2 : (⟨S5632, .f32⟩ : BufTy).Contents (Elt Ideal)) (x3 : (⟨S2816x1024, .f32⟩ : BufTy).Contents (Elt Ideal))
  (x4 : (⟨S2048x1024, .f32⟩ : BufTy).Contents (Elt Ideal))

/-- A pad without interior padding read inside the operand. -/
theorem pad_hit {s t u : Shape} {α : Type} (lo hi interior : Fin s.rank → Nat) (x : s.Idx → α) (v : u.Idx → α)
    (h : s.Pads lo hi interior t) (hu : 0 < u.numel) (j : t.Idx) (i : s.Idx) (h0 : ∀ a, interior a = 0)
    (e : ∀ a : Fin s.rank, (j (a.cast h.1)).val = lo a + (i a).val) : pad t lo hi interior x v h hu j = x i := by
  have hin : ∀ a : Fin s.rank, lo a ≤ (j (a.cast h.1)).val ∧ ((j (a.cast h.1)).val - lo a) % (interior a + 1) = 0
      ∧ ((j (a.cast h.1)).val - lo a) / (interior a + 1) < s.size a := fun a => by
    have := (i a).isLt
    rw [h0 a, e a, Nat.zero_add, Nat.div_one, Nat.mod_one]; omega
  rw [pad_apply, dif_pos hin]
  refine congrArg x (funext fun a => Fin.ext ?_)
  show _ / _ = _
  rw [h0 a, e a, Nat.zero_add, Nat.div_one]; omega

/-- A pad without interior padding read below or above the operand on some axis. -/
theorem pad_miss {s t u : Shape} {α : Type} (lo hi interior : Fin s.rank → Nat) (x : s.Idx → α) (v : u.Idx → α)
    (h : s.Pads lo hi interior t) (hu : 0 < u.numel) (j : t.Idx) (a : Fin s.rank) (h0 : interior a = 0)
    (e : (j (a.cast h.1)).val < lo a ∨ lo a + s.size a ≤ (j (a.cast h.1)).val) :
    pad t lo hi interior x v h hu j = v (Shape.Idx.first hu) := by
  rw [pad_apply, dif_neg fun hin => ?_]
  have := hin a
  rw [h0, Nat.zero_add, Nat.div_one] at this
  omega

theorem zeros3 : ∀ a : Fin 3, (![0, 0, 0] : Fin 3 → ℕ) a = 0 := by decide

/-- The convolution's output at token `t`, channel `n`. -/
abbrev cR (t : Fin 2048) (n : Fin 5632) : EReal := val_main_v25 (F := Ideal) x0 x1 x2 (ix3 0 t n)

/-- The gradient at the gated product. -/
abbrev aR (t : Fin 2048) (n : Fin 2816) : EReal := ∑ k : Fin 1024, x4 (ix2 t k) * x3 (ix2 n k)

/-- The gate's column. -/
abbrev lo (n : Fin 2816) : Fin 5632 := ⟨n.val, by omega⟩
/-- The value's column. -/
abbrev hi (n : Fin 2816) : Fin 5632 := ⟨2816 + n.val, by omega⟩

/-- The sigmoid as the reference writes it. -/
abbrev sg (g : EReal) : EReal := Ideal.div 1 (1 + Ideal.exp (-g))

theorem v32_at (t : Fin 2048) (n : Fin 2816) : val_main_v32 (F := Ideal) x3 x4 (ix3 0 t n) = aR x3 x4 t n := by
  pointwise [val_main_v32, val_main_v31]

theorem v26_at (t : Fin 2048) (n : Fin 2816) : val_main_v26 (F := Ideal) x0 x1 x2 (ix3 0 t n) = cR x0 x1 x2 t (lo n) := by
  pointwise [val_main_v26]

theorem v27_at (t : Fin 2048) (n : Fin 2816) : val_main_v27 (F := Ideal) x0 x1 x2 (ix3 0 t n) = cR x0 x1 x2 t (hi n) := by
  pointwise [val_main_v27]

/-- The convolution's padded input: two zero rows, then the input. -/
def hpR (t : Fin 2050) (n : Fin 5632) : EReal := if h : 2 ≤ t.val then x0 (ix3 0 ⟨t.val - 2, by omega⟩ n) else 0

theorem v1_at (t : Fin 2050) (n : Fin 5632) : val_main_v1 (F := Ideal) x0 (ix3 0 t n) = hpR x0 t n := by
  unfold val_main_v1 hpR
  by_cases h : 2 ≤ t.val
  · rw [dif_pos h]
    exact concatenate_pair_apply_right (s₁ := S1x2x5632) (s₂ := S1x2048x5632) 1 _ _ _ (ix3 0 t n) rfl rfl (ix3 0 ⟨t.val - 2, by omega⟩ n)
      (fun b hb => by
        match b with
        | ⟨0, _⟩ => rfl
        | ⟨1, _⟩ => exact absurd rfl hb
        | ⟨2, _⟩ => rfl)
      (by show t.val - 2 + 2 = t.val; omega)
  · rw [dif_neg h]
    refine (concatenate_pair_apply_left (s₁ := S1x2x5632) (s₂ := S1x2048x5632) 1 _ _ _ (ix3 0 t n) rfl (ix3 0 ⟨t.val, by omega⟩ n)
      (fun b => by
        match b with
        | ⟨0, _⟩ => rfl
        | ⟨1, _⟩ => rfl
        | ⟨2, _⟩ => rfl)).trans ?_
    pointwise [val_main_v0, val_main_cst]

/-- The gradient at the value. -/
abbrev dvR (t : Fin 2048) (n : Fin 2816) : EReal :=
  (cR x0 x1 x2 t (lo n) * sg (cR x0 x1 x2 t (lo n))) * aR x3 x4 t n

/-- The gradient at the gate. -/
abbrev dgR (t : Fin 2048) (n : Fin 2816) : EReal :=
  (aR x3 x4 t n * cR x0 x1 x2 t (hi n)) * sg (cR x0 x1 x2 t (lo n))
    + (cR x0 x1 x2 t (lo n) * (aR x3 x4 t n * cR x0 x1 x2 t (hi n)))
      * (sg (cR x0 x1 x2 t (lo n)) * (1 - sg (cR x0 x1 x2 t (lo n))))

theorem s_at (t : Fin 2048) (n : Fin 2816) : val_main_v28_2 (F := Ideal) x0 x1 x2 (ix3 0 t n) = sg (cR x0 x1 x2 t (lo n)) := by
  pointwise [val_main_v28_2, val_main_call0_v4, val_main_call0_cst_0, val_main_call0_v3, val_main_call0_v2, val_main_call0_cst,
    val_main_call0_v1, val_main_call0_v0, val_main_v26]

theorem v33_at (t : Fin 2048) (n : Fin 2816) : val_main_v33 (F := Ideal) x0 x1 x2 x3 x4 (ix3 0 t n) = dvR x0 x1 x2 x3 x4 t n := by
  rw [val_main_v33_apply, v32_at, val_main_v28_0_apply, s_at, v26_at]; rfl

theorem v35_at (t : Fin 2048) (n : Fin 2816) : val_main_v35 (F := Ideal) x0 x1 x2 x3 x4 (ix3 0 t n) = dgR x0 x1 x2 x3 x4 t n := by
  have h1 : val_main_v28_1 (F := Ideal) x0 x1 x2 (ix3 0 t n) = sg (cR x0 x1 x2 t (lo n)) * (1 - sg (cR x0 x1 x2 t (lo n))) := by
    rw [val_main_v28_1_apply, val_main_call0_v7_apply, s_at]
    pointwise [val_main_call0_v6, val_main_call0_cst_1]
  rw [val_main_v35_apply, val_main_call1_v1_apply, val_main_call1_v2_apply, val_main_call1_v0_apply, val_main_v34_apply,
    v32_at, v27_at, v26_at, s_at, h1]
  rfl

/-- The gradient at the convolution's output. -/
def dcR (t : Fin 2048) (n : Fin 5632) : EReal :=
  if h : n.val < 2816 then dgR x0 x1 x2 x3 x4 t ⟨n.val, h⟩ else dvR x0 x1 x2 x3 x4 t ⟨n.val - 2816, by omega⟩

theorem v38_at (t : Fin 2048) (n : Fin 5632) : val_main_v38 (F := Ideal) x0 x1 x2 x3 x4 (ix3 0 t n) = dcR x0 x1 x2 x3 x4 t n := by
  have z1 : ∀ i, val_main_cst_1 (F := Ideal) i = 0 := fun i => by pointwise [val_main_cst_1]
  have z2 : ∀ i, val_main_cst_2 (F := Ideal) i = 0 := fun i => by pointwise [val_main_cst_2]
  rw [val_main_v38_apply]
  unfold val_main_v36 val_main_v37 dcR
  by_cases h : n.val < 2816
  · rw [dif_pos h, pad_miss _ _ _ _ _ _ _ (ix3 0 t n) 2 rfl (Or.inl h),
      pad_hit _ _ _ _ _ _ _ (ix3 0 t n) (ix3 0 t ⟨n.val, h⟩) zeros3 (fun a => by
        match a with
        | ⟨0, _⟩ => rfl
        | ⟨1, _⟩ => exact (Nat.zero_add _).symm
        | ⟨2, _⟩ => exact (Nat.zero_add _).symm), z1, v35_at]
    exact zero_add _
  · rw [dif_neg h, pad_hit _ _ _ _ _ _ _ (ix3 0 t n) (ix3 0 t ⟨n.val - 2816, by omega⟩) zeros3 (fun a => by
        match a with
        | ⟨0, _⟩ => rfl
        | ⟨1, _⟩ => exact (Nat.zero_add _).symm
        | ⟨2, _⟩ => show n.val = 2816 + (n.val - 2816); omega),
      pad_miss _ _ _ _ _ _ _ (ix3 0 t n) 2 rfl (Or.inr (by show 0 + 2816 ≤ n.val; omega)), z2, v33_at]
    exact add_zero _

end Cert.Proof.Conv
-- ==== Proof.RefB.lean ====
module

public import proofs.«01_k».proof.Proof.RefA

@[expose] public section

set_option maxRecDepth 16384

noncomputable section

namespace Cert.Proof.Conv

open Cert.ReferenceIdeal Cert.ReferenceIdeal.Gen Cert.ReferenceIdeal.Read Idealize.ShloMosaic Idealize.ShloMosaic.TcCoe

variable (x0 : (⟨S1x2048x5632, .f32⟩ : BufTy).Contents (Elt Ideal)) (x1 : (⟨S3x5632, .f32⟩ : BufTy).Contents (Elt Ideal))
  (x2 : (⟨S5632, .f32⟩ : BufTy).Contents (Elt Ideal)) (x3 : (⟨S2816x1024, .f32⟩ : BufTy).Contents (Elt Ideal))
  (x4 : (⟨S2048x1024, .f32⟩ : BufTy).Contents (Elt Ideal))

/-- A sum over two axes of extent one reads the one element there is. -/
theorem sum_units (x : FVec Ideal S1x1x5632 .f32) (init : S_.Idx → Ideal .f32) (n : Fin 5632) :
    Host.reduceAdd x init reducesTo_S1x1x5632_S5632_d0_1 h_S_ (ix1 n) = init (Shape.Idx.first h_S_) + x (ix3 0 0 n) := by
  have hf : Finset.univ.filter (fun i : S1x1x5632.Idx => reducesTo_S1x1x5632_S5632_d0_1.drop i = ix1 n) = {ix3 0 0 n} := by
    ext i
    simp only [Finset.mem_filter, Finset.mem_univ, true_and, Finset.mem_singleton]
    constructor
    · intro e
      have e2 : (i 2).val = n.val := congrArg Fin.val (congrFun e 0)
      funext a; apply Fin.ext
      match a with
      | ⟨0, _⟩ => have h : (i 0).val < 1 := (i 0).isLt; show (i 0).val = 0; omega
      | ⟨1, _⟩ => have h : (i 1).val < 1 := (i 1).isLt; show (i 1).val = 0; omega
      | ⟨2, _⟩ => exact e2
    · rintro rfl
      funext b; apply Fin.ext
      match b with
      | ⟨0, _⟩ => rfl
  show init (Shape.Idx.first h_S_) + ∑ i ∈ _, x i = _
  rw [hf, Finset.sum_singleton]

/-- A tap's gradient. -/
abbrev tapR (j : ℕ) (hj : j ≤ 2) (n : Fin 5632) : EReal := ∑ t : Fin 2048, dcR x0 x1 x2 x3 x4 t n * hpR x0 ⟨t.val + j, by omega⟩ n

theorem v44_at (n : Fin 5632) : val_main_v44 (F := Ideal) x0 x1 x2 x3 x4 (ix1 n) = tapR x0 x1 x2 x3 x4 2 (by omega) n := by
  have h43 : val_main_v43 (F := Ideal) x0 x1 x2 x3 x4 (ix3 0 0 n) = val_main_v42 (F := Ideal) x0 x1 x2 x3 x4 (ix2 0 n) := by
    pointwise [val_main_v43]
  unfold val_main_v44
  rw [sum_units, h43, val_main_v42_apply]
  have z : ∀ i, val_main_cst_3 (F := Ideal) i = 0 := fun i => by pointwise [val_main_cst_3]
  have z' : ∀ i, val_main_cst_4 (F := Ideal) i = 0 := fun i => by pointwise [val_main_cst_4]
  rw [z, z', zero_add, zero_add]
  refine Finset.sum_congr rfl fun t _ => ?_
  have e : idx_main_v42 (ix2 0 n) t = ix3 0 t n := funext fun a => Fin.ext (by match a with | ⟨0, _⟩ => rfl | ⟨1, _⟩ => rfl | ⟨2, _⟩ => rfl)
  have e2 : idx_main_v21 (ix3 0 t n) = ix3 0 ⟨t.val + 2, by omega⟩ n := funext fun a => Fin.ext (by
    match a with | ⟨0, _⟩ => rfl | ⟨1, _⟩ => exact Nat.add_comm _ _ | ⟨2, _⟩ => rfl)
  rw [e, val_main_v41_apply, v38_at, val_main_v21_apply, e2, v1_at]
  rfl

theorem v53_at (n : Fin 5632) : val_main_v53 (F := Ideal) x0 x1 x2 x3 x4 (ix1 n) = tapR x0 x1 x2 x3 x4 1 (by omega) n := by
  have h43 : val_main_v52 (F := Ideal) x0 x1 x2 x3 x4 (ix3 0 0 n) = val_main_v51 (F := Ideal) x0 x1 x2 x3 x4 (ix2 0 n) := by
    pointwise [val_main_v52]
  unfold val_main_v53
  rw [sum_units, h43, val_main_v51_apply]
  have z : ∀ i, val_main_cst_7 (F := Ideal) i = 0 := fun i => by pointwise [val_main_cst_7]
  have z' : ∀ i, val_main_cst_8 (F := Ideal) i = 0 := fun i => by pointwise [val_main_cst_8]
  rw [z, z', zero_add, zero_add]
  refine Finset.sum_congr rfl fun t _ => ?_
  have e : idx_main_v51 (ix2 0 n) t = ix3 0 t n := funext fun a => Fin.ext (by match a with | ⟨0, _⟩ => rfl | ⟨1, _⟩ => rfl | ⟨2, _⟩ => rfl)
  have e2 : idx_main_v14 (ix3 0 t n) = ix3 0 ⟨t.val + 1, by omega⟩ n := funext fun a => Fin.ext (by
    match a with | ⟨0, _⟩ => rfl | ⟨1, _⟩ => exact Nat.add_comm _ _ | ⟨2, _⟩ => rfl)
  rw [e, val_main_v50_apply, v38_at, val_main_v14_apply, e2, v1_at]
  rfl

theorem v67_at (n : Fin 5632) : val_main_v67 (F := Ideal) x0 x1 x2 x3 x4 (ix1 n) = tapR x0 x1 x2 x3 x4 0 (by omega) n := by
  have h43 : val_main_v66 (F := Ideal) x0 x1 x2 x3 x4 (ix3 0 0 n) = val_main_v65 (F := Ideal) x0 x1 x2 x3 x4 (ix2 0 n) := by
    pointwise [val_main_v66]
  unfold val_main_v67
  rw [sum_units, h43, val_main_v65_apply]
  have z : ∀ i, val_main_cst_13 (F := Ideal) i = 0 := fun i => by pointwise [val_main_cst_13]
  have z' : ∀ i, val_main_cst_14 (F := Ideal) i = 0 := fun i => by pointwise [val_main_cst_14]
  rw [z, z', zero_add, zero_add]
  refine Finset.sum_congr rfl fun t _ => ?_
  have e : idx_main_v65 (ix2 0 n) t = ix3 0 t n := funext fun a => Fin.ext (by match a with | ⟨0, _⟩ => rfl | ⟨1, _⟩ => rfl | ⟨2, _⟩ => rfl)
  have e2 : idx_main_v5 (ix3 0 t n) = ix3 0 ⟨t.val + 0, by omega⟩ n := funext fun a => Fin.ext (by
    match a with | ⟨0, _⟩ => rfl | ⟨1, _⟩ => rfl | ⟨2, _⟩ => rfl)
  rw [e, val_main_v64_apply, v38_at, val_main_v5_apply, e2, v1_at]
  rfl

theorem v61_at (n : Fin 5632) : val_main_v61 (F := Ideal) x0 x1 x2 x3 x4 (ix1 n) = ∑ t : Fin 2048, dcR x0 x1 x2 x3 x4 t n := by
  have h43 : val_main_v60 (F := Ideal) x0 x1 x2 x3 x4 (ix3 0 0 n) = val_main_v59 (F := Ideal) x0 x1 x2 x3 x4 (ix2 0 n) := by
    pointwise [val_main_v60]
  unfold val_main_v61
  rw [sum_units, h43, val_main_v59_apply]
  have z : ∀ i, val_main_cst_11 (F := Ideal) i = 0 := fun i => by pointwise [val_main_cst_11]
  have z' : ∀ i, val_main_cst_12 (F := Ideal) i = 0 := fun i => by pointwise [val_main_cst_12]
  rw [z, z', zero_add, zero_add]
  refine Finset.sum_congr rfl fun t _ => ?_
  have e : idx_main_v59 (ix2 0 n) t = ix3 0 t n := funext fun a => Fin.ext (by match a with | ⟨0, _⟩ => rfl | ⟨1, _⟩ => rfl | ⟨2, _⟩ => rfl)
  rw [e, v38_at]

theorem zeros2 : ∀ a : Fin 2, (![0, 0] : Fin 2 → ℕ) a = 0 := by decide

/-- The taps' gradients, row by row. -/
theorem v72_at (j : Fin 3) (n : Fin 5632) : val_main_v72 (F := Ideal) x0 x1 x2 x3 x4 (ix2 j n) = tapR x0 x1 x2 x3 x4 j.val (by omega) n := by
  have z6 : ∀ i, val_main_cst_6 (F := Ideal) i = 0 := fun i => by pointwise [val_main_cst_6]
  have z10 : ∀ i, val_main_cst_10 (F := Ideal) i = 0 := fun i => by pointwise [val_main_cst_10]
  have z16 : ∀ i, val_main_cst_16 (F := Ideal) i = 0 := fun i => by pointwise [val_main_cst_16]
  have e46 : val_main_v46 (F := Ideal) x0 x1 x2 x3 x4 (ix2 0 n) = tapR x0 x1 x2 x3 x4 2 (by omega) n := by
    rw [val_main_v46_apply, ← v44_at]
    exact congrArg _ (funext fun a => by match a with | ⟨0, _⟩ => rfl)
  have e56 : val_main_v56 (F := Ideal) x0 x1 x2 x3 x4 (ix2 0 n) = tapR x0 x1 x2 x3 x4 1 (by omega) n := by
    rw [val_main_v56_apply, ← v53_at]
    exact congrArg _ (funext fun a => by match a with | ⟨0, _⟩ => rfl)
  have e70 : val_main_v70 (F := Ideal) x0 x1 x2 x3 x4 (ix2 0 n) = tapR x0 x1 x2 x3 x4 0 (by omega) n := by
    rw [val_main_v70_apply, ← v67_at]
    exact congrArg _ (funext fun a => by match a with | ⟨0, _⟩ => rfl)
  rw [val_main_v72_apply, val_main_v58_apply]
  unfold val_main_v47 val_main_v57 val_main_v71
  match j with
  | ⟨0, _⟩ =>
    rw [pad_miss _ _ _ _ _ _ _ (ix2 _ n) 0 rfl (Or.inl (show (0 : ℕ) < 2 by omega)), pad_miss _ _ _ _ _ _ _ (ix2 _ n) 0 rfl (Or.inl (show (0 : ℕ) < 1 by omega)),
      pad_hit _ _ _ _ _ _ _ (ix2 _ n) (ix2 0 n) zeros2 (fun a => by
        match a with | ⟨0, _⟩ => rfl | ⟨1, _⟩ => exact (Nat.zero_add _).symm), z6, z10, e70]
    exact (congrArg (· + _) (zero_add _)).trans (zero_add _)
  | ⟨1, _⟩ =>
    rw [pad_miss _ _ _ _ _ _ _ (ix2 _ n) 0 rfl (Or.inl (show (1 : ℕ) < 2 by omega)),
      pad_hit _ _ _ _ _ _ _ (ix2 _ n) (ix2 0 n) zeros2 (fun a => by
        match a with | ⟨0, _⟩ => rfl | ⟨1, _⟩ => exact (Nat.zero_add _).symm),
      pad_miss _ _ _ _ _ _ _ (ix2 _ n) 0 rfl (Or.inr (show (1 : ℕ) ≤ 1 by omega)), z6, z16, e56]
    exact (add_zero _).trans (zero_add _)
  | ⟨2, _⟩ =>
    rw [pad_hit _ _ _ _ _ _ _ (ix2 _ n) (ix2 0 n) zeros2 (fun a => by
        match a with | ⟨0, _⟩ => rfl | ⟨1, _⟩ => exact (Nat.zero_add _).symm),
      pad_miss _ _ _ _ _ _ _ (ix2 _ n) 0 rfl (Or.inr (show (2 : ℕ) ≤ 2 by omega)), pad_miss _ _ _ _ _ _ _ (ix2 _ n) 0 rfl (Or.inr (show (1 : ℕ) ≤ 2 by omega)), z10, z16, e46]
    exact (add_zero _).trans (add_zero _)

/-- The gradient at the convolution's output, zero past the last token. -/
def dcN (t : ℕ) (n : Fin 5632) : EReal := if h : t < 2048 then dcR x0 x1 x2 x3 x4 ⟨t, h⟩ n else 0

theorem tap_rows (w : EReal) (k : ℕ) (hk : k ≤ 2) (x : FVec Ideal S1x2048x5632 .f32) (lo hi : ℕ) (hlo : lo = 2 - k) (v : S_.Idx → Ideal .f32)
    (h : Shape.Pads S1x2048x5632 ![0, lo, 0] ![0, hi, 0] ![0, 0, 0] S1x2050x5632) (hv : ∀ i, v i = 0) (t : Fin 2048) (n : Fin 5632)
    (hx : ∀ t', x (ix3 0 t' n) = w * dcR x0 x1 x2 x3 x4 t' n) :
    pad S1x2050x5632 ![0, lo, 0] ![0, hi, 0] ![0, 0, 0] x v h h_S_ (ix3 0 ⟨t.val + 2, by omega⟩ n)
      = w * dcN x0 x1 x2 x3 x4 (t.val + k) n := by
  unfold dcN
  by_cases ht : t.val + k < 2048
  · rw [dif_pos ht, ← hx ⟨t.val + k, ht⟩]
    exact pad_hit _ _ _ _ _ _ _ _ (ix3 0 ⟨t.val + k, ht⟩ n) zeros3 fun a => by
      match a with
      | ⟨0, _⟩ => rfl
      | ⟨1, _⟩ => show t.val + 2 = lo + (t.val + k); omega
      | ⟨2, _⟩ => exact (Nat.zero_add _).symm
  · rw [dif_neg ht, mul_zero, ← hv (Shape.Idx.first h_S_)]
    exact pad_miss _ _ _ _ _ _ _ _ 1 rfl (Or.inr (show lo + 2048 ≤ t.val + 2 by omega))

/-- The input's gradient: three taps of the gradient at the convolution's output. -/
theorem v75_at (t : Fin 2048) (n : Fin 5632) : val_main_v75 (F := Ideal) x0 x1 x2 x3 x4 (ix2 t n) =
    x1 (ix2 2 n) * dcN x0 x1 x2 x3 x4 t.val n + x1 (ix2 1 n) * dcN x0 x1 x2 x3 x4 (t.val + 1) n
      + x1 (ix2 0 n) * dcN x0 x1 x2 x3 x4 (t.val + 2) n := by
  have z5 : ∀ i, val_main_cst_5 (F := Ideal) i = 0 := fun i => by pointwise [val_main_cst_5]
  have z9 : ∀ i, val_main_cst_9 (F := Ideal) i = 0 := fun i => by pointwise [val_main_cst_9]
  have z15 : ∀ i, val_main_cst_15 (F := Ideal) i = 0 := fun i => by pointwise [val_main_cst_15]
  have e40 : ∀ t', val_main_v40 (F := Ideal) x0 x1 x2 x3 x4 (ix3 0 t' n) = x1 (ix2 2 n) * dcR x0 x1 x2 x3 x4 t' n := fun t' => by
    rw [val_main_v40_apply, v38_at]
    pointwise [val_main_v39, val_main_v22, val_main_v20, val_main_v19]
  have e49 : ∀ t', val_main_v49 (F := Ideal) x0 x1 x2 x3 x4 (ix3 0 t' n) = x1 (ix2 1 n) * dcR x0 x1 x2 x3 x4 t' n := fun t' => by
    rw [val_main_v49_apply, v38_at]
    pointwise [val_main_v48, val_main_v15, val_main_v13, val_main_v12]
  have e63 : ∀ t', val_main_v63 (F := Ideal) x0 x1 x2 x3 x4 (ix3 0 t' n) = x1 (ix2 0 n) * dcR x0 x1 x2 x3 x4 t' n := fun t' => by
    rw [val_main_v63_apply, v38_at]
    pointwise [val_main_v62, val_main_v6, val_main_v4, val_main_v3]
  have e75 : val_main_v75 (F := Ideal) x0 x1 x2 x3 x4 (ix2 t n)
      = val_main_v69 (F := Ideal) x0 x1 x2 x3 x4 (ix3 0 ⟨t.val + 2, by omega⟩ n) := by
    pointwise [val_main_v75, val_main_v74]
    exact congrArg _ (congrArg (fun r => ix3 0 r n) (Fin.ext (Nat.add_comm _ _)))
  rw [e75, val_main_v69_apply, val_main_v55_apply]
  unfold val_main_v45 val_main_v54 val_main_v68
  rw [tap_rows x0 x1 x2 x3 x4 _ 0 (by omega) _ 2 0 rfl _ _ z5 t n e40, tap_rows x0 x1 x2 x3 x4 _ 1 (by omega) _ 1 1 rfl _ _ z9 t n e49,
    tap_rows x0 x1 x2 x3 x4 _ 2 (by omega) _ 0 2 rfl _ _ z15 t n e63]
  rfl

end Cert.Proof.Conv
-- ==== Proof.Host.lean ====
module

public import proofs.«01_k».proof.Proof.Gen.KernelIdeal.Value
public import proofs.«01_k».proof.Proof.RefB

@[expose] public section

set_option maxRecDepth 16384

noncomputable section

namespace Cert.Proof.Conv

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's arguments on a device, as arrays. -/
abbrev a0 : Vec Ideal S1x2048x5632 .f32 := m ((c : Thread nD τ).loc main_arg0)
abbrev a1 : Vec Ideal S3x5632 .f32 := m ((c : Thread nD τ).loc main_arg1)
abbrev a2 : Vec Ideal S5632 .f32 := m ((c : Thread nD τ).loc main_arg2)
abbrev a3 : Vec Ideal S2816x1024 .f32 := m ((c : Thread nD τ).loc main_arg3)
abbrev a4 : Vec Ideal S2048x1024 .f32 := m ((c : Thread nD τ).loc main_arg4)

theorem V27 : V m c main_v27 = (truncf .bf16 (a4 m c) bitsLt_bf16_f32 : FVec Ideal S2048x1024 .bf16) := by
  unfold V; after_results

theorem V28 : V m c main_v28 = (truncf .bf16 (a3 m c) bitsLt_bf16_f32 : FVec Ideal S2816x1024 .bf16) := by
  unfold V; after_results

theorem V29 : V m c main_v29 = extractStridedSlice S2048x2816 ![0, 0] (shapeCast S2048x5632 (a0 m c) shapeCasts_S1x2048x5632_S2048x5632) slices_S2048x5632_S2048x2816_0_0 := by
  unfold V; after_results; rfl

theorem V30 : V m c main_v30 = extractStridedSlice S2048x2816 ![0, 2816] (shapeCast S2048x5632 (a0 m c) shapeCasts_S1x2048x5632_S2048x5632) slices_S2048x5632_S2048x2816_0_2816 := by
  unfold V; after_results; rfl

theorem V31 : V m c main_v31 = extractStridedSlice S2048x2816 ![0, 0] (shapeCast S2048x5632 (Cert.ReferenceIdeal.Read.val_main_v25 (F := Ideal) (a0 m c) (a1 m c) (a2 m c)) shapeCasts_S1x2048x5632_S2048x5632) slices_S2048x5632_S2048x2816_0_0 := by
  unfold V; after_results; rfl

theorem V32 : V m c main_v32 = extractStridedSlice S2048x2816 ![0, 2816] (shapeCast S2048x5632 (Cert.ReferenceIdeal.Read.val_main_v25 (F := Ideal) (a0 m c) (a1 m c) (a2 m c)) shapeCasts_S1x2048x5632_S2048x5632) slices_S2048x5632_S2048x2816_0_2816 := by
  unfold V; after_results; rfl

theorem V29_at (t : Fin 2048) (n : Fin 2816) : (V m c main_v29 : Vec Ideal S2048x2816 .f32) (ix2 t n) = a0 m c (ix3 0 t (lo n)) := by
  rw [V29]; generalize a0 m c = x; pointwise

theorem V30_at (t : Fin 2048) (n : Fin 2816) : (V m c main_v30 : Vec Ideal S2048x2816 .f32) (ix2 t n) = a0 m c (ix3 0 t (hi n)) := by
  rw [V30]; generalize a0 m c = x; pointwise

theorem V31_at (t : Fin 2048) (n : Fin 2816) : (V m c main_v31 : Vec Ideal S2048x2816 .f32) (ix2 t n) = cR (a0 m c) (a1 m c) (a2 m c) t (lo n) := by
  rw [V31]; unfold cR; generalize Cert.ReferenceIdeal.Read.val_main_v25 (F := Ideal) (a0 m c) (a1 m c) (a2 m c) = x; pointwise

theorem V32_at (t : Fin 2048) (n : Fin 2816) : (V m c main_v32 : Vec Ideal S2048x2816 .f32) (ix2 t n) = cR (a0 m c) (a1 m c) (a2 m c) t (hi n) := by
  rw [V32]; unfold cR; generalize Cert.ReferenceIdeal.Read.val_main_v25 (F := Ideal) (a0 m c) (a1 m c) (a2 m c) = x; pointwise

end Cert.Proof.Conv
-- ==== Proof.Match.lean ====
module

public import proofs.«01_k».proof.Proof.Final
public import proofs.«01_k».proof.Proof.Host
public import proofs.«01_k».proof.Proof.Gen.Pre_finite

@[expose] public section

set_option maxRecDepth 16384

noncomputable section

namespace Cert.Proof.Conv

open Cert.KernelIdeal Cert.KernelIdeal.Gen Cert.ReferenceIdeal.Read Idealize.ShloMosaic Idealize.ShloMosaic.TcCoe Idealize.SL.Sem

/-! ## Finite elements -/

/-- An extended real that is a real. -/
def Fin1 (x : EReal) : Prop := ∃ r : ℝ, x = (r : EReal)

theorem Fin1.zero : Fin1 0 := ⟨0, rfl⟩
theorem Fin1.add {x y : EReal} : Fin1 x → Fin1 y → Fin1 (x + y) := by
  rintro ⟨a, rfl⟩ ⟨b, rfl⟩; exact ⟨a + b, (EReal.coe_add a b).symm⟩
theorem Fin1.mul {x y : EReal} : Fin1 x → Fin1 y → Fin1 (x * y) := by
  rintro ⟨a, rfl⟩ ⟨b, rfl⟩; exact ⟨a * b, (EReal.coe_mul a b).symm⟩
theorem Fin1.sum {ι : Type} (s : Finset ι) (f : ι → EReal) (h : ∀ i, Fin1 (f i)) : Fin1 (∑ i ∈ s, f i) := by
  classical
  induction s using Finset.induction_on with
  | empty => exact Fin1.zero
  | insert a s ha ih => rw [Finset.sum_insert ha]; exact (h a).add ih

/-- A magnitude below the largest is a real. -/
theorem Fin1.of_abs {x : EReal} (h : max x (-x) < ⊤) : Fin1 x := by
  induction x using EReal.rec with
  | bot => simp at h
  | top => simp at h
  | coe r => exact ⟨r, rfl⟩

theorem Fin1.of_word {s : Shape} (x : FVec Ideal s .f32) (h : (⟨0, ![]⟩ : Shape).BroadcastsInDim s (![] : Fin 0 → Fin s.rank))
    (e : cmpf .olt (Host.absf x) (broadcastInDim s ![] h (constant (⟨0, ![]⟩ : Shape) .f32 0x7F800000#32)) = fun _ => 1#1) (i : s.Idx) :
    Fin1 (x i) := by
  have e1 := congrFun e i
  have ht : Ideal.ofBits .f32 0x7F800000#32 = ⊤ := by simp [Ideal.ofBits, Ideal.ieee]
  have e2 : Ideal.cmp .olt (max (x i) (-(x i))) (Ideal.ofBits .f32 0x7F800000#32) = 1#1 := e1
  rw [ht] at e2
  by_cases hx : max (x i) (-(x i)) < ⊤
  · exact Fin1.of_abs hx
  · exact absurd e2 (by simp only [Ideal.cmp, hx]; decide)

/-- The silu's derivative, as the kernel and as the reference group it. -/
theorem silu_grad {a v g : EReal} : Fin1 a → Fin1 v → Fin1 g →
    a * v * (Ideal.logistic g * (1 + g * (1 - Ideal.logistic g)))
      = a * v * sg g + g * (a * v) * (sg g * (1 - sg g)) := by
  rintro ⟨a, rfl⟩ ⟨v, rfl⟩ ⟨g, rfl⟩
  have e : sg (g : EReal) = Ideal.logistic g := rfl
  rw [e, Ideal.logistic_coe]
  generalize (1 + Real.exp (-g))⁻¹ = s
  have h1 : (1 : EReal) = ((1 : ℝ) : EReal) := rfl
  rw [h1]
  simp only [← EReal.coe_mul, ← EReal.coe_sub, ← EReal.coe_add]
  congr 1
  ring

/-! ## A shifted product -/

theorem shift_sum (N d : ℕ) (f x : ℕ → EReal) (h : ∀ t, N ≤ t → f t = 0) :
    ∑ t ∈ Finset.range N, f (t + d) * x t = ∑ t ∈ Finset.range N, f t * (if d ≤ t then x (t - d) else 0) := by
  have e1 := Finset.sum_range_add (fun s => f s * (if d ≤ s then x (s - d) else 0)) d N
  have e2 := Finset.sum_range_add (fun s => f s * (if d ≤ s then x (s - d) else 0)) N d
  rw [Finset.sum_eq_zero (s := Finset.range d) (fun s hs => by
    rw [if_neg (by have := Finset.mem_range.mp hs; omega), mul_zero]), zero_add, Nat.add_comm d N] at e1
  rw [Finset.sum_eq_zero (s := Finset.range d) (fun s _ => by rw [h _ (by omega), zero_mul]), add_zero] at e2
  rw [← e2, e1]
  refine Finset.sum_congr rfl fun t _ => ?_
  rw [if_pos (by omega), Nat.add_sub_cancel_left, Nat.add_comm]

variable (m : (ℓ : Loc nD τ sig) → Buf (Elt Ideal) ℓ) (c : Dev nD)

/-- Every argument is finite. -/
structure Finite : Prop where
  h0 : ∀ i, Fin1 (a0 m c i)
  h1 : ∀ i, Fin1 (a1 m c i)
  h2 : ∀ i, Fin1 (a2 m c i)
  h3 : ∀ i, Fin1 (a3 m c i)
  h4 : ∀ i, Fin1 (a4 m c i)

attribute [local instance] Cert.Pre_finite.Gen.facts in
theorem Finite.of_pre (h : Cert.Pre_KernelIdeal_finite m) : Finite m c where
  h0 := Fin1.of_word _ _ (h c).1
  h1 := Fin1.of_word _ _ (h c).2.1
  h2 := Fin1.of_word _ _ (h c).2.2.1
  h3 := Fin1.of_word _ _ (h c).2.2.2.1
  h4 := Fin1.of_word _ _ (h c).2.2.2.2

variable {m c} in
theorem Finite.hp (hf : Finite m c) (t : Fin 2050) (n : Fin 5632) : Fin1 (hpR (a0 m c) t n) := by
  unfold hpR; split
  · exact hf.h0 _
  · exact Fin1.zero

variable {m c} in
theorem Finite.cR (hf : Finite m c) (t : Fin 2048) (n : Fin 5632) : Fin1 (cR (a0 m c) (a1 m c) (a2 m c) t n) := by
  have hv1 : ∀ i, Fin1 (val_main_v1 (F := Ideal) (a0 m c) i) := fun i => by
    have e : i = ix3 0 (i 1) (i 2) := by
      funext a; apply Fin.ext
      match a with
      | ⟨0, _⟩ => have h : (i 0).val < 1 := (i 0).isLt; show (i 0).val = 0; omega
      | ⟨1, _⟩ => rfl
      | ⟨2, _⟩ => rfl
    rw [e]; exact (v1_at (a0 m c) (i 1) (i 2)) ▸ hf.hp _ _
  unfold Conv.cR
  rw [val_main_v25_apply, val_main_v18_apply, val_main_v11_apply, val_main_v24_apply, val_main_v17_apply, val_main_v8_apply,
    val_main_v10_apply, val_main_v9_apply, val_main_v7_apply, val_main_v6_apply, val_main_v4_apply, val_main_v3_apply,
    val_main_v16_apply, val_main_v15_apply, val_main_v13_apply, val_main_v12_apply,
    val_main_v23_apply, val_main_v22_apply, val_main_v20_apply, val_main_v19_apply,
    val_main_v5_apply, val_main_v14_apply, val_main_v21_apply]
  exact (((hf.h2 _).add ((hf.h1 _).mul (hv1 _))).add ((hf.h1 _).mul (hv1 _))).add ((hf.h1 _).mul (hv1 _))

variable {m c} in
theorem Finite.aR (hf : Finite m c) (t : Fin 2048) (n : Fin 2816) : Fin1 (aR (a3 m c) (a4 m c) t n) :=
  Fin1.sum _ _ fun _ => (hf.h4 _).mul (hf.h3 _)

/-! ## The two gradients at the convolution's output -/

theorem dact_eq (t : Fin 2048) (n : Fin 2816) : dact (V m c main_v27) (V m c main_v28) t n = aR (a3 m c) (a4 m c) t n := by
  unfold dact; rw [V27, V28]; rfl

theorem G_eq (hf : Finite m c) (t : ℕ) (n : Fin 2816) : G m c t n = dcN (a0 m c) (a1 m c) (a2 m c) (a3 m c) (a4 m c) t (lo n) := by
  show DG _ _ _ _ t n = _
  unfold DG dcN
  by_cases h : t < 2048
  · rw [dif_pos h, dif_pos h, dact_eq, V31_at, V32_at]
    unfold dcR
    rw [dif_pos n.isLt]
    exact silu_grad (hf.aR _ _) (hf.cR _ _) (hf.cR _ _)
  · rw [dif_neg h, dif_neg h]

theorem H_eq (t : ℕ) (n : Fin 2816) : H m c t n = dcN (a0 m c) (a1 m c) (a2 m c) (a3 m c) (a4 m c) t (hi n) := by
  show DV _ _ _ t n = _
  unfold DV dcN
  by_cases h : t < 2048
  · rw [dif_pos h, dif_pos h, dact_eq, V31_at]
    unfold dcR
    rw [dif_neg (show ¬ 2816 + n.val < 2816 by omega)]
    have e : (⟨2816 + n.val - 2816, by omega⟩ : Fin 2816) = n := Fin.ext (Nat.add_sub_cancel_left _ _)
    show _ = dvR _ _ _ _ _ _ (⟨2816 + n.val - 2816, _⟩ : Fin 2816)
    rw [e]
    exact mul_comm _ _
  · rw [dif_neg h, dif_neg h]

/-- One tap's gradient, summed over the shifted gradient or over the shifted input. -/
theorem tap_eq (j : Fin 3) (n : Fin 5632) :
    ∑ t : Fin 2048, dcN (a0 m c) (a1 m c) (a2 m c) (a3 m c) (a4 m c) (t.val + (2 - j.val)) n * a0 m c (ix3 0 t n)
      = tapR (a0 m c) (a1 m c) (a2 m c) (a3 m c) (a4 m c) j.val (by omega) n := by
  have e := shift_sum 2048 (2 - j.val) (fun t => dcN (a0 m c) (a1 m c) (a2 m c) (a3 m c) (a4 m c) t n)
    (fun t => if h : t < 2048 then a0 m c (ix3 0 ⟨t, h⟩ n) else 0) (fun t h => dif_neg (by omega))
  rw [Finset.sum_range, Finset.sum_range] at e
  refine Eq.trans (Finset.sum_congr rfl fun t _ => ?_) (e.trans (Finset.sum_congr rfl fun t _ => ?_))
  · rw [dif_pos t.isLt]
  · unfold dcN
    rw [dif_pos t.isLt]
    refine congrArg (_ * ·) ?_
    unfold hpR
    by_cases h : 2 - j.val ≤ t.val
    · rw [if_pos h, dif_pos (by omega), dif_pos (show 2 ≤ t.val + j.val by omega)]
      exact congrArg (fun r => a0 m c (ix3 0 r n)) (Fin.ext (by show t.val - (2 - j.val) = t.val + j.val - 2; omega))
    · rw [if_neg h, dif_neg (show ¬ 2 ≤ t.val + j.val by omega)]

/-! ## The six results -/

theorem out0 (hf : Finite m c) : R8 m c = val_main_v77 (F := Ideal) (a0 m c) (a1 m c) (a2 m c) (a3 m c) (a4 m c) := by
  funext i
  obtain ⟨j, n, rfl⟩ : ∃ (j : Fin 3) (n : Fin 2816), i = ix2 j n := ⟨i 0, i 1, eq_ix2 i⟩
  rw [val_main_v77_apply, show idx_main_v77 (ix2 j n) = ix2 j (lo n) from funext fun a => Fin.ext (by match a with | ⟨0, _⟩ => rfl | ⟨1, _⟩ => rfl),
    v72_at, ← tap_eq]
  exact Finset.sum_congr rfl fun t _ => congrArg₂ (· * ·) (G_eq m c hf _ n) (V29_at m c t n)

theorem out1 : R9 m c = val_main_v78 (F := Ideal) (a0 m c) (a1 m c) (a2 m c) (a3 m c) (a4 m c) := by
  funext i
  obtain ⟨j, n, rfl⟩ : ∃ (j : Fin 3) (n : Fin 2816), i = ix2 j n := ⟨i 0, i 1, eq_ix2 i⟩
  rw [val_main_v78_apply, show idx_main_v78 (ix2 j n) = ix2 j (hi n) from funext fun a => Fin.ext (by match a with | ⟨0, _⟩ => rfl | ⟨1, _⟩ => rfl),
    v72_at, ← tap_eq]
  exact Finset.sum_congr rfl fun t _ => congrArg₂ (· * ·) (H_eq m c _ n) (V30_at m c t n)

theorem v76_at (n : Fin 5632) : val_main_v76 (F := Ideal) (a0 m c) (a1 m c) (a2 m c) (a3 m c) (a4 m c) (ix2 0 n)
    = ∑ t : Fin 2048, dcN (a0 m c) (a1 m c) (a2 m c) (a3 m c) (a4 m c) t.val n := by
  rw [val_main_v76_apply, show idx_main_v76 (ix2 0 n) = ix1 n from funext fun a => Fin.ext (by
    match a with | ⟨0, _⟩ => (show 0 * 5632 + n.val = n.val; omega)), v61_at]
  exact Finset.sum_congr rfl fun t _ => by unfold dcN; rw [dif_pos t.isLt]

theorem out2 (hf : Finite m c) : R10 m c = val_main_v79 (F := Ideal) (a0 m c) (a1 m c) (a2 m c) (a3 m c) (a4 m c) := by
  funext i
  obtain ⟨j, n, rfl⟩ : ∃ (j : Fin 1) (n : Fin 2816), i = ix2 j n := ⟨i 0, i 1, eq_ix2 i⟩
  rw [val_main_v79_apply, show idx_main_v79 (ix2 j n) = ix2 0 (lo n) from funext fun a => Fin.ext (by
    match a with | ⟨0, _⟩ => (show j.val = 0; omega) | ⟨1, _⟩ => rfl), v76_at]
  exact Finset.sum_congr rfl fun t _ => G_eq m c hf _ n

theorem out3 : R11 m c = val_main_v80 (F := Ideal) (a0 m c) (a1 m c) (a2 m c) (a3 m c) (a4 m c) := by
  funext i
  obtain ⟨j, n, rfl⟩ : ∃ (j : Fin 1) (n : Fin 2816), i = ix2 j n := ⟨i 0, i 1, eq_ix2 i⟩
  rw [val_main_v80_apply, show idx_main_v80 (ix2 j n) = ix2 0 (hi n) from funext fun a => Fin.ext (by
    match a with | ⟨0, _⟩ => (show j.val = 0; omega) | ⟨1, _⟩ => rfl), v76_at]
  exact Finset.sum_congr rfl fun t _ => H_eq m c _ n

theorem V_taps (p : Fin 3) (n : Fin 5632) : (V m c main_arg1 : Vec Ideal S3x5632 .f32) (ix2 p n) = a1 m c (ix2 p n) := by
  rw [V_main_arg1]

theorem out4 (hf : Finite m c) : R12 m c = val_main_v82 (F := Ideal) (a0 m c) (a1 m c) (a2 m c) (a3 m c) (a4 m c) := by
  funext i
  obtain ⟨t, n, rfl⟩ : ∃ (j : Fin 2048) (n : Fin 2816), i = ix2 j n := ⟨i 0, i 1, eq_ix2 i⟩
  rw [val_main_v82_apply, val_main_v81_apply, show idx_main_v81 (ix2 t n) = ix2 t (lo n) from funext fun a => Fin.ext (by match a with | ⟨0, _⟩ => rfl | ⟨1, _⟩ => rfl),
    v75_at, ← G_eq m c hf, ← G_eq m c hf, ← G_eq m c hf, ← V_taps, ← V_taps, ← V_taps]
  rfl

theorem out5 : R13 m c = val_main_v84 (F := Ideal) (a0 m c) (a1 m c) (a2 m c) (a3 m c) (a4 m c) := by
  funext i
  obtain ⟨t, n, rfl⟩ : ∃ (j : Fin 2048) (n : Fin 2816), i = ix2 j n := ⟨i 0, i 1, eq_ix2 i⟩
  rw [val_main_v84_apply, val_main_v83_apply, show idx_main_v83 (ix2 t n) = ix2 t (hi n) from funext fun a => Fin.ext (by match a with | ⟨0, _⟩ => rfl | ⟨1, _⟩ => rfl),
    v75_at, ← H_eq, ← H_eq, ← H_eq, ← V_taps, ← V_taps, ← V_taps]
  rfl

end Cert.Proof.Conv
-- ==== Proof.Run.lean ====
module

public import proofs.«01_k».proof.Proof.Match
public import Idealize.ShloMosaic.Lib.Claim

@[expose] public section

set_option maxRecDepth 16384

noncomputable section

namespace Cert.Proof.Conv

open Cert.KernelIdeal Cert.KernelIdeal.Gen Idealize.ShloMosaic Idealize.ShloMosaic.TcCoe Idealize.SL.Sem

/-- The kernel, over the extended reals and from finite arguments, leaves the reference's six stages in its results. -/
theorem run (m : (ℓ : Loc nD τ sig) → Buf (Elt Ideal) ℓ) (ρ : Dev nD → PrngReg) (hf : ∀ c, Finite m c) :
    θ_run defs (onTc (τ := τ) (main (F := Ideal))) ⟨m, fun _ => 0, ρ⟩ fun r => ∀ c : Dev nD,
      r.2.mem ((c.tc : Thread nD τ).loc main_v33_0) = Cert.ReferenceIdeal.Read.val_main_v77 (F := Ideal) (a0 m c) (a1 m c) (a2 m c) (a3 m c) (a4 m c)
      ∧ r.2.mem ((c.tc : Thread nD τ).loc main_v33_1) = Cert.ReferenceIdeal.Read.val_main_v78 (F := Ideal) (a0 m c) (a1 m c) (a2 m c) (a3 m c) (a4 m c)
      ∧ r.2.mem ((c.tc : Thread nD τ).loc main_v33_2) = Cert.ReferenceIdeal.Read.val_main_v79 (F := Ideal) (a0 m c) (a1 m c) (a2 m c) (a3 m c) (a4 m c)
      ∧ r.2.mem ((c.tc : Thread nD τ).loc main_v33_3) = Cert.ReferenceIdeal.Read.val_main_v80 (F := Ideal) (a0 m c) (a1 m c) (a2 m c) (a3 m c) (a4 m c)
      ∧ r.2.mem ((c.tc : Thread nD τ).loc main_v33_4) = Cert.ReferenceIdeal.Read.val_main_v82 (F := Ideal) (a0 m c) (a1 m c) (a2 m c) (a3 m c) (a4 m c)
      ∧ r.2.mem ((c.tc : Thread nD τ).loc main_v33_5) = Cert.ReferenceIdeal.Read.val_main_v84 (F := Ideal) (a0 m c) (a1 m c) (a2 m c) (a3 m c) (a4 m c) :=
  (θ_run defs _ _).mono (fun r h c =>
    ⟨((h c).1 8).trans ((final_8 m c).trans (out0 m c (hf c))), ((h c).1 9).trans ((final_9 m c).trans (out1 m c)),
     ((h c).1 10).trans ((final_10 m c).trans (out2 m c (hf c))), ((h c).1 11).trans ((final_11 m c).trans (out3 m c)),
     ((h c).1 12).trans ((final_12 m c).trans (out4 m c (hf c))), ((h c).1 13).trans ((final_13 m c).trans (out5 m c))⟩)
    (run_main (F := Ideal) m ρ)

end Cert.Proof.Conv
-- ==== Proof.ConvClaim.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Run
public import Idealize.ShloMosaic.Lib.Claim

@[expose] public section

set_option maxRecDepth 16384

noncomputable section

/-! The claims about the kernel of `conv_bwd` and its reference. -/

namespace Cert.Proof.Conv

open Idealize.ShloMosaic Idealize.SL.Sem

attribute [local instance] Cert.Kernel.Gen.facts Cert.KernelIdeal.Gen.facts Cert.ReferenceIdeal.Gen.facts
  Cert.Pre_finite.Gen.facts

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

/-- The reference is a list of host operations that writes no argument and declares no semaphore. -/
theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

theorem frame_reference_finite : Cert.quiescent_ReferenceIdeal_pre_finite := fun m ρ _ =>
  frame_reference m ρ trivial

/-- From finite arguments both programs end with the reference's six stages of those arguments. -/
theorem algebraic : Cert.algebraic_KernelIdeal_ReferenceIdeal_pre_finite := by
  intro m g m' g' hpre hag
  refine ⟨fun c => Cert.ReferenceIdeal.Read.val_main_v77 (F := Ideal) (a0 m c) (a1 m c) (a2 m c) (a3 m c) (a4 m c),
    fun c => Cert.ReferenceIdeal.Read.val_main_v78 (F := Ideal) (a0 m c) (a1 m c) (a2 m c) (a3 m c) (a4 m c),
    fun c => Cert.ReferenceIdeal.Read.val_main_v79 (F := Ideal) (a0 m c) (a1 m c) (a2 m c) (a3 m c) (a4 m c),
    fun c => Cert.ReferenceIdeal.Read.val_main_v80 (F := Ideal) (a0 m c) (a1 m c) (a2 m c) (a3 m c) (a4 m c),
    fun c => Cert.ReferenceIdeal.Read.val_main_v82 (F := Ideal) (a0 m c) (a1 m c) (a2 m c) (a3 m c) (a4 m c),
    fun c => Cert.ReferenceIdeal.Read.val_main_v84 (F := Ideal) (a0 m c) (a1 m c) (a2 m c) (a3 m c) (a4 m c), ?_, ?_⟩
  · exact (θ_run Cert.KernelIdeal.defs _ _).mono
      (fun r h c => ⟨(h.1 c).1, (h.1 c).2.1, (h.1 c).2.2.1, (h.1 c).2.2.2.1, (h.1 c).2.2.2.2.1, (h.1 c).2.2.2.2.2, h.2 c⟩)
      (θ_run_and (run m g (fun c => Finite.of_pre m c hpre)) (Cert.KernelIdeal.Gen.unchanged (F := Ideal) m g))
  · refine (θ_run Cert.ReferenceIdeal.defs _ _).mono (fun r h c => ?_) (Cert.ReferenceIdeal.Value.run (F := Ideal) m' g')
    obtain ⟨e0, e1, e2, e3, e4⟩ := hag c
    obtain ⟨h0, h1, h2, h3, h4, h5, hargs⟩ := h c
    rw [Cert.ReferenceIdeal.Read.val_main_v77_eq, e0, e1, e2, e3, e4] at h0
    rw [Cert.ReferenceIdeal.Read.val_main_v78_eq, e0, e1, e2, e3, e4] at h1
    rw [Cert.ReferenceIdeal.Read.val_main_v79_eq, e0, e1, e2, e3, e4] at h2
    rw [Cert.ReferenceIdeal.Read.val_main_v80_eq, e0, e1, e2, e3, e4] at h3
    rw [Cert.ReferenceIdeal.Read.val_main_v82_eq, e0, e1, e2, e3, e4] at h4
    rw [Cert.ReferenceIdeal.Read.val_main_v84_eq, e0, e1, e2, e3, e4] at h5
    exact ⟨h0, h1, h2, h3, h4, h5, hargs⟩

end Cert.Proof.Conv

end

end
-- ==== Proof.Rows.lean ====
module

public import Idealize.ShloMosaic.Lib.Pointwise

@[expose] public section

noncomputable section

/-! What the normalisations of several calls share: one row's mean square, the two gradients of a normalised row, and a sum over
rows taken tile by tile. -/

namespace Cert.Proof.Rows

open Idealize.ShloMosaic

/-- A row's mean square with the constant the normalisation adds, -/
def ms (x : Fin 1024 → EReal) : EReal :=
  Ideal.div (∑ k, x k * x k) (Ideal.ofBits .f32 1149239296#32) + Ideal.ofBits .f32 897988541#32

/-- the factor the row is multiplied by, -/
def rs (x : Fin 1024 → EReal) : EReal := Ideal.rsqrt (ms x)

/-- and that factor's derivative at the mean square. -/
def drs (x : Fin 1024 → EReal) : EReal := Ideal.ofBits .f32 3204448256#32 * Ideal.div (rs x) (ms x)

/-- The gradient that reaches the mean square, divided over the row's elements. -/
def dms (x g d : Fin 1024 → EReal) : EReal :=
  Ideal.div ((∑ k, x k * (d k * g k)) * drs x) (Ideal.ofBits .f32 1149239296#32)

/-- The gradient of a row at element `n`, from the gradient `d` of the normalised row and the weights `g`. -/
def gradX (x g d : Fin 1024 → EReal) (n : Fin 1024) : EReal :=
  d n * g n * rs x + x n * dms x g d + dms x g d * x n

/-- The row's part of the weights' gradient. -/
def gradG (x d : Fin 1024 → EReal) (n : Fin 1024) : EReal := x n * rs x * d n

/-- The row that tile `k` of `a` holds at its place `r` of `b`. -/
def row (a b : Nat) (ha : 0 < a) (k : Nat) (r : Fin b) : Fin (a * b) :=
  finProdFinEquiv (⟨k % a, Nat.mod_lt _ ha⟩, r)

theorem row_val (a b : Nat) (ha : 0 < a) (k : Nat) (r : Fin b) : (row a b ha k r).val = r.val + b * (k % a) := rfl

/-- A sum over all rows is the sum over the tiles of the sums within each. -/
theorem sum_tiles (a b : Nat) (ha : 0 < a) (g : Fin (a * b) → EReal) :
    (∑ k ∈ Finset.range a, ∑ r : Fin b, g (row a b ha k r)) = ∑ t : Fin (a * b), g t := by
  rw [Finset.sum_range (fun k => ∑ r : Fin b, g (row a b ha k r)), ← Equiv.sum_comp finProdFinEquiv g,
    Fintype.sum_prod_type]
  refine Finset.sum_congr rfl fun k _ => Finset.sum_congr rfl fun r _ => ?_
  congr 1
  apply Fin.ext
  rw [row_val, Nat.mod_eq_of_lt k.isLt]
  rfl

/-- A sum over the projection's columns is the sum over its three pieces. -/
theorem sum_pieces (g : Fin 9472 → EReal) :
    (∑ k : Fin 7424, g ⟨k.val, by omega⟩) + (∑ k : Fin 1024, g ⟨7424 + k.val, by omega⟩) + (∑ k : Fin 1024, g ⟨8448 + k.val, by omega⟩)
      = ∑ k : Fin 9472, g k := by
  refine Eq.symm ((Fin.sum_univ_add (a := 8448) (b := 1024) g).trans ?_)
  refine congrArg₂ (· + ·) ((Fin.sum_univ_add (a := 7424) (b := 1024) (fun i : Fin 8448 => g (Fin.castAdd 1024 i))).trans ?_) ?_
  · rfl
  · rfl

end Cert.Proof.Rows

end
-- ==== Proof.Post1Out.lean ====
module

public import proofs.«01_k».proof.Proof.Gen.Kernel2Ideal.Frame
public import Idealize.ShloMosaic.Lib.Pipeline.Value
public import Idealize.ShloMosaic.Lib.Tactic

@[expose] public section

set_option maxRecDepth 16384

noncomputable section

/-! What one point of the kernel of `post1_bwd` leaves, as its payloads of the point's blocks. -/

namespace Cert.Proof.Post1

open Idealize.ShloMosaic Cert.Kernel2Ideal Cert.Kernel2Ideal.Gen

theorem hz : (![0, 0] : Fin 2 → Nat) = fun _ => 0 := funext fun a => by fin_cases a <;> rfl

variable {F : FTy → Type} [FloatOps F]

/-- The rows of the transposed weights that meet the gate's half of the gradient, -/
def u0 (x : Vec F S5632x1024 .bf16) : Vec F S2816x1024 .bf16 :=
  View.ld x (Rect.unit (s := S5632x1024) ![0, 0] ![2816, 1024] inb_S5632x1024_S2816x1024_0_0)

/-- and the value's half. -/
def u1 (x : Vec F S5632x1024 .bf16) : Vec F S2816x1024 .bf16 :=
  View.ld x (Rect.unit (s := S5632x1024) ![2816, 0] ![2816, 1024] inb_S5632x1024_S2816x1024_2816_0)

/-- A tile of the gradient of the second norm's result, -/
def dn (x0 x1 : Vec F S512x2816 .bf16) (x2 : Vec F S5632x1024 .bf16) : FVec F S512x1024 .f32 := k0_pay6 x0 (u0 x2) x1 (u1 x2)

/-- of the first part of the weights' gradient of that norm, from the residual stream `h`, -/
def dgPre (d h : FVec F S512x1024 .f32) (p : FVec F S512x1 .f32) : FVec F S1x1024 .f32 := k0_pay16 d h p k0_pay13

/-- and of the residual stream's gradient. -/
def dh (d : FVec F S512x1024 .f32) (g : Vec F S1x1024 .f32) (h : FVec F S512x1024 .f32) (p : FVec F S512x1 .f32) (e : Vec F S512x1024 .f32) : FVec F S512x1024 .f32 :=
  k0_pay17 d g h p k0_pay13 e

/-- What the first norm's weights get from the tile, -/
def dgPost (d : FVec F S512x1024 .f32) (g : Vec F S1x1024 .f32) (y h : FVec F S512x1024 .f32) (p : FVec F S512x1 .f32) (e : Vec F S512x1024 .f32) : FVec F S1x1024 .f32 :=
  k0_pay19 d g y h p k0_pay13 e

/-- and its rows. -/
def dmix (d : FVec F S512x1024 .f32) (g1 g2 : Vec F S1x1024 .f32) (x : Vec F S512x1024 .f32) (h : FVec F S512x1024 .f32) (p : FVec F S512x1 .f32) (e : Vec F S512x1024 .f32) : FVec F S512x1024 .bf16 :=
  k0_pay5 x (k0_pay21 d g1 g2 (k0_pay8 x) h p k0_pay13 e) (k0_pay22 d g1 g2 x (k0_pay9 x) h p k0_pay13 e)

theorem outA_8 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (hc0)
    (x0 : Vec F S512x2816 .bf16) (x1 : Vec F S512x2816 .bf16) (x2 : Vec F S5632x1024 .bf16) (x3 : Vec F S512x1024 .f32) (x4 : Vec F S512x1024 .f32) (x5 : Vec F S512x1024 .f32) (x6 : Vec F S1x1024 .f32) (x7 : Vec F S1x1024 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay3 (dgPost (dn x0 x1 x2) x7 (k0_pay10 x4) (k0_pay11 x6 x3 x4) (k0_pay12 x6 x3 x4) x5) k0_pay1 := by
  unfold out0_A_8
  rw [View.read_writes_junk_eq_canon]
  unfold kernelRun0_A
  dsimp only
  sl_unfold_words
  rw [View.canon_cons_unit_zero hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2816) hz, View.ld_unit_zero (S := S512x1024) hz, View.ld_unit_zero (S := S1x1024) hz]
  rfl

theorem outA_9 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (hc0)
    (x0 : Vec F S512x2816 .bf16) (x1 : Vec F S512x2816 .bf16) (x2 : Vec F S5632x1024 .bf16) (x3 : Vec F S512x1024 .f32) (x4 : Vec F S512x1024 .f32) (x5 : Vec F S512x1024 .f32) (x6 : Vec F S1x1024 .f32) (x7 : Vec F S1x1024 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay4 (dgPre (dn x0 x1 x2) (k0_pay11 x6 x3 x4) (k0_pay12 x6 x3 x4)) k0_pay2 := by
  unfold out0_A_9
  rw [View.read_writes_junk_eq_canon]
  unfold kernelRun0_A
  dsimp only
  sl_unfold_words
  rw [View.canon_cons_unit_zero hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2816) hz, View.ld_unit_zero (S := S512x1024) hz, View.ld_unit_zero (S := S1x1024) hz]
  rfl

theorem outA_10 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (hc0)
    (x0 : Vec F S512x2816 .bf16) (x1 : Vec F S512x2816 .bf16) (x2 : Vec F S5632x1024 .bf16) (x3 : Vec F S512x1024 .f32) (x4 : Vec F S512x1024 .f32) (x5 : Vec F S512x1024 .f32) (x6 : Vec F S1x1024 .f32) (x7 : Vec F S1x1024 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = dh (dn x0 x1 x2) x7 (k0_pay11 x6 x3 x4) (k0_pay12 x6 x3 x4) x5 := by
  unfold out0_A_10
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2816) hz, View.ld_unit_zero (S := S512x1024) hz, View.ld_unit_zero (S := S1x1024) hz]
  rfl

theorem outA_11 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (hc0)
    (x0 : Vec F S512x2816 .bf16) (x1 : Vec F S512x2816 .bf16) (x2 : Vec F S5632x1024 .bf16) (x3 : Vec F S512x1024 .f32) (x4 : Vec F S512x1024 .f32) (x5 : Vec F S512x1024 .f32) (x6 : Vec F S1x1024 .f32) (x7 : Vec F S1x1024 .f32) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = dmix (dn x0 x1 x2) x6 x7 x4 (k0_pay11 x6 x3 x4) (k0_pay12 x6 x3 x4) x5 := by
  unfold out0_A_11
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2816) hz, View.ld_unit_zero (S := S512x1024) hz, View.ld_unit_zero (S := S1x1024) hz]
  rfl

theorem outB_8 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (hc0)
    (x0 : Vec F S512x2816 .bf16) (x1 : Vec F S512x2816 .bf16) (x2 : Vec F S5632x1024 .bf16) (x3 : Vec F S512x1024 .f32) (x4 : Vec F S512x1024 .f32) (x5 : Vec F S512x1024 .f32) (x6 : Vec F S1x1024 .f32) (x7 : Vec F S1x1024 .f32) (xo8 : Vec F S1x1024 .f32) (xo9 : Vec F S1x1024 .f32) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo8 xo9 = k0_pay3 (dgPost (dn x0 x1 x2) x7 (k0_pay10 x4) (k0_pay11 x6 x3 x4) (k0_pay12 x6 x3 x4) x5) xo8 := by
  unfold out0_B_8
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2816) hz, View.ld_unit_zero (S := S512x1024) hz, View.ld_unit_zero (S := S1x1024) hz]
  rfl

theorem outB_9 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (hc0)
    (x0 : Vec F S512x2816 .bf16) (x1 : Vec F S512x2816 .bf16) (x2 : Vec F S5632x1024 .bf16) (x3 : Vec F S512x1024 .f32) (x4 : Vec F S512x1024 .f32) (x5 : Vec F S512x1024 .f32) (x6 : Vec F S1x1024 .f32) (x7 : Vec F S1x1024 .f32) (xo8 : Vec F S1x1024 .f32) (xo9 : Vec F S1x1024 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo8 xo9 = k0_pay4 (dgPre (dn x0 x1 x2) (k0_pay11 x6 x3 x4) (k0_pay12 x6 x3 x4)) xo9 := by
  unfold out0_B_9
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2816) hz, View.ld_unit_zero (S := S512x1024) hz, View.ld_unit_zero (S := S1x1024) hz]
  rfl

theorem outB_10 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (hc0)
    (x0 : Vec F S512x2816 .bf16) (x1 : Vec F S512x2816 .bf16) (x2 : Vec F S5632x1024 .bf16) (x3 : Vec F S512x1024 .f32) (x4 : Vec F S512x1024 .f32) (x5 : Vec F S512x1024 .f32) (x6 : Vec F S1x1024 .f32) (x7 : Vec F S1x1024 .f32) (xo8 : Vec F S1x1024 .f32) (xo9 : Vec F S1x1024 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo8 xo9 = dh (dn x0 x1 x2) x7 (k0_pay11 x6 x3 x4) (k0_pay12 x6 x3 x4) x5 := by
  unfold out0_B_10
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2816) hz, View.ld_unit_zero (S := S512x1024) hz, View.ld_unit_zero (S := S1x1024) hz]
  rfl

theorem outB_11 (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (hc0)
    (x0 : Vec F S512x2816 .bf16) (x1 : Vec F S512x2816 .bf16) (x2 : Vec F S5632x1024 .bf16) (x3 : Vec F S512x1024 .f32) (x4 : Vec F S512x1024 .f32) (x5 : Vec F S512x1024 .f32) (x6 : Vec F S1x1024 .f32) (x7 : Vec F S1x1024 .f32) (xo8 : Vec F S1x1024 .f32) (xo9 : Vec F S1x1024 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo8 xo9 = dmix (dn x0 x1 x2) x6 x7 x4 (k0_pay11 x6 x3 x4) (k0_pay12 x6 x3 x4) x5 := by
  unfold out0_B_11
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x2816) hz, View.ld_unit_zero (S := S512x1024) hz, View.ld_unit_zero (S := S1x1024) hz]
  rfl

end Cert.Proof.Post1

end
-- ==== Proof.Post1Pay.lean ====
module

public import proofs.«01_k».proof.Proof.Rows
public import proofs.«01_k».proof.Proof.Post1Out
public import proofs.«01_k».proof.Proof.Gen.Reference2Ideal.Read

@[expose] public section

set_option maxRecDepth 16384

noncomputable section

/-! The payloads of the kernel of `post1_bwd` and its reference's results, at an index. -/

namespace Cert.Proof.Post1

open Idealize.ShloMosaic Cert.Proof.Rows

/-- The residual stream: a row of the input and the normalised row added to it. -/
def res (x y g : Fin 1024 → EReal) (n : Fin 1024) : EReal := x n + y n * rs y * g n

/-- The residual stream's gradient at a row. -/
def dres (e h g d : Fin 1024 → EReal) (n : Fin 1024) : EReal := e n + gradX h g d n

section kernel
open Cert.Kernel2Ideal Cert.Kernel2Ideal.Gen

theorem ld0 (x : Vec Ideal S5632x1024 .bf16) (k : Fin 2816) (n : Fin 1024) : u0 x (ix2 k n) = x (ix2 ⟨k.val, by omega⟩ n) := by
  unfold u0; pointwise
theorem ld1 (x : Vec Ideal S5632x1024 .bf16) (k : Fin 2816) (n : Fin 1024) : u1 x (ix2 k n) = x (ix2 ⟨2816 + k.val, by omega⟩ n) := by
  unfold u1; pointwise

theorem dn_at (x0 x1 : Vec Ideal S512x2816 .bf16) (x2 : Vec Ideal S5632x1024 .bf16) (r : Fin 512) (n : Fin 1024) :
    dn (F := Ideal) x0 x1 x2 (ix2 r n)
      = (∑ k : Fin 2816, x0 (ix2 r k) * x2 (ix2 ⟨k.val, by omega⟩ n)) + (∑ k : Fin 2816, x1 (ix2 r k) * x2 (ix2 ⟨2816 + k.val, by omega⟩ n)) := by
  simp only [← ld0, ← ld1]
  unfold dn
  generalize u0 x2 = a
  generalize u1 x2 = b
  pointwise [k0_pay6]

theorem pay8_at (x : Vec Ideal S512x1024 .f32) (r : Fin 512) : k0_pay8 (F := Ideal) x (ix2 r 0) = rs (fun k => x (ix2 r k)) := by
  pointwise [k0_pay8, k0_pay7]; rfl

theorem pay9_at (x : Vec Ideal S512x1024 .f32) (r : Fin 512) : k0_pay9 (F := Ideal) x (ix2 r 0) = drs (fun k => x (ix2 r k)) := by
  pointwise [k0_pay9, k0_pay8, k0_pay7]; rfl

theorem pay10_at (x : Vec Ideal S512x1024 .f32) (r : Fin 512) (n : Fin 1024) :
    k0_pay10 (F := Ideal) x (ix2 r n) = x (ix2 r n) * rs (fun k => x (ix2 r k)) := by
  have h := pay8_at x r
  unfold k0_pay10
  revert h
  generalize k0_pay8 (F := Ideal) x = a
  intro h
  pointwise
  rw [h]

theorem pay11_at (g : Vec Ideal S1x1024 .f32) (x y : Vec Ideal S512x1024 .f32) (r : Fin 512) (n : Fin 1024) :
    k0_pay11 (F := Ideal) g x y (ix2 r n) = res (fun k => x (ix2 r k)) (fun k => y (ix2 r k)) (fun k => g (ix2 0 k)) n := by
  have h := pay10_at y r n
  unfold k0_pay11
  revert h
  generalize k0_pay10 (F := Ideal) y = a
  intro h
  pointwise
  rw [h]; rfl

theorem pay12_at (g : Vec Ideal S1x1024 .f32) (x y : Vec Ideal S512x1024 .f32) (r : Fin 512) :
    k0_pay12 (F := Ideal) g x y (ix2 r 0) = ∑ k : Fin 1024, k0_pay11 (F := Ideal) g x y (ix2 r k) * k0_pay11 (F := Ideal) g x y (ix2 r k) := by
  unfold k0_pay12
  generalize k0_pay11 (F := Ideal) g x y = a
  pointwise

/-- The sums of squares a tile's rows are normalised by. -/
def Sq (h : FVec Ideal S512x1024 .f32) (p : FVec Ideal S512x1 .f32) : Prop :=
  ∀ r : Fin 512, p (ix2 r 0) = ∑ k : Fin 1024, h (ix2 r k) * h (ix2 r k)

theorem ms_at (h : FVec Ideal S512x1024 .f32) (p : FVec Ideal S512x1 .f32) (hp : Sq h p) (r : Fin 512) :
    k0_pay14 (F := Ideal) p k0_pay13 (ix2 r 0) = ms (fun k => h (ix2 r k)) := by
  pointwise [k0_pay14, k0_pay13]
  rw [hp r]; rfl

theorem rs_at (h : FVec Ideal S512x1024 .f32) (p : FVec Ideal S512x1 .f32) (hp : Sq h p) (r : Fin 512) :
    k0_pay15 (F := Ideal) p k0_pay13 (ix2 r 0) = rs (fun k => h (ix2 r k)) := by
  have e := ms_at h p hp r
  unfold k0_pay15
  revert e
  generalize k0_pay14 (F := Ideal) p k0_pay13 = a
  intro e
  pointwise
  rw [e]; rfl

theorem dgPre_at (d h : FVec Ideal S512x1024 .f32) (p : FVec Ideal S512x1 .f32) (hp : Sq h p) (n : Fin 1024) :
    dgPre (F := Ideal) d h p (ix2 0 n) = ∑ r : Fin 512, gradG (fun k => h (ix2 r k)) (fun k => d (ix2 r k)) n := by
  have e := rs_at h p hp
  unfold dgPre k0_pay16
  revert e
  generalize k0_pay15 (F := Ideal) p k0_pay13 = a
  intro e
  pointwise
  simp only [e]
  rfl

theorem dh_at (d : FVec Ideal S512x1024 .f32) (g : Vec Ideal S1x1024 .f32) (h : FVec Ideal S512x1024 .f32) (p : FVec Ideal S512x1 .f32)
    (e : Vec Ideal S512x1024 .f32) (hp : Sq h p) (r : Fin 512) (n : Fin 1024) :
    dh (F := Ideal) d g h p e (ix2 r n)
      = dres (fun k => e (ix2 r k)) (fun k => h (ix2 r k)) (fun k => g (ix2 0 k)) (fun k => d (ix2 r k)) n := by
  have e1 := rs_at h p hp r
  have e2 := ms_at h p hp r
  unfold dh k0_pay17
  revert e1 e2
  generalize k0_pay15 (F := Ideal) p k0_pay13 = a
  generalize k0_pay14 (F := Ideal) p k0_pay13 = b
  intro e1 e2
  pointwise
  simp only [Fin.sum_univ_one, e1, e2]
  unfold dres gradX dms drs
  simp only [add_assoc]

theorem pay18_eq (d : FVec Ideal S512x1024 .f32) (g : Vec Ideal S1x1024 .f32) (h : FVec Ideal S512x1024 .f32) (p : FVec Ideal S512x1 .f32)
    (e : Vec Ideal S512x1024 .f32) : k0_pay18 (F := Ideal) d g h p k0_pay13 e = dh d g h p e := by
  unfold k0_pay18 dh
  exact shapeCast_self _ _

theorem dgPost_at (d : FVec Ideal S512x1024 .f32) (g : Vec Ideal S1x1024 .f32) (x : Vec Ideal S512x1024 .f32) (h : FVec Ideal S512x1024 .f32)
    (p : FVec Ideal S512x1 .f32) (e : Vec Ideal S512x1024 .f32) (n : Fin 1024) :
    dgPost (F := Ideal) d g (k0_pay10 x) h p e (ix2 0 n)
      = ∑ r : Fin 512, gradG (fun k => x (ix2 r k)) (fun k => dh (F := Ideal) d g h p e (ix2 r k)) n := by
  have hx := pay10_at x
  unfold dgPost k0_pay19
  rw [pay18_eq]
  revert hx
  generalize k0_pay10 (F := Ideal) x = a
  generalize dh (F := Ideal) d g h p e = b
  intro hx
  pointwise
  simp only [hx]
  rfl

theorem dmix_at (d : FVec Ideal S512x1024 .f32) (g1 g2 : Vec Ideal S1x1024 .f32) (x : Vec Ideal S512x1024 .f32) (h : FVec Ideal S512x1024 .f32)
    (p : FVec Ideal S512x1 .f32) (e : Vec Ideal S512x1024 .f32) (r : Fin 512) (n : Fin 1024) :
    dmix (F := Ideal) d g1 g2 x h p e (ix2 r n)
      = gradX (fun k => x (ix2 r k)) (fun k => g1 (ix2 0 k)) (fun k => dh (F := Ideal) d g2 h p e (ix2 r k)) n := by
  have e1 := pay8_at x r
  have e2 := pay9_at x r
  unfold dmix k0_pay21 k0_pay22 k0_pay20
  rw [pay18_eq]
  revert e1 e2
  generalize k0_pay8 (F := Ideal) x = a
  generalize k0_pay9 (F := Ideal) x = b
  generalize dh (F := Ideal) d g2 h p e = q
  intro e1 e2
  pointwise [k0_pay5]
  simp only [Fin.sum_univ_one, e1, e2]
  rfl

theorem pay3_at (a : FVec Ideal S1x1024 .f32) (b : Vec Ideal S1x1024 .f32) (n : Fin 1024) :
    k0_pay3 (F := Ideal) a b (ix2 0 n) = b (ix2 0 n) + a (ix2 0 n) := by
  pointwise [k0_pay3]
theorem pay4_at (a : FVec Ideal S1x1024 .f32) (b : Vec Ideal S1x1024 .f32) (n : Fin 1024) :
    k0_pay4 (F := Ideal) a b (ix2 0 n) = b (ix2 0 n) + a (ix2 0 n) := by
  pointwise [k0_pay4]
theorem pay1_at (n : Fin 1024) : k0_pay1 (F := Ideal) (ix2 0 n) = 0 := by pointwise [k0_pay1]
theorem pay2_at (n : Fin 1024) : k0_pay2 (F := Ideal) (ix2 0 n) = 0 := by pointwise [k0_pay2]
end kernel

section reference
open Cert.Reference2Ideal Cert.Reference2Ideal.Read

variable (x0 x1 : Vec Ideal S2048x1024 .f32) (x2 x3 : Vec Ideal S1x1024 .f32) (x4 : Vec Ideal S1024x5632 .f32) (x5 : Vec Ideal S2048x1024 .f32)
  (x6 : Vec Ideal S2048x5632 .f32)

theorem ref36_at (r : Fin 2048) (n : Fin 1024) : val_main_v36 (F := Ideal) x4 x6 (ix2 r n) = ∑ k : Fin 5632, x6 (ix2 r k) * x4 (ix2 n k) := by
  pointwise [val_main_v36]

theorem ref17_at (r : Fin 2048) (n : Fin 1024) :
    val_main_v17 (F := Ideal) x0 x1 x2 (ix2 r n) = res (fun k => x0 (ix2 r k)) (fun k => x1 (ix2 r k)) (fun k => x2 (ix2 0 k)) n := by
  pointwise [val_main_v17, val_main_v16, val_main_v15, val_main_v14, val_main_v13, val_main_v12, val_main_v8, val_main_v7, val_main_v6, val_main_v5, val_main_v4, val_main_v3, val_main_v2, val_main_v1, val_main_v0, val_main_cst, val_main_cst_0, val_main_cst_1]
  rfl

theorem ref57_at (r : Fin 2048) (n : Fin 1024) :
    val_main_v57 (F := Ideal) x0 x1 x2 x3 x4 x5 x6 (ix2 r n)
      = dres (fun k => x5 (ix2 r k)) (fun k => val_main_v17 (F := Ideal) x0 x1 x2 (ix2 r k)) (fun k => x3 (ix2 0 k)) (fun k => val_main_v36 (F := Ideal) x4 x6 (ix2 r k)) n := by
  generalize hd : val_main_v36 (F := Ideal) x4 x6 = d
  generalize hh : val_main_v17 (F := Ideal) x0 x1 x2 = h
  pointwise [val_main_v57, val_main_v56, val_main_v55, val_main_v54, val_main_v53, val_main_v52, val_main_v51, val_main_v50, val_main_v49, val_main_v48, val_main_v47, val_main_v46, val_main_v45, val_main_v44, val_main_v43, val_main_v41, val_main_v40, val_main_v32, val_main_v29, val_main_v28, val_main_v27, val_main_v26, val_main_v25, val_main_v24, val_main_v23, val_main_v22, val_main_v21, val_main_v20, val_main_v19, val_main_v18, val_main_cst_3, val_main_cst_4, val_main_cst_5, val_main_cst_6, val_main_cst_9, val_main_cst_10, val_main_cst_11]
  simp only [hd, hh, Fin.sum_univ_one]
  unfold dres gradX dms drs rs ms
  simp only [add_assoc]

theorem ref58_at (n : Fin 1024) :
    val_main_v58 (F := Ideal) x0 x1 x2 x4 x6 (ix2 0 n)
      = ∑ r : Fin 2048, gradG (fun k => val_main_v17 (F := Ideal) x0 x1 x2 (ix2 r k)) (fun k => val_main_v36 (F := Ideal) x4 x6 (ix2 r k)) n := by
  generalize hd : val_main_v36 (F := Ideal) x4 x6 = d
  generalize hh : val_main_v17 (F := Ideal) x0 x1 x2 = h
  pointwise [val_main_v58, val_main_v42, val_main_v39, val_main_v38, val_main_v37, val_main_v31, val_main_v30, val_main_v26, val_main_v25, val_main_v24, val_main_v23, val_main_v22, val_main_v21, val_main_v20, val_main_v19, val_main_cst_3, val_main_cst_4, val_main_cst_5, val_main_cst_7, val_main_cst_8]
  simp only [hd, hh, Fin.sum_univ_one]
  rfl

theorem ref80_at (n : Fin 1024) :
    val_main_v80 (F := Ideal) x0 x1 x2 x3 x4 x5 x6 (ix2 0 n)
      = ∑ r : Fin 2048, gradG (fun k => x1 (ix2 r k)) (fun k => val_main_v57 (F := Ideal) x0 x1 x2 x3 x4 x5 x6 (ix2 r k)) n := by
  generalize hd : val_main_v57 (F := Ideal) x0 x1 x2 x3 x4 x5 x6 = d
  pointwise [val_main_v80, val_main_v65, val_main_v62, val_main_v61, val_main_v60, val_main_v59, val_main_v13, val_main_v12, val_main_v8, val_main_v7, val_main_v6, val_main_v5, val_main_v4, val_main_v3, val_main_v2, val_main_v1, val_main_cst, val_main_cst_0, val_main_cst_1, val_main_cst_12, val_main_cst_13]
  simp only [hd, Fin.sum_univ_one]
  rfl

theorem ref81_at (r : Fin 2048) (n : Fin 1024) :
    val_main_v81 (F := Ideal) x0 x1 x2 x3 x4 x5 x6 (ix2 r n)
      = gradX (fun k => x1 (ix2 r k)) (fun k => x2 (ix2 0 k)) (fun k => val_main_v57 (F := Ideal) x0 x1 x2 x3 x4 x5 x6 (ix2 r k)) n := by
  generalize hd : val_main_v57 (F := Ideal) x0 x1 x2 x3 x4 x5 x6 = d
  pointwise [val_main_v81, val_main_v79, val_main_v78, val_main_v77, val_main_v76, val_main_v75, val_main_v74, val_main_v73, val_main_v72, val_main_v71, val_main_v70, val_main_v69, val_main_v68, val_main_v67, val_main_v66, val_main_v64, val_main_v63, val_main_v59, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_14, val_main_cst_15, val_main_cst_16]
  simp only [hd, Fin.sum_univ_one]
  rfl
end reference

end Cert.Proof.Post1

end
-- ==== Proof.Post1.lean ====
module

public import proofs.«01_k».proof.Proof.Post1Pay
public import proofs.«01_k».proof.Proof.Gen.Kernel2Ideal.Value

@[expose] public section

set_option maxRecDepth 16384

noncomputable section

/-! The result arrays of the kernel of `post1_bwd` are its reference's. Point `t` takes rows `512 t` to `512 t + 511`. -/

namespace Cert.Proof.Post1

open Idealize.ShloMosaic Idealize.ShloMosaic.TcCoe Cert.Kernel2Ideal Cert.Kernel2Ideal.Gen Cert.Proof.Rows

variable (m : (ℓ : Loc nD τ sig) → Buf (Elt Ideal) ℓ) (c : Dev nD)

/-- The arguments on a device, as arrays. -/
abbrev a0 : Vec Ideal S2048x1024 .f32 := m ((c : Thread nD τ).loc main_arg0)
abbrev a1 : Vec Ideal S2048x1024 .f32 := m ((c : Thread nD τ).loc main_arg1)
abbrev a2 : Vec Ideal S1x1024 .f32 := m ((c : Thread nD τ).loc main_arg2)
abbrev a3 : Vec Ideal S1x1024 .f32 := m ((c : Thread nD τ).loc main_arg3)
abbrev a4 : Vec Ideal S1024x5632 .f32 := m ((c : Thread nD τ).loc main_arg4)
abbrev a5 : Vec Ideal S2048x1024 .f32 := m ((c : Thread nD τ).loc main_arg5)
abbrev a6 : Vec Ideal S2048x5632 .f32 := m ((c : Thread nD τ).loc main_arg6)

theorem V1 (k : Fin 2048) (n : Fin 2816) : (V m c main_v1 : Vec Ideal S2048x2816 .bf16) (ix2 k n) = a6 m c (ix2 k ⟨n.val, by omega⟩) := by
  have e : V m c main_v1 = extractStridedSlice S2048x2816 ![0, 0] (truncf .bf16 (a6 m c) bitsLt_bf16_f32 : FVec Ideal S2048x5632 .bf16) slices_S2048x5632_S2048x2816_0_0 := by
    unfold V; after_results
  rw [e]; generalize a6 m c = x; pointwise; try rfl

theorem V2 (k : Fin 2048) (n : Fin 2816) : (V m c main_v2 : Vec Ideal S2048x2816 .bf16) (ix2 k n) = a6 m c (ix2 k ⟨2816 + n.val, by omega⟩) := by
  have e : V m c main_v2 = extractStridedSlice S2048x2816 ![0, 2816] (truncf .bf16 (a6 m c) bitsLt_bf16_f32 : FVec Ideal S2048x5632 .bf16) slices_S2048x5632_S2048x2816_0_2816 := by
    unfold V; after_results
  rw [e]; generalize a6 m c = x; pointwise; try rfl

theorem V4 (k : Fin 5632) (n : Fin 1024) : (V m c main_v4 : Vec Ideal S5632x1024 .bf16) (ix2 k n) = a4 m c (ix2 n k) := by
  have e : V m c main_v4 = (truncf .bf16 (transpose S5632x1024 [1, 0] (a4 m c) transposes_S1024x5632_S5632x1024_1_0) bitsLt_bf16_f32 : FVec Ideal S5632x1024 .bf16) := by
    unfold V; after_results
  rw [e]; generalize a4 m c = x; pointwise

theorem lt4 (t : Fin cfg0.N) : t.val < 4 := lt_of_lt_of_eq t.isLt N_0

/-- Row `r` of tile `k`, in the whole arrays. -/
def row (k : Nat) (r : Fin 512) : Fin 2048 := Rows.row 4 512 (by omega) k r
theorem row_eq (k : Nat) (r : Fin 512) : (row k r).val = r.val + 512 * (k % 4) := rfl

theorem iblk0 (t : Fin cfg0.N) (r : Fin 512) (k : Fin 2816) :
    (iblk m c 0 t : Vec Ideal S512x2816 .bf16) (ix2 r k) = (V m c main_v1 : Vec Ideal S2048x2816 .bf16) (ix2 (row t.val r) k) := by
  have hi := (by decide +kernel : ∀ t : Fin cfg0.N, win0_0.index t 0 = t.val % 4 ∧ win0_0.index t 1 = 0) t
  unfold iblk
  rw [View.read_apply]
  show V m c main_v1 _ = V m c main_v1 _
  congr 1
  funext a
  apply Fin.ext
  match a with
  | ⟨0, _⟩ => show win0_0.index t 0 * 512 + 1 * r.val = (row t.val r).val; rw [hi.1, row_eq]; omega
  | ⟨1, _⟩ => show win0_0.index t 1 * 2816 + 1 * k.val = _; rw [hi.2]; simp

theorem iblk1 (t : Fin cfg0.N) (r : Fin 512) (k : Fin 2816) :
    (iblk m c 1 t : Vec Ideal S512x2816 .bf16) (ix2 r k) = (V m c main_v2 : Vec Ideal S2048x2816 .bf16) (ix2 (row t.val r) k) := by
  have hi := (by decide +kernel : ∀ t : Fin cfg0.N, win0_1.index t 0 = t.val % 4 ∧ win0_1.index t 1 = 0) t
  unfold iblk
  rw [View.read_apply]
  show V m c main_v2 _ = V m c main_v2 _
  congr 1
  funext a
  apply Fin.ext
  match a with
  | ⟨0, _⟩ => show win0_1.index t 0 * 512 + 1 * r.val = (row t.val r).val; rw [hi.1, row_eq]; omega
  | ⟨1, _⟩ => show win0_1.index t 1 * 2816 + 1 * k.val = _; rw [hi.2]; simp

theorem iblk2 (t : Fin cfg0.N) (r : Fin 5632) (k : Fin 1024) :
    (iblk m c 2 t : Vec Ideal S5632x1024 .bf16) (ix2 r k) = (V m c main_v4 : Vec Ideal S5632x1024 .bf16) (ix2 r k) := by
  have hi := (by decide +kernel : ∀ t : Fin cfg0.N, win0_2.index t 0 = 0 ∧ win0_2.index t 1 = 0) t
  unfold iblk
  rw [View.read_apply]
  show V m c main_v4 _ = V m c main_v4 _
  congr 1
  funext a
  apply Fin.ext
  match a with
  | ⟨0, _⟩ => show win0_2.index t 0 * 5632 + 1 * r.val = _; rw [hi.1]; simp
  | ⟨1, _⟩ => show win0_2.index t 1 * 1024 + 1 * k.val = _; rw [hi.2]; simp

theorem iblk3 (t : Fin cfg0.N) (r : Fin 512) (k : Fin 1024) :
    (iblk m c 3 t : Vec Ideal S512x1024 .f32) (ix2 r k) = a0 m c (ix2 (row t.val r) k) := by
  have hi := (by decide +kernel : ∀ t : Fin cfg0.N, win0_3.index t 0 = t.val % 4 ∧ win0_3.index t 1 = 0) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_3.index t 0 * 512 + 1 * r.val = (row t.val r).val; rw [hi.1, row_eq]; omega
  | ⟨1, _⟩ => show win0_3.index t 1 * 1024 + 1 * k.val = _; rw [hi.2]; simp

theorem iblk4 (t : Fin cfg0.N) (r : Fin 512) (k : Fin 1024) :
    (iblk m c 4 t : Vec Ideal S512x1024 .f32) (ix2 r k) = a1 m c (ix2 (row t.val r) k) := by
  have hi := (by decide +kernel : ∀ t : Fin cfg0.N, win0_4.index t 0 = t.val % 4 ∧ win0_4.index t 1 = 0) t
  rw [show a1 m c = V m c main_arg1 from (V_main_arg1 m c).symm]
  unfold iblk
  rw [View.read_apply]
  show V m c main_arg1 _ = V m c main_arg1 _
  congr 1
  funext a
  apply Fin.ext
  match a with
  | ⟨0, _⟩ => show win0_4.index t 0 * 512 + 1 * r.val = (row t.val r).val; rw [hi.1, row_eq]; omega
  | ⟨1, _⟩ => show win0_4.index t 1 * 1024 + 1 * k.val = _; rw [hi.2]; simp

theorem iblk5 (t : Fin cfg0.N) (r : Fin 512) (k : Fin 1024) :
    (iblk m c 5 t : Vec Ideal S512x1024 .f32) (ix2 r k) = a5 m c (ix2 (row t.val r) k) := by
  have hi := (by decide +kernel : ∀ t : Fin cfg0.N, win0_5.index t 0 = t.val % 4 ∧ win0_5.index t 1 = 0) t
  rw [show a5 m c = V m c main_arg5 from (V_main_arg5 m c).symm]
  unfold iblk
  rw [View.read_apply]
  show V m c main_arg5 _ = V m c main_arg5 _
  congr 1
  funext a
  apply Fin.ext
  match a with
  | ⟨0, _⟩ => show win0_5.index t 0 * 512 + 1 * r.val = (row t.val r).val; rw [hi.1, row_eq]; omega
  | ⟨1, _⟩ => show win0_5.index t 1 * 1024 + 1 * k.val = _; rw [hi.2]; simp

theorem iblk6 (t : Fin cfg0.N) (k : Fin 1024) :
    (iblk m c 6 t : Vec Ideal S1x1024 .f32) (ix2 0 k) = a2 m c (ix2 0 k) := by
  have hi := (by decide +kernel : ∀ t : Fin cfg0.N, win0_6.index t 0 = 0 ∧ win0_6.index t 1 = 0) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_6.index t 0 * 1 + 1 * (0 : Fin 1).val = _; rw [hi.1]; simp
  | ⟨1, _⟩ => show win0_6.index t 1 * 1024 + 1 * k.val = _; rw [hi.2]; simp

theorem iblk7 (t : Fin cfg0.N) (k : Fin 1024) :
    (iblk m c 7 t : Vec Ideal S1x1024 .f32) (ix2 0 k) = a3 m c (ix2 0 k) := by
  have hi := (by decide +kernel : ∀ t : Fin cfg0.N, win0_7.index t 0 = 0 ∧ win0_7.index t 1 = 0) t
  rw [show a3 m c = V m c main_arg3 from (V_main_arg3 m c).symm]
  unfold iblk
  rw [View.read_apply]
  show V m c main_arg3 _ = V m c main_arg3 _
  congr 1
  funext a
  apply Fin.ext
  match a with
  | ⟨0, _⟩ => show win0_7.index t 0 * 1 + 1 * (0 : Fin 1).val = _; rw [hi.1]; simp
  | ⟨1, _⟩ => show win0_7.index t 1 * 1024 + 1 * k.val = _; rw [hi.2]; simp

theorem sum_halves (g : Fin 5632 → EReal) :
    (∑ k : Fin 2816, g ⟨k.val, by omega⟩) + (∑ k : Fin 2816, g ⟨2816 + k.val, by omega⟩) = ∑ k : Fin 5632, g k :=
  ((Fin.sum_univ_add (a := 2816) (b := 2816) g).trans rfl).symm

/-- The gradient of the second norm's result, as the reference has it, -/
abbrev dxn2 : Vec Ideal S2048x1024 .f32 := Cert.Reference2Ideal.Read.val_main_v36 (F := Ideal) (a4 m c) (a6 m c)

/-- the residual stream, -/
abbrev h1 : Vec Ideal S2048x1024 .f32 := Cert.Reference2Ideal.Read.val_main_v17 (F := Ideal) (a0 m c) (a1 m c) (a2 m c)

/-- and its gradient. -/
abbrev dx : Vec Ideal S2048x1024 .f32 := Cert.Reference2Ideal.Read.val_main_v57 (F := Ideal) (a0 m c) (a1 m c) (a2 m c) (a3 m c) (a4 m c) (a5 m c) (a6 m c)

/-- The same of a tile, as a point has them. -/
abbrev bd (t : Fin cfg0.N) : FVec Ideal S512x1024 .f32 := dn (F := Ideal) (iblk m c 0 t) (iblk m c 1 t) (iblk m c 2 t)
abbrev bh (t : Fin cfg0.N) : FVec Ideal S512x1024 .f32 := k0_pay11 (F := Ideal) (iblk m c 6 t) (iblk m c 3 t) (iblk m c 4 t)
abbrev bq (t : Fin cfg0.N) : FVec Ideal S512x1 .f32 := k0_pay12 (F := Ideal) (iblk m c 6 t) (iblk m c 3 t) (iblk m c 4 t)
abbrev bx (t : Fin cfg0.N) : FVec Ideal S512x1024 .f32 := dh (F := Ideal) (bd m c t) (iblk m c 7 t) (bh m c t) (bq m c t) (iblk m c 5 t)

theorem bd_at (t : Fin cfg0.N) (r : Fin 512) (n : Fin 1024) : bd m c t (ix2 r n) = dxn2 m c (ix2 (row t.val r) n) := by
  refine (dn_at _ _ _ r n).trans (Eq.trans ?_ (ref36_at _ _ _ n).symm)
  rw [← sum_halves (fun k => a6 m c (ix2 (row t.val r) k) * a4 m c (ix2 n k))]
  refine congrArg₂ (· + ·) ?_ ?_
  · exact Finset.sum_congr rfl fun k _ => by rw [iblk0, iblk2, V1, V4]
  · exact Finset.sum_congr rfl fun k _ => by rw [iblk1, iblk2, V2, V4]

theorem bh_at (t : Fin cfg0.N) (r : Fin 512) (n : Fin 1024) : bh m c t (ix2 r n) = h1 m c (ix2 (row t.val r) n) := by
  refine (pay11_at _ _ _ r n).trans (Eq.trans ?_ (ref17_at _ _ _ _ n).symm)
  simp only [iblk6, iblk3, iblk4]

theorem bq_at (t : Fin cfg0.N) : Sq (bh m c t) (bq m c t) := fun r => pay12_at _ _ _ r

theorem bx_at (t : Fin cfg0.N) (r : Fin 512) (n : Fin 1024) : bx m c t (ix2 r n) = dx m c (ix2 (row t.val r) n) := by
  refine (dh_at _ _ _ _ _ (bq_at m c t) r n).trans (Eq.trans ?_ (ref57_at _ _ _ _ _ _ _ _ n).symm)
  simp only [bd_at, bh_at, iblk5, iblk7]

/-- A row's part of the gradient of the first norm's weights. -/
def postPart (k : Nat) (r : Fin 512) (n : Fin 1024) : EReal :=
  gradG (fun j => a1 m c (ix2 (row k r) j)) (fun j => dx m c (ix2 (row k r) j)) n

theorem post_acc (t : Fin cfg0.N) (acc : Vec Ideal S1x1024 .f32) (n : Fin 1024) :
    k0_pay3 (F := Ideal) (dgPost (bd m c t) (iblk m c 7 t) (k0_pay10 (iblk m c 4 t)) (bh m c t) (bq m c t) (iblk m c 5 t)) acc (ix2 0 n)
      = acc (ix2 0 n) + ∑ r : Fin 512, postPart m c t.val r n := by
  refine (pay3_at _ acc n).trans (congrArg (acc (ix2 0 n) + ·) ((dgPost_at _ _ _ _ _ _ n).trans ?_))
  refine Finset.sum_congr rfl fun r _ => ?_
  have e : ∀ k, bx m c t (ix2 r k) = dx m c (ix2 (row t.val r) k) := bx_at m c t r
  simp only [e, iblk4]
  rfl

/-- The sums after point `n`: those of the tiles so far. -/
theorem post_sum (n : ℕ) (hn : n < cfg0.N) (q : Fin 1024) :
    (outsAt0 m c n hn).1 (ix2 0 q) = ∑ k ∈ Finset.range (n + 1), ∑ r : Fin 512, postPart m c k r q := by
  have hN : cfg0.N = 4 := N_0
  induction n with
  | zero =>
    have e := outsAt0_A m c ⟨0, hn⟩ (Nat.zero_mod 4)
    rw [e, outA_8]
    refine (post_acc m c ⟨0, hn⟩ _ q).trans ?_
    rw [pay1_at, zero_add, Finset.sum_range_one]
  | succ n ih =>
    have h0 : ¬ (n + 1) % 4 = 0 := by omega
    have e := outsAt0_B m c ⟨n + 1, hn⟩ h0
    rw [e, outB_8]
    refine (post_acc m c ⟨n + 1, hn⟩ _ q).trans ?_
    rw [Finset.sum_range_succ _ (n + 1)]
    exact congrArg (· + _) (ih (by omega))

/-- A row's part of the gradient of the second norm's weights. -/
def prePart (k : Nat) (r : Fin 512) (n : Fin 1024) : EReal :=
  gradG (fun j => h1 m c (ix2 (row k r) j)) (fun j => dxn2 m c (ix2 (row k r) j)) n

theorem pre_acc (t : Fin cfg0.N) (acc : Vec Ideal S1x1024 .f32) (n : Fin 1024) :
    k0_pay4 (F := Ideal) (dgPre (bd m c t) (bh m c t) (bq m c t)) acc (ix2 0 n)
      = acc (ix2 0 n) + ∑ r : Fin 512, prePart m c t.val r n := by
  refine (pay4_at _ acc n).trans (congrArg (acc (ix2 0 n) + ·) ((dgPre_at _ _ _ (bq_at m c t) n).trans ?_))
  refine Finset.sum_congr rfl fun r _ => ?_
  skip
  simp only [bd_at, bh_at]
  rfl

/-- The sums after point `n`: those of the tiles so far. -/
theorem pre_sum (n : ℕ) (hn : n < cfg0.N) (q : Fin 1024) :
    (outsAt0 m c n hn).2.1 (ix2 0 q) = ∑ k ∈ Finset.range (n + 1), ∑ r : Fin 512, prePart m c k r q := by
  have hN : cfg0.N = 4 := N_0
  induction n with
  | zero =>
    have e := outsAt0_A m c ⟨0, hn⟩ (Nat.zero_mod 4)
    rw [e, outA_9]
    refine (pre_acc m c ⟨0, hn⟩ _ q).trans ?_
    rw [pay2_at, zero_add, Finset.sum_range_one]
  | succ n ih =>
    have h0 : ¬ (n + 1) % 4 = 0 := by omega
    have e := outsAt0_B m c ⟨n + 1, hn⟩ h0
    rw [e, outB_9]
    refine (pre_acc m c ⟨n + 1, hn⟩ _ q).trans ?_
    rw [Finset.sum_range_succ _ (n + 1)]
    exact congrArg (· + _) (ih (by omega))

theorem dx_at (t : Fin cfg0.N) (r : Fin 512) (n : Fin 1024) :
    (outsAt0 m c t.val t.isLt).2.2.1 (ix2 r n) = dx m c (ix2 (row t.val r) n) := by
  have key : bx m c t (ix2 r n) = dx m c (ix2 (row t.val r) n) := by
    exact bx_at m c t r n
  by_cases h0 : t.val % 4 = 0
  · rw [outsAt0_A m c t h0, outA_10]; exact key
  · rw [outsAt0_B m c t h0, outB_10]; exact key

theorem dmix_row (t : Fin cfg0.N) (r : Fin 512) (n : Fin 1024) :
    (outsAt0 m c t.val t.isLt).2.2.2 (ix2 r n) = Cert.Reference2Ideal.Read.val_main_v81 (F := Ideal) (a0 m c) (a1 m c) (a2 m c) (a3 m c) (a4 m c) (a5 m c) (a6 m c) (ix2 (row t.val r) n) := by
  have key : dmix (F := Ideal) (bd m c t) (iblk m c 6 t) (iblk m c 7 t) (iblk m c 4 t) (bh m c t) (bq m c t) (iblk m c 5 t) (ix2 r n) = Cert.Reference2Ideal.Read.val_main_v81 (F := Ideal) (a0 m c) (a1 m c) (a2 m c) (a3 m c) (a4 m c) (a5 m c) (a6 m c) (ix2 (row t.val r) n) := by
    refine (dmix_at _ _ _ _ _ _ _ r n).trans (Eq.trans ?_ (ref81_at _ _ _ _ _ _ _ _ n).symm)
    have e : ∀ k, bx m c t (ix2 r k) = dx m c (ix2 (row t.val r) k) := bx_at m c t r
    simp only [e, iblk4, iblk6]
  by_cases h0 : t.val % 4 = 0
  · rw [outsAt0_A m c t h0, outA_11]; exact key
  · rw [outsAt0_B m c t h0, outB_11]; exact key

/-! ## The result arrays -/

theorem idx8 (t : Fin cfg0.N) : win0_8.index t 0 = 0 ∧ win0_8.index t 1 = 0 :=
  (by decide +kernel : ∀ t : Fin cfg0.N, win0_8.index t 0 = 0 ∧ win0_8.index t 1 = 0) t

theorem flushed_8 (t : Fin cfg0.N) (hf : (cfg0.win 8).flush t = true) :
    (dats m 0 c).flushed 8 t = ((cfg0.win 8).blk t).view.read (Elt Ideal) (Cert.Reference2Ideal.Read.val_main_v80 (F := Ideal) (a0 m c) (a1 m c) (a2 m c) (a3 m c) (a4 m c) (a5 m c) (a6 m c)) := by
  have h7 := (flush0_8 t).mp hf
  have hN := lt4 t
  rw [Cert.Kernel2Ideal.Value.flushed8 m c t]
  have hi := idx8 t
  funext j
  rw [View.read_apply]
  obtain ⟨p, q, rfl⟩ : ∃ (p : Fin 1) (q : Fin 1024), j = ix2 p q := ⟨j 0, j 1, eq_ix2 j⟩
  obtain rfl : p = 0 := Subsingleton.elim _ _
  have h2 : ∀ (X : Vec Ideal S1x1024 .f32), (cfg0.win 8).cut (grid0.coords t) X (ix2 0 q) = X (ix2 0 q) := fun _ => rfl
  refine (h2 _).trans ?_
  have he : (((cfg0.win 8).blk t).view.emb (ix2 0 q) : S1x1024.Idx) = ix2 0 q := by
    funext a
    apply Fin.ext
    match a with
    | ⟨0, _⟩ => show win0_8.index t 0 * 1 + 1 * (0 : Fin 1).val = _; rw [hi.1]; simp
    | ⟨1, _⟩ => show win0_8.index t 1 * 1024 + 1 * q.val = _; rw [hi.2]; simp
  rw [he, post_sum, show t.val = 3 by omega]
  refine Eq.trans ?_ (ref80_at _ _ _ _ _ _ _ q).symm
  exact sum_tiles 4 512 (by omega) fun s => gradG (fun j => a1 m c (ix2 s j)) (fun j => dx m c (ix2 s j)) q

theorem final_8 : (dats m 0 c).arrAt 8 cfg0.N = Cert.Reference2Ideal.Read.val_main_v80 (F := Ideal) (a0 m c) (a1 m c) (a2 m c) (a3 m c) (a4 m c) (a5 m c) (a6 m c) :=
  (dats m 0 c).arrAt_eq_of_cover 8 _ (flushed_8 m c) fun i => by
    have h0 : (i 0 : Nat) < 1 := (i 0).isLt
    have h1 : (i 1 : Nat) < 1024 := (i 1).isLt
    have hN : cfg0.N = 4 := N_0
    let t : Fin cfg0.N := ⟨3, by omega⟩
    have hi := idx8 t
    refine ⟨t, (flush0_8 t).mpr rfl, ?_⟩
    show i ∈ ((View.whole main_v5_0).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [hi.1]; omega
    | ⟨1, _⟩ =>
      show win0_8.index t 1 * 1024 ≤ (i 1 : Nat) ∧ (i 1 : Nat) < win0_8.index t 1 * 1024 + 1024
      rw [hi.2]; omega

theorem idx9 (t : Fin cfg0.N) : win0_9.index t 0 = 0 ∧ win0_9.index t 1 = 0 :=
  (by decide +kernel : ∀ t : Fin cfg0.N, win0_9.index t 0 = 0 ∧ win0_9.index t 1 = 0) t

theorem flushed_9 (t : Fin cfg0.N) (hf : (cfg0.win 9).flush t = true) :
    (dats m 0 c).flushed 9 t = ((cfg0.win 9).blk t).view.read (Elt Ideal) (Cert.Reference2Ideal.Read.val_main_v58 (F := Ideal) (a0 m c) (a1 m c) (a2 m c) (a4 m c) (a6 m c)) := by
  have h7 := (flush0_9 t).mp hf
  have hN := lt4 t
  rw [Cert.Kernel2Ideal.Value.flushed9 m c t]
  have hi := idx9 t
  funext j
  rw [View.read_apply]
  obtain ⟨p, q, rfl⟩ : ∃ (p : Fin 1) (q : Fin 1024), j = ix2 p q := ⟨j 0, j 1, eq_ix2 j⟩
  obtain rfl : p = 0 := Subsingleton.elim _ _
  have h2 : ∀ (X : Vec Ideal S1x1024 .f32), (cfg0.win 9).cut (grid0.coords t) X (ix2 0 q) = X (ix2 0 q) := fun _ => rfl
  refine (h2 _).trans ?_
  have he : (((cfg0.win 9).blk t).view.emb (ix2 0 q) : S1x1024.Idx) = ix2 0 q := by
    funext a
    apply Fin.ext
    match a with
    | ⟨0, _⟩ => show win0_9.index t 0 * 1 + 1 * (0 : Fin 1).val = _; rw [hi.1]; simp
    | ⟨1, _⟩ => show win0_9.index t 1 * 1024 + 1 * q.val = _; rw [hi.2]; simp
  rw [he, pre_sum, show t.val = 3 by omega]
  refine Eq.trans ?_ (ref58_at _ _ _ _ _ q).symm
  exact sum_tiles 4 512 (by omega) fun s => gradG (fun j => h1 m c (ix2 s j)) (fun j => dxn2 m c (ix2 s j)) q

theorem final_9 : (dats m 0 c).arrAt 9 cfg0.N = Cert.Reference2Ideal.Read.val_main_v58 (F := Ideal) (a0 m c) (a1 m c) (a2 m c) (a4 m c) (a6 m c) :=
  (dats m 0 c).arrAt_eq_of_cover 9 _ (flushed_9 m c) fun i => by
    have h0 : (i 0 : Nat) < 1 := (i 0).isLt
    have h1 : (i 1 : Nat) < 1024 := (i 1).isLt
    have hN : cfg0.N = 4 := N_0
    let t : Fin cfg0.N := ⟨3, by omega⟩
    have hi := idx9 t
    refine ⟨t, (flush0_9 t).mpr rfl, ?_⟩
    show i ∈ ((View.whole main_v5_1).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + 1
      rw [hi.1]; omega
    | ⟨1, _⟩ =>
      show win0_9.index t 1 * 1024 ≤ (i 1 : Nat) ∧ (i 1 : Nat) < win0_9.index t 1 * 1024 + 1024
      rw [hi.2]; omega

theorem idx10 (t : Fin cfg0.N) : win0_10.index t 0 = t.val % 4 ∧ win0_10.index t 1 = 0 :=
  (by decide +kernel : ∀ t : Fin cfg0.N, win0_10.index t 0 = t.val % 4 ∧ win0_10.index t 1 = 0) t

theorem flushed_10 (t : Fin cfg0.N) (hf : (cfg0.win 10).flush t = true) :
    (dats m 0 c).flushed 10 t = ((cfg0.win 10).blk t).view.read (Elt Ideal) (Cert.Reference2Ideal.Read.val_main_v57 (F := Ideal) (a0 m c) (a1 m c) (a2 m c) (a3 m c) (a4 m c) (a5 m c) (a6 m c)) := by
  rw [Cert.Kernel2Ideal.Value.flushed10 m c t]
  have hi := idx10 t
  funext j
  rw [View.read_apply]
  obtain ⟨p, q, rfl⟩ : ∃ (p : Fin 512) (q : Fin 1024), j = ix2 p q := ⟨j 0, j 1, eq_ix2 j⟩
  have h2 : ∀ (X : Vec Ideal S512x1024 .f32), (cfg0.win 10).cut (grid0.coords t) X (ix2 p q) = X (ix2 p q) := fun _ => rfl
  refine (h2 _).trans ?_
  have he : (((cfg0.win 10).blk t).view.emb (ix2 p q) : S2048x1024.Idx) = ix2 (row t.val p) q := by
    funext a
    apply Fin.ext
    match a with
    | ⟨0, _⟩ => show win0_10.index t 0 * 512 + 1 * p.val = (row t.val p).val; rw [hi.1, row_eq]; omega
    | ⟨1, _⟩ => show win0_10.index t 1 * 1024 + 1 * q.val = _; rw [hi.2]; simp
  rw [he]
  exact dx_at m c t p q

theorem final_10 : (dats m 0 c).arrAt 10 cfg0.N = Cert.Reference2Ideal.Read.val_main_v57 (F := Ideal) (a0 m c) (a1 m c) (a2 m c) (a3 m c) (a4 m c) (a5 m c) (a6 m c) :=
  (dats m 0 c).arrAt_eq_of_cover 10 _ (flushed_10 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx10 t
    refine ⟨t, flush0_10 t, ?_⟩
    show i ∈ ((View.whole main_v5_2).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [hi.1]; omega
    | ⟨1, _⟩ =>
      show win0_10.index t 1 * 1024 ≤ (i 1 : Nat) ∧ (i 1 : Nat) < win0_10.index t 1 * 1024 + 1024
      rw [hi.2]; omega

theorem idx11 (t : Fin cfg0.N) : win0_11.index t 0 = t.val % 4 ∧ win0_11.index t 1 = 0 :=
  (by decide +kernel : ∀ t : Fin cfg0.N, win0_11.index t 0 = t.val % 4 ∧ win0_11.index t 1 = 0) t

theorem flushed_11 (t : Fin cfg0.N) (hf : (cfg0.win 11).flush t = true) :
    (dats m 0 c).flushed 11 t = ((cfg0.win 11).blk t).view.read (Elt Ideal) (Cert.Reference2Ideal.Read.val_main_v81 (F := Ideal) (a0 m c) (a1 m c) (a2 m c) (a3 m c) (a4 m c) (a5 m c) (a6 m c)) := by
  rw [Cert.Kernel2Ideal.Value.flushed11 m c t]
  have hi := idx11 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 11).cut (grid0.coords t) X (ix2 p q) = X (ix2 p q) := fun _ => rfl
  refine (h2 _).trans ?_
  have he : (((cfg0.win 11).blk t).view.emb (ix2 p q) : S2048x1024.Idx) = ix2 (row t.val p) q := by
    funext a
    apply Fin.ext
    match a with
    | ⟨0, _⟩ => show win0_11.index t 0 * 512 + 1 * p.val = (row t.val p).val; rw [hi.1, row_eq]; omega
    | ⟨1, _⟩ => show win0_11.index t 1 * 1024 + 1 * q.val = _; rw [hi.2]; simp
  rw [he]
  exact dmix_row m c t p q

theorem final_11 : (dats m 0 c).arrAt 11 cfg0.N = Cert.Reference2Ideal.Read.val_main_v81 (F := Ideal) (a0 m c) (a1 m c) (a2 m c) (a3 m c) (a4 m c) (a5 m c) (a6 m c) :=
  (dats m 0 c).arrAt_eq_of_cover 11 _ (flushed_11 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx11 t
    refine ⟨t, flush0_11 t, ?_⟩
    show i ∈ ((View.whole main_v5_3).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [hi.1]; omega
    | ⟨1, _⟩ =>
      show win0_11.index t 1 * 1024 ≤ (i 1 : Nat) ∧ (i 1 : Nat) < win0_11.index t 1 * 1024 + 1024
      rw [hi.2]; omega

end Cert.Proof.Post1

end
-- ==== Proof.Post1Claim.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Post1
public import Idealize.ShloMosaic.Lib.Claim

@[expose] public section

set_option maxRecDepth 16384

noncomputable section

/-! The claims about the kernel of `post1_bwd` and its reference. -/

namespace Cert.Proof.Post1

open Idealize.ShloMosaic Idealize.SL.Sem

attribute [local instance] Cert.Kernel2.Gen.facts Cert.Kernel2Ideal.Gen.facts Cert.Reference2Ideal.Gen.facts

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

theorem algebraic : Cert.algebraic_Kernel2Ideal_Reference2Ideal := by
  intro m g m' g' _ hag
  refine ⟨fun c => Cert.Reference2Ideal.Read.val_main_v80 (F := Ideal) (a0 m c) (a1 m c) (a2 m c) (a3 m c) (a4 m c) (a5 m c) (a6 m c),
    fun c => Cert.Reference2Ideal.Read.val_main_v58 (F := Ideal) (a0 m c) (a1 m c) (a2 m c) (a4 m c) (a6 m c),
    fun c => Cert.Reference2Ideal.Read.val_main_v57 (F := Ideal) (a0 m c) (a1 m c) (a2 m c) (a3 m c) (a4 m c) (a5 m c) (a6 m c),
    fun c => Cert.Reference2Ideal.Read.val_main_v81 (F := Ideal) (a0 m c) (a1 m c) (a2 m c) (a3 m c) (a4 m c) (a5 m c) (a6 m c), ?_, ?_⟩
  · exact (θ_run Cert.Kernel2Ideal.defs _ _).mono
      (fun r h c => ⟨(h c).1.trans (final_8 m c), (h c).2.1.trans (final_9 m c), (h c).2.2.1.trans (final_10 m c), (h c).2.2.2.1.trans (final_11 m c), (h c).2.2.2.2⟩)
      (Cert.Kernel2Ideal.Value.run_blocks (F := Ideal) m g)
  · refine (θ_run Cert.Reference2Ideal.defs _ _).mono (fun r h c => ?_) (Cert.Reference2Ideal.Value.run (F := Ideal) m' g')
    obtain ⟨e0, e1, e2, e3, e4, e5, e6⟩ := hag c
    obtain ⟨h0, h1, h2, h3, hargs⟩ := h c
    rw [Cert.Reference2Ideal.Read.val_main_v80_eq, e0, e1, e2, e3, e4, e5, e6] at h0
    rw [Cert.Reference2Ideal.Read.val_main_v58_eq, e0, e1, e2, e4, e6] at h1
    rw [Cert.Reference2Ideal.Read.val_main_v57_eq, e0, e1, e2, e3, e4, e5, e6] at h2
    rw [Cert.Reference2Ideal.Read.val_main_v81_eq, e0, e1, e2, e3, e4, e5, e6] at h3
    exact ⟨h0, h1, h2, h3, hargs⟩

end Cert.Proof.Post1

end
-- ==== Proof.Pre1Out.lean ====
module

public import proofs.«01_k».proof.Proof.Gen.Kernel3Ideal.Frame
public import Idealize.ShloMosaic.Lib.Pipeline.Value
public import Idealize.ShloMosaic.Lib.Tactic

@[expose] public section

set_option maxRecDepth 16384

noncomputable section

/-! What one point of the kernel of `pre1_bwd` leaves, as its payloads of the point's blocks. -/

namespace Cert.Proof.Pre1

open Idealize.ShloMosaic Cert.Kernel3Ideal Cert.Kernel3Ideal.Gen

theorem hz : (![0, 0] : Fin 2 → Nat) = fun _ => 0 := funext fun a => by fin_cases a <;> rfl

variable {F : FTy → Type} [FloatOps F]

/-- The rows of the transposed weights that meet the first piece of the gradient, -/
def w0 (x : Vec F S9472x1024 .bf16) : Vec F S7424x1024 .bf16 :=
  View.ld x (Rect.unit (s := S9472x1024) ![0, 0] ![7424, 1024] inb_S9472x1024_S7424x1024_0_0)

/-- the second, -/
def w1 (x : Vec F S9472x1024 .bf16) : Vec F S1024x1024 .bf16 :=
  View.ld x (Rect.unit (s := S9472x1024) ![7424, 0] ![1024, 1024] inb_S9472x1024_S1024x1024_7424_0)

/-- and the third. -/
def w2 (x : Vec F S9472x1024 .bf16) : Vec F S1024x1024 .bf16 :=
  View.ld x (Rect.unit (s := S9472x1024) ![8448, 0] ![1024, 1024] inb_S9472x1024_S1024x1024_8448_0)

/-- At the first point the weights' gradient starts from zero, -/
theorem outA_8 (c : Dev nD) (i : grid0.Coords) (arg1 : Memref sig .tc .vmem S256x7424 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S9472x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S256x1024 .f32) (harg10 : arg10.IsWhole) (hc0)
    (x0 : Vec F S256x7424 .bf16) (x1 : Vec F S256x1024 .bf16) (x2 : Vec F S256x1024 .bf16) (x3 : Vec F S9472x1024 .bf16) (x4 : Vec F S256x1024 .f32) (x5 : Vec F S256x1024 .f32) (x6 : Vec F S1x1024 .f32) (x7 : Vec F S8x128 .f32) :
    out0_A_8 c i arg1 harg1 arg2 harg2 arg3 harg3 arg4 harg4 arg5 harg5 arg6 harg6 arg7 harg7 arg8 harg8 arg9 harg9 arg10 harg10 hc0 x0 x1 x2 x3 x4 x5 x6 x7 = k0_pay3 (k0_pay8 x0 (w0 x3) x1 (w1 x3) x2 (w2 x3) x4) k0_pay2 := by
  unfold out0_A_8
  rw [View.read_writes_junk_eq_canon]
  unfold kernelRun0_A
  dsimp only
  sl_unfold_words
  rw [View.canon_cons_unit_zero hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, harg10.read_unread, View.ld_unit_zero (S := S256x7424) hz, View.ld_unit_zero (S := S256x1024) hz, View.ld_unit_zero (S := S1x1024) hz, View.ld_unit_zero (S := S8x128) hz]
  rfl

/-- at a later one from what the point before left. -/
theorem outB_8 (c : Dev nD) (i : grid0.Coords) (arg1 : Memref sig .tc .vmem S256x7424 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S9472x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S256x1024 .f32) (harg10 : arg10.IsWhole) (hc0)
    (x0 : Vec F S256x7424 .bf16) (x1 : Vec F S256x1024 .bf16) (x2 : Vec F S256x1024 .bf16) (x3 : Vec F S9472x1024 .bf16) (x4 : Vec F S256x1024 .f32) (x5 : Vec F S256x1024 .f32) (x6 : Vec F S1x1024 .f32) (x7 : Vec F S8x128 .f32) (xo8 : Vec F S1x1024 .f32) :
    out0_B_8 c i arg1 harg1 arg2 harg2 arg3 harg3 arg4 harg4 arg5 harg5 arg6 harg6 arg7 harg7 arg8 harg8 arg9 harg9 arg10 harg10 hc0 x0 x1 x2 x3 x4 x5 x6 x7 xo8 = k0_pay3 (k0_pay8 x0 (w0 x3) x1 (w1 x3) x2 (w2 x3) x4) xo8 := by
  unfold out0_B_8
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x7424) hz, View.ld_unit_zero (S := S256x1024) hz, View.ld_unit_zero (S := S1x1024) hz, View.ld_unit_zero (S := S8x128) hz]
  rfl

/-- The rows' gradient is each point's own. -/
theorem outA_9 (c : Dev nD) (i : grid0.Coords) (arg1 : Memref sig .tc .vmem S256x7424 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S9472x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S256x1024 .f32) (harg10 : arg10.IsWhole) (hc0)
    (x0 : Vec F S256x7424 .bf16) (x1 : Vec F S256x1024 .bf16) (x2 : Vec F S256x1024 .bf16) (x3 : Vec F S9472x1024 .bf16) (x4 : Vec F S256x1024 .f32) (x5 : Vec F S256x1024 .f32) (x6 : Vec F S1x1024 .f32) (x7 : Vec F S8x128 .f32) :
    out0_A_9 c i arg1 harg1 arg2 harg2 arg3 harg3 arg4 harg4 arg5 harg5 arg6 harg6 arg7 harg7 arg8 harg8 arg9 harg9 arg10 harg10 hc0 x0 x1 x2 x3 x4 x5 x6 x7 = k0_pay1 (k0_pay4 x0 (w0 x3) x1 (w1 x3) x2 (w2 x3)) x6 x4 (k0_pay6 x4) (k0_pay7 x4) x5 := by
  unfold out0_A_9
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x7424) hz, View.ld_unit_zero (S := S256x1024) hz, View.ld_unit_zero (S := S1x1024) hz, View.ld_unit_zero (S := S8x128) hz]
  rfl

theorem outB_9 (c : Dev nD) (i : grid0.Coords) (arg1 : Memref sig .tc .vmem S256x7424 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S9472x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x128 .f32) (harg8 : arg8.IsWhole) (arg9 : Memref sig .tc .vmem S1x1024 .f32) (harg9 : arg9.IsWhole) (arg10 : Memref sig .tc .vmem S256x1024 .f32) (harg10 : arg10.IsWhole) (hc0)
    (x0 : Vec F S256x7424 .bf16) (x1 : Vec F S256x1024 .bf16) (x2 : Vec F S256x1024 .bf16) (x3 : Vec F S9472x1024 .bf16) (x4 : Vec F S256x1024 .f32) (x5 : Vec F S256x1024 .f32) (x6 : Vec F S1x1024 .f32) (x7 : Vec F S8x128 .f32) (xo8 : Vec F S1x1024 .f32) :
    out0_B_9 c i arg1 harg1 arg2 harg2 arg3 harg3 arg4 harg4 arg5 harg5 arg6 harg6 arg7 harg7 arg8 harg8 arg9 harg9 arg10 harg10 hc0 x0 x1 x2 x3 x4 x5 x6 x7 xo8 = k0_pay1 (k0_pay4 x0 (w0 x3) x1 (w1 x3) x2 (w2 x3)) x6 x4 (k0_pay6 x4) (k0_pay7 x4) x5 := by
  unfold out0_B_9
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x7424) hz, View.ld_unit_zero (S := S256x1024) hz, View.ld_unit_zero (S := S1x1024) hz, View.ld_unit_zero (S := S8x128) hz]
  rfl

end Cert.Proof.Pre1

end
-- ==== Proof.Pre1Pay.lean ====
module

public import proofs.«01_k».proof.Proof.Rows
public import proofs.«01_k».proof.Proof.Pre1Out
public import proofs.«01_k».proof.Proof.Gen.Reference3Ideal.Read

@[expose] public section

set_option maxRecDepth 16384

noncomputable section

/-! The payloads of the kernel of `pre1_bwd` and its reference's results, at an index. -/

namespace Cert.Proof.Pre1

open Idealize.ShloMosaic Cert.Proof.Rows

section kernel
open Cert.Kernel3Ideal Cert.Kernel3Ideal.Gen

theorem ld0 (x : Vec Ideal S9472x1024 .bf16) (k : Fin 7424) (n : Fin 1024) : w0 x (ix2 k n) = x (ix2 ⟨k.val, by omega⟩ n) := by
  unfold w0; pointwise
theorem ld1 (x : Vec Ideal S9472x1024 .bf16) (k : Fin 1024) (n : Fin 1024) : w1 x (ix2 k n) = x (ix2 ⟨7424 + k.val, by omega⟩ n) := by
  unfold w1; pointwise
theorem ld2 (x : Vec Ideal S9472x1024 .bf16) (k : Fin 1024) (n : Fin 1024) : w2 x (ix2 k n) = x (ix2 ⟨8448 + k.val, by omega⟩ n) := by
  unfold w2; pointwise

/-- The gradient of the normalised rows: three products, one for each piece. -/
theorem pay4_at (x0 : Vec Ideal S256x7424 .bf16) (x1 x2 : Vec Ideal S256x1024 .bf16) (x3 : Vec Ideal S9472x1024 .bf16) (r : Fin 256) (n : Fin 1024) :
    k0_pay4 (F := Ideal) x0 (w0 x3) x1 (w1 x3) x2 (w2 x3) (ix2 r n)
      = (∑ k : Fin 7424, x0 (ix2 r k) * x3 (ix2 ⟨k.val, by omega⟩ n)) + (∑ k : Fin 1024, x1 (ix2 r k) * x3 (ix2 ⟨7424 + k.val, by omega⟩ n))
        + (∑ k : Fin 1024, x2 (ix2 r k) * x3 (ix2 ⟨8448 + k.val, by omega⟩ n)) := by
  simp only [← ld0, ← ld1, ← ld2]
  generalize w0 x3 = a
  generalize w1 x3 = b
  generalize w2 x3 = c
  pointwise [k0_pay4]

theorem pay6_at (x : Vec Ideal S256x1024 .f32) (r : Fin 256) : k0_pay6 (F := Ideal) x (ix2 r 0) = rs (fun k => x (ix2 r k)) := by
  pointwise [k0_pay6, k0_pay5]; rfl

theorem pay7_at (x : Vec Ideal S256x1024 .f32) (r : Fin 256) : k0_pay7 (F := Ideal) x (ix2 r 0) = drs (fun k => x (ix2 r k)) := by
  pointwise [k0_pay7, k0_pay6, k0_pay5]; rfl

theorem pay1_at (d : FVec Ideal S256x1024 .f32) (g : Vec Ideal S1x1024 .f32) (x e : Vec Ideal S256x1024 .f32) (r : Fin 256) (n : Fin 1024) :
    k0_pay1 (F := Ideal) d g x (k0_pay6 x) (k0_pay7 x) e (ix2 r n)
      = e (ix2 r n) + gradX (fun k => x (ix2 r k)) (fun k => g (ix2 0 k)) (fun k => d (ix2 r k)) n := by
  have h6 := pay6_at x r
  have h7 := pay7_at x r
  revert h6 h7
  generalize k0_pay6 (F := Ideal) x = a
  generalize k0_pay7 (F := Ideal) x = b
  intro h6 h7
  pointwise [k0_pay1]
  rw [h6, Fin.sum_univ_one, h7]
  unfold gradX dms
  simp only [add_assoc]

theorem pay3_at (x0 : Vec Ideal S256x7424 .bf16) (x1 x2 : Vec Ideal S256x1024 .bf16) (a : Vec Ideal S7424x1024 .bf16) (b c : Vec Ideal S1024x1024 .bf16)
    (x : Vec Ideal S256x1024 .f32) (acc : Vec Ideal S1x1024 .f32) (n : Fin 1024) :
    k0_pay3 (F := Ideal) (k0_pay8 x0 a x1 b x2 c x) acc (ix2 0 n)
      = acc (ix2 0 n) + ∑ r : Fin 256, gradG (fun k => x (ix2 r k)) (fun k => k0_pay4 (F := Ideal) x0 a x1 b x2 c (ix2 r k)) n := by
  have h6 := pay6_at x
  unfold k0_pay8
  revert h6
  generalize k0_pay6 (F := Ideal) x = p
  generalize k0_pay4 (F := Ideal) x0 a x1 b x2 c = q
  intro h6
  pointwise [k0_pay3]
  simp only [h6]
  rfl

theorem pay2_at (n : Fin 1024) : k0_pay2 (F := Ideal) (ix2 0 n) = 0 := by
  pointwise [k0_pay2]
end kernel

section reference
open Cert.Reference3Ideal Cert.Reference3Ideal.Read

variable (x0 : Vec Ideal S2048x1024 .f32) (x1 : Vec Ideal S1x1024 .f32) (x2 : Vec Ideal S1024x9472 .f32) (x3 : Vec Ideal S2048x1024 .f32) (x4 : Vec Ideal S2048x9472 .f32)

theorem ref18_at (r : Fin 2048) (n : Fin 1024) : val_main_v18 (F := Ideal) x2 x4 (ix2 r n) = ∑ k : Fin 9472, x4 (ix2 r k) * x2 (ix2 n k) := by
  pointwise [val_main_v18]

/-- The reference's gradient of the rows, -/
theorem ref39_at (r : Fin 2048) (n : Fin 1024) :
    val_main_v39 (F := Ideal) x0 x1 x2 x3 x4 (ix2 r n)
      = x3 (ix2 r n) + gradX (fun k => x0 (ix2 r k)) (fun k => x1 (ix2 0 k)) (fun k => val_main_v18 (F := Ideal) x2 x4 (ix2 r k)) n := by
  generalize hd : val_main_v18 (F := Ideal) x2 x4 = d
  pointwise [val_main_v39, val_main_v38, val_main_v37, val_main_v36, val_main_v35, val_main_v34, val_main_v33, val_main_v32, val_main_v31, val_main_v30, val_main_v29, val_main_v28, val_main_v27, val_main_v26, val_main_v25, val_main_v23, val_main_v22, val_main_v14, val_main_v0, val_main_v1, val_main_v2, val_main_v3, val_main_v4, val_main_v5, val_main_v6, val_main_v7, val_main_v8, val_main_v9, val_main_v10, val_main_v11, val_main_cst, val_main_cst_0, val_main_cst_1, val_main_cst_2, val_main_cst_5, val_main_cst_6, val_main_cst_7]
  simp only [hd, Fin.sum_univ_one]
  unfold gradX dms drs rs ms
  simp only [add_assoc]

/-- and of the weights. -/
theorem ref40_at (n : Fin 1024) :
    val_main_v40 (F := Ideal) x0 x2 x4 (ix2 0 n)
      = ∑ r : Fin 2048, gradG (fun k => x0 (ix2 r k)) (fun k => val_main_v18 (F := Ideal) x2 x4 (ix2 r k)) n := by
  generalize hd : val_main_v18 (F := Ideal) x2 x4 = d
  pointwise [val_main_v40, val_main_v24, val_main_v21, val_main_v20, val_main_v19, val_main_v13, val_main_v12, val_main_v0, val_main_v1, val_main_v2, val_main_v3, val_main_v4, val_main_v5, val_main_v6, val_main_v7, val_main_v8, val_main_cst, val_main_cst_0, val_main_cst_1, val_main_cst_3, val_main_cst_4]
  simp only [hd, Fin.sum_univ_one]
  rfl
end reference

end Cert.Proof.Pre1

end
-- ==== Proof.Pre1.lean ====
module

public import proofs.«01_k».proof.Proof.Pre1Pay
public import proofs.«01_k».proof.Proof.Gen.Kernel3Ideal.Value

@[expose] public section

set_option maxRecDepth 16384

noncomputable section

/-! The result arrays of the kernel of `pre1_bwd` are its reference's. Point `t` takes rows `256 t` to `256 t + 255`. -/

namespace Cert.Proof.Pre1

open Idealize.ShloMosaic Idealize.ShloMosaic.TcCoe Cert.Kernel3Ideal Cert.Kernel3Ideal.Gen Cert.Proof.Rows

variable (m : (ℓ : Loc nD τ sig) → Buf (Elt Ideal) ℓ) (c : Dev nD)

/-- The arguments on a device, as arrays. -/
abbrev a0 : Vec Ideal S2048x1024 .f32 := m ((c : Thread nD τ).loc main_arg0)
abbrev a1 : Vec Ideal S1x1024 .f32 := m ((c : Thread nD τ).loc main_arg1)
abbrev a2 : Vec Ideal S1024x9472 .f32 := m ((c : Thread nD τ).loc main_arg2)
abbrev a3 : Vec Ideal S2048x1024 .f32 := m ((c : Thread nD τ).loc main_arg3)
abbrev a4 : Vec Ideal S2048x9472 .f32 := m ((c : Thread nD τ).loc main_arg4)

theorem V1 (k : Fin 2048) (n : Fin 7424) : (V m c main_v1 : Vec Ideal S2048x7424 .bf16) (ix2 k n) = a4 m c (ix2 k ⟨n.val, by omega⟩) := by
  have e : V m c main_v1 = extractStridedSlice S2048x7424 ![0, 0] (truncf .bf16 (a4 m c) bitsLt_bf16_f32 : FVec Ideal S2048x9472 .bf16) slices_S2048x9472_S2048x7424_0_0 := by
    unfold V; after_results
  rw [e]; generalize a4 m c = x; pointwise; try rfl

theorem V2 (k : Fin 2048) (n : Fin 1024) : (V m c main_v2 : Vec Ideal S2048x1024 .bf16) (ix2 k n) = a4 m c (ix2 k ⟨7424 + n.val, by omega⟩) := by
  have e : V m c main_v2 = extractStridedSlice S2048x1024 ![0, 7424] (truncf .bf16 (a4 m c) bitsLt_bf16_f32 : FVec Ideal S2048x9472 .bf16) slices_S2048x9472_S2048x1024_0_7424 := by
    unfold V; after_results
  rw [e]; generalize a4 m c = x; pointwise; try rfl

theorem V3 (k : Fin 2048) (n : Fin 1024) : (V m c main_v3 : Vec Ideal S2048x1024 .bf16) (ix2 k n) = a4 m c (ix2 k ⟨8448 + n.val, by omega⟩) := by
  have e : V m c main_v3 = extractStridedSlice S2048x1024 ![0, 8448] (truncf .bf16 (a4 m c) bitsLt_bf16_f32 : FVec Ideal S2048x9472 .bf16) slices_S2048x9472_S2048x1024_0_8448 := by
    unfold V; after_results
  rw [e]; generalize a4 m c = x; pointwise; try rfl

theorem V5 (k : Fin 9472) (n : Fin 1024) : (V m c main_v5 : Vec Ideal S9472x1024 .bf16) (ix2 k n) = a2 m c (ix2 n k) := by
  have e : V m c main_v5 = (truncf .bf16 (transpose S9472x1024 [1, 0] (a2 m c) transposes_S1024x9472_S9472x1024_1_0) bitsLt_bf16_f32 : FVec Ideal S9472x1024 .bf16) := by
    unfold V; after_results
  rw [e]; generalize a2 m c = x; pointwise

theorem lt8 (t : Fin cfg0.N) : t.val < 8 := lt_of_lt_of_eq t.isLt N_0

/-- Row `r` of tile `k`, in the whole arrays. -/
def row (k : Nat) (r : Fin 256) : Fin 2048 := Rows.row 8 256 (by omega) k r
theorem row_eq (k : Nat) (r : Fin 256) : (row k r).val = r.val + 256 * (k % 8) := rfl

theorem iblk0 (t : Fin cfg0.N) (r : Fin 256) (k : Fin 7424) :
    (iblk m c 0 t : Vec Ideal S256x7424 .bf16) (ix2 r k) = (V m c main_v1 : Vec Ideal S2048x7424 .bf16) (ix2 (row t.val r) k) := by
  have hi := (by decide +kernel : ∀ t : Fin cfg0.N, win0_0.index t 0 = t.val % 8 ∧ win0_0.index t 1 = 0) t
  unfold iblk
  rw [View.read_apply]
  show V m c main_v1 _ = V m c main_v1 _
  congr 1
  funext a
  apply Fin.ext
  match a with
  | ⟨0, _⟩ => show win0_0.index t 0 * 256 + 1 * r.val = (row t.val r).val; rw [hi.1, row_eq]; omega
  | ⟨1, _⟩ => show win0_0.index t 1 * 7424 + 1 * k.val = _; rw [hi.2]; simp

theorem iblk1 (t : Fin cfg0.N) (r : Fin 256) (k : Fin 1024) :
    (iblk m c 1 t : Vec Ideal S256x1024 .bf16) (ix2 r k) = (V m c main_v2 : Vec Ideal S2048x1024 .bf16) (ix2 (row t.val r) k) := by
  have hi := (by decide +kernel : ∀ t : Fin cfg0.N, win0_1.index t 0 = t.val % 8 ∧ win0_1.index t 1 = 0) t
  unfold iblk
  rw [View.read_apply]
  show V m c main_v2 _ = V m c main_v2 _
  congr 1
  funext a
  apply Fin.ext
  match a with
  | ⟨0, _⟩ => show win0_1.index t 0 * 256 + 1 * r.val = (row t.val r).val; rw [hi.1, row_eq]; omega
  | ⟨1, _⟩ => show win0_1.index t 1 * 1024 + 1 * k.val = _; rw [hi.2]; simp

theorem iblk2 (t : Fin cfg0.N) (r : Fin 256) (k : Fin 1024) :
    (iblk m c 2 t : Vec Ideal S256x1024 .bf16) (ix2 r k) = (V m c main_v3 : Vec Ideal S2048x1024 .bf16) (ix2 (row t.val r) k) := by
  have hi := (by decide +kernel : ∀ t : Fin cfg0.N, win0_2.index t 0 = t.val % 8 ∧ win0_2.index t 1 = 0) t
  unfold iblk
  rw [View.read_apply]
  show V m c main_v3 _ = V m c main_v3 _
  congr 1
  funext a
  apply Fin.ext
  match a with
  | ⟨0, _⟩ => show win0_2.index t 0 * 256 + 1 * r.val = (row t.val r).val; rw [hi.1, row_eq]; omega
  | ⟨1, _⟩ => show win0_2.index t 1 * 1024 + 1 * k.val = _; rw [hi.2]; simp

theorem iblk3 (t : Fin cfg0.N) (k : Fin 9472) (n : Fin 1024) :
    (iblk m c 3 t : Vec Ideal S9472x1024 .bf16) (ix2 k n) = (V m c main_v5 : Vec Ideal S9472x1024 .bf16) (ix2 k n) := by
  have hi := (by decide +kernel : ∀ t : Fin cfg0.N, win0_3.index t 0 = 0 ∧ win0_3.index t 1 = 0) t
  unfold iblk
  rw [View.read_apply]
  show V m c main_v5 _ = V m c main_v5 _
  congr 1
  funext a
  apply Fin.ext
  match a with
  | ⟨0, _⟩ => show win0_3.index t 0 * 9472 + 1 * k.val = _; rw [hi.1]; simp
  | ⟨1, _⟩ => show win0_3.index t 1 * 1024 + 1 * n.val = _; rw [hi.2]; simp

theorem iblk4 (t : Fin cfg0.N) (r : Fin 256) (k : Fin 1024) :
    (iblk m c 4 t : Vec Ideal S256x1024 .f32) (ix2 r k) = a0 m c (ix2 (row t.val r) k) := by
  have hi := (by decide +kernel : ∀ t : Fin cfg0.N, win0_4.index t 0 = t.val % 8 ∧ win0_4.index t 1 = 0) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_4.index t 0 * 256 + 1 * r.val = (row t.val r).val; rw [hi.1, row_eq]; omega
  | ⟨1, _⟩ => show win0_4.index t 1 * 1024 + 1 * k.val = _; rw [hi.2]; simp

theorem iblk5 (t : Fin cfg0.N) (r : Fin 256) (k : Fin 1024) :
    (iblk m c 5 t : Vec Ideal S256x1024 .f32) (ix2 r k) = a3 m c (ix2 (row t.val r) k) := by
  have hi := (by decide +kernel : ∀ t : Fin cfg0.N, win0_5.index t 0 = t.val % 8 ∧ win0_5.index t 1 = 0) t
  rw [show a3 m c = V m c main_arg3 from (V_main_arg3 m c).symm]
  unfold iblk
  rw [View.read_apply]
  show V m c main_arg3 _ = V m c main_arg3 _
  congr 1
  funext a
  apply Fin.ext
  match a with
  | ⟨0, _⟩ => show win0_5.index t 0 * 256 + 1 * r.val = (row t.val r).val; rw [hi.1, row_eq]; omega
  | ⟨1, _⟩ => show win0_5.index t 1 * 1024 + 1 * k.val = _; rw [hi.2]; simp

theorem iblk6 (t : Fin cfg0.N) (k : Fin 1024) :
    (iblk m c 6 t : Vec Ideal S1x1024 .f32) (ix2 0 k) = a1 m c (ix2 0 k) := by
  have hi := (by decide +kernel : ∀ t : Fin cfg0.N, win0_6.index t 0 = 0 ∧ win0_6.index t 1 = 0) t
  rw [show a1 m c = V m c main_arg1 from (V_main_arg1 m c).symm]
  unfold iblk
  rw [View.read_apply]
  show V m c main_arg1 _ = V m c main_arg1 _
  congr 1
  funext a
  apply Fin.ext
  match a with
  | ⟨0, _⟩ => show win0_6.index t 0 * 1 + 1 * (0 : Fin 1).val = _; rw [hi.1]; simp
  | ⟨1, _⟩ => show win0_6.index t 1 * 1024 + 1 * k.val = _; rw [hi.2]; simp

/-- The gradient of the normalised rows, as the reference has it. -/
abbrev dxn : Vec Ideal S2048x1024 .f32 := Cert.Reference3Ideal.Read.val_main_v18 (F := Ideal) (a2 m c) (a4 m c)

/-- A point's three products make that gradient's rows. -/
theorem pay4_dxn (t : Fin cfg0.N) (r : Fin 256) (n : Fin 1024) :
    k0_pay4 (F := Ideal) (iblk m c 0 t) (w0 (iblk m c 3 t)) (iblk m c 1 t) (w1 (iblk m c 3 t)) (iblk m c 2 t) (w2 (iblk m c 3 t)) (ix2 r n)
      = dxn m c (ix2 (row t.val r) n) := by
  refine (pay4_at _ _ _ _ r n).trans (Eq.trans ?_ (ref18_at _ _ _ n).symm)
  rw [← sum_pieces (fun k => a4 m c (ix2 (row t.val r) k) * a2 m c (ix2 n k))]
  refine congrArg₂ (· + ·) (congrArg₂ (· + ·) ?_ ?_) ?_
  · exact Finset.sum_congr rfl fun k _ => by rw [iblk0, iblk3, V1, V5]
  · exact Finset.sum_congr rfl fun k _ => by rw [iblk1, iblk3, V2, V5]
  · exact Finset.sum_congr rfl fun k _ => by rw [iblk2, iblk3, V3, V5]

/-- A row's part of the weights' gradient. -/
def part (k : Nat) (r : Fin 256) (n : Fin 1024) : EReal :=
  gradG (fun j => a0 m c (ix2 (row k r) j)) (fun j => dxn m c (ix2 (row k r) j)) n

theorem acc_at (t : Fin cfg0.N) (acc : Vec Ideal S1x1024 .f32) (n : Fin 1024) :
    k0_pay3 (F := Ideal) (k0_pay8 (iblk m c 0 t) (w0 (iblk m c 3 t)) (iblk m c 1 t) (w1 (iblk m c 3 t)) (iblk m c 2 t) (w2 (iblk m c 3 t)) (iblk m c 4 t)) acc (ix2 0 n)
      = acc (ix2 0 n) + ∑ r : Fin 256, part m c t.val r n := by
  refine (pay3_at _ _ _ _ _ _ _ acc n).trans ?_
  simp only [pay4_dxn, iblk4]
  rfl

/-- The sums after point `n`: those of the tiles so far. -/
theorem sum_at (n : ℕ) (hn : n < cfg0.N) (q : Fin 1024) :
    (outsAt0 m c n hn).1 (ix2 0 q) = ∑ k ∈ Finset.range (n + 1), ∑ r : Fin 256, part m c k r q := by
  have hN : cfg0.N = 8 := N_0
  induction n with
  | zero =>
    have e := outsAt0_A m c ⟨0, hn⟩ (Nat.zero_mod 8)
    rw [e, outA_8]
    refine (acc_at m c ⟨0, hn⟩ _ q).trans ?_
    rw [pay2_at, zero_add, Finset.sum_range_one]
  | succ n ih =>
    have h0 : ¬ (n + 1) % 8 = 0 := by omega
    have e := outsAt0_B m c ⟨n + 1, hn⟩ h0
    rw [e, outB_8]
    refine (acc_at m c ⟨n + 1, hn⟩ _ q).trans ?_
    rw [Finset.sum_range_succ _ (n + 1)]
    exact congrArg (· + _) (ih (by omega))

/-- The rows a point leaves. -/
theorem dx_at (t : Fin cfg0.N) (r : Fin 256) (n : Fin 1024) :
    (outsAt0 m c t.val t.isLt).2 (ix2 r n)
      = Cert.Reference3Ideal.Read.val_main_v39 (F := Ideal) (a0 m c) (a1 m c) (a2 m c) (a3 m c) (a4 m c) (ix2 (row t.val r) n) := by
  have key : k0_pay1 (F := Ideal) (k0_pay4 (iblk m c 0 t) (w0 (iblk m c 3 t)) (iblk m c 1 t) (w1 (iblk m c 3 t)) (iblk m c 2 t) (w2 (iblk m c 3 t)))
      (iblk m c 6 t) (iblk m c 4 t) (k0_pay6 (iblk m c 4 t)) (k0_pay7 (iblk m c 4 t)) (iblk m c 5 t) (ix2 r n)
      = Cert.Reference3Ideal.Read.val_main_v39 (F := Ideal) (a0 m c) (a1 m c) (a2 m c) (a3 m c) (a4 m c) (ix2 (row t.val r) n) := by
    refine (pay1_at _ _ _ _ r n).trans (Eq.trans ?_ (ref39_at _ _ _ _ _ _ n).symm)
    simp only [pay4_dxn, iblk4, iblk5, iblk6]
  by_cases h0 : t.val % 8 = 0
  · rw [outsAt0_A m c t h0, outA_9]; exact key
  · rw [outsAt0_B m c t h0, outB_9]; exact key

/-! ## The result arrays -/

theorem idx8 (t : Fin cfg0.N) : win0_8.index t 0 = 0 ∧ win0_8.index t 1 = 0 :=
  (by decide +kernel : ∀ t : Fin cfg0.N, win0_8.index t 0 = 0 ∧ win0_8.index t 1 = 0) t

theorem flushed_8 (t : Fin cfg0.N) (hf : (cfg0.win 8).flush t = true) :
    (dats m 0 c).flushed 8 t = ((cfg0.win 8).blk t).view.read (Elt Ideal) (Cert.Reference3Ideal.Read.val_main_v40 (F := Ideal) (a0 m c) (a2 m c) (a4 m c)) := by
  have h7 := (flush0_8 t).mp hf
  have hN := lt8 t
  rw [Cert.Kernel3Ideal.Value.flushed8 m c t]
  have hi := idx8 t
  funext j
  rw [View.read_apply]
  obtain ⟨p, q, rfl⟩ : ∃ (p : Fin 1) (q : Fin 1024), j = ix2 p q := ⟨j 0, j 1, eq_ix2 j⟩
  obtain rfl : p = 0 := Subsingleton.elim _ _
  have h2 : ∀ (X : Vec Ideal S1x1024 .f32), (cfg0.win 8).cut (grid0.coords t) X (ix2 0 q) = X (ix2 0 q) := fun _ => rfl
  refine (h2 _).trans ?_
  have he : (((cfg0.win 8).blk t).view.emb (ix2 0 q) : S1x1024.Idx) = ix2 0 q := by
    funext a
    apply Fin.ext
    match a with
    | ⟨0, _⟩ => show win0_8.index t 0 * 1 + 1 * (0 : Fin 1).val = _; rw [hi.1]; simp
    | ⟨1, _⟩ => show win0_8.index t 1 * 1024 + 1 * q.val = _; rw [hi.2]; simp
  rw [he, sum_at, show t.val = 7 by omega]
  refine Eq.trans ?_ (ref40_at _ _ _ q).symm
  exact sum_tiles 8 256 (by omega) fun s => gradG (fun j => a0 m c (ix2 s j)) (fun j => dxn m c (ix2 s j)) q

theorem final_8 : (dats m 0 c).arrAt 8 cfg0.N = Cert.Reference3Ideal.Read.val_main_v40 (F := Ideal) (a0 m c) (a2 m c) (a4 m c) :=
  (dats m 0 c).arrAt_eq_of_cover 8 _ (flushed_8 m c) fun i => by
    have h0 : (i 0 : Nat) < 1 := (i 0).isLt
    have h1 : (i 1 : Nat) < 1024 := (i 1).isLt
    have hN : cfg0.N = 8 := N_0
    let t : Fin cfg0.N := ⟨7, by omega⟩
    have hi := idx8 t
    refine ⟨t, (flush0_8 t).mpr rfl, ?_⟩
    show i ∈ ((View.whole main_v7_0).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [hi.1]; omega
    | ⟨1, _⟩ =>
      show win0_8.index t 1 * 1024 ≤ (i 1 : Nat) ∧ (i 1 : Nat) < win0_8.index t 1 * 1024 + 1024
      rw [hi.2]; omega

theorem idx9 (t : Fin cfg0.N) : win0_9.index t 0 = t.val % 8 ∧ win0_9.index t 1 = 0 :=
  (by decide +kernel : ∀ t : Fin cfg0.N, win0_9.index t 0 = t.val % 8 ∧ win0_9.index t 1 = 0) t

theorem flushed_9 (t : Fin cfg0.N) (hf : (cfg0.win 9).flush t = true) :
    (dats m 0 c).flushed 9 t = ((cfg0.win 9).blk t).view.read (Elt Ideal)
      (Cert.Reference3Ideal.Read.val_main_v39 (F := Ideal) (a0 m c) (a1 m c) (a2 m c) (a3 m c) (a4 m c)) := by
  rw [Cert.Kernel3Ideal.Value.flushed9 m c t]
  have hi := idx9 t
  funext j
  rw [View.read_apply]
  obtain ⟨p, q, rfl⟩ : ∃ (p : Fin 256) (q : Fin 1024), j = ix2 p q := ⟨j 0, j 1, eq_ix2 j⟩
  have h2 : ∀ (X : Vec Ideal S256x1024 .f32), (cfg0.win 9).cut (grid0.coords t) X (ix2 p q) = X (ix2 p q) := fun _ => rfl
  refine (h2 _).trans ?_
  have he : (((cfg0.win 9).blk t).view.emb (ix2 p q) : S2048x1024.Idx) = ix2 (row t.val p) q := by
    funext a
    apply Fin.ext
    match a with
    | ⟨0, _⟩ => show win0_9.index t 0 * 256 + 1 * p.val = (row t.val p).val; rw [hi.1, row_eq]; omega
    | ⟨1, _⟩ => show win0_9.index t 1 * 1024 + 1 * q.val = _; rw [hi.2]; simp
  rw [he]
  exact dx_at m c t p q

theorem final_9 : (dats m 0 c).arrAt 9 cfg0.N
    = Cert.Reference3Ideal.Read.val_main_v39 (F := Ideal) (a0 m c) (a1 m c) (a2 m c) (a3 m c) (a4 m c) :=
  (dats m 0 c).arrAt_eq_of_cover 9 _ (flushed_9 m c) fun i => by
    have h0 : (i 0 : Nat) < 2048 := (i 0).isLt
    have h1 : (i 1 : Nat) < 1024 := (i 1).isLt
    have hN : cfg0.N = 8 := N_0
    let t : Fin cfg0.N := ⟨(i 0 : Nat) / 256, by omega⟩
    have ht : t.val = (i 0 : Nat) / 256 := rfl
    have hi := idx9 t
    refine ⟨t, flush0_9 t, ?_⟩
    show i ∈ ((View.whole main_v7_1).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [hi.1]; omega
    | ⟨1, _⟩ =>
      show win0_9.index t 1 * 1024 ≤ (i 1 : Nat) ∧ (i 1 : Nat) < win0_9.index t 1 * 1024 + 1024
      rw [hi.2]; omega

end Cert.Proof.Pre1

end
-- ==== Proof.Pre1Claim.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Pre1
public import Idealize.ShloMosaic.Lib.Claim

@[expose] public section

set_option maxRecDepth 16384

noncomputable section

/-! The claims about the kernel of `pre1_bwd` and its reference. -/

namespace Cert.Proof.Pre1

open Idealize.ShloMosaic Idealize.SL.Sem

attribute [local instance] Cert.Kernel3.Gen.facts Cert.Kernel3Ideal.Gen.facts Cert.Reference3Ideal.Gen.facts

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

theorem algebraic : Cert.algebraic_Kernel3Ideal_Reference3Ideal := by
  intro m g m' g' _ hag
  refine ⟨fun c => Cert.Reference3Ideal.Read.val_main_v40 (F := Ideal) (a0 m c) (a2 m c) (a4 m c),
    fun c => Cert.Reference3Ideal.Read.val_main_v39 (F := Ideal) (a0 m c) (a1 m c) (a2 m c) (a3 m c) (a4 m c), ?_, ?_⟩
  · exact (θ_run Cert.Kernel3Ideal.defs _ _).mono
      (fun r h c => ⟨(h c).1.trans (final_8 m c), (h c).2.1.trans (final_9 m c), (h c).2.2⟩)
      (Cert.Kernel3Ideal.Value.run_blocks (F := Ideal) m g)
  · refine (θ_run Cert.Reference3Ideal.defs _ _).mono (fun r h c => ?_) (Cert.Reference3Ideal.Value.run (F := Ideal) m' g')
    obtain ⟨e0, e1, e2, e3, e4⟩ := hag c
    obtain ⟨h0, h1, hargs⟩ := h c
    rw [Cert.Reference3Ideal.Read.val_main_v40_eq, e0, e2, e4] at h0
    rw [Cert.Reference3Ideal.Read.val_main_v39_eq, e0, e1, e2, e3, e4] at h1
    exact ⟨h0, h1, hargs⟩

end Cert.Proof.Pre1

end
-- ==== Proof.DwIn.lean ====
module

public import proofs.«01_k».proof.Proof.Gen.Kernel5Ideal.Value
public import proofs.«01_k».proof.Proof.Gen.Reference5Ideal.Read
public import Idealize.ShloMosaic.Lib.Pipeline.Value
public import Idealize.ShloMosaic.Lib.Tactic
public import Idealize.ShloMosaic.Lib.Pointwise

@[expose] public section

set_option maxRecDepth 16384

noncomputable section

/-! The kernel of `dw_in`: the weight gradient of the first projection, 256 rows a point, the rows taken from the
first, the second and the third piece of the projection's gradient in turn. -/

namespace Cert.Proof.DwIn

open Idealize.ShloMosaic Idealize.ShloMosaic.TcCoe Cert.Kernel5Ideal Cert.Kernel5Ideal.Gen

theorem hz : (![0, 0] : Fin 2 → Nat) = fun _ => 0 := funext fun a => by fin_cases a <;> rfl

section outs
variable {F : FTy → Type} [FloatOps F]

/-- A point of the first piece leaves the product of its block and the normalised input, -/
theorem out_A (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x1024 .bf16) (harg4 : arg4.IsWhole) (arg5 : Memref sig .tc .vmem S256x1024 .bf16) (harg5 : arg5.IsWhole) (hc0 hc1 hc2)
    (x0 x1 x2 : Vec F S2048x256 .bf16) (x3 : Vec F S2048x1024 .bf16) :
    out0_A_4 c i arg1 harg1 arg2 harg2 arg3 harg3 arg4 harg4 arg5 harg5 hc0 hc1 hc2 x0 x1 x2 x3 = k0_pay1 x0 x3 := by
  unfold out0_A_4
  rw [View.read_writes_junk_eq_canon]
  unfold kernelRun0_A
  dsimp only
  sl_unfold_words
  rw [View.canon_unit_zero hz]
  simp only [View.readAt_eq_ld, harg1.read_unread, harg2.read_unread, harg3.read_unread, harg4.read_unread, View.ld_unit_zero (S := S2048x256) hz, View.ld_unit_zero (S := S2048x1024) hz]

/-- a point of the second piece, -/
theorem out_B (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x1024 .bf16) (harg4 : arg4.IsWhole) (arg5 : Memref sig .tc .vmem S256x1024 .bf16) (harg5 : arg5.IsWhole) (hc0 hc1 hc2)
    (x0 x1 x2 : Vec F S2048x256 .bf16) (x3 : Vec F S2048x1024 .bf16) :
    out0_B_4 c i arg1 harg1 arg2 harg2 arg3 harg3 arg4 harg4 arg5 harg5 hc0 hc1 hc2 x0 x1 x2 x3 = k0_pay2 x1 x3 := by
  unfold out0_B_4
  rw [View.read_writes_junk_eq_canon]
  unfold kernelRun0_B
  dsimp only
  sl_unfold_words
  rw [View.canon_unit_zero hz]
  simp only [View.readAt_eq_ld, harg1.read_unread, harg2.read_unread, harg3.read_unread, harg4.read_unread, View.ld_unit_zero (S := S2048x256) hz, View.ld_unit_zero (S := S2048x1024) hz]

/-- and of the third. -/
theorem out_C (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x1024 .bf16) (harg4 : arg4.IsWhole) (arg5 : Memref sig .tc .vmem S256x1024 .bf16) (harg5 : arg5.IsWhole) (hc0 hc1 hc2)
    (x0 x1 x2 : Vec F S2048x256 .bf16) (x3 : Vec F S2048x1024 .bf16) :
    out0_C_4 c i arg1 harg1 arg2 harg2 arg3 harg3 arg4 harg4 arg5 harg5 hc0 hc1 hc2 x0 x1 x2 x3 = k0_pay3 x2 x3 := by
  unfold out0_C_4
  rw [View.read_writes_junk_eq_canon]
  unfold kernelRun0_C
  dsimp only
  sl_unfold_words
  rw [View.canon_unit_zero hz]
  simp only [View.readAt_eq_ld, harg1.read_unread, harg2.read_unread, harg3.read_unread, harg4.read_unread, View.ld_unit_zero (S := S2048x256) hz, View.ld_unit_zero (S := S2048x1024) hz]

end outs

variable (m : (ℓ : Loc nD τ sig) → Buf (Elt Ideal) ℓ) (c : Dev nD)

/-- The arguments read: the normalised input and the projection's gradient. -/
abbrev a0 : Vec Ideal S2048x1024 .f32 := m ((c : Thread nD τ).loc main_arg0)
abbrev a2 : Vec Ideal S2048x9472 .f32 := m ((c : Thread nD τ).loc main_arg2)

theorem V1 (k : Fin 2048) (n : Fin 7424) : (V m c main_v1 : Vec Ideal S2048x7424 .bf16) (ix2 k n) = a2 m c (ix2 k ⟨n.val, by omega⟩) := by
  have e : V m c main_v1 = extractStridedSlice S2048x7424 ![0, 0] (truncf .bf16 (a2 m c) bitsLt_bf16_f32 : FVec Ideal S2048x9472 .bf16) slices_S2048x9472_S2048x7424_0_0 := by
    unfold V; after_results
  rw [e]; generalize a2 m c = x; pointwise; try rfl

theorem V2 (k : Fin 2048) (n : Fin 1024) : (V m c main_v2 : Vec Ideal S2048x1024 .bf16) (ix2 k n) = a2 m c (ix2 k ⟨7424 + n.val, by omega⟩) := by
  have e : V m c main_v2 = extractStridedSlice S2048x1024 ![0, 7424] (truncf .bf16 (a2 m c) bitsLt_bf16_f32 : FVec Ideal S2048x9472 .bf16) slices_S2048x9472_S2048x1024_0_7424 := by
    unfold V; after_results
  rw [e]; generalize a2 m c = x; pointwise; try rfl

theorem V3 (k : Fin 2048) (n : Fin 1024) : (V m c main_v3 : Vec Ideal S2048x1024 .bf16) (ix2 k n) = a2 m c (ix2 k ⟨8448 + n.val, by omega⟩) := by
  have e : V m c main_v3 = extractStridedSlice S2048x1024 ![0, 8448] (truncf .bf16 (a2 m c) bitsLt_bf16_f32 : FVec Ideal S2048x9472 .bf16) slices_S2048x9472_S2048x1024_0_8448 := by
    unfold V; after_results
  rw [e]; generalize a2 m c = x; pointwise; try rfl

theorem V4 (k : Fin 2048) (n : Fin 1024) : (V m c main_v4 : Vec Ideal S2048x1024 .bf16) (ix2 k n) = a0 m c (ix2 k n) := by
  have e : V m c main_v4 = (truncf .bf16 (a0 m c) bitsLt_bf16_f32 : FVec Ideal S2048x1024 .bf16) := by
    unfold V; after_results
  rw [e]; rfl

/-- The block of the first piece a point reads, -/
theorem iblk0 (t : Fin cfg0.N) (ht : t.val < 29) (k : Fin 2048) (r : Fin 256) :
    (iblk m c 0 t : Vec Ideal S2048x256 .bf16) (ix2 k r) = (V m c main_v1 : Vec Ideal S2048x7424 .bf16) (ix2 k ⟨256 * t.val + r.val, by omega⟩) := by
  have hi := (by decide +kernel : ∀ t : Fin cfg0.N, t.val < 29 → win0_0.index t 0 = 0 ∧ win0_0.index t 1 = t.val) t ht
  unfold iblk
  rw [View.read_apply]
  show V m c main_v1 _ = V m c main_v1 _
  congr 1
  funext a
  apply Fin.ext
  match a with
  | ⟨0, _⟩ => show win0_0.index t 0 * 2048 + 1 * k.val = _; rw [hi.1]; simp
  | ⟨1, _⟩ => show win0_0.index t 1 * 256 + 1 * r.val = _; rw [hi.2]; simp; omega

/-- of the second, -/
theorem iblk1 (t : Fin cfg0.N) (h0 : 29 ≤ t.val) (ht : t.val < 33) (k : Fin 2048) (r : Fin 256) :
    (iblk m c 1 t : Vec Ideal S2048x256 .bf16) (ix2 k r) = (V m c main_v2 : Vec Ideal S2048x1024 .bf16) (ix2 k ⟨256 * (t.val - 29) + r.val, by omega⟩) := by
  have hi := (by decide +kernel : ∀ t : Fin cfg0.N, 29 ≤ t.val → t.val < 33 → win0_1.index t 0 = 0 ∧ win0_1.index t 1 = t.val - 29) t h0 ht
  unfold iblk
  rw [View.read_apply]
  show V m c main_v2 _ = V m c main_v2 _
  congr 1
  funext a
  apply Fin.ext
  match a with
  | ⟨0, _⟩ => show win0_1.index t 0 * 2048 + 1 * k.val = _; rw [hi.1]; simp
  | ⟨1, _⟩ => show win0_1.index t 1 * 256 + 1 * r.val = _; rw [hi.2]; simp; omega

theorem lt37 (t : Fin cfg0.N) : t.val < 37 := lt_of_lt_of_eq t.isLt N_0

/-- and of the third. -/
theorem iblk2 (t : Fin cfg0.N) (h0 : 33 ≤ t.val) (k : Fin 2048) (r : Fin 256) :
    (iblk m c 2 t : Vec Ideal S2048x256 .bf16) (ix2 k r) = (V m c main_v3 : Vec Ideal S2048x1024 .bf16) (ix2 k ⟨256 * (t.val - 33) + r.val, by have := lt37 t; omega⟩) := by
  have hi := (by decide +kernel : ∀ t : Fin cfg0.N, 33 ≤ t.val → win0_2.index t 0 = 0 ∧ win0_2.index t 1 = t.val - 33) t h0
  unfold iblk
  rw [View.read_apply]
  show V m c main_v3 _ = V m c main_v3 _
  congr 1
  funext a
  apply Fin.ext
  match a with
  | ⟨0, _⟩ => show win0_2.index t 0 * 2048 + 1 * k.val = _; rw [hi.1]; simp
  | ⟨1, _⟩ => show win0_2.index t 1 * 256 + 1 * r.val = _; rw [hi.2]; simp; omega

/-- The normalised input is read whole at every point. -/
theorem iblk3 (t : Fin cfg0.N) (k : Fin 2048) (n : Fin 1024) :
    (iblk m c 3 t : Vec Ideal S2048x1024 .bf16) (ix2 k n) = (V m c main_v4 : Vec Ideal S2048x1024 .bf16) (ix2 k n) := by
  have hi := (by decide +kernel : ∀ t : Fin cfg0.N, win0_3.index t 0 = 0 ∧ win0_3.index t 1 = 0) t
  unfold iblk
  rw [View.read_apply]
  show V m c main_v4 _ = V m c main_v4 _
  congr 1
  funext a
  apply Fin.ext
  match a with
  | ⟨0, _⟩ => show win0_3.index t 0 * 2048 + 1 * k.val = _; rw [hi.1]; simp
  | ⟨1, _⟩ => show win0_3.index t 1 * 1024 + 1 * n.val = _; rw [hi.2]; simp

theorem pay_at (x : Vec Ideal S2048x256 .bf16) (y : Vec Ideal S2048x1024 .bf16) (r : Fin 256) (n : Fin 1024) :
    k0_pay1 (F := Ideal) x y (ix2 r n) = ∑ k : Fin 2048, x (ix2 k r) * y (ix2 k n) := by
  pointwise [k0_pay1]

/-- The reference at an index. -/
theorem ref_at (x0 : Vec Ideal S2048x1024 .f32) (x2 : Vec Ideal S2048x9472 .f32) (r : Fin 9472) (n : Fin 1024) :
    Cert.Reference5Ideal.Read.val_main_v4 (F := Ideal) x0 x2 (ix2 r n) = ∑ k : Fin 2048, x2 (ix2 k r) * x0 (ix2 k n) := by
  pointwise [Cert.Reference5Ideal.Read.val_main_v4, Cert.Reference5Ideal.Read.val_main_v3, Cert.Reference5Ideal.Read.val_main_v2, Cert.Reference5Ideal.Read.val_main_v1]

theorem idx4 (t : Fin cfg0.N) : win0_4.index t 0 = t.val ∧ win0_4.index t 1 = 0 :=
  (by decide +kernel : ∀ t : Fin cfg0.N, win0_4.index t 0 = t.val ∧ win0_4.index t 1 = 0) t

/-- What a point leaves, at an index. -/
theorem outs_at (t : Fin cfg0.N) (r : Fin 256) (n : Fin 1024) :
    (outsAt0 m c t.val t.isLt : Vec Ideal S256x1024 .bf16) (ix2 r n)
      = ∑ k : Fin 2048, a2 m c (ix2 k ⟨256 * t.val + r.val, by have := lt37 t; omega⟩) * a0 m c (ix2 k n) := by
  have hN := lt37 t
  by_cases h0 : t.val < 29
  · rw [outsAt0_A m c t h0 (by omega) (by omega), out_A]
    refine (pay_at _ _ r n).trans (Finset.sum_congr rfl fun k _ => ?_)
    rw [iblk0 m c t h0, iblk3, V1, V4]
  · by_cases h1 : t.val < 33
    · rw [outsAt0_B m c t h0 (by omega) (by omega), out_B]
      refine (pay_at _ _ r n).trans (Finset.sum_congr rfl fun k _ => ?_)
      rw [iblk1 m c t (by omega) h1, iblk3, V2, V4]
      congr 3
      apply Fin.ext; show 7424 + (256 * (t.val - 29) + r.val) = 256 * t.val + r.val; omega
    · rw [outsAt0_C m c t h0 (by omega) (by omega), out_C]
      refine (pay_at _ _ r n).trans (Finset.sum_congr rfl fun k _ => ?_)
      rw [iblk2 m c t (by omega), iblk3, V3, V4]
      congr 3
      apply Fin.ext; show 8448 + (256 * (t.val - 33) + r.val) = 256 * t.val + r.val; omega

theorem flushed_4 (t : Fin cfg0.N) (_ : (cfg0.win 4).flush t = true) :
    (dats m 0 c).flushed 4 t = ((cfg0.win 4).blk t).view.read (Elt Ideal) (Cert.Reference5Ideal.Read.val_main_v4 (F := Ideal) (a0 m c) (a2 m c)) := by
  rw [Cert.Kernel5Ideal.Value.flushed4 m c t]
  have hi := idx4 t
  have hN := lt37 t
  funext j
  rw [View.read_apply]
  obtain ⟨p, q, rfl⟩ : ∃ (p : Fin 256) (q : Fin 1024), j = ix2 p q := ⟨j 0, j 1, eq_ix2 j⟩
  have h2 : ∀ (X : Vec Ideal S256x1024 .bf16), (cfg0.win 4).cut (grid0.coords t) X (ix2 p q) = X (ix2 p q) := fun _ => rfl
  refine (h2 _).trans ?_
  rw [outs_at]
  have he : (((cfg0.win 4).blk t).view.emb (ix2 p q) : S9472x1024.Idx) = ix2 ⟨256 * t.val + p.val, by omega⟩ q := by
    funext a
    apply Fin.ext
    match a with
    | ⟨0, _⟩ => show win0_4.index t 0 * 256 + 1 * p.val = _; rw [hi.1]; simp; omega
    | ⟨1, _⟩ => show win0_4.index t 1 * 1024 + 1 * q.val = _; rw [hi.2]; simp
  rw [he]
  exact (ref_at _ _ _ _).symm

/-- The result array is the reference's. -/
theorem final_4 : (dats m 0 c).arrAt 4 cfg0.N = Cert.Reference5Ideal.Read.val_main_v4 (F := Ideal) (a0 m c) (a2 m c) :=
  (dats m 0 c).arrAt_eq_of_cover 4 _ (flushed_4 m c) fun i => by
    have h0 : (i 0 : Nat) < 9472 := (i 0).isLt
    have h1 : (i 1 : Nat) < 1024 := (i 1).isLt
    have hN : cfg0.N = 37 := N_0
    let t : Fin cfg0.N := ⟨(i 0 : Nat) / 256, by omega⟩
    have ht : t.val = (i 0 : Nat) / 256 := rfl
    have hi := idx4 t
    refine ⟨t, flush0_4 t, ?_⟩
    show i ∈ ((View.whole main_v5).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + 256
      rw [hi.1]; omega
    | ⟨1, _⟩ =>
      show win0_4.index t 1 * 1024 ≤ (i 1 : Nat) ∧ (i 1 : Nat) < win0_4.index t 1 * 1024 + 1024
      rw [hi.2]; omega

end Cert.Proof.DwIn

end
-- ==== Proof.DwInClaim.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.DwIn
public import Idealize.ShloMosaic.Lib.Claim

@[expose] public section

set_option maxRecDepth 16384

noncomputable section

/-! The claims about the kernel of `dw_in` and its reference. -/

namespace Cert.Proof.DwIn

open Idealize.ShloMosaic Idealize.SL.Sem

attribute [local instance] Cert.Kernel5.Gen.facts Cert.Kernel5Ideal.Gen.facts Cert.Reference5Ideal.Gen.facts

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem algebraic : Cert.algebraic_Kernel5Ideal_Reference5Ideal := by
  intro m g m' g' _ hag
  refine ⟨fun c => Cert.Reference5Ideal.Read.val_main_v4 (F := Ideal) (a0 m c) (a2 m c), ?_, ?_⟩
  · exact (θ_run Cert.Kernel5Ideal.defs _ _).mono
      (fun r h c => ⟨(h c).1.trans (final_4 m c), (h c).2⟩)
      (Cert.Kernel5Ideal.Value.run_blocks (F := Ideal) m g)
  · refine (θ_run Cert.Reference5Ideal.defs _ _).mono (fun r h c => ?_) (Cert.Reference5Ideal.Value.run (F := Ideal) m' g')
    obtain ⟨e0, e1, e2⟩ := hag c
    obtain ⟨h0, hargs⟩ := h c
    rw [Cert.Reference5Ideal.Read.val_main_v4_eq, e0, e2] at h0
    exact ⟨h0, hargs⟩

end Cert.Proof.DwIn

end
-- ==== Proof.DwUp.lean ====
module

public import proofs.«01_k».proof.Proof.Gen.Kernel6Ideal.Value
public import proofs.«01_k».proof.Proof.Gen.Reference6Ideal.Read
public import Idealize.ShloMosaic.Lib.Pipeline.Value
public import Idealize.ShloMosaic.Lib.Tactic
public import Idealize.ShloMosaic.Lib.Pointwise

@[expose] public section

set_option maxRecDepth 16384

noncomputable section

/-! The kernel of `dw_up`: the weight gradient of the gated projection, 1408 rows a point: two points of the gate's
half and two of the value's. -/

namespace Cert.Proof.DwUp

open Idealize.ShloMosaic Idealize.ShloMosaic.TcCoe Cert.Kernel6Ideal Cert.Kernel6Ideal.Gen

theorem hz : (![0, 0] : Fin 2 → Nat) = fun _ => 0 := funext fun a => by fin_cases a <;> rfl

section outs
variable {F : FTy → Type} [FloatOps F]

/-- A point of the gate's half leaves the product of its block and the normalised input, -/
theorem out_A (c : Dev nD) (i : grid0.Coords) (arg1 : Memref sig .tc .vmem S2048x1408 .bf16) (harg1 : arg1.IsWhole) (arg2 : Memref sig .tc .vmem S2048x1408 .bf16) (harg2 : arg2.IsWhole) (arg3 : Memref sig .tc .vmem S2048x1024 .bf16) (harg3 : arg3.IsWhole) (arg4 : Memref sig .tc .vmem S1408x1024 .bf16) (harg4 : arg4.IsWhole) (hc0 hc1)
    (x0 x1 : Vec F S2048x1408 .bf16) (x2 : Vec F S2048x1024 .bf16) :
    out0_A_3 c i arg1 harg1 arg2 harg2 arg3 harg3 arg4 harg4 hc0 hc1 x0 x1 x2 = k0_pay1 x0 x2 := by
  unfold out0_A_3
  rw [View.read_writes_junk_eq_canon]
  unfold kernelRun0_A
  dsimp only
  sl_unfold_words
  rw [View.canon_unit_zero hz]
  simp only [View.readAt_eq_ld, harg1.read_unread, harg2.read_unread, harg3.read_unread, View.ld_unit_zero (S := S2048x1408) hz, View.ld_unit_zero (S := S2048x1024) hz]

/-- and a point of the value's half. -/
theorem out_B (c : Dev nD) (i : grid0.Coords) (arg1 : Memref sig .tc .vmem S2048x1408 .bf16) (harg1 : arg1.IsWhole) (arg2 : Memref sig .tc .vmem S2048x1408 .bf16) (harg2 : arg2.IsWhole) (arg3 : Memref sig .tc .vmem S2048x1024 .bf16) (harg3 : arg3.IsWhole) (arg4 : Memref sig .tc .vmem S1408x1024 .bf16) (harg4 : arg4.IsWhole) (hc0 hc1)
    (x0 x1 : Vec F S2048x1408 .bf16) (x2 : Vec F S2048x1024 .bf16) :
    out0_B_3 c i arg1 harg1 arg2 harg2 arg3 harg3 arg4 harg4 hc0 hc1 x0 x1 x2 = k0_pay2 x1 x2 := by
  unfold out0_B_3
  rw [View.read_writes_junk_eq_canon]
  unfold kernelRun0_B
  dsimp only
  sl_unfold_words
  rw [View.canon_unit_zero hz]
  simp only [View.readAt_eq_ld, harg1.read_unread, harg2.read_unread, harg3.read_unread, View.ld_unit_zero (S := S2048x1408) hz, View.ld_unit_zero (S := S2048x1024) hz]

end outs

variable (m : (ℓ : Loc nD τ sig) → Buf (Elt Ideal) ℓ) (c : Dev nD)

/-- The arguments read: the normalised input and the projection's gradient. -/
abbrev a0 : Vec Ideal S2048x1024 .f32 := m ((c : Thread nD τ).loc main_arg0)
abbrev a2 : Vec Ideal S2048x5632 .f32 := m ((c : Thread nD τ).loc main_arg2)

theorem V1 (k : Fin 2048) (n : Fin 2816) : (V m c main_v1 : Vec Ideal S2048x2816 .bf16) (ix2 k n) = a2 m c (ix2 k ⟨n.val, by omega⟩) := by
  have e : V m c main_v1 = extractStridedSlice S2048x2816 ![0, 0] (truncf .bf16 (a2 m c) bitsLt_bf16_f32 : FVec Ideal S2048x5632 .bf16) slices_S2048x5632_S2048x2816_0_0 := by
    unfold V; after_results
  rw [e]; generalize a2 m c = x; pointwise; try rfl

theorem V2 (k : Fin 2048) (n : Fin 2816) : (V m c main_v2 : Vec Ideal S2048x2816 .bf16) (ix2 k n) = a2 m c (ix2 k ⟨2816 + n.val, by omega⟩) := by
  have e : V m c main_v2 = extractStridedSlice S2048x2816 ![0, 2816] (truncf .bf16 (a2 m c) bitsLt_bf16_f32 : FVec Ideal S2048x5632 .bf16) slices_S2048x5632_S2048x2816_0_2816 := by
    unfold V; after_results
  rw [e]; generalize a2 m c = x; pointwise; try rfl

theorem V3 (k : Fin 2048) (n : Fin 1024) : (V m c main_v3 : Vec Ideal S2048x1024 .bf16) (ix2 k n) = a0 m c (ix2 k n) := by
  have e : V m c main_v3 = (truncf .bf16 (a0 m c) bitsLt_bf16_f32 : FVec Ideal S2048x1024 .bf16) := by
    unfold V; after_results
  rw [e]; rfl

theorem lt4 (t : Fin cfg0.N) : t.val < 4 := lt_of_lt_of_eq t.isLt N_0

/-- The block of the gate's half a point reads, -/
theorem iblk0 (t : Fin cfg0.N) (ht : t.val < 2) (k : Fin 2048) (r : Fin 1408) :
    (iblk m c 0 t : Vec Ideal S2048x1408 .bf16) (ix2 k r) = (V m c main_v1 : Vec Ideal S2048x2816 .bf16) (ix2 k ⟨1408 * t.val + r.val, by omega⟩) := by
  have hi := (by decide +kernel : ∀ t : Fin cfg0.N, t.val < 2 → win0_0.index t 0 = 0 ∧ win0_0.index t 1 = t.val) t ht
  unfold iblk
  rw [View.read_apply]
  show V m c main_v1 _ = V m c main_v1 _
  congr 1
  funext a
  apply Fin.ext
  match a with
  | ⟨0, _⟩ => show win0_0.index t 0 * 2048 + 1 * k.val = _; rw [hi.1]; simp
  | ⟨1, _⟩ => show win0_0.index t 1 * 1408 + 1 * r.val = _; rw [hi.2]; simp; omega

/-- of the value's half, -/
theorem iblk1 (t : Fin cfg0.N) (h0 : 2 ≤ t.val) (k : Fin 2048) (r : Fin 1408) :
    (iblk m c 1 t : Vec Ideal S2048x1408 .bf16) (ix2 k r) = (V m c main_v2 : Vec Ideal S2048x2816 .bf16) (ix2 k ⟨1408 * (t.val - 2) + r.val, by have := lt4 t; omega⟩) := by
  have hi := (by decide +kernel : ∀ t : Fin cfg0.N, 2 ≤ t.val → win0_1.index t 0 = 0 ∧ win0_1.index t 1 = t.val - 2) t h0
  unfold iblk
  rw [View.read_apply]
  show V m c main_v2 _ = V m c main_v2 _
  congr 1
  funext a
  apply Fin.ext
  match a with
  | ⟨0, _⟩ => show win0_1.index t 0 * 2048 + 1 * k.val = _; rw [hi.1]; simp
  | ⟨1, _⟩ => show win0_1.index t 1 * 1408 + 1 * r.val = _; rw [hi.2]; simp; omega

/-- and the normalised input, whole at every point. -/
theorem iblk2 (t : Fin cfg0.N) (k : Fin 2048) (n : Fin 1024) :
    (iblk m c 2 t : Vec Ideal S2048x1024 .bf16) (ix2 k n) = (V m c main_v3 : Vec Ideal S2048x1024 .bf16) (ix2 k n) := by
  have hi := (by decide +kernel : ∀ t : Fin cfg0.N, win0_2.index t 0 = 0 ∧ win0_2.index t 1 = 0) t
  unfold iblk
  rw [View.read_apply]
  show V m c main_v3 _ = V m c main_v3 _
  congr 1
  funext a
  apply Fin.ext
  match a with
  | ⟨0, _⟩ => show win0_2.index t 0 * 2048 + 1 * k.val = _; rw [hi.1]; simp
  | ⟨1, _⟩ => show win0_2.index t 1 * 1024 + 1 * n.val = _; rw [hi.2]; simp

theorem pay_at (x : Vec Ideal S2048x1408 .bf16) (y : Vec Ideal S2048x1024 .bf16) (r : Fin 1408) (n : Fin 1024) :
    k0_pay1 (F := Ideal) x y (ix2 r n) = ∑ k : Fin 2048, x (ix2 k r) * y (ix2 k n) := by
  pointwise [k0_pay1]

/-- The reference at an index. -/
theorem ref_at (x0 : Vec Ideal S2048x1024 .f32) (x2 : Vec Ideal S2048x5632 .f32) (r : Fin 5632) (n : Fin 1024) :
    Cert.Reference6Ideal.Read.val_main_v4 (F := Ideal) x0 x2 (ix2 r n) = ∑ k : Fin 2048, x2 (ix2 k r) * x0 (ix2 k n) := by
  pointwise [Cert.Reference6Ideal.Read.val_main_v4, Cert.Reference6Ideal.Read.val_main_v3, Cert.Reference6Ideal.Read.val_main_v2, Cert.Reference6Ideal.Read.val_main_v1]

theorem idx3 (t : Fin cfg0.N) : win0_3.index t 0 = t.val ∧ win0_3.index t 1 = 0 :=
  (by decide +kernel : ∀ t : Fin cfg0.N, win0_3.index t 0 = t.val ∧ win0_3.index t 1 = 0) t

/-- What a point leaves, at an index. -/
theorem outs_at (t : Fin cfg0.N) (r : Fin 1408) (n : Fin 1024) :
    (outsAt0 m c t.val t.isLt : Vec Ideal S1408x1024 .bf16) (ix2 r n)
      = ∑ k : Fin 2048, a2 m c (ix2 k ⟨1408 * t.val + r.val, by have := lt4 t; omega⟩) * a0 m c (ix2 k n) := by
  have hN := lt4 t
  by_cases h0 : t.val < 2
  · rw [outsAt0_A m c t h0 (by omega), out_A]
    refine (pay_at _ _ r n).trans (Finset.sum_congr rfl fun k _ => ?_)
    rw [iblk0 m c t h0, iblk2, V1, V3]
  · rw [outsAt0_B m c t h0 (by omega), out_B]
    refine (pay_at _ _ r n).trans (Finset.sum_congr rfl fun k _ => ?_)
    rw [iblk1 m c t (by omega), iblk2, V2, V3]
    congr 3
    apply Fin.ext; show 2816 + (1408 * (t.val - 2) + r.val) = 1408 * t.val + r.val; omega

theorem flushed_3 (t : Fin cfg0.N) (_ : (cfg0.win 3).flush t = true) :
    (dats m 0 c).flushed 3 t = ((cfg0.win 3).blk t).view.read (Elt Ideal) (Cert.Reference6Ideal.Read.val_main_v4 (F := Ideal) (a0 m c) (a2 m c)) := by
  rw [Cert.Kernel6Ideal.Value.flushed3 m c t]
  have hi := idx3 t
  have hN := lt4 t
  funext j
  rw [View.read_apply]
  obtain ⟨p, q, rfl⟩ : ∃ (p : Fin 1408) (q : Fin 1024), j = ix2 p q := ⟨j 0, j 1, eq_ix2 j⟩
  have h2 : ∀ (X : Vec Ideal S1408x1024 .bf16), (cfg0.win 3).cut (grid0.coords t) X (ix2 p q) = X (ix2 p q) := fun _ => rfl
  refine (h2 _).trans ?_
  rw [outs_at]
  have he : (((cfg0.win 3).blk t).view.emb (ix2 p q) : S5632x1024.Idx) = ix2 ⟨1408 * t.val + p.val, by omega⟩ q := by
    funext a
    apply Fin.ext
    match a with
    | ⟨0, _⟩ => show win0_3.index t 0 * 1408 + 1 * p.val = _; rw [hi.1]; simp; omega
    | ⟨1, _⟩ => show win0_3.index t 1 * 1024 + 1 * q.val = _; rw [hi.2]; simp
  rw [he]
  exact (ref_at _ _ _ _).symm

/-- The result array is the reference's. -/
theorem final_3 : (dats m 0 c).arrAt 3 cfg0.N = Cert.Reference6Ideal.Read.val_main_v4 (F := Ideal) (a0 m c) (a2 m c) :=
  (dats m 0 c).arrAt_eq_of_cover 3 _ (flushed_3 m c) fun i => by
    have h0 : (i 0 : Nat) < 5632 := (i 0).isLt
    have h1 : (i 1 : Nat) < 1024 := (i 1).isLt
    have hN : cfg0.N = 4 := N_0
    let t : Fin cfg0.N := ⟨(i 0 : Nat) / 1408, by omega⟩
    have ht : t.val = (i 0 : Nat) / 1408 := rfl
    have hi := idx3 t
    refine ⟨t, flush0_3 t, ?_⟩
    show i ∈ ((View.whole main_v4).slice (win0_3.rect t)).set
    rw [View.set_slice_whole, Rect.mem_set_unit]
    intro a
    match a with
    | ⟨0, _⟩ =>
      show win0_3.index t 0 * 1408 ≤ (i 0 : Nat) ∧ (i 0 : Nat) < win0_3.index t 0 * 1408 + 1408
      rw [hi.1]; omega
    | ⟨1, _⟩ =>
      show win0_3.index t 1 * 1024 ≤ (i 1 : Nat) ∧ (i 1 : Nat) < win0_3.index t 1 * 1024 + 1024
      rw [hi.2]; omega

end Cert.Proof.DwUp

end
-- ==== Proof.DwUpClaim.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.DwUp
public import Idealize.ShloMosaic.Lib.Claim

@[expose] public section

set_option maxRecDepth 16384

noncomputable section

/-! The claims about the kernel of `dw_up` and its reference. -/

namespace Cert.Proof.DwUp

open Idealize.ShloMosaic Idealize.SL.Sem

attribute [local instance] Cert.Kernel6.Gen.facts Cert.Kernel6Ideal.Gen.facts Cert.Reference6Ideal.Gen.facts

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem algebraic : Cert.algebraic_Kernel6Ideal_Reference6Ideal := by
  intro m g m' g' _ hag
  refine ⟨fun c => Cert.Reference6Ideal.Read.val_main_v4 (F := Ideal) (a0 m c) (a2 m c), ?_, ?_⟩
  · exact (θ_run Cert.Kernel6Ideal.defs _ _).mono
      (fun r h c => ⟨(h c).1.trans (final_3 m c), (h c).2⟩)
      (Cert.Kernel6Ideal.Value.run_blocks (F := Ideal) m g)
  · refine (θ_run Cert.Reference6Ideal.defs _ _).mono (fun r h c => ?_) (Cert.Reference6Ideal.Value.run (F := Ideal) m' g')
    obtain ⟨e0, e1, e2⟩ := hag c
    obtain ⟨h0, hargs⟩ := h c
    rw [Cert.Reference6Ideal.Read.val_main_v4_eq, e0, e2] at h0
    exact ⟨h0, hargs⟩

end Cert.Proof.DwUp

end
-- ==== Proof.DwDown.lean ====
module

public import proofs.«01_k».proof.Proof.Rows
public import proofs.«01_k».proof.Proof.Gen.Kernel8Ideal.Value
public import proofs.«01_k».proof.Proof.Gen.Reference8Ideal.Read
public import Idealize.ShloMosaic.Lib.Pipeline.Value
public import Idealize.ShloMosaic.Lib.Tactic
public import Idealize.ShloMosaic.Lib.Pointwise

@[expose] public section

set_option maxRecDepth 16384

noncomputable section

/-! The kernel of `dw_down`: the gradient of the last projection's weights, a tile of 1408 rows and 512 columns a point. -/

namespace Cert.Proof.DwDown

open Idealize.ShloMosaic Idealize.ShloMosaic.TcCoe Cert.Kernel8Ideal Cert.Kernel8Ideal.Gen Cert.Proof.Rows

variable (m : (ℓ : Loc nD τ sig) → Buf (Elt Ideal) ℓ) (c : Dev nD)

theorem hz : (![0, 0] : Fin 2 → Nat) = fun _ => 0 := funext fun a => by fin_cases a <;> rfl

/-- The arguments on a device, as arrays. -/
abbrev a0 : Vec Ideal S2048x2816 .f32 := m ((c : Thread nD τ).loc main_arg0)
abbrev a2 : Vec Ideal S2048x1024 .f32 := m ((c : Thread nD τ).loc main_arg2)

theorem V0 : (V m c main_v0 : Vec Ideal S2048x2816 .bf16) = (truncf .bf16 (a0 m c) bitsLt_bf16_f32 : FVec Ideal S2048x2816 .bf16) := by
  unfold V; after_results

theorem V1 : (V m c main_v1 : Vec Ideal S2048x1024 .bf16) = (truncf .bf16 (a2 m c) bitsLt_bf16_f32 : FVec Ideal S2048x1024 .bf16) := by
  unfold V; after_results

theorem lt4 (t : Fin cfg0.N) : t.val < 4 := lt_of_lt_of_eq t.isLt N_0

/-- Row `r` of row tile `k`, -/
def gr (k : Nat) (r : Fin 1408) : Fin 2816 := Rows.row 2 1408 (by omega) k r
theorem gr_eq (k : Nat) (r : Fin 1408) : (gr k r).val = r.val + 1408 * (k % 2) := rfl

/-- and column `r` of column tile `k`. -/
def gc (k : Nat) (r : Fin 512) : Fin 1024 := Rows.row 2 512 (by omega) k r
theorem gc_eq (k : Nat) (r : Fin 512) : (gc k r).val = r.val + 512 * (k % 2) := rfl

theorem iblk0 (t : Fin cfg0.N) (r : Fin 2048) (k : Fin 1408) :
    (iblk m c 0 t : Vec Ideal S2048x1408 .bf16) (ix2 r k) = (V m c main_v0 : Vec Ideal S2048x2816 .bf16) (ix2 r (gr (t.val / 2) k)) := by
  have hi := (by decide +kernel : ∀ t : Fin cfg0.N, win0_0.index t 0 = 0 ∧ win0_0.index t 1 = (t.val / 2) % 2) t
  unfold iblk
  rw [View.read_apply]
  show V m c main_v0 _ = V m c main_v0 _
  congr 1
  funext a
  apply Fin.ext
  match a with
  | ⟨0, _⟩ => show win0_0.index t 0 * 2048 + 1 * r.val = _; rw [hi.1]; simp
  | ⟨1, _⟩ => show win0_0.index t 1 * 1408 + 1 * k.val = (gr (t.val / 2) k).val; rw [hi.2, gr_eq]; omega

theorem iblk1 (t : Fin cfg0.N) (r : Fin 2048) (k : Fin 512) :
    (iblk m c 1 t : Vec Ideal S2048x512 .bf16) (ix2 r k) = (V m c main_v1 : Vec Ideal S2048x1024 .bf16) (ix2 r (gc (t.val) k)) := by
  have hi := (by decide +kernel : ∀ t : Fin cfg0.N, win0_1.index t 0 = 0 ∧ win0_1.index t 1 = (t.val) % 2) t
  unfold iblk
  rw [View.read_apply]
  show V m c main_v1 _ = V m c main_v1 _
  congr 1
  funext a
  apply Fin.ext
  match a with
  | ⟨0, _⟩ => show win0_1.index t 0 * 2048 + 1 * r.val = _; rw [hi.1]; simp
  | ⟨1, _⟩ => show win0_1.index t 1 * 512 + 1 * k.val = (gc (t.val) k).val; rw [hi.2, gc_eq]; omega

theorem out_eq (x0 : Vec Ideal S2048x1408 .bf16) (x1 : Vec Ideal S2048x512 .bf16) : out0_2 (F := Ideal) x0 x1 = k0_pay1 x0 x1 := by
  unfold out0_2
  rw [View.canon_unit_zero hz]
  simp only [View.ld_unit_zero (S := S2048x1408) hz, View.ld_unit_zero (S := S2048x512) hz]

theorem pay_at (x0 : Vec Ideal S2048x1408 .bf16) (x1 : Vec Ideal S2048x512 .bf16) (r : Fin 1408) (n : Fin 512) :
    k0_pay1 (F := Ideal) x0 x1 (ix2 r n) = ∑ k : Fin 2048, x0 (ix2 k r) * x1 (ix2 k n) := by
  pointwise [k0_pay1]

/-- The reference at an index. -/
theorem ref_at (x0 : Vec Ideal S2048x2816 .f32) (x2 : Vec Ideal S2048x1024 .f32) (r : Fin 2816) (n : Fin 1024) :
    Cert.Reference8Ideal.Read.val_main_v3 (F := Ideal) x0 x2 (ix2 r n) = ∑ k : Fin 2048, x2 (ix2 k n) * x0 (ix2 k r) := by
  pointwise [Cert.Reference8Ideal.Read.val_main_v3, Cert.Reference8Ideal.Read.val_main_v2, Cert.Reference8Ideal.Read.val_main_v1]

/-- What a point leaves is the reference's tile. -/
theorem outs_at (t : Fin cfg0.N) (r : Fin 1408) (n : Fin 512) :
    (out0_2 (F := Ideal) (iblk m c 0 t) (iblk m c 1 t) : Vec Ideal S1408x512 .bf16) (ix2 r n)
      = Cert.Reference8Ideal.Read.val_main_v3 (F := Ideal) (a0 m c) (a2 m c) (ix2 (gr (t.val / 2) r) (gc (t.val) n)) := by
  rw [out_eq]
  refine (pay_at _ _ r n).trans (Eq.trans (Finset.sum_congr rfl fun k _ => ?_) (ref_at _ _ _ _).symm)
  rw [iblk0, iblk1, V0, V1]
  exact mul_comm _ _

theorem idx2 (t : Fin cfg0.N) : win0_2.index t 0 = (t.val / 2) % 2 ∧ win0_2.index t 1 = (t.val) % 2 :=
  (by decide +kernel : ∀ t : Fin cfg0.N, win0_2.index t 0 = (t.val / 2) % 2 ∧ win0_2.index t 1 = (t.val) % 2) t

theorem flushed_2 (t : Fin cfg0.N) (hf : (cfg0.win 2).flush t = true) :
    (dats m 0 c).flushed 2 t = ((cfg0.win 2).blk t).view.read (Elt Ideal) (Cert.Reference8Ideal.Read.val_main_v3 (F := Ideal) (a0 m c) (a2 m c)) := by
  rw [Cert.Kernel8Ideal.Value.flushed2 m c t]
  have hi := idx2 t
  funext j
  rw [View.read_apply]
  obtain ⟨p, q, rfl⟩ : ∃ (p : Fin 1408) (q : Fin 512), j = ix2 p q := ⟨j 0, j 1, eq_ix2 j⟩
  have h2 : ∀ (X : Vec Ideal S1408x512 .bf16), (cfg0.win 2).cut (grid0.coords t) X (ix2 p q) = X (ix2 p q) := fun _ => rfl
  refine (h2 _).trans ?_
  have he : (((cfg0.win 2).blk t).view.emb (ix2 p q) : S2816x1024.Idx) = ix2 (gr (t.val / 2) p) (gc (t.val) q) := by
    funext a
    apply Fin.ext
    match a with
    | ⟨0, _⟩ => show win0_2.index t 0 * 1408 + 1 * p.val = (gr (t.val / 2) p).val; rw [hi.1, gr_eq]; omega
    | ⟨1, _⟩ => show win0_2.index t 1 * 512 + 1 * q.val = (gc (t.val) q).val; rw [hi.2, gc_eq]; omega
  rw [he]
  exact outs_at m c t p q

/-- The result array is the reference's. -/
theorem final_2 : (dats m 0 c).arrAt 2 cfg0.N = Cert.Reference8Ideal.Read.val_main_v3 (F := Ideal) (a0 m c) (a2 m c) :=
  (dats m 0 c).arrAt_eq_of_cover 2 _ (flushed_2 m c) fun i => by
    have h0 : (i 0 : Nat) < 2816 := (i 0).isLt
    have h1 : (i 1 : Nat) < 1024 := (i 1).isLt
    have hN : cfg0.N = 4 := N_0
    let t : Fin cfg0.N := ⟨(i 0 : Nat) / 1408 * 2 + (i 1 : Nat) / 512, by omega⟩
    have ht : t.val = (i 0 : Nat) / 1408 * 2 + (i 1 : Nat) / 512 := rfl
    have hi := idx2 t
    refine ⟨t, flush0_2 t, ?_⟩
    show i ∈ ((View.whole main_v2).slice (win0_2.rect t)).set
    rw [View.set_slice_whole, Rect.mem_set_unit]
    intro a
    match a with
    | ⟨0, _⟩ =>
      show win0_2.index t 0 * 1408 ≤ (i 0 : Nat) ∧ (i 0 : Nat) < win0_2.index t 0 * 1408 + 1408
      rw [hi.1]; omega
    | ⟨1, _⟩ =>
      show win0_2.index t 1 * 512 ≤ (i 1 : Nat) ∧ (i 1 : Nat) < win0_2.index t 1 * 512 + 512
      rw [hi.2]; omega

end Cert.Proof.DwDown

end
-- ==== Proof.DwDownClaim.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.DwDown
public import Idealize.ShloMosaic.Lib.Claim

@[expose] public section

set_option maxRecDepth 16384

noncomputable section

/-! The claims about the kernel of `dw_down` and its reference. -/

namespace Cert.Proof.DwDown

open Idealize.ShloMosaic Idealize.SL.Sem

attribute [local instance] Cert.Kernel8.Gen.facts Cert.Kernel8Ideal.Gen.facts Cert.Reference8Ideal.Gen.facts

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

theorem algebraic : Cert.algebraic_Kernel8Ideal_Reference8Ideal := by
  intro m g m' g' _ hag
  refine ⟨fun c => Cert.Reference8Ideal.Read.val_main_v3 (F := Ideal) (a0 m c) (a2 m c), ?_, ?_⟩
  · exact (θ_run Cert.Kernel8Ideal.defs _ _).mono
      (fun r h c => ⟨(h c).1.trans (final_2 m c), (h c).2⟩)
      (Cert.Kernel8Ideal.Value.run_blocks (F := Ideal) m g)
  · refine (θ_run Cert.Reference8Ideal.defs _ _).mono (fun r h c => ?_) (Cert.Reference8Ideal.Value.run (F := Ideal) m' g')
    obtain ⟨e0, e1, e2⟩ := hag c
    obtain ⟨h0, hargs⟩ := h c
    rw [Cert.Reference8Ideal.Read.val_main_v3_eq, e0, e2] at h0
    exact ⟨h0, hargs⟩

end Cert.Proof.DwDown

end
-- ==== Proof.DwBranches.lean ====
module

public import proofs.«01_k».proof.Proof.Rows
public import proofs.«01_k».proof.Proof.Gen.Kernel9Ideal.Value
public import proofs.«01_k».proof.Proof.Gen.Reference9Ideal.Read
public import Idealize.ShloMosaic.Lib.Pipeline.Value
public import Idealize.ShloMosaic.Lib.Tactic
public import Idealize.ShloMosaic.Lib.Pointwise

@[expose] public section

set_option maxRecDepth 16384

noncomputable section

/-! The kernel of `dw_branches`: three weight gradients, 512 columns of each a point. -/

namespace Cert.Proof.DwBranches

open Idealize.ShloMosaic Idealize.ShloMosaic.TcCoe Cert.Kernel9Ideal Cert.Kernel9Ideal.Gen Cert.Proof.Rows

variable (m : (ℓ : Loc nD τ sig) → Buf (Elt Ideal) ℓ) (c : Dev nD)

theorem hz : (![0, 0] : Fin 2 → Nat) = fun _ => 0 := funext fun a => by fin_cases a <;> rfl

/-- The arguments on a device, as arrays. -/
abbrev a0 : Vec Ideal S2048x1024 .f32 := m ((c : Thread nD τ).loc main_arg0)
abbrev a1 : Vec Ideal S2048x1024 .f32 := m ((c : Thread nD τ).loc main_arg1)
abbrev a2 : Vec Ideal S2048x1024 .f32 := m ((c : Thread nD τ).loc main_arg2)
abbrev a6 : Vec Ideal S2048x1024 .f32 := m ((c : Thread nD τ).loc main_arg6)
abbrev a7 : Vec Ideal S2048x1024 .f32 := m ((c : Thread nD τ).loc main_arg7)
abbrev a8 : Vec Ideal S2048x1024 .f32 := m ((c : Thread nD τ).loc main_arg8)

theorem V0 : (V m c main_v0 : Vec Ideal S2048x1024 .bf16) = (truncf .bf16 (a0 m c) bitsLt_bf16_f32 : FVec Ideal S2048x1024 .bf16) := by
  unfold V; after_results

theorem V1 : (V m c main_v1 : Vec Ideal S2048x1024 .bf16) = (truncf .bf16 (a6 m c) bitsLt_bf16_f32 : FVec Ideal S2048x1024 .bf16) := by
  unfold V; after_results

theorem V2 : (V m c main_v2 : Vec Ideal S2048x1024 .bf16) = (truncf .bf16 (a1 m c) bitsLt_bf16_f32 : FVec Ideal S2048x1024 .bf16) := by
  unfold V; after_results

theorem V3 : (V m c main_v3 : Vec Ideal S2048x1024 .bf16) = (truncf .bf16 (a7 m c) bitsLt_bf16_f32 : FVec Ideal S2048x1024 .bf16) := by
  unfold V; after_results

theorem V4 : (V m c main_v4 : Vec Ideal S2048x1024 .bf16) = (truncf .bf16 (a2 m c) bitsLt_bf16_f32 : FVec Ideal S2048x1024 .bf16) := by
  unfold V; after_results

theorem V5 : (V m c main_v5 : Vec Ideal S2048x1024 .bf16) = (truncf .bf16 (a8 m c) bitsLt_bf16_f32 : FVec Ideal S2048x1024 .bf16) := by
  unfold V; after_results

theorem lt2 (t : Fin cfg0.N) : t.val < 2 := lt_of_lt_of_eq t.isLt N_0

/-- Column `r` of column tile `k`. -/
def gc (k : Nat) (r : Fin 512) : Fin 1024 := Rows.row 2 512 (by omega) k r
theorem gc_eq (k : Nat) (r : Fin 512) : (gc k r).val = r.val + 512 * (k % 2) := rfl

theorem iblk0 (t : Fin cfg0.N) (r : Fin 2048) (k : Fin 1024) :
    (iblk m c 0 t : Vec Ideal S2048x1024 .bf16) (ix2 r k) = (V m c main_v0 : Vec Ideal S2048x1024 .bf16) (ix2 r k) := by
  have hi := (by decide +kernel : ∀ t : Fin cfg0.N, win0_0.index t 0 = 0 ∧ win0_0.index t 1 = 0) t
  unfold iblk
  rw [View.read_apply]
  show V m c main_v0 _ = V m c main_v0 _
  congr 1
  funext a
  apply Fin.ext
  match a with
  | ⟨0, _⟩ => show win0_0.index t 0 * 2048 + 1 * r.val = _; rw [hi.1]; simp
  | ⟨1, _⟩ => show win0_0.index t 1 * 1024 + 1 * k.val = _; rw [hi.2]; simp

theorem iblk1 (t : Fin cfg0.N) (r : Fin 2048) (k : Fin 512) :
    (iblk m c 1 t : Vec Ideal S2048x512 .bf16) (ix2 r k) = (V m c main_v1 : Vec Ideal S2048x1024 .bf16) (ix2 r (gc (t.val) k)) := by
  have hi := (by decide +kernel : ∀ t : Fin cfg0.N, win0_1.index t 0 = 0 ∧ win0_1.index t 1 = (t.val) % 2) t
  unfold iblk
  rw [View.read_apply]
  show V m c main_v1 _ = V m c main_v1 _
  congr 1
  funext a
  apply Fin.ext
  match a with
  | ⟨0, _⟩ => show win0_1.index t 0 * 2048 + 1 * r.val = _; rw [hi.1]; simp
  | ⟨1, _⟩ => show win0_1.index t 1 * 512 + 1 * k.val = (gc (t.val) k).val; rw [hi.2, gc_eq]; omega

theorem iblk2 (t : Fin cfg0.N) (r : Fin 2048) (k : Fin 1024) :
    (iblk m c 2 t : Vec Ideal S2048x1024 .bf16) (ix2 r k) = (V m c main_v2 : Vec Ideal S2048x1024 .bf16) (ix2 r k) := by
  have hi := (by decide +kernel : ∀ t : Fin cfg0.N, win0_2.index t 0 = 0 ∧ win0_2.index t 1 = 0) t
  unfold iblk
  rw [View.read_apply]
  show V m c main_v2 _ = V m c main_v2 _
  congr 1
  funext a
  apply Fin.ext
  match a with
  | ⟨0, _⟩ => show win0_2.index t 0 * 2048 + 1 * r.val = _; rw [hi.1]; simp
  | ⟨1, _⟩ => show win0_2.index t 1 * 1024 + 1 * k.val = _; rw [hi.2]; simp

theorem iblk3 (t : Fin cfg0.N) (r : Fin 2048) (k : Fin 512) :
    (iblk m c 3 t : Vec Ideal S2048x512 .bf16) (ix2 r k) = (V m c main_v3 : Vec Ideal S2048x1024 .bf16) (ix2 r (gc (t.val) k)) := by
  have hi := (by decide +kernel : ∀ t : Fin cfg0.N, win0_3.index t 0 = 0 ∧ win0_3.index t 1 = (t.val) % 2) t
  unfold iblk
  rw [View.read_apply]
  show V m c main_v3 _ = V m c main_v3 _
  congr 1
  funext a
  apply Fin.ext
  match a with
  | ⟨0, _⟩ => show win0_3.index t 0 * 2048 + 1 * r.val = _; rw [hi.1]; simp
  | ⟨1, _⟩ => show win0_3.index t 1 * 512 + 1 * k.val = (gc (t.val) k).val; rw [hi.2, gc_eq]; omega

theorem iblk4 (t : Fin cfg0.N) (r : Fin 2048) (k : Fin 1024) :
    (iblk m c 4 t : Vec Ideal S2048x1024 .bf16) (ix2 r k) = (V m c main_v4 : Vec Ideal S2048x1024 .bf16) (ix2 r k) := by
  have hi := (by decide +kernel : ∀ t : Fin cfg0.N, win0_4.index t 0 = 0 ∧ win0_4.index t 1 = 0) t
  unfold iblk
  rw [View.read_apply]
  show V m c main_v4 _ = V m c main_v4 _
  congr 1
  funext a
  apply Fin.ext
  match a with
  | ⟨0, _⟩ => show win0_4.index t 0 * 2048 + 1 * r.val = _; rw [hi.1]; simp
  | ⟨1, _⟩ => show win0_4.index t 1 * 1024 + 1 * k.val = _; rw [hi.2]; simp

theorem iblk5 (t : Fin cfg0.N) (r : Fin 2048) (k : Fin 512) :
    (iblk m c 5 t : Vec Ideal S2048x512 .bf16) (ix2 r k) = (V m c main_v5 : Vec Ideal S2048x1024 .bf16) (ix2 r (gc (t.val) k)) := by
  have hi := (by decide +kernel : ∀ t : Fin cfg0.N, win0_5.index t 0 = 0 ∧ win0_5.index t 1 = (t.val) % 2) t
  unfold iblk
  rw [View.read_apply]
  show V m c main_v5 _ = V m c main_v5 _
  congr 1
  funext a
  apply Fin.ext
  match a with
  | ⟨0, _⟩ => show win0_5.index t 0 * 2048 + 1 * r.val = _; rw [hi.1]; simp
  | ⟨1, _⟩ => show win0_5.index t 1 * 512 + 1 * k.val = (gc (t.val) k).val; rw [hi.2, gc_eq]; omega

theorem out6_eq (x0 : Vec Ideal S2048x1024 .bf16) (x1 : Vec Ideal S2048x512 .bf16) (x2 : Vec Ideal S2048x1024 .bf16) (x3 : Vec Ideal S2048x512 .bf16) (x4 : Vec Ideal S2048x1024 .bf16) (x5 : Vec Ideal S2048x512 .bf16) : out0_6 (F := Ideal) x0 x1 x2 x3 x4 x5 = k0_pay1 x0 x1 := by
  unfold out0_6
  rw [View.canon_unit_zero hz]
  simp only [View.ld_unit_zero (S := S2048x1024) hz, View.ld_unit_zero (S := S2048x512) hz]

theorem pay6_at (x : Vec Ideal S2048x1024 .bf16) (y : Vec Ideal S2048x512 .bf16) (r : Fin 1024) (n : Fin 512) :
    k0_pay1 (F := Ideal) x y (ix2 r n) = ∑ k : Fin 2048, x (ix2 k r) * y (ix2 k n) := by
  pointwise [k0_pay1]

theorem ref6_at (x y : Vec Ideal S2048x1024 .f32) (r : Fin 1024) (n : Fin 1024) :
    Cert.Reference9Ideal.Read.val_main_v9 (F := Ideal) x y (ix2 r n) = ∑ k : Fin 2048, y (ix2 k n) * x (ix2 k r) := by
  pointwise [Cert.Reference9Ideal.Read.val_main_v9, Cert.Reference9Ideal.Read.val_main_v8, Cert.Reference9Ideal.Read.val_main_v7]

theorem outs6_at (t : Fin cfg0.N) (r : Fin 1024) (n : Fin 512) :
    (out0_6 (F := Ideal) (iblk m c 0 t) (iblk m c 1 t) (iblk m c 2 t) (iblk m c 3 t) (iblk m c 4 t) (iblk m c 5 t) : Vec Ideal S1024x512 .bf16) (ix2 r n)
      = Cert.Reference9Ideal.Read.val_main_v9 (F := Ideal) (a0 m c) (a6 m c) (ix2 r (gc (t.val) n)) := by
  rw [out6_eq]
  refine (pay6_at _ _ r n).trans (Eq.trans (Finset.sum_congr rfl fun k _ => ?_) (ref6_at _ _ _ _).symm)
  rw [iblk0, iblk1, V0, V1]
  exact mul_comm _ _

theorem idx6 (t : Fin cfg0.N) : win0_6.index t 0 = 0 ∧ win0_6.index t 1 = (t.val) % 2 :=
  (by decide +kernel : ∀ t : Fin cfg0.N, win0_6.index t 0 = 0 ∧ win0_6.index t 1 = (t.val) % 2) t

theorem flushed_6 (t : Fin cfg0.N) (hf : (cfg0.win 6).flush t = true) :
    (dats m 0 c).flushed 6 t = ((cfg0.win 6).blk t).view.read (Elt Ideal) (Cert.Reference9Ideal.Read.val_main_v9 (F := Ideal) (a0 m c) (a6 m c)) := by
  rw [Cert.Kernel9Ideal.Value.flushed6 m c t]
  have hi := idx6 t
  funext j
  rw [View.read_apply]
  obtain ⟨p, q, rfl⟩ : ∃ (p : Fin 1024) (q : Fin 512), j = ix2 p q := ⟨j 0, j 1, eq_ix2 j⟩
  have h2 : ∀ (X : Vec Ideal S1024x512 .bf16), (cfg0.win 6).cut (grid0.coords t) X (ix2 p q) = X (ix2 p q) := fun _ => rfl
  refine (h2 _).trans ?_
  have he : (((cfg0.win 6).blk t).view.emb (ix2 p q) : S1024x1024.Idx) = ix2 p (gc (t.val) q) := by
    funext a
    apply Fin.ext
    match a with
    | ⟨0, _⟩ => show win0_6.index t 0 * 1024 + 1 * p.val = _; rw [hi.1]; simp
    | ⟨1, _⟩ => show win0_6.index t 1 * 512 + 1 * q.val = (gc (t.val) q).val; rw [hi.2, gc_eq]; omega
  rw [he]
  exact outs6_at m c t p q

/-- The result array is the reference's. -/
theorem final_6 : (dats m 0 c).arrAt 6 cfg0.N = Cert.Reference9Ideal.Read.val_main_v9 (F := Ideal) (a0 m c) (a6 m c) :=
  (dats m 0 c).arrAt_eq_of_cover 6 _ (flushed_6 m c) fun i => by
    have h0 : (i 0 : Nat) < 1024 := (i 0).isLt
    have h1 : (i 1 : Nat) < 1024 := (i 1).isLt
    have hN : cfg0.N = 2 := N_0
    let t : Fin cfg0.N := ⟨(i 1 : Nat) / 512, by omega⟩
    have ht : t.val = (i 1 : Nat) / 512 := rfl
    have hi := idx6 t
    refine ⟨t, flush0_6 t, ?_⟩
    show i ∈ ((View.whole main_v6_0).slice (win0_6.rect t)).set
    rw [View.set_slice_whole, Rect.mem_set_unit]
    intro a
    match a with
    | ⟨0, _⟩ =>
      show win0_6.index t 0 * 1024 ≤ (i 0 : Nat) ∧ (i 0 : Nat) < win0_6.index t 0 * 1024 + 1024
      rw [hi.1]; omega
    | ⟨1, _⟩ =>
      show win0_6.index t 1 * 512 ≤ (i 1 : Nat) ∧ (i 1 : Nat) < win0_6.index t 1 * 512 + 512
      rw [hi.2]; omega

theorem out7_eq (x0 : Vec Ideal S2048x1024 .bf16) (x1 : Vec Ideal S2048x512 .bf16) (x2 : Vec Ideal S2048x1024 .bf16) (x3 : Vec Ideal S2048x512 .bf16) (x4 : Vec Ideal S2048x1024 .bf16) (x5 : Vec Ideal S2048x512 .bf16) : out0_7 (F := Ideal) x0 x1 x2 x3 x4 x5 = k0_pay2 x2 x3 := by
  unfold out0_7
  rw [View.canon_unit_zero hz]
  simp only [View.ld_unit_zero (S := S2048x1024) hz, View.ld_unit_zero (S := S2048x512) hz]

theorem pay7_at (x : Vec Ideal S2048x1024 .bf16) (y : Vec Ideal S2048x512 .bf16) (r : Fin 1024) (n : Fin 512) :
    k0_pay2 (F := Ideal) x y (ix2 r n) = ∑ k : Fin 2048, x (ix2 k r) * y (ix2 k n) := by
  pointwise [k0_pay2]

theorem ref7_at (x y : Vec Ideal S2048x1024 .f32) (r : Fin 1024) (n : Fin 1024) :
    Cert.Reference9Ideal.Read.val_main_v10 (F := Ideal) x y (ix2 r n) = ∑ k : Fin 2048, y (ix2 k n) * x (ix2 k r) := by
  pointwise [Cert.Reference9Ideal.Read.val_main_v10, Cert.Reference9Ideal.Read.val_main_v6, Cert.Reference9Ideal.Read.val_main_v5]

theorem outs7_at (t : Fin cfg0.N) (r : Fin 1024) (n : Fin 512) :
    (out0_7 (F := Ideal) (iblk m c 0 t) (iblk m c 1 t) (iblk m c 2 t) (iblk m c 3 t) (iblk m c 4 t) (iblk m c 5 t) : Vec Ideal S1024x512 .bf16) (ix2 r n)
      = Cert.Reference9Ideal.Read.val_main_v10 (F := Ideal) (a1 m c) (a7 m c) (ix2 r (gc (t.val) n)) := by
  rw [out7_eq]
  refine (pay7_at _ _ r n).trans (Eq.trans (Finset.sum_congr rfl fun k _ => ?_) (ref7_at _ _ _ _).symm)
  rw [iblk2, iblk3, V2, V3]
  exact mul_comm _ _

theorem idx7 (t : Fin cfg0.N) : win0_7.index t 0 = 0 ∧ win0_7.index t 1 = (t.val) % 2 :=
  (by decide +kernel : ∀ t : Fin cfg0.N, win0_7.index t 0 = 0 ∧ win0_7.index t 1 = (t.val) % 2) t

theorem flushed_7 (t : Fin cfg0.N) (hf : (cfg0.win 7).flush t = true) :
    (dats m 0 c).flushed 7 t = ((cfg0.win 7).blk t).view.read (Elt Ideal) (Cert.Reference9Ideal.Read.val_main_v10 (F := Ideal) (a1 m c) (a7 m c)) := by
  rw [Cert.Kernel9Ideal.Value.flushed7 m c t]
  have hi := idx7 t
  funext j
  rw [View.read_apply]
  obtain ⟨p, q, rfl⟩ : ∃ (p : Fin 1024) (q : Fin 512), j = ix2 p q := ⟨j 0, j 1, eq_ix2 j⟩
  have h2 : ∀ (X : Vec Ideal S1024x512 .bf16), (cfg0.win 7).cut (grid0.coords t) X (ix2 p q) = X (ix2 p q) := fun _ => rfl
  refine (h2 _).trans ?_
  have he : (((cfg0.win 7).blk t).view.emb (ix2 p q) : S1024x1024.Idx) = ix2 p (gc (t.val) q) := by
    funext a
    apply Fin.ext
    match a with
    | ⟨0, _⟩ => show win0_7.index t 0 * 1024 + 1 * p.val = _; rw [hi.1]; simp
    | ⟨1, _⟩ => show win0_7.index t 1 * 512 + 1 * q.val = (gc (t.val) q).val; rw [hi.2, gc_eq]; omega
  rw [he]
  exact outs7_at m c t p q

/-- The result array is the reference's. -/
theorem final_7 : (dats m 0 c).arrAt 7 cfg0.N = Cert.Reference9Ideal.Read.val_main_v10 (F := Ideal) (a1 m c) (a7 m c) :=
  (dats m 0 c).arrAt_eq_of_cover 7 _ (flushed_7 m c) fun i => by
    have h0 : (i 0 : Nat) < 1024 := (i 0).isLt
    have h1 : (i 1 : Nat) < 1024 := (i 1).isLt
    have hN : cfg0.N = 2 := N_0
    let t : Fin cfg0.N := ⟨(i 1 : Nat) / 512, by omega⟩
    have ht : t.val = (i 1 : Nat) / 512 := rfl
    have hi := idx7 t
    refine ⟨t, flush0_7 t, ?_⟩
    show i ∈ ((View.whole main_v6_1).slice (win0_7.rect t)).set
    rw [View.set_slice_whole, Rect.mem_set_unit]
    intro a
    match a with
    | ⟨0, _⟩ =>
      show win0_7.index t 0 * 1024 ≤ (i 0 : Nat) ∧ (i 0 : Nat) < win0_7.index t 0 * 1024 + 1024
      rw [hi.1]; omega
    | ⟨1, _⟩ =>
      show win0_7.index t 1 * 512 ≤ (i 1 : Nat) ∧ (i 1 : Nat) < win0_7.index t 1 * 512 + 512
      rw [hi.2]; omega

theorem out8_eq (x0 : Vec Ideal S2048x1024 .bf16) (x1 : Vec Ideal S2048x512 .bf16) (x2 : Vec Ideal S2048x1024 .bf16) (x3 : Vec Ideal S2048x512 .bf16) (x4 : Vec Ideal S2048x1024 .bf16) (x5 : Vec Ideal S2048x512 .bf16) : out0_8 (F := Ideal) x0 x1 x2 x3 x4 x5 = k0_pay3 x4 x5 := by
  unfold out0_8
  rw [View.canon_unit_zero hz]
  simp only [View.ld_unit_zero (S := S2048x1024) hz, View.ld_unit_zero (S := S2048x512) hz]

theorem pay8_at (x : Vec Ideal S2048x1024 .bf16) (y : Vec Ideal S2048x512 .bf16) (r : Fin 1024) (n : Fin 512) :
    k0_pay3 (F := Ideal) x y (ix2 r n) = ∑ k : Fin 2048, x (ix2 k r) * y (ix2 k n) := by
  pointwise [k0_pay3]

theorem ref8_at (x y : Vec Ideal S2048x1024 .f32) (r : Fin 1024) (n : Fin 1024) :
    Cert.Reference9Ideal.Read.val_main_v11 (F := Ideal) x y (ix2 r n) = ∑ k : Fin 2048, y (ix2 k n) * x (ix2 k r) := by
  pointwise [Cert.Reference9Ideal.Read.val_main_v11, Cert.Reference9Ideal.Read.val_main_v4, Cert.Reference9Ideal.Read.val_main_v3]

theorem outs8_at (t : Fin cfg0.N) (r : Fin 1024) (n : Fin 512) :
    (out0_8 (F := Ideal) (iblk m c 0 t) (iblk m c 1 t) (iblk m c 2 t) (iblk m c 3 t) (iblk m c 4 t) (iblk m c 5 t) : Vec Ideal S1024x512 .bf16) (ix2 r n)
      = Cert.Reference9Ideal.Read.val_main_v11 (F := Ideal) (a2 m c) (a8 m c) (ix2 r (gc (t.val) n)) := by
  rw [out8_eq]
  refine (pay8_at _ _ r n).trans (Eq.trans (Finset.sum_congr rfl fun k _ => ?_) (ref8_at _ _ _ _).symm)
  rw [iblk4, iblk5, V4, V5]
  exact mul_comm _ _

theorem idx8 (t : Fin cfg0.N) : win0_8.index t 0 = 0 ∧ win0_8.index t 1 = (t.val) % 2 :=
  (by decide +kernel : ∀ t : Fin cfg0.N, win0_8.index t 0 = 0 ∧ win0_8.index t 1 = (t.val) % 2) t

theorem flushed_8 (t : Fin cfg0.N) (hf : (cfg0.win 8).flush t = true) :
    (dats m 0 c).flushed 8 t = ((cfg0.win 8).blk t).view.read (Elt Ideal) (Cert.Reference9Ideal.Read.val_main_v11 (F := Ideal) (a2 m c) (a8 m c)) := by
  rw [Cert.Kernel9Ideal.Value.flushed8 m c t]
  have hi := idx8 t
  funext j
  rw [View.read_apply]
  obtain ⟨p, q, rfl⟩ : ∃ (p : Fin 1024) (q : Fin 512), j = ix2 p q := ⟨j 0, j 1, eq_ix2 j⟩
  have h2 : ∀ (X : Vec Ideal S1024x512 .bf16), (cfg0.win 8).cut (grid0.coords t) X (ix2 p q) = X (ix2 p q) := fun _ => rfl
  refine (h2 _).trans ?_
  have he : (((cfg0.win 8).blk t).view.emb (ix2 p q) : S1024x1024.Idx) = ix2 p (gc (t.val) q) := by
    funext a
    apply Fin.ext
    match a with
    | ⟨0, _⟩ => show win0_8.index t 0 * 1024 + 1 * p.val = _; rw [hi.1]; simp
    | ⟨1, _⟩ => show win0_8.index t 1 * 512 + 1 * q.val = (gc (t.val) q).val; rw [hi.2, gc_eq]; omega
  rw [he]
  exact outs8_at m c t p q

/-- The result array is the reference's. -/
theorem final_8 : (dats m 0 c).arrAt 8 cfg0.N = Cert.Reference9Ideal.Read.val_main_v11 (F := Ideal) (a2 m c) (a8 m c) :=
  (dats m 0 c).arrAt_eq_of_cover 8 _ (flushed_8 m c) fun i => by
    have h0 : (i 0 : Nat) < 1024 := (i 0).isLt
    have h1 : (i 1 : Nat) < 1024 := (i 1).isLt
    have hN : cfg0.N = 2 := N_0
    let t : Fin cfg0.N := ⟨(i 1 : Nat) / 512, by omega⟩
    have ht : t.val = (i 1 : Nat) / 512 := rfl
    have hi := idx8 t
    refine ⟨t, flush0_8 t, ?_⟩
    show i ∈ ((View.whole main_v6_2).slice (win0_8.rect t)).set
    rw [View.set_slice_whole, Rect.mem_set_unit]
    intro a
    match a with
    | ⟨0, _⟩ =>
      show win0_8.index t 0 * 1024 ≤ (i 0 : Nat) ∧ (i 0 : Nat) < win0_8.index t 0 * 1024 + 1024
      rw [hi.1]; omega
    | ⟨1, _⟩ =>
      show win0_8.index t 1 * 512 ≤ (i 1 : Nat) ∧ (i 1 : Nat) < win0_8.index t 1 * 512 + 512
      rw [hi.2]; omega

end Cert.Proof.DwBranches

end
-- ==== Proof.DwBranchesClaim.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.DwBranches
public import Idealize.ShloMosaic.Lib.Claim

@[expose] public section

set_option maxRecDepth 16384

noncomputable section

/-! The claims about the kernel of `dw_branches` and its reference. -/

namespace Cert.Proof.DwBranches

open Idealize.ShloMosaic Idealize.SL.Sem

attribute [local instance] Cert.Kernel9.Gen.facts Cert.Kernel9Ideal.Gen.facts Cert.Reference9Ideal.Gen.facts

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono
    (fun r h => ⟨fun c => (h c).2.2.2, sem_eq_zero_of_no_sems (by decide) r.2⟩)
    (Cert.Reference9Ideal.Value.run (F := Ideal) m ρ)

theorem algebraic : Cert.algebraic_Kernel9Ideal_Reference9Ideal := by
  intro m g m' g' _ hag
  refine ⟨fun c => Cert.Reference9Ideal.Read.val_main_v9 (F := Ideal) (a0 m c) (a6 m c),
    fun c => Cert.Reference9Ideal.Read.val_main_v10 (F := Ideal) (a1 m c) (a7 m c),
    fun c => Cert.Reference9Ideal.Read.val_main_v11 (F := Ideal) (a2 m c) (a8 m c), ?_, ?_⟩
  · exact (θ_run Cert.Kernel9Ideal.defs _ _).mono
      (fun r h c => ⟨(h c).1.trans (final_6 m c), (h c).2.1.trans (final_7 m c), (h c).2.2.1.trans (final_8 m c), (h c).2.2.2⟩)
      (Cert.Kernel9Ideal.Value.run_blocks (F := Ideal) m g)
  · refine (θ_run Cert.Reference9Ideal.defs _ _).mono (fun r h c => ?_) (Cert.Reference9Ideal.Value.run (F := Ideal) m' g')
    obtain ⟨e0, e1, e2, e3, e4, e5, e6, e7, e8⟩ := hag c
    obtain ⟨h0, h1, h2, hargs⟩ := h c
    rw [Cert.Reference9Ideal.Read.val_main_v9_eq, e0, e6] at h0
    rw [Cert.Reference9Ideal.Read.val_main_v10_eq, e1, e7] at h1
    rw [Cert.Reference9Ideal.Read.val_main_v11_eq, e2, e8] at h2
    exact ⟨h0, h1, h2, hargs⟩

end Cert.Proof.DwBranches

end
-- ==== Proof.InProj.lean ====
module

public import proofs.«01_k».proof.Proof.Rows
public import proofs.«01_k».proof.Proof.Gen.Kernel10Ideal.Value
public import proofs.«01_k».proof.Proof.Gen.Reference10Ideal.Read
public import Idealize.ShloMosaic.Lib.Pipeline.Value
public import Idealize.ShloMosaic.Lib.Tactic
public import Idealize.ShloMosaic.Lib.Pointwise

@[expose] public section

set_option maxRecDepth 16384

noncomputable section

/-! The kernel of `in_proj`: 512 rows a point are normalised and multiplied by one half of the projection's weights; each half
of the grid also writes its own copy of the normalised rows. -/

namespace Cert.Proof.InProj

open Idealize.ShloMosaic Idealize.ShloMosaic.TcCoe Cert.Kernel10Ideal Cert.Kernel10Ideal.Gen Cert.Proof.Rows

variable (m : (ℓ : Loc nD τ sig) → Buf (Elt Ideal) ℓ) (c : Dev nD)

theorem hz : (![0, 0] : Fin 2 → Nat) = fun _ => 0 := funext fun a => by fin_cases a <;> rfl

theorem hz3 : (![0, 0, 0] : Fin 3 → Nat) = fun _ => 0 := funext fun a => by fin_cases a <;> rfl

/-- The arguments on a device, as arrays. -/
abbrev a0 : Vec Ideal S2048x1024 .f32 := m ((c : Thread nD τ).loc main_arg0)
abbrev a1 : Vec Ideal S1x1024 .f32 := m ((c : Thread nD τ).loc main_arg1)
abbrev a2 : Vec Ideal S1024x9472 .f32 := m ((c : Thread nD τ).loc main_arg2)

theorem V1 (k : Fin 9472) (n : Fin 1024) : (V m c main_v1 : Vec Ideal S9472x1024 .bf16) (ix2 k n) = a2 m c (ix2 n k) := by
  have e : V m c main_v1 = (truncf .bf16 (transpose S9472x1024 [1, 0] (a2 m c) transposes_S1024x9472_S9472x1024_1_0) bitsLt_bf16_f32 : FVec Ideal S9472x1024 .bf16) := by
    unfold V; after_results
  rw [e]; generalize a2 m c = x; pointwise

theorem lt8 (t : Fin cfg0.N) : t.val < 8 := lt_of_lt_of_eq t.isLt N_0

/-- Row `r` of row tile `k`, -/
def gr (k : Nat) (r : Fin 512) : Fin 2048 := Rows.row 4 512 (by omega) k r
theorem gr_eq (k : Nat) (r : Fin 512) : (gr k r).val = r.val + 512 * (k % 4) := rfl

/-- and column `r` of half `k`. -/
def gc (k : Nat) (r : Fin 4736) : Fin 9472 := Rows.row 2 4736 (by omega) k r
theorem gc_eq (k : Nat) (r : Fin 4736) : (gc k r).val = r.val + 4736 * (k % 2) := rfl

theorem iblk0 (t : Fin cfg0.N) (r : Fin 512) (k : Fin 1024) :
    (iblk m c 0 t : Vec Ideal S512x1024 .f32) (ix2 r k) = a0 m c (ix2 (gr (t.val) r) k) := by
  have hi := (by decide +kernel : ∀ t : Fin cfg0.N, win0_0.index t 0 = (t.val) % 4 ∧ win0_0.index t 1 = 0) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 512 + 1 * r.val = (gr (t.val) r).val; rw [hi.1, gr_eq]; omega
  | ⟨1, _⟩ => show win0_0.index t 1 * 1024 + 1 * k.val = _; rw [hi.2]; simp

theorem iblk1 (t : Fin cfg0.N) (k : Fin 1024) :
    (iblk m c 1 t : Vec Ideal S1x1024 .f32) (ix2 0 k) = a1 m c (ix2 0 k) := by
  have hi := (by decide +kernel : ∀ t : Fin cfg0.N, win0_1.index t 0 = 0 ∧ win0_1.index t 1 = 0) t
  rw [show a1 m c = V m c main_arg1 from (V_main_arg1 m c).symm]
  unfold iblk
  rw [View.read_apply]
  show V m c main_arg1 _ = V m c main_arg1 _
  congr 1
  funext a
  apply Fin.ext
  match a with
  | ⟨0, _⟩ => show win0_1.index t 0 * 1 + 1 * (0 : Fin 1).val = _; rw [hi.1]; simp
  | ⟨1, _⟩ => show win0_1.index t 1 * 1024 + 1 * k.val = _; rw [hi.2]; simp

theorem iblk2 (t : Fin cfg0.N) (r : Fin 4736) (k : Fin 1024) :
    (iblk m c 2 t : Vec Ideal S4736x1024 .bf16) (ix2 r k) = (V m c main_v1 : Vec Ideal S9472x1024 .bf16) (ix2 (gc (t.val / 4) r) k) := by
  have hi := (by decide +kernel : ∀ t : Fin cfg0.N, win0_2.index t 0 = (t.val / 4) % 2 ∧ win0_2.index t 1 = 0) t
  unfold iblk
  rw [View.read_apply]
  show V m c main_v1 _ = V m c main_v1 _
  congr 1
  funext a
  apply Fin.ext
  match a with
  | ⟨0, _⟩ => show win0_2.index t 0 * 4736 + 1 * r.val = (gc (t.val / 4) r).val; rw [hi.1, gc_eq]; omega
  | ⟨1, _⟩ => show win0_2.index t 1 * 1024 + 1 * k.val = _; rw [hi.2]; simp

theorem out3_eq (x0 : Vec Ideal S512x1024 .f32) (x1 : Vec Ideal S1x1024 .f32) (x2 : Vec Ideal S4736x1024 .bf16) : out0_3 (F := Ideal) x0 x1 x2 = k0_pay2 x0 x1 := by
  unfold out0_3
  rw [View.canon_unit_zero hz3]
  simp only [View.ld_unit_zero (S := S512x1024) hz, View.ld_unit_zero (S := S1x1024) hz]

theorem out4_eq (x0 : Vec Ideal S512x1024 .f32) (x1 : Vec Ideal S1x1024 .f32) (x2 : Vec Ideal S4736x1024 .bf16) : out0_4 (F := Ideal) x0 x1 x2 = k0_pay3 x0 x1 x2 := by
  unfold out0_4
  rw [View.canon_unit_zero hz]
  simp only [View.ld_unit_zero (S := S512x1024) hz, View.ld_unit_zero (S := S1x1024) hz, View.ld_unit_zero (S := S4736x1024) hz]

theorem pay1_at (x : Vec Ideal S512x1024 .f32) (g : Vec Ideal S1x1024 .f32) (r : Fin 512) (n : Fin 1024) :
    k0_pay1 (F := Ideal) x g (ix2 r n) = x (ix2 r n) * rs (fun k => x (ix2 r k)) * g (ix2 0 n) := by
  pointwise [k0_pay1]; rfl

theorem pay2_at (x : Vec Ideal S512x1024 .f32) (g : Vec Ideal S1x1024 .f32) (r : Fin 512) (n : Fin 1024) :
    k0_pay2 (F := Ideal) x g (ix3 0 r n) = x (ix2 r n) * rs (fun k => x (ix2 r k)) * g (ix2 0 n) := by
  rw [← pay1_at]
  unfold k0_pay2
  generalize k0_pay1 (F := Ideal) x g = y
  pointwise

theorem pay3_at (x : Vec Ideal S512x1024 .f32) (g : Vec Ideal S1x1024 .f32) (w : Vec Ideal S4736x1024 .bf16) (r : Fin 512) (n : Fin 4736) :
    k0_pay3 (F := Ideal) x g w (ix2 r n) = ∑ k : Fin 1024, x (ix2 r k) * rs (fun k => x (ix2 r k)) * g (ix2 0 k) * w (ix2 n k) := by
  have h := pay1_at x g r
  revert h
  unfold k0_pay3
  generalize k0_pay1 (F := Ideal) x g = y
  intro h
  pointwise
  simp only [h]

/-- The reference's normalised rows, -/
theorem ref13_at (x : Vec Ideal S2048x1024 .f32) (g : Vec Ideal S1x1024 .f32) (r : Fin 2048) (n : Fin 1024) :
    Cert.Reference10Ideal.Read.val_main_v13 (F := Ideal) x g (ix2 r n) = x (ix2 r n) * rs (fun k => x (ix2 r k)) * g (ix2 0 n) := by
  pointwise [Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_cst_1, Cert.Reference10Ideal.Read.val_main_v5, Cert.Reference10Ideal.Read.val_main_v4, Cert.Reference10Ideal.Read.val_main_cst_0, Cert.Reference10Ideal.Read.val_main_v3, Cert.Reference10Ideal.Read.val_main_v2, Cert.Reference10Ideal.Read.val_main_cst, Cert.Reference10Ideal.Read.val_main_v1, Cert.Reference10Ideal.Read.val_main_v0]; rfl

/-- both copies of them, -/
theorem ref17_at (x : Vec Ideal S2048x1024 .f32) (g : Vec Ideal S1x1024 .f32) (b : Fin 2) (r : Fin 2048) (n : Fin 1024) :
    Cert.Reference10Ideal.Read.val_main_v17 (F := Ideal) x g (ix3 b r n) = x (ix2 r n) * rs (fun k => x (ix2 r k)) * g (ix2 0 n) := by
  rw [← ref13_at]
  unfold Cert.Reference10Ideal.Read.val_main_v17 Cert.Reference10Ideal.Read.val_main_v16 Cert.Reference10Ideal.Read.val_main_v15 Cert.Reference10Ideal.Read.val_main_v14
  generalize Cert.Reference10Ideal.Read.val_main_v13 (F := Ideal) x g = y
  fin_cases b
  · pointwise
  · pointwise

/-- and their product with the weights. -/
theorem ref18_at (x : Vec Ideal S2048x1024 .f32) (g : Vec Ideal S1x1024 .f32) (w : Vec Ideal S1024x9472 .f32) (r : Fin 2048) (n : Fin 9472) :
    Cert.Reference10Ideal.Read.val_main_v18 (F := Ideal) x g w (ix2 r n) = ∑ k : Fin 1024, x (ix2 r k) * rs (fun k => x (ix2 r k)) * g (ix2 0 k) * w (ix2 k n) := by
  have h := ref13_at x g r
  revert h
  unfold Cert.Reference10Ideal.Read.val_main_v18
  generalize Cert.Reference10Ideal.Read.val_main_v13 (F := Ideal) x g = y
  intro h
  pointwise
  simp only [h]

theorem outs3_at (t : Fin cfg0.N) (b : Fin 2) (r : Fin 512) (n : Fin 1024) :
    (out0_3 (F := Ideal) (iblk m c 0 t) (iblk m c 1 t) (iblk m c 2 t) : Vec Ideal S1x512x1024 .bf16) (ix3 0 r n)
      = Cert.Reference10Ideal.Read.val_main_v17 (F := Ideal) (a0 m c) (a1 m c) (ix3 b (gr t.val r) n) := by
  rw [out3_eq, ref17_at]
  refine (pay2_at _ _ r n).trans ?_
  simp only [iblk0, iblk1]

theorem outs4_at (t : Fin cfg0.N) (r : Fin 512) (n : Fin 4736) :
    (out0_4 (F := Ideal) (iblk m c 0 t) (iblk m c 1 t) (iblk m c 2 t) : Vec Ideal S512x4736 .f32) (ix2 r n)
      = Cert.Reference10Ideal.Read.val_main_v18 (F := Ideal) (a0 m c) (a1 m c) (a2 m c) (ix2 (gr t.val r) (gc (t.val / 4) n)) := by
  rw [out4_eq, ref18_at]
  refine (pay3_at _ _ _ r n).trans ?_
  simp only [iblk0, iblk1, iblk2]
  exact Finset.sum_congr rfl fun k _ => by rw [V1]

theorem idx3 (t : Fin cfg0.N) : win0_3.index t 0 = t.val / 4 % 2 ∧ win0_3.index t 1 = t.val % 4 ∧ win0_3.index t 2 = 0 :=
  (by decide +kernel : ∀ t : Fin cfg0.N, win0_3.index t 0 = t.val / 4 % 2 ∧ win0_3.index t 1 = t.val % 4 ∧ win0_3.index t 2 = 0) t

theorem flushed_3 (t : Fin cfg0.N) (hf : (cfg0.win 3).flush t = true) :
    (dats m 0 c).flushed 3 t = ((cfg0.win 3).blk t).view.read (Elt Ideal) (Cert.Reference10Ideal.Read.val_main_v17 (F := Ideal) (a0 m c) (a1 m c)) := by
  rw [Cert.Kernel10Ideal.Value.flushed3 m c t]
  have hi := idx3 t
  have hN := lt8 t
  funext j
  rw [View.read_apply]
  obtain ⟨o, p, q, rfl⟩ : ∃ (o : Fin 1) (p : Fin 512) (q : Fin 1024), j = ix3 o p q := ⟨j 0, j 1, j 2, eq_ix3 j⟩
  obtain rfl : o = 0 := Subsingleton.elim _ _
  have h2 : ∀ (X : Vec Ideal S1x512x1024 .bf16), (cfg0.win 3).cut (grid0.coords t) X (ix3 0 p q) = X (ix3 0 p q) := fun _ => rfl
  refine (h2 _).trans ?_
  have he : (((cfg0.win 3).blk t).view.emb (ix3 0 p q) : S2x2048x1024.Idx) = ix3 ⟨t.val / 4 % 2, by omega⟩ (gr t.val p) q := by
    funext a
    apply Fin.ext
    match a with
    | ⟨0, _⟩ => show win0_3.index t 0 * 1 + 1 * (0 : Fin 1).val = _; rw [hi.1]; simp
    | ⟨1, _⟩ => show win0_3.index t 1 * 512 + 1 * p.val = (gr t.val p).val; rw [hi.2.1, gr_eq]; omega
    | ⟨2, _⟩ => show win0_3.index t 2 * 1024 + 1 * q.val = _; rw [hi.2.2]; simp
  rw [he]
  exact outs3_at m c t _ p q

/-- The array of both copies is the reference's. -/
theorem final_3 : (dats m 0 c).arrAt 3 cfg0.N = Cert.Reference10Ideal.Read.val_main_v17 (F := Ideal) (a0 m c) (a1 m c) :=
  (dats m 0 c).arrAt_eq_of_cover 3 _ (flushed_3 m c) fun i => by
    have h0 : (i 0 : Nat) < 2 := (i 0).isLt
    have h1 : (i 1 : Nat) < 2048 := (i 1).isLt
    have h2 : (i 2 : Nat) < 1024 := (i 2).isLt
    have hN : cfg0.N = 8 := N_0
    let t : Fin cfg0.N := ⟨(i 0 : Nat) * 4 + (i 1 : Nat) / 512, by omega⟩
    have ht : t.val = (i 0 : Nat) * 4 + (i 1 : Nat) / 512 := rfl
    have hi := idx3 t
    refine ⟨t, flush0_3 t, ?_⟩
    show i ∈ ((View.whole main_v2_0).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [hi.1]; omega
    | ⟨1, _⟩ =>
      show win0_3.index t 1 * 512 ≤ (i 1 : Nat) ∧ (i 1 : Nat) < win0_3.index t 1 * 512 + 512
      rw [hi.2.1]; omega
    | ⟨2, _⟩ =>
      show win0_3.index t 2 * 1024 ≤ (i 2 : Nat) ∧ (i 2 : Nat) < win0_3.index t 2 * 1024 + 1024
      rw [hi.2.2]; omega

theorem idx4 (t : Fin cfg0.N) : win0_4.index t 0 = (t.val) % 4 ∧ win0_4.index t 1 = (t.val / 4) % 2 :=
  (by decide +kernel : ∀ t : Fin cfg0.N, win0_4.index t 0 = (t.val) % 4 ∧ win0_4.index t 1 = (t.val / 4) % 2) t

theorem flushed_4 (t : Fin cfg0.N) (hf : (cfg0.win 4).flush t = true) :
    (dats m 0 c).flushed 4 t = ((cfg0.win 4).blk t).view.read (Elt Ideal) (Cert.Reference10Ideal.Read.val_main_v18 (F := Ideal) (a0 m c) (a1 m c) (a2 m c)) := by
  rw [Cert.Kernel10Ideal.Value.flushed4 m c t]
  have hi := idx4 t
  funext j
  rw [View.read_apply]
  obtain ⟨p, q, rfl⟩ : ∃ (p : Fin 512) (q : Fin 4736), j = ix2 p q := ⟨j 0, j 1, eq_ix2 j⟩
  have h2 : ∀ (X : Vec Ideal S512x4736 .f32), (cfg0.win 4).cut (grid0.coords t) X (ix2 p q) = X (ix2 p q) := fun _ => rfl
  refine (h2 _).trans ?_
  have he : (((cfg0.win 4).blk t).view.emb (ix2 p q) : S2048x9472.Idx) = ix2 (gr (t.val) p) (gc (t.val / 4) q) := by
    funext a
    apply Fin.ext
    match a with
    | ⟨0, _⟩ => show win0_4.index t 0 * 512 + 1 * p.val = (gr (t.val) p).val; rw [hi.1, gr_eq]; omega
    | ⟨1, _⟩ => show win0_4.index t 1 * 4736 + 1 * q.val = (gc (t.val / 4) q).val; rw [hi.2, gc_eq]; omega
  rw [he]
  exact outs4_at m c t p q

/-- The projection is the reference's. -/
theorem final_4 : (dats m 0 c).arrAt 4 cfg0.N = Cert.Reference10Ideal.Read.val_main_v18 (F := Ideal) (a0 m c) (a1 m c) (a2 m c) :=
  (dats m 0 c).arrAt_eq_of_cover 4 _ (flushed_4 m c) fun i => by
    have h0 : (i 0 : Nat) < 2048 := (i 0).isLt
    have h1 : (i 1 : Nat) < 9472 := (i 1).isLt
    have hN : cfg0.N = 8 := N_0
    let t : Fin cfg0.N := ⟨(i 1 : Nat) / 4736 * 4 + (i 0 : Nat) / 512, by omega⟩
    have ht : t.val = (i 1 : Nat) / 4736 * 4 + (i 0 : Nat) / 512 := rfl
    have hi := idx4 t
    refine ⟨t, flush0_4 t, ?_⟩
    show i ∈ ((View.whole main_v2_1).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [hi.1]; omega
    | ⟨1, _⟩ =>
      show win0_4.index t 1 * 4736 ≤ (i 1 : Nat) ∧ (i 1 : Nat) < win0_4.index t 1 * 4736 + 4736
      rw [hi.2]; omega

end Cert.Proof.InProj

end
-- ==== Proof.InProjClaim.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.InProj
public import Idealize.ShloMosaic.Lib.Claim

@[expose] public section

set_option maxRecDepth 16384

noncomputable section

/-! The claims about the kernel of `in_proj` and its reference. -/

namespace Cert.Proof.InProj

open Idealize.ShloMosaic Idealize.SL.Sem

attribute [local instance] Cert.Kernel10.Gen.facts Cert.Kernel10Ideal.Gen.facts Cert.Reference10Ideal.Gen.facts

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono
    (fun r h => ⟨fun c => (h c).2.2, sem_eq_zero_of_no_sems (by decide) r.2⟩)
    (Cert.Reference10Ideal.Value.run (F := Ideal) m ρ)

theorem algebraic : Cert.algebraic_Kernel10Ideal_Reference10Ideal := by
  intro m g m' g' _ hag
  refine ⟨fun c => Cert.Reference10Ideal.Read.val_main_v17 (F := Ideal) (a0 m c) (a1 m c),
    fun c => Cert.Reference10Ideal.Read.val_main_v18 (F := Ideal) (a0 m c) (a1 m c) (a2 m c), ?_, ?_⟩
  · exact (θ_run Cert.Kernel10Ideal.defs _ _).mono
      (fun r h c => ⟨(h c).1.trans (final_3 m c), (h c).2.1.trans (final_4 m c), (h c).2.2⟩)
      (Cert.Kernel10Ideal.Value.run_blocks (F := Ideal) m g)
  · refine (θ_run Cert.Reference10Ideal.defs _ _).mono (fun r h c => ?_) (Cert.Reference10Ideal.Value.run (F := Ideal) m' g')
    obtain ⟨e0, e1, e2⟩ := hag c
    obtain ⟨h0, h1, hargs⟩ := h c
    rw [Cert.Reference10Ideal.Read.val_main_v17_eq, e0, e1] at h0
    rw [Cert.Reference10Ideal.Read.val_main_v18_eq, e0, e1, e2] at h1
    exact ⟨h0, h1, hargs⟩

end Cert.Proof.InProj

end
-- ==== Proof.MergePay.lean ====
module

public import proofs.«01_k».proof.Proof.Rows
public import proofs.«01_k».proof.Proof.Gen.Kernel4Ideal.Value
public import Idealize.ShloMosaic.Lib.Pipeline.Value
public import Idealize.ShloMosaic.Lib.Tactic
public import Idealize.ShloMosaic.Lib.Pointwise

@[expose] public section

set_option maxRecDepth 16384

noncomputable section

/-! What a point of `merge_bwd` leaves, at an index: the gradients of the gates and of the branches in four pieces of 256
columns, and the branches' gradients times the transposed weights. -/

namespace Cert.Proof.Merge

open Idealize.ShloMosaic Idealize.ShloMosaic.TcCoe Cert.Kernel4Ideal Cert.Kernel4Ideal.Gen Cert.Proof.Rows

theorem hz : (![0, 0] : Fin 2 → Nat) = fun _ => 0 := funext fun a => by fin_cases a <;> rfl

/-- The gradient that reaches the merge. -/
def dmr (x0 : Vec Ideal S512x1024 .bf16) (x1 : Vec Ideal S1024x1024 .bf16) (r : Fin 512) (n : Fin 1024) : EReal :=
  ∑ k : Fin 1024, x0 (ix2 r k) * x1 (ix2 n k)

/-- A gate's gradient from the merge's gradient `d`, the branch `y` and the gate's pre-activation `g`. -/
def gateD (d y g : EReal) : EReal := d * y * (Ideal.logistic g * (1 - Ideal.logistic g))

theorem cols (n : Fin 1024) : (∃ k : Fin 256, n = ⟨0 + k.val, by omega⟩) ∨ (∃ k : Fin 256, n = ⟨256 + k.val, by omega⟩)
    ∨ (∃ k : Fin 256, n = ⟨512 + k.val, by omega⟩) ∨ (∃ k : Fin 256, n = ⟨768 + k.val, by omega⟩) := by
  rcases lt_or_ge n.val 512 with h | h
  · rcases lt_or_ge n.val 256 with h' | h'
    · exact .inl ⟨⟨n.val, h'⟩, Fin.ext (by simp)⟩
    · exact .inr (.inl ⟨⟨n.val - 256, by omega⟩, Fin.ext (by show n.val = 256 + (n.val - 256); omega)⟩)
  · rcases lt_or_ge n.val 768 with h' | h'
    · exact .inr (.inr (.inl ⟨⟨n.val - 512, by omega⟩, Fin.ext (by show n.val = 512 + (n.val - 512); omega)⟩))
    · exact .inr (.inr (.inr ⟨⟨n.val - 768, by omega⟩, Fin.ext (by show n.val = 768 + (n.val - 768); omega)⟩))

theorem pay6_at (x0 : Vec Ideal S512x1024 .bf16) (x1 : Vec Ideal S1024x1024 .bf16) (r : Fin 512) (n : Fin 1024) :
    k0_pay6 (F := Ideal) x0 x1 (ix2 r n) = dmr x0 x1 r n := by
  pointwise [k0_pay6]; try rfl

theorem gatea0 (x0 : Vec Ideal S512x1024 .bf16) (x1 : Vec Ideal S1024x1024 .bf16) (g : Vec Ideal S512x256 .f32) (y : Vec Ideal S512x256 .bf16) (r : Fin 512) (k : Fin 256) :
    k0_pay10 (F := Ideal) x0 x1 g y (ix2 r k) = gateD (dmr x0 x1 r ⟨0 + k.val, by omega⟩) (y (ix2 r k)) (g (ix2 r k)) := by
  rw [← pay6_at]
  unfold k0_pay10 k0_pay9
  generalize k0_pay6 (F := Ideal) x0 x1 = v4
  unfold gateD
  pointwise [k0_pay7]; try simp

theorem dya0 (x0 : Vec Ideal S512x1024 .bf16) (x1 : Vec Ideal S1024x1024 .bf16) (g : Vec Ideal S512x256 .f32) (r : Fin 512) (k : Fin 256) :
    k0_pay12 (F := Ideal) x0 x1 g (ix2 r k) = Ideal.logistic (g (ix2 r k)) * (dmr x0 x1 r ⟨0 + k.val, by omega⟩) := by
  rw [← pay6_at]
  unfold k0_pay12 k0_pay9
  generalize k0_pay6 (F := Ideal) x0 x1 = v4
  pointwise [k0_pay7]; try simp

theorem gatea1 (v4 : FVec Ideal S512x1024 .f32) (g : Vec Ideal S512x256 .f32) (y : Vec Ideal S512x256 .bf16) (r : Fin 512) (k : Fin 256) :
    k0_pay17 (F := Ideal) v4 g y (ix2 r k) = gateD (v4 (ix2 r ⟨256 + k.val, by omega⟩)) (y (ix2 r k)) (g (ix2 r k)) := by
  unfold gateD
  pointwise [k0_pay17, k0_pay16, k0_pay14]

theorem dya1 (v4 : FVec Ideal S512x1024 .f32) (g : Vec Ideal S512x256 .f32) (r : Fin 512) (k : Fin 256) :
    k0_pay19 (F := Ideal) v4 g (ix2 r k) = Ideal.logistic (g (ix2 r k)) * (v4 (ix2 r ⟨256 + k.val, by omega⟩)) := by
  pointwise [k0_pay19, k0_pay16, k0_pay14]

theorem gatea2 (v4 : FVec Ideal S512x1024 .f32) (g : Vec Ideal S512x256 .f32) (y : Vec Ideal S512x256 .bf16) (r : Fin 512) (k : Fin 256) :
    k0_pay27 (F := Ideal) v4 (k0_pay21 y) (k0_pay23 g) k0_pay24 (ix2 r k) = gateD (v4 (ix2 r ⟨512 + k.val, by omega⟩)) (y (ix2 r k)) (g (ix2 r k)) := by
  unfold gateD
  pointwise [k0_pay27, k0_pay26, k0_pay21, k0_pay23, k0_pay24]

theorem dya2 (v4 : FVec Ideal S512x1024 .f32) (g : Vec Ideal S512x256 .f32) (r : Fin 512) (k : Fin 256) :
    k0_pay29 (F := Ideal) v4 (k0_pay23 g) (ix2 r k) = Ideal.logistic (g (ix2 r k)) * (v4 (ix2 r ⟨512 + k.val, by omega⟩)) := by
  pointwise [k0_pay29, k0_pay26, k0_pay23]

theorem gatea3 (v4 : FVec Ideal S512x1024 .f32) (g : Vec Ideal S512x256 .f32) (y : Vec Ideal S512x256 .bf16) (r : Fin 512) (k : Fin 256) :
    k0_pay37 (F := Ideal) v4 g y (ix2 r k) = gateD (v4 (ix2 r ⟨768 + k.val, by omega⟩)) (y (ix2 r k)) (g (ix2 r k)) := by
  unfold gateD
  pointwise [k0_pay37, k0_pay33, k0_pay31]

theorem dya3 (v4 : FVec Ideal S512x1024 .f32) (g : Vec Ideal S512x256 .f32) (r : Fin 512) (k : Fin 256) :
    k0_pay36 (F := Ideal) v4 g (ix2 r k) = Ideal.logistic (g (ix2 r k)) * (v4 (ix2 r ⟨768 + k.val, by omega⟩)) := by
  pointwise [k0_pay36, k0_pay33, k0_pay31]

theorem gateb0 (x0 : Vec Ideal S512x1024 .bf16) (x1 : Vec Ideal S1024x1024 .bf16) (g : Vec Ideal S512x256 .f32) (y : Vec Ideal S512x256 .bf16) (r : Fin 512) (k : Fin 256) :
    k0_pay11 (F := Ideal) x0 x1 g y (ix2 r k) = gateD (dmr x0 x1 r ⟨0 + k.val, by omega⟩) (y (ix2 r k)) (g (ix2 r k)) := by
  rw [← pay6_at]
  unfold k0_pay11 k0_pay9
  generalize k0_pay6 (F := Ideal) x0 x1 = v4
  unfold gateD
  pointwise [k0_pay8]; try simp

theorem dyb0 (x0 : Vec Ideal S512x1024 .bf16) (x1 : Vec Ideal S1024x1024 .bf16) (g : Vec Ideal S512x256 .f32) (r : Fin 512) (k : Fin 256) :
    k0_pay13 (F := Ideal) x0 x1 g (ix2 r k) = Ideal.logistic (g (ix2 r k)) * (dmr x0 x1 r ⟨0 + k.val, by omega⟩) := by
  rw [← pay6_at]
  unfold k0_pay13 k0_pay9
  generalize k0_pay6 (F := Ideal) x0 x1 = v4
  pointwise [k0_pay8]; try simp

theorem gateb1 (v4 : FVec Ideal S512x1024 .f32) (g : Vec Ideal S512x256 .f32) (y : Vec Ideal S512x256 .bf16) (r : Fin 512) (k : Fin 256) :
    k0_pay18 (F := Ideal) v4 g y (ix2 r k) = gateD (v4 (ix2 r ⟨256 + k.val, by omega⟩)) (y (ix2 r k)) (g (ix2 r k)) := by
  unfold gateD
  pointwise [k0_pay18, k0_pay16, k0_pay15]

theorem dyb1 (v4 : FVec Ideal S512x1024 .f32) (g : Vec Ideal S512x256 .f32) (r : Fin 512) (k : Fin 256) :
    k0_pay20 (F := Ideal) v4 g (ix2 r k) = Ideal.logistic (g (ix2 r k)) * (v4 (ix2 r ⟨256 + k.val, by omega⟩)) := by
  pointwise [k0_pay20, k0_pay16, k0_pay15]

theorem gateb2 (v4 : FVec Ideal S512x1024 .f32) (g : Vec Ideal S512x256 .f32) (y : Vec Ideal S512x256 .bf16) (r : Fin 512) (k : Fin 256) :
    k0_pay28 (F := Ideal) v4 g (k0_pay22 y) (ix2 r k) = gateD (v4 (ix2 r ⟨512 + k.val, by omega⟩)) (y (ix2 r k)) (g (ix2 r k)) := by
  unfold gateD
  pointwise [k0_pay28, k0_pay26, k0_pay22, k0_pay25]

theorem dyb2 (v4 : FVec Ideal S512x1024 .f32) (g : Vec Ideal S512x256 .f32) (r : Fin 512) (k : Fin 256) :
    k0_pay30 (F := Ideal) v4 g (ix2 r k) = Ideal.logistic (g (ix2 r k)) * (v4 (ix2 r ⟨512 + k.val, by omega⟩)) := by
  pointwise [k0_pay30, k0_pay26, k0_pay25]

theorem gateb3 (v4 : FVec Ideal S512x1024 .f32) (g : Vec Ideal S512x256 .f32) (y : Vec Ideal S512x256 .bf16) (r : Fin 512) (k : Fin 256) :
    k0_pay1 (F := Ideal) (k0_pay35 v4 g y) (ix2 r k) = gateD (v4 (ix2 r ⟨768 + k.val, by omega⟩)) (y (ix2 r k)) (g (ix2 r k)) := by
  unfold gateD
  pointwise [k0_pay1, k0_pay35, k0_pay33, k0_pay32]

theorem dyb3 (v4 : FVec Ideal S512x1024 .f32) (g : Vec Ideal S512x256 .f32) (r : Fin 512) (k : Fin 256) :
    k0_pay34 (F := Ideal) v4 g (ix2 r k) = Ideal.logistic (g (ix2 r k)) * (v4 (ix2 r ⟨768 + k.val, by omega⟩)) := by
  pointwise [k0_pay34, k0_pay33, k0_pay32]

theorem cata0 (a b c : FVec Ideal S512x256 .bf16) (d : FVec Ideal S512x256 .f32) (r : Fin 512) (k : Fin 256) :
    k0_pay2 (F := Ideal) a b c d (ix2 r ⟨0 + k.val, by omega⟩) = a (ix2 r k) := by
  pointwise [k0_pay2]

theorem cata1 (a b c : FVec Ideal S512x256 .bf16) (d : FVec Ideal S512x256 .f32) (r : Fin 512) (k : Fin 256) :
    k0_pay2 (F := Ideal) a b c d (ix2 r ⟨256 + k.val, by omega⟩) = b (ix2 r k) := by
  pointwise [k0_pay2]

theorem cata2 (a b c : FVec Ideal S512x256 .bf16) (d : FVec Ideal S512x256 .f32) (r : Fin 512) (k : Fin 256) :
    k0_pay2 (F := Ideal) a b c d (ix2 r ⟨512 + k.val, by omega⟩) = c (ix2 r k) := by
  pointwise [k0_pay2]
  have h0 : ¬ 512 + k.val < 256 := by omega
  have h1 : ¬ 512 + k.val - 256 < 256 := by omega
  have h2 : 512 + k.val - 256 - 256 < 256 := by omega
  rw [dif_neg h0, dif_neg h1, dif_pos h2]
  exact congrArg c (congrArg (ix2 r) (Fin.ext (by show 512 + k.val - 256 - 256 = k.val; omega)))

theorem cata3 (a b c : FVec Ideal S512x256 .bf16) (d : FVec Ideal S512x256 .f32) (r : Fin 512) (k : Fin 256) :
    k0_pay2 (F := Ideal) a b c d (ix2 r ⟨768 + k.val, by omega⟩) = d (ix2 r k) := by
  pointwise [k0_pay2]
  have h0 : ¬ 768 + k.val < 256 := by omega
  have h1 : ¬ 768 + k.val - 256 < 256 := by omega
  have h2 : ¬ 768 + k.val - 256 - 256 < 256 := by omega
  rw [dif_neg h0, dif_neg h1, dif_neg h2]
  exact congrArg d (congrArg (ix2 r) (Fin.ext (by show 768 + k.val - 256 - 256 - 256 = k.val; omega)))

theorem catb0 (a b c : FVec Ideal S512x256 .bf16) (d : FVec Ideal S512x256 .f32) (r : Fin 512) (k : Fin 256) :
    k0_pay3 (F := Ideal) a b c d (ix2 r ⟨0 + k.val, by omega⟩) = a (ix2 r k) := by
  pointwise [k0_pay3]

theorem catb1 (a b c : FVec Ideal S512x256 .bf16) (d : FVec Ideal S512x256 .f32) (r : Fin 512) (k : Fin 256) :
    k0_pay3 (F := Ideal) a b c d (ix2 r ⟨256 + k.val, by omega⟩) = b (ix2 r k) := by
  pointwise [k0_pay3]

theorem catb2 (a b c : FVec Ideal S512x256 .bf16) (d : FVec Ideal S512x256 .f32) (r : Fin 512) (k : Fin 256) :
    k0_pay3 (F := Ideal) a b c d (ix2 r ⟨512 + k.val, by omega⟩) = c (ix2 r k) := by
  pointwise [k0_pay3]
  have h0 : ¬ 512 + k.val < 256 := by omega
  have h1 : ¬ 512 + k.val - 256 < 256 := by omega
  have h2 : 512 + k.val - 256 - 256 < 256 := by omega
  rw [dif_neg h0, dif_neg h1, dif_pos h2]
  exact congrArg c (congrArg (ix2 r) (Fin.ext (by show 512 + k.val - 256 - 256 = k.val; omega)))

theorem catb3 (a b c : FVec Ideal S512x256 .bf16) (d : FVec Ideal S512x256 .f32) (r : Fin 512) (k : Fin 256) :
    k0_pay3 (F := Ideal) a b c d (ix2 r ⟨768 + k.val, by omega⟩) = d (ix2 r k) := by
  pointwise [k0_pay3]
  have h0 : ¬ 768 + k.val < 256 := by omega
  have h1 : ¬ 768 + k.val - 256 < 256 := by omega
  have h2 : ¬ 768 + k.val - 256 - 256 < 256 := by omega
  rw [dif_neg h0, dif_neg h1, dif_neg h2]
  exact congrArg d (congrArg (ix2 r) (Fin.ext (by show 768 + k.val - 256 - 256 - 256 = k.val; omega)))

variable (x0 : Vec Ideal S512x1024 .bf16) (x1 : Vec Ideal S1024x1024 .bf16) (x2 : Vec Ideal S1024x1024 .bf16) (x3 : Vec Ideal S1024x1024 .bf16) (x4 : Vec Ideal S512x256 .f32) (x5 : Vec Ideal S512x256 .f32) (x6 : Vec Ideal S512x256 .f32) (x7 : Vec Ideal S512x256 .f32) (x8 : Vec Ideal S512x256 .f32) (x9 : Vec Ideal S512x256 .f32) (x10 : Vec Ideal S512x256 .f32) (x11 : Vec Ideal S512x256 .f32) (x12 : Vec Ideal S512x1024 .bf16) (x13 : Vec Ideal S512x1024 .bf16) (G H : Fin 512 → Fin 1024 → EReal)

theorem pay38_eq : k0_pay38 (F := Ideal) x0 x1 x2 x3 x4 x5 x6 x7 x8 x9 x10 x11 x12 x13 = k0_pay6 x0 x1 := by
  unfold k0_pay38
  rw [View.ld_unit_zero (S := S512x1024) hz, View.ld_unit_zero (S := S1024x1024) hz]

/-- What a point leaves of a gate's gradient. -/
theorem out14_at (h0 : ∀ (r : Fin 512) (k : Fin 256), x4 (ix2 r k) = G r ⟨0 + k.val, by omega⟩) (h1 : ∀ (r : Fin 512) (k : Fin 256), x5 (ix2 r k) = G r ⟨256 + k.val, by omega⟩) (h2 : ∀ (r : Fin 512) (k : Fin 256), x6 (ix2 r k) = G r ⟨512 + k.val, by omega⟩) (h3 : ∀ (r : Fin 512) (k : Fin 256), x7 (ix2 r k) = G r ⟨768 + k.val, by omega⟩) (r : Fin 512) (n : Fin 1024) :
    out0_14 (F := Ideal) x0 x1 x2 x3 x4 x5 x6 x7 x8 x9 x10 x11 x12 x13 (ix2 r n) = gateD (dmr x0 x1 r n) (x12 (ix2 r n)) (G r n) := by
  unfold out0_14
  refine View.canon_apply_of_pieces (Val := Elt Ideal) (e := .bf16) (fun j : S512x1024.Idx => gateD (dmr x0 x1 (j 0) (j 1)) (x12 (ix2 (j 0) (j 1))) (G (j 0) (j 1))) _ ?_ (ix2 r n) (cover0_14 _ _ _ _ _)
  intro pc hpc
  rcases List.mem_cons.mp hpc with rfl | hpc
  · intro z
    obtain ⟨p, k, rfl⟩ : ∃ (p : Fin 512) (k : Fin 256), z = ix2 p k := ⟨z 0, z 1, eq_ix2 z⟩
    have e : (r0_6.emb (ix2 p k) : S512x1024.Idx) = ix2 p ⟨768 + k.val, by omega⟩ := by
      funext a
      apply Fin.ext
      match a with
      | ⟨0, _⟩ => show 0 + 1 * p.val = p.val; omega
      | ⟨1, _⟩ => show 768 + 1 * k.val = 768 + k.val; omega
    have el : (View.ld x12 r0_6 : Vec Ideal S512x256 .bf16) (ix2 p k) = x12 (ix2 p ⟨768 + k.val, by omega⟩) := congrArg x12 e
    rw [e]
    refine (gatea3 _ _ _ p k).trans ?_
    rw [el]
    rw [View.ld_unit_zero (S := S512x256) hz, pay38_eq, pay6_at, h3]
    rfl
  rcases List.mem_cons.mp hpc with rfl | hpc
  · intro z
    obtain ⟨p, k, rfl⟩ : ∃ (p : Fin 512) (k : Fin 256), z = ix2 p k := ⟨z 0, z 1, eq_ix2 z⟩
    have e : (r0_5.emb (ix2 p k) : S512x1024.Idx) = ix2 p ⟨512 + k.val, by omega⟩ := by
      funext a
      apply Fin.ext
      match a with
      | ⟨0, _⟩ => show 0 + 1 * p.val = p.val; omega
      | ⟨1, _⟩ => show 512 + 1 * k.val = 512 + k.val; omega
    have el : (View.ld x12 r0_5 : Vec Ideal S512x256 .bf16) (ix2 p k) = x12 (ix2 p ⟨512 + k.val, by omega⟩) := congrArg x12 e
    rw [e]
    refine (gatea2 _ _ _ p k).trans ?_
    rw [el]
    rw [View.ld_unit_zero (S := S512x256) hz, pay38_eq, pay6_at, h2]
    rfl
  rcases List.mem_cons.mp hpc with rfl | hpc
  · intro z
    obtain ⟨p, k, rfl⟩ : ∃ (p : Fin 512) (k : Fin 256), z = ix2 p k := ⟨z 0, z 1, eq_ix2 z⟩
    have e : (r0_4.emb (ix2 p k) : S512x1024.Idx) = ix2 p ⟨256 + k.val, by omega⟩ := by
      funext a
      apply Fin.ext
      match a with
      | ⟨0, _⟩ => show 0 + 1 * p.val = p.val; omega
      | ⟨1, _⟩ => show 256 + 1 * k.val = 256 + k.val; omega
    have el : (View.ld x12 r0_4 : Vec Ideal S512x256 .bf16) (ix2 p k) = x12 (ix2 p ⟨256 + k.val, by omega⟩) := congrArg x12 e
    rw [e]
    refine (gatea1 _ _ _ p k).trans ?_
    rw [el]
    rw [View.ld_unit_zero (S := S512x256) hz, pay38_eq, pay6_at, h1]
    rfl
  rcases List.mem_cons.mp hpc with rfl | hpc
  · intro z
    obtain ⟨p, k, rfl⟩ : ∃ (p : Fin 512) (k : Fin 256), z = ix2 p k := ⟨z 0, z 1, eq_ix2 z⟩
    have e : (r0_3.emb (ix2 p k) : S512x1024.Idx) = ix2 p ⟨0 + k.val, by omega⟩ := by
      funext a
      apply Fin.ext
      match a with
      | ⟨0, _⟩ => show 0 + 1 * p.val = p.val; omega
      | ⟨1, _⟩ => show 0 + 1 * k.val = 0 + k.val; omega
    have el : (View.ld x12 r0_3 : Vec Ideal S512x256 .bf16) (ix2 p k) = x12 (ix2 p ⟨0 + k.val, by omega⟩) := congrArg x12 e
    rw [e]
    refine (gatea0 _ _ _ _ p k).trans ?_
    rw [el]
    rw [View.ld_unit_zero (S := S512x1024) hz, View.ld_unit_zero (S := S1024x1024) hz, View.ld_unit_zero (S := S512x256) hz, h0]
    rfl
  nomatch hpc

/-- What a point leaves of a gate's gradient. -/
theorem out15_at (h0 : ∀ (r : Fin 512) (k : Fin 256), x8 (ix2 r k) = H r ⟨0 + k.val, by omega⟩) (h1 : ∀ (r : Fin 512) (k : Fin 256), x9 (ix2 r k) = H r ⟨256 + k.val, by omega⟩) (h2 : ∀ (r : Fin 512) (k : Fin 256), x10 (ix2 r k) = H r ⟨512 + k.val, by omega⟩) (h3 : ∀ (r : Fin 512) (k : Fin 256), x11 (ix2 r k) = H r ⟨768 + k.val, by omega⟩) (r : Fin 512) (n : Fin 1024) :
    out0_15 (F := Ideal) x0 x1 x2 x3 x4 x5 x6 x7 x8 x9 x10 x11 x12 x13 (ix2 r n) = gateD (dmr x0 x1 r n) (x13 (ix2 r n)) (H r n) := by
  unfold out0_15
  refine View.canon_apply_of_pieces (Val := Elt Ideal) (e := .bf16) (fun j : S512x1024.Idx => gateD (dmr x0 x1 (j 0) (j 1)) (x13 (ix2 (j 0) (j 1))) (H (j 0) (j 1))) _ ?_ (ix2 r n) (cover0_15 _ _ _ _ _)
  intro pc hpc
  rcases List.mem_cons.mp hpc with rfl | hpc
  · intro z
    obtain ⟨p, k, rfl⟩ : ∃ (p : Fin 512) (k : Fin 256), z = ix2 p k := ⟨z 0, z 1, eq_ix2 z⟩
    have e : (r0_6.emb (ix2 p k) : S512x1024.Idx) = ix2 p ⟨768 + k.val, by omega⟩ := by
      funext a
      apply Fin.ext
      match a with
      | ⟨0, _⟩ => show 0 + 1 * p.val = p.val; omega
      | ⟨1, _⟩ => show 768 + 1 * k.val = 768 + k.val; omega
    have el : (View.ld x13 r0_6 : Vec Ideal S512x256 .bf16) (ix2 p k) = x13 (ix2 p ⟨768 + k.val, by omega⟩) := congrArg x13 e
    rw [e]
    refine (gateb3 _ _ _ p k).trans ?_
    rw [el]
    rw [View.ld_unit_zero (S := S512x256) hz, pay38_eq, pay6_at, h3]
    rfl
  rcases List.mem_cons.mp hpc with rfl | hpc
  · intro z
    obtain ⟨p, k, rfl⟩ : ∃ (p : Fin 512) (k : Fin 256), z = ix2 p k := ⟨z 0, z 1, eq_ix2 z⟩
    have e : (r0_5.emb (ix2 p k) : S512x1024.Idx) = ix2 p ⟨512 + k.val, by omega⟩ := by
      funext a
      apply Fin.ext
      match a with
      | ⟨0, _⟩ => show 0 + 1 * p.val = p.val; omega
      | ⟨1, _⟩ => show 512 + 1 * k.val = 512 + k.val; omega
    have el : (View.ld x13 r0_5 : Vec Ideal S512x256 .bf16) (ix2 p k) = x13 (ix2 p ⟨512 + k.val, by omega⟩) := congrArg x13 e
    rw [e]
    refine (gateb2 _ _ _ p k).trans ?_
    rw [el]
    rw [View.ld_unit_zero (S := S512x256) hz, pay38_eq, pay6_at, h2]
    rfl
  rcases List.mem_cons.mp hpc with rfl | hpc
  · intro z
    obtain ⟨p, k, rfl⟩ : ∃ (p : Fin 512) (k : Fin 256), z = ix2 p k := ⟨z 0, z 1, eq_ix2 z⟩
    have e : (r0_4.emb (ix2 p k) : S512x1024.Idx) = ix2 p ⟨256 + k.val, by omega⟩ := by
      funext a
      apply Fin.ext
      match a with
      | ⟨0, _⟩ => show 0 + 1 * p.val = p.val; omega
      | ⟨1, _⟩ => show 256 + 1 * k.val = 256 + k.val; omega
    have el : (View.ld x13 r0_4 : Vec Ideal S512x256 .bf16) (ix2 p k) = x13 (ix2 p ⟨256 + k.val, by omega⟩) := congrArg x13 e
    rw [e]
    refine (gateb1 _ _ _ p k).trans ?_
    rw [el]
    rw [View.ld_unit_zero (S := S512x256) hz, pay38_eq, pay6_at, h1]
    rfl
  rcases List.mem_cons.mp hpc with rfl | hpc
  · intro z
    obtain ⟨p, k, rfl⟩ : ∃ (p : Fin 512) (k : Fin 256), z = ix2 p k := ⟨z 0, z 1, eq_ix2 z⟩
    have e : (r0_3.emb (ix2 p k) : S512x1024.Idx) = ix2 p ⟨0 + k.val, by omega⟩ := by
      funext a
      apply Fin.ext
      match a with
      | ⟨0, _⟩ => show 0 + 1 * p.val = p.val; omega
      | ⟨1, _⟩ => show 0 + 1 * k.val = 0 + k.val; omega
    have el : (View.ld x13 r0_3 : Vec Ideal S512x256 .bf16) (ix2 p k) = x13 (ix2 p ⟨0 + k.val, by omega⟩) := congrArg x13 e
    rw [e]
    refine (gateb0 _ _ _ _ p k).trans ?_
    rw [el]
    rw [View.ld_unit_zero (S := S512x1024) hz, View.ld_unit_zero (S := S1024x1024) hz, View.ld_unit_zero (S := S512x256) hz, h0]
    rfl
  nomatch hpc

theorem bra_at (h0 : ∀ (r : Fin 512) (k : Fin 256), x4 (ix2 r k) = G r ⟨0 + k.val, by omega⟩) (h1 : ∀ (r : Fin 512) (k : Fin 256), x5 (ix2 r k) = G r ⟨256 + k.val, by omega⟩) (h2 : ∀ (r : Fin 512) (k : Fin 256), x6 (ix2 r k) = G r ⟨512 + k.val, by omega⟩) (h3 : ∀ (r : Fin 512) (k : Fin 256), x7 (ix2 r k) = G r ⟨768 + k.val, by omega⟩) (r : Fin 512) (n : Fin 1024) :
    k0_pay2 (F := Ideal) (k0_pay39 (F := Ideal) x0 x1 x2 x3 x4 x5 x6 x7 x8 x9 x10 x11 x12 x13) (k0_pay41 (F := Ideal) x0 x1 x2 x3 x4 x5 x6 x7 x8 x9 x10 x11 x12 x13) (k0_pay44 (F := Ideal) x0 x1 x2 x3 x4 x5 x6 x7 x8 x9 x10 x11 x12 x13) (k0_pay47 (F := Ideal) x0 x1 x2 x3 x4 x5 x6 x7 x8 x9 x10 x11 x12 x13) (ix2 r n) = Ideal.logistic (G r n) * dmr x0 x1 r n := by
  rcases cols n with ⟨k, rfl⟩ | ⟨k, rfl⟩ | ⟨k, rfl⟩ | ⟨k, rfl⟩
  · rw [cata0]
    unfold k0_pay39
    refine (dya0 _ _ _ r k).trans ?_
    rw [View.ld_unit_zero (S := S512x256) hz, View.ld_unit_zero (S := S512x1024) hz, View.ld_unit_zero (S := S1024x1024) hz, h0]
  · rw [cata1]
    unfold k0_pay41
    refine (dya1 _ _ r k).trans ?_
    rw [View.ld_unit_zero (S := S512x256) hz, pay38_eq, pay6_at, h1]
  · rw [cata2]
    unfold k0_pay44 k0_pay43
    refine (dya2 _ _ r k).trans ?_
    rw [View.ld_unit_zero (S := S512x256) hz, pay38_eq, pay6_at, h2]
  · rw [cata3]
    unfold k0_pay47
    refine (dya3 _ _ r k).trans ?_
    rw [View.ld_unit_zero (S := S512x256) hz, pay38_eq, pay6_at, h3]

/-- What a point leaves of a branch's gradient, -/
theorem out16_at (h0 : ∀ (r : Fin 512) (k : Fin 256), x4 (ix2 r k) = G r ⟨0 + k.val, by omega⟩) (h1 : ∀ (r : Fin 512) (k : Fin 256), x5 (ix2 r k) = G r ⟨256 + k.val, by omega⟩) (h2 : ∀ (r : Fin 512) (k : Fin 256), x6 (ix2 r k) = G r ⟨512 + k.val, by omega⟩) (h3 : ∀ (r : Fin 512) (k : Fin 256), x7 (ix2 r k) = G r ⟨768 + k.val, by omega⟩) (r : Fin 512) (n : Fin 1024) :
    out0_16 (F := Ideal) x0 x1 x2 x3 x4 x5 x6 x7 x8 x9 x10 x11 x12 x13 (ix2 r n) = Ideal.logistic (G r n) * dmr x0 x1 r n := by
  unfold out0_16
  rw [View.canon_unit_zero hz]
  exact bra_at x0 x1 x2 x3 x4 x5 x6 x7 x8 x9 x10 x11 x12 x13 G h0 h1 h2 h3 r n

theorem mula_at (a b c : FVec Ideal S512x256 .bf16) (d : FVec Ideal S512x256 .f32) (w : Vec Ideal S1024x1024 .bf16) (r : Fin 512) (n : Fin 1024) :
    k0_pay4 (F := Ideal) a b c d w (ix2 r n) = ∑ k : Fin 1024, k0_pay2 (F := Ideal) a b c d (ix2 r k) * w (ix2 n k) := by
  unfold k0_pay4
  generalize k0_pay2 (F := Ideal) a b c d = e
  pointwise

/-- and of the gradient before the branch's product. -/
theorem out18_at (h0 : ∀ (r : Fin 512) (k : Fin 256), x4 (ix2 r k) = G r ⟨0 + k.val, by omega⟩) (h1 : ∀ (r : Fin 512) (k : Fin 256), x5 (ix2 r k) = G r ⟨256 + k.val, by omega⟩) (h2 : ∀ (r : Fin 512) (k : Fin 256), x6 (ix2 r k) = G r ⟨512 + k.val, by omega⟩) (h3 : ∀ (r : Fin 512) (k : Fin 256), x7 (ix2 r k) = G r ⟨768 + k.val, by omega⟩) (r : Fin 512) (n : Fin 1024) :
    out0_18 (F := Ideal) x0 x1 x2 x3 x4 x5 x6 x7 x8 x9 x10 x11 x12 x13 (ix2 r n) = ∑ k : Fin 1024, Ideal.logistic (G r k) * dmr x0 x1 r k * x2 (ix2 n k) := by
  unfold out0_18
  rw [View.canon_unit_zero hz, mula_at, View.ld_unit_zero (S := S1024x1024) hz]
  exact Finset.sum_congr rfl fun k _ => by rw [bra_at x0 x1 x2 x3 x4 x5 x6 x7 x8 x9 x10 x11 x12 x13 G h0 h1 h2 h3 r k]

theorem brb_at (h0 : ∀ (r : Fin 512) (k : Fin 256), x8 (ix2 r k) = H r ⟨0 + k.val, by omega⟩) (h1 : ∀ (r : Fin 512) (k : Fin 256), x9 (ix2 r k) = H r ⟨256 + k.val, by omega⟩) (h2 : ∀ (r : Fin 512) (k : Fin 256), x10 (ix2 r k) = H r ⟨512 + k.val, by omega⟩) (h3 : ∀ (r : Fin 512) (k : Fin 256), x11 (ix2 r k) = H r ⟨768 + k.val, by omega⟩) (r : Fin 512) (n : Fin 1024) :
    k0_pay3 (F := Ideal) (k0_pay40 (F := Ideal) x0 x1 x2 x3 x4 x5 x6 x7 x8 x9 x10 x11 x12 x13) (k0_pay42 (F := Ideal) x0 x1 x2 x3 x4 x5 x6 x7 x8 x9 x10 x11 x12 x13) (k0_pay45 (F := Ideal) x0 x1 x2 x3 x4 x5 x6 x7 x8 x9 x10 x11 x12 x13) (k0_pay46 (F := Ideal) x0 x1 x2 x3 x4 x5 x6 x7 x8 x9 x10 x11 x12 x13) (ix2 r n) = Ideal.logistic (H r n) * dmr x0 x1 r n := by
  rcases cols n with ⟨k, rfl⟩ | ⟨k, rfl⟩ | ⟨k, rfl⟩ | ⟨k, rfl⟩
  · rw [catb0]
    unfold k0_pay40
    refine (dyb0 _ _ _ r k).trans ?_
    rw [View.ld_unit_zero (S := S512x256) hz, View.ld_unit_zero (S := S512x1024) hz, View.ld_unit_zero (S := S1024x1024) hz, h0]
  · rw [catb1]
    unfold k0_pay42
    refine (dyb1 _ _ r k).trans ?_
    rw [View.ld_unit_zero (S := S512x256) hz, pay38_eq, pay6_at, h1]
  · rw [catb2]
    unfold k0_pay45
    refine (dyb2 _ _ r k).trans ?_
    rw [View.ld_unit_zero (S := S512x256) hz, pay38_eq, pay6_at, h2]
  · rw [catb3]
    unfold k0_pay46
    refine (dyb3 _ _ r k).trans ?_
    rw [View.ld_unit_zero (S := S512x256) hz, pay38_eq, pay6_at, h3]

/-- What a point leaves of a branch's gradient, -/
theorem out17_at (h0 : ∀ (r : Fin 512) (k : Fin 256), x8 (ix2 r k) = H r ⟨0 + k.val, by omega⟩) (h1 : ∀ (r : Fin 512) (k : Fin 256), x9 (ix2 r k) = H r ⟨256 + k.val, by omega⟩) (h2 : ∀ (r : Fin 512) (k : Fin 256), x10 (ix2 r k) = H r ⟨512 + k.val, by omega⟩) (h3 : ∀ (r : Fin 512) (k : Fin 256), x11 (ix2 r k) = H r ⟨768 + k.val, by omega⟩) (r : Fin 512) (n : Fin 1024) :
    out0_17 (F := Ideal) x0 x1 x2 x3 x4 x5 x6 x7 x8 x9 x10 x11 x12 x13 (ix2 r n) = Ideal.logistic (H r n) * dmr x0 x1 r n := by
  unfold out0_17
  rw [View.canon_unit_zero hz]
  exact brb_at x0 x1 x2 x3 x4 x5 x6 x7 x8 x9 x10 x11 x12 x13 H h0 h1 h2 h3 r n

theorem mulb_at (a b c : FVec Ideal S512x256 .bf16) (d : FVec Ideal S512x256 .f32) (w : Vec Ideal S1024x1024 .bf16) (r : Fin 512) (n : Fin 1024) :
    k0_pay5 (F := Ideal) a b c d w (ix2 r n) = ∑ k : Fin 1024, k0_pay3 (F := Ideal) a b c d (ix2 r k) * w (ix2 n k) := by
  unfold k0_pay5
  generalize k0_pay3 (F := Ideal) a b c d = e
  pointwise

/-- and of the gradient before the branch's product. -/
theorem out19_at (h0 : ∀ (r : Fin 512) (k : Fin 256), x8 (ix2 r k) = H r ⟨0 + k.val, by omega⟩) (h1 : ∀ (r : Fin 512) (k : Fin 256), x9 (ix2 r k) = H r ⟨256 + k.val, by omega⟩) (h2 : ∀ (r : Fin 512) (k : Fin 256), x10 (ix2 r k) = H r ⟨512 + k.val, by omega⟩) (h3 : ∀ (r : Fin 512) (k : Fin 256), x11 (ix2 r k) = H r ⟨768 + k.val, by omega⟩) (r : Fin 512) (n : Fin 1024) :
    out0_19 (F := Ideal) x0 x1 x2 x3 x4 x5 x6 x7 x8 x9 x10 x11 x12 x13 (ix2 r n) = ∑ k : Fin 1024, Ideal.logistic (H r k) * dmr x0 x1 r k * x3 (ix2 n k) := by
  unfold out0_19
  rw [View.canon_unit_zero hz, mulb_at, View.ld_unit_zero (S := S1024x1024) hz]
  exact Finset.sum_congr rfl fun k _ => by rw [brb_at x0 x1 x2 x3 x4 x5 x6 x7 x8 x9 x10 x11 x12 x13 H h0 h1 h2 h3 r k]

end Cert.Proof.Merge

end
-- ==== Proof.Merge.lean ====
module

public import proofs.«01_k».proof.Proof.MergePay
public import proofs.«01_k».proof.Proof.Gen.Reference4Ideal.Read

@[expose] public section

set_option maxRecDepth 16384

noncomputable section

/-! The result arrays of the kernel of `merge_bwd` are its reference's. Point `t` takes rows `512 t` to `512 t + 511`. -/

namespace Cert.Proof.Merge

open Idealize.ShloMosaic Idealize.ShloMosaic.TcCoe Cert.Kernel4Ideal Cert.Kernel4Ideal.Gen Cert.Proof.Rows

section reference

variable (x0 x1 : Vec Ideal S2048x1024 .f32) (x2 : Vec Ideal S2048x9472 .f32) (x3 x4 x5 : Vec Ideal S1024x1024 .f32) (x6 : Vec Ideal S2048x1024 .f32)

theorem ref0_at (r : Fin 2048) (n : Fin 1024) : Cert.Reference4Ideal.Read.val_main_v0 (F := Ideal) x0 x3 (ix2 r n) = ∑ k : Fin 1024, x0 (ix2 r k) * x3 (ix2 k n) := by
  pointwise [Cert.Reference4Ideal.Read.val_main_v0]
theorem ref1_at (r : Fin 2048) (n : Fin 1024) : Cert.Reference4Ideal.Read.val_main_v1 (F := Ideal) x1 x4 (ix2 r n) = ∑ k : Fin 1024, x1 (ix2 r k) * x4 (ix2 k n) := by
  pointwise [Cert.Reference4Ideal.Read.val_main_v1]

/-- The gradient that reaches the merge, -/
theorem ref27_at (r : Fin 2048) (n : Fin 1024) : Cert.Reference4Ideal.Read.val_main_v27 (F := Ideal) x5 x6 (ix2 r n) = ∑ k : Fin 1024, x6 (ix2 r k) * x5 (ix2 n k) := by
  pointwise [Cert.Reference4Ideal.Read.val_main_v27]

/-- the gates, -/
theorem ref10_at (r : Fin 2048) (n : Fin 1024) : Cert.Reference4Ideal.Read.val_main_v10 (F := Ideal) x2 (ix2 r n) = Ideal.logistic (x2 (ix2 r ⟨7424 + n.val, by omega⟩)) := by
  pointwise [Cert.Reference4Ideal.Read.val_main_v10, Cert.Reference4Ideal.Read.val_main_v9, Cert.Reference4Ideal.Read.val_main_cst_0, Cert.Reference4Ideal.Read.val_main_v8, Cert.Reference4Ideal.Read.val_main_v7, Cert.Reference4Ideal.Read.val_main_cst, Cert.Reference4Ideal.Read.val_main_v6, Cert.Reference4Ideal.Read.val_main_v5, Cert.Reference4Ideal.Read.val_main_v3, Cert.Reference4Ideal.Read.val_main_v2]
  rfl
theorem ref20_at (r : Fin 2048) (n : Fin 1024) : Cert.Reference4Ideal.Read.val_main_v20 (F := Ideal) x2 (ix2 r n) = Ideal.logistic (x2 (ix2 r ⟨8448 + n.val, by omega⟩)) := by
  have e : (⟨8448 + n.val, by omega⟩ : Fin 9472) = ⟨7424 + (1024 + n.val), by omega⟩ := Fin.ext (by show 8448 + n.val = 7424 + (1024 + n.val); omega)
  rw [e]
  pointwise [Cert.Reference4Ideal.Read.val_main_v20, Cert.Reference4Ideal.Read.val_main_v19, Cert.Reference4Ideal.Read.val_main_cst_3, Cert.Reference4Ideal.Read.val_main_v18, Cert.Reference4Ideal.Read.val_main_v17, Cert.Reference4Ideal.Read.val_main_cst_2, Cert.Reference4Ideal.Read.val_main_v16, Cert.Reference4Ideal.Read.val_main_v15, Cert.Reference4Ideal.Read.val_main_v4, Cert.Reference4Ideal.Read.val_main_v2]
  rfl

/-- the branches' gradients, -/
theorem ref43_at (r : Fin 2048) (n : Fin 1024) : Cert.Reference4Ideal.Read.val_main_v43 (F := Ideal) x2 x5 x6 (ix2 r n)
    = Ideal.logistic (x2 (ix2 r ⟨7424 + n.val, by omega⟩)) * ∑ k : Fin 1024, x6 (ix2 r k) * x5 (ix2 n k) := by
  rw [← ref27_at, ← ref10_at]
  unfold Cert.Reference4Ideal.Read.val_main_v43 Cert.Reference4Ideal.Read.val_main_v31
  generalize Cert.Reference4Ideal.Read.val_main_v27 (F := Ideal) x5 x6 = a
  generalize Cert.Reference4Ideal.Read.val_main_v10 (F := Ideal) x2 = b
  pointwise
theorem ref44_at (r : Fin 2048) (n : Fin 1024) : Cert.Reference4Ideal.Read.val_main_v44 (F := Ideal) x2 x5 x6 (ix2 r n)
    = Ideal.logistic (x2 (ix2 r ⟨8448 + n.val, by omega⟩)) * ∑ k : Fin 1024, x6 (ix2 r k) * x5 (ix2 n k) := by
  rw [← ref27_at, ← ref20_at]
  unfold Cert.Reference4Ideal.Read.val_main_v44 Cert.Reference4Ideal.Read.val_main_v28
  generalize Cert.Reference4Ideal.Read.val_main_v27 (F := Ideal) x5 x6 = a
  generalize Cert.Reference4Ideal.Read.val_main_v20 (F := Ideal) x2 = b
  pointwise

/-- the mixers' outputs' gradients, -/
theorem ref45_at (r : Fin 2048) (n : Fin 1024) : Cert.Reference4Ideal.Read.val_main_v45 (F := Ideal) x2 x3 x5 x6 (ix2 r n)
    = ∑ j : Fin 1024, Ideal.logistic (x2 (ix2 r ⟨7424 + j.val, by omega⟩)) * (∑ k : Fin 1024, x6 (ix2 r k) * x5 (ix2 j k)) * x3 (ix2 n j) := by
  have h : ∀ j, Cert.Reference4Ideal.Read.val_main_v31 (F := Ideal) x2 x5 x6 (ix2 r j) = _ := ref43_at x2 x5 x6 r
  revert h
  unfold Cert.Reference4Ideal.Read.val_main_v45 Cert.Reference4Ideal.Read.val_main_v39
  generalize Cert.Reference4Ideal.Read.val_main_v31 (F := Ideal) x2 x5 x6 = a
  intro h
  pointwise
  simp only [h]
theorem ref46_at (r : Fin 2048) (n : Fin 1024) : Cert.Reference4Ideal.Read.val_main_v46 (F := Ideal) x2 x4 x5 x6 (ix2 r n)
    = ∑ j : Fin 1024, Ideal.logistic (x2 (ix2 r ⟨8448 + j.val, by omega⟩)) * (∑ k : Fin 1024, x6 (ix2 r k) * x5 (ix2 j k)) * x4 (ix2 n j) := by
  have h : ∀ j, Cert.Reference4Ideal.Read.val_main_v28 (F := Ideal) x2 x5 x6 (ix2 r j) = _ := ref44_at x2 x5 x6 r
  revert h
  unfold Cert.Reference4Ideal.Read.val_main_v46 Cert.Reference4Ideal.Read.val_main_v40
  generalize Cert.Reference4Ideal.Read.val_main_v28 (F := Ideal) x2 x5 x6 = a
  intro h
  pointwise
  simp only [h]

theorem ref33_at (r : Fin 2048) (n : Fin 1024) : Cert.Reference4Ideal.Read.val_main_v33 (F := Ideal) x0 x2 x3 x5 x6 (ix2 r n)
    = gateD (∑ k : Fin 1024, x6 (ix2 r k) * x5 (ix2 n k)) (∑ k : Fin 1024, x0 (ix2 r k) * x3 (ix2 k n)) (x2 (ix2 r ⟨7424 + n.val, by omega⟩)) := by
  unfold gateD
  rw [← ref27_at, ← ref10_at, ← ref0_at]
  unfold Cert.Reference4Ideal.Read.val_main_v33 Cert.Reference4Ideal.Read.val_main_v32 Cert.Reference4Ideal.Read.val_main_v13 Cert.Reference4Ideal.Read.val_main_v12 Cert.Reference4Ideal.Read.val_main_v11 Cert.Reference4Ideal.Read.val_main_cst_1
  generalize Cert.Reference4Ideal.Read.val_main_v27 (F := Ideal) x5 x6 = a
  generalize Cert.Reference4Ideal.Read.val_main_v10 (F := Ideal) x2 = b
  generalize Cert.Reference4Ideal.Read.val_main_v0 (F := Ideal) x0 x3 = d
  pointwise
theorem ref30_at (r : Fin 2048) (n : Fin 1024) : Cert.Reference4Ideal.Read.val_main_v30 (F := Ideal) x1 x2 x4 x5 x6 (ix2 r n)
    = gateD (∑ k : Fin 1024, x6 (ix2 r k) * x5 (ix2 n k)) (∑ k : Fin 1024, x1 (ix2 r k) * x4 (ix2 k n)) (x2 (ix2 r ⟨8448 + n.val, by omega⟩)) := by
  unfold gateD
  rw [← ref27_at, ← ref20_at, ← ref1_at]
  unfold Cert.Reference4Ideal.Read.val_main_v30 Cert.Reference4Ideal.Read.val_main_v29 Cert.Reference4Ideal.Read.val_main_v23 Cert.Reference4Ideal.Read.val_main_v22 Cert.Reference4Ideal.Read.val_main_v21 Cert.Reference4Ideal.Read.val_main_cst_4
  generalize Cert.Reference4Ideal.Read.val_main_v27 (F := Ideal) x5 x6 = a
  generalize Cert.Reference4Ideal.Read.val_main_v20 (F := Ideal) x2 = b
  generalize Cert.Reference4Ideal.Read.val_main_v1 (F := Ideal) x1 x4 = d
  pointwise

/-- and the gates' gradients, which the reference adds into one array and cuts out again. -/
theorem ref41_at (r : Fin 2048) (n : Fin 1024) : Cert.Reference4Ideal.Read.val_main_v41 (F := Ideal) x0 x1 x2 x3 x4 x5 x6 (ix2 r n)
    = gateD (∑ k : Fin 1024, x6 (ix2 r k) * x5 (ix2 n k)) (∑ k : Fin 1024, x0 (ix2 r k) * x3 (ix2 k n)) (x2 (ix2 r ⟨7424 + n.val, by omega⟩)) := by
  rw [← ref33_at]
  unfold Cert.Reference4Ideal.Read.val_main_v41 Cert.Reference4Ideal.Read.val_main_v37 Cert.Reference4Ideal.Read.val_main_v36 Cert.Reference4Ideal.Read.val_main_v35 Cert.Reference4Ideal.Read.val_main_v34
  generalize Cert.Reference4Ideal.Read.val_main_v33 (F := Ideal) x0 x2 x3 x5 x6 = a
  generalize Cert.Reference4Ideal.Read.val_main_v30 (F := Ideal) x1 x2 x4 x5 x6 = b
  pointwise [Cert.Reference4Ideal.Read.val_main_cst_5, Cert.Reference4Ideal.Read.val_main_cst_6]
  have h0 : ¬ (False ∧ n.val - 1024 < 1024) := fun h => h.1
  rw [dif_neg h0, zero_add]
theorem ref42_at (r : Fin 2048) (n : Fin 1024) : Cert.Reference4Ideal.Read.val_main_v42 (F := Ideal) x0 x1 x2 x3 x4 x5 x6 (ix2 r n)
    = gateD (∑ k : Fin 1024, x6 (ix2 r k) * x5 (ix2 n k)) (∑ k : Fin 1024, x1 (ix2 r k) * x4 (ix2 k n)) (x2 (ix2 r ⟨8448 + n.val, by omega⟩)) := by
  rw [← ref30_at]
  unfold Cert.Reference4Ideal.Read.val_main_v42 Cert.Reference4Ideal.Read.val_main_v38 Cert.Reference4Ideal.Read.val_main_v36 Cert.Reference4Ideal.Read.val_main_v35 Cert.Reference4Ideal.Read.val_main_v34
  generalize Cert.Reference4Ideal.Read.val_main_v33 (F := Ideal) x0 x2 x3 x5 x6 = a
  generalize Cert.Reference4Ideal.Read.val_main_v30 (F := Ideal) x1 x2 x4 x5 x6 = b
  pointwise [Cert.Reference4Ideal.Read.val_main_cst_5, Cert.Reference4Ideal.Read.val_main_cst_6]
end reference

variable (m : (ℓ : Loc nD τ sig) → Buf (Elt Ideal) ℓ) (c : Dev nD)

/-- The arguments on a device, as arrays. -/
abbrev a0 : Vec Ideal S2048x1024 .f32 := m ((c : Thread nD τ).loc main_arg0)
abbrev a1 : Vec Ideal S2048x1024 .f32 := m ((c : Thread nD τ).loc main_arg1)
abbrev a2 : Vec Ideal S2048x9472 .f32 := m ((c : Thread nD τ).loc main_arg2)
abbrev a3 : Vec Ideal S1024x1024 .f32 := m ((c : Thread nD τ).loc main_arg3)
abbrev a4 : Vec Ideal S1024x1024 .f32 := m ((c : Thread nD τ).loc main_arg4)
abbrev a5 : Vec Ideal S1024x1024 .f32 := m ((c : Thread nD τ).loc main_arg5)
abbrev a6 : Vec Ideal S2048x1024 .f32 := m ((c : Thread nD τ).loc main_arg6)

theorem V0 : (V m c main_v0 : Vec Ideal S1024x1024 .bf16) = (truncf .bf16 (a3 m c) bitsLt_bf16_f32 : FVec Ideal S1024x1024 .bf16) := by
  unfold V; after_results

theorem V1 : (V m c main_v1 : Vec Ideal S1024x1024 .bf16) = (truncf .bf16 (a4 m c) bitsLt_bf16_f32 : FVec Ideal S1024x1024 .bf16) := by
  unfold V; after_results

theorem V2 : (V m c main_v2 : Vec Ideal S1024x1024 .bf16) = (truncf .bf16 (a5 m c) bitsLt_bf16_f32 : FVec Ideal S1024x1024 .bf16) := by
  unfold V; after_results

theorem V7 : (V m c main_v7 : Vec Ideal S2048x1024 .bf16) = (truncf .bf16 (a6 m c) bitsLt_bf16_f32 : FVec Ideal S2048x1024 .bf16) := by
  unfold V; after_results

theorem V4 (r : Fin 2048) (n : Fin 1024) : (V m c main_v4 : Vec Ideal S2048x1024 .bf16) (ix2 r n) = ∑ k : Fin 1024, a0 m c (ix2 r k) * a3 m c (ix2 k n) := by
  have e : V m c main_v4 = (truncf .bf16 (Host.dotGeneral (φ₁ := .f32) (φ₂ := .f32) dot_S2048x1024_S1024x1024_S2048x1024_1_0_0_1_n_n none (a0 m c) (a3 m c)) bitsLt_bf16_f32 : FVec Ideal S2048x1024 .bf16) := by
    unfold V; after_results
  rw [e]
  generalize a0 m c = x
  generalize a3 m c = y
  pointwise

theorem V6 (r : Fin 2048) (n : Fin 1024) : (V m c main_v6 : Vec Ideal S2048x1024 .bf16) (ix2 r n) = ∑ k : Fin 1024, a1 m c (ix2 r k) * a4 m c (ix2 k n) := by
  have e : V m c main_v6 = (truncf .bf16 (Host.dotGeneral (φ₁ := .f32) (φ₂ := .f32) dot_S2048x1024_S1024x1024_S2048x1024_1_0_0_1_n_n none (a1 m c) (a4 m c)) bitsLt_bf16_f32 : FVec Ideal S2048x1024 .bf16) := by
    unfold V; after_results
  rw [e]
  generalize a1 m c = x
  generalize a4 m c = y
  pointwise

theorem lt4 (t : Fin cfg0.N) : t.val < 4 := lt_of_lt_of_eq t.isLt N_0

/-- Row `r` of tile `k`. -/
def gr (k : Nat) (r : Fin 512) : Fin 2048 := Rows.row 4 512 (by omega) k r
theorem gr_eq (k : Nat) (r : Fin 512) : (gr k r).val = r.val + 512 * (k % 4) := rfl

theorem iblk0 (t : Fin cfg0.N) (r : Fin 512) (k : Fin 1024) :
    (iblk m c 0 t : Vec Ideal S512x1024 .bf16) (ix2 r k) = (V m c main_v7 : Vec Ideal S2048x1024 .bf16) (ix2 (gr (t.val) r) k) := by
  have hi := (by decide +kernel : ∀ t : Fin cfg0.N, win0_0.index t 0 = (t.val) % 4 ∧ win0_0.index t 1 = 0) t
  unfold iblk
  rw [View.read_apply]
  show V m c main_v7 _ = V m c main_v7 _
  congr 1
  funext a
  apply Fin.ext
  match a with
  | ⟨0, _⟩ => show win0_0.index t 0 * 512 + 1 * r.val = (gr (t.val) r).val; rw [hi.1, gr_eq]; omega
  | ⟨1, _⟩ => show win0_0.index t 1 * 1024 + 1 * k.val = _; rw [hi.2]; simp

theorem iblk1 (t : Fin cfg0.N) (r : Fin 1024) (k : Fin 1024) :
    (iblk m c 1 t : Vec Ideal S1024x1024 .bf16) (ix2 r k) = (V m c main_v2 : Vec Ideal S1024x1024 .bf16) (ix2 r k) := by
  have hi := (by decide +kernel : ∀ t : Fin cfg0.N, win0_1.index t 0 = 0 ∧ win0_1.index t 1 = 0) t
  unfold iblk
  rw [View.read_apply]
  show V m c main_v2 _ = V m c main_v2 _
  congr 1
  funext a
  apply Fin.ext
  match a with
  | ⟨0, _⟩ => show win0_1.index t 0 * 1024 + 1 * r.val = _; rw [hi.1]; simp
  | ⟨1, _⟩ => show win0_1.index t 1 * 1024 + 1 * k.val = _; rw [hi.2]; simp

theorem iblk2 (t : Fin cfg0.N) (r : Fin 1024) (k : Fin 1024) :
    (iblk m c 2 t : Vec Ideal S1024x1024 .bf16) (ix2 r k) = (V m c main_v0 : Vec Ideal S1024x1024 .bf16) (ix2 r k) := by
  have hi := (by decide +kernel : ∀ t : Fin cfg0.N, win0_2.index t 0 = 0 ∧ win0_2.index t 1 = 0) t
  unfold iblk
  rw [View.read_apply]
  show V m c main_v0 _ = V m c main_v0 _
  congr 1
  funext a
  apply Fin.ext
  match a with
  | ⟨0, _⟩ => show win0_2.index t 0 * 1024 + 1 * r.val = _; rw [hi.1]; simp
  | ⟨1, _⟩ => show win0_2.index t 1 * 1024 + 1 * k.val = _; rw [hi.2]; simp

theorem iblk3 (t : Fin cfg0.N) (r : Fin 1024) (k : Fin 1024) :
    (iblk m c 3 t : Vec Ideal S1024x1024 .bf16) (ix2 r k) = (V m c main_v1 : Vec Ideal S1024x1024 .bf16) (ix2 r k) := by
  have hi := (by decide +kernel : ∀ t : Fin cfg0.N, win0_3.index t 0 = 0 ∧ win0_3.index t 1 = 0) t
  unfold iblk
  rw [View.read_apply]
  show V m c main_v1 _ = V m c main_v1 _
  congr 1
  funext a
  apply Fin.ext
  match a with
  | ⟨0, _⟩ => show win0_3.index t 0 * 1024 + 1 * r.val = _; rw [hi.1]; simp
  | ⟨1, _⟩ => show win0_3.index t 1 * 1024 + 1 * k.val = _; rw [hi.2]; simp

theorem iblk4 (t : Fin cfg0.N) (r : Fin 512) (k : Fin 256) :
    (iblk m c 4 t : Vec Ideal S512x256 .f32) (ix2 r k) = a2 m c (ix2 (gr t.val r) ⟨7424 + (0 + k.val), by omega⟩) := by
  have hi := (by decide +kernel : ∀ t : Fin cfg0.N, win0_4.index t 0 = t.val % 4 ∧ win0_4.index t 1 = 29) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_4.index t 0 * 512 + 1 * r.val = (gr t.val r).val; rw [hi.1, gr_eq]; omega
  | ⟨1, _⟩ => show win0_4.index t 1 * 256 + 1 * k.val = 7424 + (0 + k.val); rw [hi.2]; omega

theorem iblk5 (t : Fin cfg0.N) (r : Fin 512) (k : Fin 256) :
    (iblk m c 5 t : Vec Ideal S512x256 .f32) (ix2 r k) = a2 m c (ix2 (gr t.val r) ⟨7424 + (256 + k.val), by omega⟩) := by
  have hi := (by decide +kernel : ∀ t : Fin cfg0.N, win0_5.index t 0 = t.val % 4 ∧ win0_5.index t 1 = 30) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_5.index t 0 * 512 + 1 * r.val = (gr t.val r).val; rw [hi.1, gr_eq]; omega
  | ⟨1, _⟩ => show win0_5.index t 1 * 256 + 1 * k.val = 7424 + (256 + k.val); rw [hi.2]; omega

theorem iblk6 (t : Fin cfg0.N) (r : Fin 512) (k : Fin 256) :
    (iblk m c 6 t : Vec Ideal S512x256 .f32) (ix2 r k) = a2 m c (ix2 (gr t.val r) ⟨7424 + (512 + k.val), by omega⟩) := by
  have hi := (by decide +kernel : ∀ t : Fin cfg0.N, win0_6.index t 0 = t.val % 4 ∧ win0_6.index t 1 = 31) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_6.index t 0 * 512 + 1 * r.val = (gr t.val r).val; rw [hi.1, gr_eq]; omega
  | ⟨1, _⟩ => show win0_6.index t 1 * 256 + 1 * k.val = 7424 + (512 + k.val); rw [hi.2]; omega

theorem iblk7 (t : Fin cfg0.N) (r : Fin 512) (k : Fin 256) :
    (iblk m c 7 t : Vec Ideal S512x256 .f32) (ix2 r k) = a2 m c (ix2 (gr t.val r) ⟨7424 + (768 + k.val), by omega⟩) := by
  have hi := (by decide +kernel : ∀ t : Fin cfg0.N, win0_7.index t 0 = t.val % 4 ∧ win0_7.index t 1 = 32) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_7.index t 0 * 512 + 1 * r.val = (gr t.val r).val; rw [hi.1, gr_eq]; omega
  | ⟨1, _⟩ => show win0_7.index t 1 * 256 + 1 * k.val = 7424 + (768 + k.val); rw [hi.2]; omega

theorem iblk8 (t : Fin cfg0.N) (r : Fin 512) (k : Fin 256) :
    (iblk m c 8 t : Vec Ideal S512x256 .f32) (ix2 r k) = a2 m c (ix2 (gr t.val r) ⟨8448 + (0 + k.val), by omega⟩) := by
  have hi := (by decide +kernel : ∀ t : Fin cfg0.N, win0_8.index t 0 = t.val % 4 ∧ win0_8.index t 1 = 33) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_8.index t 0 * 512 + 1 * r.val = (gr t.val r).val; rw [hi.1, gr_eq]; omega
  | ⟨1, _⟩ => show win0_8.index t 1 * 256 + 1 * k.val = 8448 + (0 + k.val); rw [hi.2]; omega

theorem iblk9 (t : Fin cfg0.N) (r : Fin 512) (k : Fin 256) :
    (iblk m c 9 t : Vec Ideal S512x256 .f32) (ix2 r k) = a2 m c (ix2 (gr t.val r) ⟨8448 + (256 + k.val), by omega⟩) := by
  have hi := (by decide +kernel : ∀ t : Fin cfg0.N, win0_9.index t 0 = t.val % 4 ∧ win0_9.index t 1 = 34) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_9.index t 0 * 512 + 1 * r.val = (gr t.val r).val; rw [hi.1, gr_eq]; omega
  | ⟨1, _⟩ => show win0_9.index t 1 * 256 + 1 * k.val = 8448 + (256 + k.val); rw [hi.2]; omega

theorem iblk10 (t : Fin cfg0.N) (r : Fin 512) (k : Fin 256) :
    (iblk m c 10 t : Vec Ideal S512x256 .f32) (ix2 r k) = a2 m c (ix2 (gr t.val r) ⟨8448 + (512 + k.val), by omega⟩) := by
  have hi := (by decide +kernel : ∀ t : Fin cfg0.N, win0_10.index t 0 = t.val % 4 ∧ win0_10.index t 1 = 35) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_10.index t 0 * 512 + 1 * r.val = (gr t.val r).val; rw [hi.1, gr_eq]; omega
  | ⟨1, _⟩ => show win0_10.index t 1 * 256 + 1 * k.val = 8448 + (512 + k.val); rw [hi.2]; omega

theorem iblk11 (t : Fin cfg0.N) (r : Fin 512) (k : Fin 256) :
    (iblk m c 11 t : Vec Ideal S512x256 .f32) (ix2 r k) = a2 m c (ix2 (gr t.val r) ⟨8448 + (768 + k.val), by omega⟩) := by
  have hi := (by decide +kernel : ∀ t : Fin cfg0.N, win0_11.index t 0 = t.val % 4 ∧ win0_11.index t 1 = 36) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_11.index t 0 * 512 + 1 * r.val = (gr t.val r).val; rw [hi.1, gr_eq]; omega
  | ⟨1, _⟩ => show win0_11.index t 1 * 256 + 1 * k.val = 8448 + (768 + k.val); rw [hi.2]; omega

theorem iblk12 (t : Fin cfg0.N) (r : Fin 512) (k : Fin 1024) :
    (iblk m c 12 t : Vec Ideal S512x1024 .bf16) (ix2 r k) = (V m c main_v4 : Vec Ideal S2048x1024 .bf16) (ix2 (gr (t.val) r) k) := by
  have hi := (by decide +kernel : ∀ t : Fin cfg0.N, win0_12.index t 0 = (t.val) % 4 ∧ win0_12.index t 1 = 0) t
  unfold iblk
  rw [View.read_apply]
  show V m c main_v4 _ = V m c main_v4 _
  congr 1
  funext a
  apply Fin.ext
  match a with
  | ⟨0, _⟩ => show win0_12.index t 0 * 512 + 1 * r.val = (gr (t.val) r).val; rw [hi.1, gr_eq]; omega
  | ⟨1, _⟩ => show win0_12.index t 1 * 1024 + 1 * k.val = _; rw [hi.2]; simp

theorem iblk13 (t : Fin cfg0.N) (r : Fin 512) (k : Fin 1024) :
    (iblk m c 13 t : Vec Ideal S512x1024 .bf16) (ix2 r k) = (V m c main_v6 : Vec Ideal S2048x1024 .bf16) (ix2 (gr (t.val) r) k) := by
  have hi := (by decide +kernel : ∀ t : Fin cfg0.N, win0_13.index t 0 = (t.val) % 4 ∧ win0_13.index t 1 = 0) t
  unfold iblk
  rw [View.read_apply]
  show V m c main_v6 _ = V m c main_v6 _
  congr 1
  funext a
  apply Fin.ext
  match a with
  | ⟨0, _⟩ => show win0_13.index t 0 * 512 + 1 * r.val = (gr (t.val) r).val; rw [hi.1, gr_eq]; omega
  | ⟨1, _⟩ => show win0_13.index t 1 * 1024 + 1 * k.val = _; rw [hi.2]; simp

theorem dmr_at (t : Fin cfg0.N) (r : Fin 512) (n : Fin 1024) :
    dmr (iblk m c 0 t) (iblk m c 1 t) r n = ∑ k : Fin 1024, a6 m c (ix2 (gr t.val r) k) * a5 m c (ix2 n k) := by
  unfold dmr
  refine Finset.sum_congr rfl fun k _ => ?_
  rw [iblk0, iblk1, V7, V2]
  rfl

theorem outs14_at (t : Fin cfg0.N) (r : Fin 512) (n : Fin 1024) :
    (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S512x1024 .bf16) (ix2 r n) = Cert.Reference4Ideal.Read.val_main_v41 (F := Ideal) (a0 m c) (a1 m c) (a2 m c) (a3 m c) (a4 m c) (a5 m c) (a6 m c) (ix2 (gr t.val r) n) := by
  rw [ref41_at]
  refine (out14_at _ _ _ _ _ _ _ _ _ _ _ _ _ _ (fun r n => a2 m c (ix2 (gr t.val r) ⟨7424 + n.val, by omega⟩)) (iblk4 m c t) (iblk5 m c t) (iblk6 m c t) (iblk7 m c t) r n).trans ?_
  rw [dmr_at, iblk12, V4]

theorem idx14 (t : Fin cfg0.N) : win0_14.index t 0 = (t.val) % 4 ∧ win0_14.index t 1 = 0 :=
  (by decide +kernel : ∀ t : Fin cfg0.N, win0_14.index t 0 = (t.val) % 4 ∧ win0_14.index t 1 = 0) t

theorem flushed_14 (t : Fin cfg0.N) (hf : (cfg0.win 14).flush t = true) :
    (dats m 0 c).flushed 14 t = ((cfg0.win 14).blk t).view.read (Elt Ideal) (Cert.Reference4Ideal.Read.val_main_v41 (F := Ideal) (a0 m c) (a1 m c) (a2 m c) (a3 m c) (a4 m c) (a5 m c) (a6 m c)) := by
  rw [Cert.Kernel4Ideal.Value.flushed14 m c t]
  have hi := idx14 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 14).cut (grid0.coords t) X (ix2 p q) = X (ix2 p q) := fun _ => rfl
  refine (h2 _).trans ?_
  have he : (((cfg0.win 14).blk t).view.emb (ix2 p q) : S2048x1024.Idx) = ix2 (gr (t.val) p) q := by
    funext a
    apply Fin.ext
    match a with
    | ⟨0, _⟩ => show win0_14.index t 0 * 512 + 1 * p.val = (gr (t.val) p).val; rw [hi.1, gr_eq]; omega
    | ⟨1, _⟩ => show win0_14.index t 1 * 1024 + 1 * q.val = _; rw [hi.2]; simp
  rw [he]
  exact outs14_at m c t p q

/-- The result array is the reference's. -/
theorem final_14 : (dats m 0 c).arrAt 14 cfg0.N = Cert.Reference4Ideal.Read.val_main_v41 (F := Ideal) (a0 m c) (a1 m c) (a2 m c) (a3 m c) (a4 m c) (a5 m c) (a6 m c) :=
  (dats m 0 c).arrAt_eq_of_cover 14 _ (flushed_14 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx14 t
    refine ⟨t, flush0_14 t, ?_⟩
    show i ∈ ((View.whole main_v8_0).slice (win0_14.rect t)).set
    rw [View.set_slice_whole, Rect.mem_set_unit]
    intro a
    match a with
    | ⟨0, _⟩ =>
      show win0_14.index t 0 * 512 ≤ (i 0 : Nat) ∧ (i 0 : Nat) < win0_14.index t 0 * 512 + 512
      rw [hi.1]; omega
    | ⟨1, _⟩ =>
      show win0_14.index t 1 * 1024 ≤ (i 1 : Nat) ∧ (i 1 : Nat) < win0_14.index t 1 * 1024 + 1024
      rw [hi.2]; omega

theorem outs15_at (t : Fin cfg0.N) (r : Fin 512) (n : Fin 1024) :
    (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S512x1024 .bf16) (ix2 r n) = Cert.Reference4Ideal.Read.val_main_v42 (F := Ideal) (a0 m c) (a1 m c) (a2 m c) (a3 m c) (a4 m c) (a5 m c) (a6 m c) (ix2 (gr t.val r) n) := by
  rw [ref42_at]
  refine (out15_at _ _ _ _ _ _ _ _ _ _ _ _ _ _ (fun r n => a2 m c (ix2 (gr t.val r) ⟨8448 + n.val, by omega⟩)) (iblk8 m c t) (iblk9 m c t) (iblk10 m c t) (iblk11 m c t) r n).trans ?_
  rw [dmr_at, iblk13, V6]

theorem idx15 (t : Fin cfg0.N) : win0_15.index t 0 = (t.val) % 4 ∧ win0_15.index t 1 = 0 :=
  (by decide +kernel : ∀ t : Fin cfg0.N, win0_15.index t 0 = (t.val) % 4 ∧ win0_15.index t 1 = 0) t

theorem flushed_15 (t : Fin cfg0.N) (hf : (cfg0.win 15).flush t = true) :
    (dats m 0 c).flushed 15 t = ((cfg0.win 15).blk t).view.read (Elt Ideal) (Cert.Reference4Ideal.Read.val_main_v42 (F := Ideal) (a0 m c) (a1 m c) (a2 m c) (a3 m c) (a4 m c) (a5 m c) (a6 m c)) := by
  rw [Cert.Kernel4Ideal.Value.flushed15 m c t]
  have hi := idx15 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 15).cut (grid0.coords t) X (ix2 p q) = X (ix2 p q) := fun _ => rfl
  refine (h2 _).trans ?_
  have he : (((cfg0.win 15).blk t).view.emb (ix2 p q) : S2048x1024.Idx) = ix2 (gr (t.val) p) q := by
    funext a
    apply Fin.ext
    match a with
    | ⟨0, _⟩ => show win0_15.index t 0 * 512 + 1 * p.val = (gr (t.val) p).val; rw [hi.1, gr_eq]; omega
    | ⟨1, _⟩ => show win0_15.index t 1 * 1024 + 1 * q.val = _; rw [hi.2]; simp
  rw [he]
  exact outs15_at m c t p q

/-- The result array is the reference's. -/
theorem final_15 : (dats m 0 c).arrAt 15 cfg0.N = Cert.Reference4Ideal.Read.val_main_v42 (F := Ideal) (a0 m c) (a1 m c) (a2 m c) (a3 m c) (a4 m c) (a5 m c) (a6 m c) :=
  (dats m 0 c).arrAt_eq_of_cover 15 _ (flushed_15 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx15 t
    refine ⟨t, flush0_15 t, ?_⟩
    show i ∈ ((View.whole main_v8_1).slice (win0_15.rect t)).set
    rw [View.set_slice_whole, Rect.mem_set_unit]
    intro a
    match a with
    | ⟨0, _⟩ =>
      show win0_15.index t 0 * 512 ≤ (i 0 : Nat) ∧ (i 0 : Nat) < win0_15.index t 0 * 512 + 512
      rw [hi.1]; omega
    | ⟨1, _⟩ =>
      show win0_15.index t 1 * 1024 ≤ (i 1 : Nat) ∧ (i 1 : Nat) < win0_15.index t 1 * 1024 + 1024
      rw [hi.2]; omega

theorem outs16_at (t : Fin cfg0.N) (r : Fin 512) (n : Fin 1024) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S512x1024 .bf16) (ix2 r n) = Cert.Reference4Ideal.Read.val_main_v43 (F := Ideal) (a2 m c) (a5 m c) (a6 m c) (ix2 (gr t.val r) n) := by
  rw [ref43_at]
  refine (out16_at _ _ _ _ _ _ _ _ _ _ _ _ _ _ (fun r n => a2 m c (ix2 (gr t.val r) ⟨7424 + n.val, by omega⟩)) (iblk4 m c t) (iblk5 m c t) (iblk6 m c t) (iblk7 m c t) r n).trans ?_
  rw [dmr_at]

theorem idx16 (t : Fin cfg0.N) : win0_16.index t 0 = (t.val) % 4 ∧ win0_16.index t 1 = 0 :=
  (by decide +kernel : ∀ t : Fin cfg0.N, win0_16.index t 0 = (t.val) % 4 ∧ win0_16.index t 1 = 0) t

theorem flushed_16 (t : Fin cfg0.N) (hf : (cfg0.win 16).flush t = true) :
    (dats m 0 c).flushed 16 t = ((cfg0.win 16).blk t).view.read (Elt Ideal) (Cert.Reference4Ideal.Read.val_main_v43 (F := Ideal) (a2 m c) (a5 m c) (a6 m c)) := by
  rw [Cert.Kernel4Ideal.Value.flushed16 m c t]
  have hi := idx16 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 16).cut (grid0.coords t) X (ix2 p q) = X (ix2 p q) := fun _ => rfl
  refine (h2 _).trans ?_
  have he : (((cfg0.win 16).blk t).view.emb (ix2 p q) : S2048x1024.Idx) = ix2 (gr (t.val) p) q := by
    funext a
    apply Fin.ext
    match a with
    | ⟨0, _⟩ => show win0_16.index t 0 * 512 + 1 * p.val = (gr (t.val) p).val; rw [hi.1, gr_eq]; omega
    | ⟨1, _⟩ => show win0_16.index t 1 * 1024 + 1 * q.val = _; rw [hi.2]; simp
  rw [he]
  exact outs16_at m c t p q

/-- The result array is the reference's. -/
theorem final_16 : (dats m 0 c).arrAt 16 cfg0.N = Cert.Reference4Ideal.Read.val_main_v43 (F := Ideal) (a2 m c) (a5 m c) (a6 m c) :=
  (dats m 0 c).arrAt_eq_of_cover 16 _ (flushed_16 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx16 t
    refine ⟨t, flush0_16 t, ?_⟩
    show i ∈ ((View.whole main_v8_2).slice (win0_16.rect t)).set
    rw [View.set_slice_whole, Rect.mem_set_unit]
    intro a
    match a with
    | ⟨0, _⟩ =>
      show win0_16.index t 0 * 512 ≤ (i 0 : Nat) ∧ (i 0 : Nat) < win0_16.index t 0 * 512 + 512
      rw [hi.1]; omega
    | ⟨1, _⟩ =>
      show win0_16.index t 1 * 1024 ≤ (i 1 : Nat) ∧ (i 1 : Nat) < win0_16.index t 1 * 1024 + 1024
      rw [hi.2]; omega

theorem outs17_at (t : Fin cfg0.N) (r : Fin 512) (n : Fin 1024) :
    (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S512x1024 .bf16) (ix2 r n) = Cert.Reference4Ideal.Read.val_main_v44 (F := Ideal) (a2 m c) (a5 m c) (a6 m c) (ix2 (gr t.val r) n) := by
  rw [ref44_at]
  refine (out17_at _ _ _ _ _ _ _ _ _ _ _ _ _ _ (fun r n => a2 m c (ix2 (gr t.val r) ⟨8448 + n.val, by omega⟩)) (iblk8 m c t) (iblk9 m c t) (iblk10 m c t) (iblk11 m c t) r n).trans ?_
  rw [dmr_at]

theorem idx17 (t : Fin cfg0.N) : win0_17.index t 0 = (t.val) % 4 ∧ win0_17.index t 1 = 0 :=
  (by decide +kernel : ∀ t : Fin cfg0.N, win0_17.index t 0 = (t.val) % 4 ∧ win0_17.index t 1 = 0) t

theorem flushed_17 (t : Fin cfg0.N) (hf : (cfg0.win 17).flush t = true) :
    (dats m 0 c).flushed 17 t = ((cfg0.win 17).blk t).view.read (Elt Ideal) (Cert.Reference4Ideal.Read.val_main_v44 (F := Ideal) (a2 m c) (a5 m c) (a6 m c)) := by
  rw [Cert.Kernel4Ideal.Value.flushed17 m c t]
  have hi := idx17 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 17).cut (grid0.coords t) X (ix2 p q) = X (ix2 p q) := fun _ => rfl
  refine (h2 _).trans ?_
  have he : (((cfg0.win 17).blk t).view.emb (ix2 p q) : S2048x1024.Idx) = ix2 (gr (t.val) p) q := by
    funext a
    apply Fin.ext
    match a with
    | ⟨0, _⟩ => show win0_17.index t 0 * 512 + 1 * p.val = (gr (t.val) p).val; rw [hi.1, gr_eq]; omega
    | ⟨1, _⟩ => show win0_17.index t 1 * 1024 + 1 * q.val = _; rw [hi.2]; simp
  rw [he]
  exact outs17_at m c t p q

/-- The result array is the reference's. -/
theorem final_17 : (dats m 0 c).arrAt 17 cfg0.N = Cert.Reference4Ideal.Read.val_main_v44 (F := Ideal) (a2 m c) (a5 m c) (a6 m c) :=
  (dats m 0 c).arrAt_eq_of_cover 17 _ (flushed_17 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx17 t
    refine ⟨t, flush0_17 t, ?_⟩
    show i ∈ ((View.whole main_v8_3).slice (win0_17.rect t)).set
    rw [View.set_slice_whole, Rect.mem_set_unit]
    intro a
    match a with
    | ⟨0, _⟩ =>
      show win0_17.index t 0 * 512 ≤ (i 0 : Nat) ∧ (i 0 : Nat) < win0_17.index t 0 * 512 + 512
      rw [hi.1]; omega
    | ⟨1, _⟩ =>
      show win0_17.index t 1 * 1024 ≤ (i 1 : Nat) ∧ (i 1 : Nat) < win0_17.index t 1 * 1024 + 1024
      rw [hi.2]; omega

theorem outs18_at (t : Fin cfg0.N) (r : Fin 512) (n : Fin 1024) :
    (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S512x1024 .bf16) (ix2 r n) = Cert.Reference4Ideal.Read.val_main_v45 (F := Ideal) (a2 m c) (a3 m c) (a5 m c) (a6 m c) (ix2 (gr t.val r) n) := by
  rw [ref45_at]
  refine (out18_at _ _ _ _ _ _ _ _ _ _ _ _ _ _ (fun r n => a2 m c (ix2 (gr t.val r) ⟨7424 + n.val, by omega⟩)) (iblk4 m c t) (iblk5 m c t) (iblk6 m c t) (iblk7 m c t) r n).trans ?_
  refine Finset.sum_congr rfl fun j _ => ?_
  rw [dmr_at, iblk2, V0]
  rfl

theorem idx18 (t : Fin cfg0.N) : win0_18.index t 0 = (t.val) % 4 ∧ win0_18.index t 1 = 0 :=
  (by decide +kernel : ∀ t : Fin cfg0.N, win0_18.index t 0 = (t.val) % 4 ∧ win0_18.index t 1 = 0) t

theorem flushed_18 (t : Fin cfg0.N) (hf : (cfg0.win 18).flush t = true) :
    (dats m 0 c).flushed 18 t = ((cfg0.win 18).blk t).view.read (Elt Ideal) (Cert.Reference4Ideal.Read.val_main_v45 (F := Ideal) (a2 m c) (a3 m c) (a5 m c) (a6 m c)) := by
  rw [Cert.Kernel4Ideal.Value.flushed18 m c t]
  have hi := idx18 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 18).cut (grid0.coords t) X (ix2 p q) = X (ix2 p q) := fun _ => rfl
  refine (h2 _).trans ?_
  have he : (((cfg0.win 18).blk t).view.emb (ix2 p q) : S2048x1024.Idx) = ix2 (gr (t.val) p) q := by
    funext a
    apply Fin.ext
    match a with
    | ⟨0, _⟩ => show win0_18.index t 0 * 512 + 1 * p.val = (gr (t.val) p).val; rw [hi.1, gr_eq]; omega
    | ⟨1, _⟩ => show win0_18.index t 1 * 1024 + 1 * q.val = _; rw [hi.2]; simp
  rw [he]
  exact outs18_at m c t p q

/-- The result array is the reference's. -/
theorem final_18 : (dats m 0 c).arrAt 18 cfg0.N = Cert.Reference4Ideal.Read.val_main_v45 (F := Ideal) (a2 m c) (a3 m c) (a5 m c) (a6 m c) :=
  (dats m 0 c).arrAt_eq_of_cover 18 _ (flushed_18 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx18 t
    refine ⟨t, flush0_18 t, ?_⟩
    show i ∈ ((View.whole main_v8_4).slice (win0_18.rect t)).set
    rw [View.set_slice_whole, Rect.mem_set_unit]
    intro a
    match a with
    | ⟨0, _⟩ =>
      show win0_18.index t 0 * 512 ≤ (i 0 : Nat) ∧ (i 0 : Nat) < win0_18.index t 0 * 512 + 512
      rw [hi.1]; omega
    | ⟨1, _⟩ =>
      show win0_18.index t 1 * 1024 ≤ (i 1 : Nat) ∧ (i 1 : Nat) < win0_18.index t 1 * 1024 + 1024
      rw [hi.2]; omega

theorem outs19_at (t : Fin cfg0.N) (r : Fin 512) (n : Fin 1024) :
    (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S512x1024 .bf16) (ix2 r n) = Cert.Reference4Ideal.Read.val_main_v46 (F := Ideal) (a2 m c) (a4 m c) (a5 m c) (a6 m c) (ix2 (gr t.val r) n) := by
  rw [ref46_at]
  refine (out19_at _ _ _ _ _ _ _ _ _ _ _ _ _ _ (fun r n => a2 m c (ix2 (gr t.val r) ⟨8448 + n.val, by omega⟩)) (iblk8 m c t) (iblk9 m c t) (iblk10 m c t) (iblk11 m c t) r n).trans ?_
  refine Finset.sum_congr rfl fun j _ => ?_
  rw [dmr_at, iblk3, V1]
  rfl

theorem idx19 (t : Fin cfg0.N) : win0_19.index t 0 = (t.val) % 4 ∧ win0_19.index t 1 = 0 :=
  (by decide +kernel : ∀ t : Fin cfg0.N, win0_19.index t 0 = (t.val) % 4 ∧ win0_19.index t 1 = 0) t

theorem flushed_19 (t : Fin cfg0.N) (hf : (cfg0.win 19).flush t = true) :
    (dats m 0 c).flushed 19 t = ((cfg0.win 19).blk t).view.read (Elt Ideal) (Cert.Reference4Ideal.Read.val_main_v46 (F := Ideal) (a2 m c) (a4 m c) (a5 m c) (a6 m c)) := by
  rw [Cert.Kernel4Ideal.Value.flushed19 m c t]
  have hi := idx19 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 19).cut (grid0.coords t) X (ix2 p q) = X (ix2 p q) := fun _ => rfl
  refine (h2 _).trans ?_
  have he : (((cfg0.win 19).blk t).view.emb (ix2 p q) : S2048x1024.Idx) = ix2 (gr (t.val) p) q := by
    funext a
    apply Fin.ext
    match a with
    | ⟨0, _⟩ => show win0_19.index t 0 * 512 + 1 * p.val = (gr (t.val) p).val; rw [hi.1, gr_eq]; omega
    | ⟨1, _⟩ => show win0_19.index t 1 * 1024 + 1 * q.val = _; rw [hi.2]; simp
  rw [he]
  exact outs19_at m c t p q

/-- The result array is the reference's. -/
theorem final_19 : (dats m 0 c).arrAt 19 cfg0.N = Cert.Reference4Ideal.Read.val_main_v46 (F := Ideal) (a2 m c) (a4 m c) (a5 m c) (a6 m c) :=
  (dats m 0 c).arrAt_eq_of_cover 19 _ (flushed_19 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx19 t
    refine ⟨t, flush0_19 t, ?_⟩
    show i ∈ ((View.whole main_v8_5).slice (win0_19.rect t)).set
    rw [View.set_slice_whole, Rect.mem_set_unit]
    intro a
    match a with
    | ⟨0, _⟩ =>
      show win0_19.index t 0 * 512 ≤ (i 0 : Nat) ∧ (i 0 : Nat) < win0_19.index t 0 * 512 + 512
      rw [hi.1]; omega
    | ⟨1, _⟩ =>
      show win0_19.index t 1 * 1024 ≤ (i 1 : Nat) ∧ (i 1 : Nat) < win0_19.index t 1 * 1024 + 1024
      rw [hi.2]; omega

end Cert.Proof.Merge

end
-- ==== Proof.MergeClaim.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Merge
public import Idealize.ShloMosaic.Lib.Claim

@[expose] public section

set_option maxRecDepth 16384

noncomputable section

/-! The claims about the kernel of `merge_bwd` and its reference. -/

namespace Cert.Proof.Merge

open Idealize.ShloMosaic Idealize.SL.Sem

attribute [local instance] Cert.Kernel4.Gen.facts Cert.Kernel4Ideal.Gen.facts Cert.Reference4Ideal.Gen.facts

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono
    (fun r h => ⟨fun c => (h c).2.2.2.2.2.2, sem_eq_zero_of_no_sems (by decide) r.2⟩)
    (Cert.Reference4Ideal.Value.run (F := Ideal) m ρ)

theorem algebraic : Cert.algebraic_Kernel4Ideal_Reference4Ideal := by
  intro m g m' g' _ hag
  refine ⟨fun c => Cert.Reference4Ideal.Read.val_main_v41 (F := Ideal) (a0 m c) (a1 m c) (a2 m c) (a3 m c) (a4 m c) (a5 m c) (a6 m c),
    fun c => Cert.Reference4Ideal.Read.val_main_v42 (F := Ideal) (a0 m c) (a1 m c) (a2 m c) (a3 m c) (a4 m c) (a5 m c) (a6 m c),
    fun c => Cert.Reference4Ideal.Read.val_main_v43 (F := Ideal) (a2 m c) (a5 m c) (a6 m c),
    fun c => Cert.Reference4Ideal.Read.val_main_v44 (F := Ideal) (a2 m c) (a5 m c) (a6 m c),
    fun c => Cert.Reference4Ideal.Read.val_main_v45 (F := Ideal) (a2 m c) (a3 m c) (a5 m c) (a6 m c),
    fun c => Cert.Reference4Ideal.Read.val_main_v46 (F := Ideal) (a2 m c) (a4 m c) (a5 m c) (a6 m c), ?_, ?_⟩
  · exact (θ_run Cert.Kernel4Ideal.defs _ _).mono
      (fun r h c => ⟨(h c).1.trans (final_14 m c), (h c).2.1.trans (final_15 m c), (h c).2.2.1.trans (final_16 m c), (h c).2.2.2.1.trans (final_17 m c), (h c).2.2.2.2.1.trans (final_18 m c), (h c).2.2.2.2.2.1.trans (final_19 m c), (h c).2.2.2.2.2.2⟩)
      (Cert.Kernel4Ideal.Value.run_blocks (F := Ideal) m g)
  · refine (θ_run Cert.Reference4Ideal.defs _ _).mono (fun r h c => ?_) (Cert.Reference4Ideal.Value.run (F := Ideal) m' g')
    obtain ⟨e0, e1, e2, e3, e4, e5, e6⟩ := hag c
    obtain ⟨h0, h1, h2, h3, h4, h5, hargs⟩ := h c
    rw [Cert.Reference4Ideal.Read.val_main_v41_eq, e0, e1, e2, e3, e4, e5, e6] at h0
    rw [Cert.Reference4Ideal.Read.val_main_v42_eq, e0, e1, e2, e3, e4, e5, e6] at h1
    rw [Cert.Reference4Ideal.Read.val_main_v43_eq, e2, e5, e6] at h2
    rw [Cert.Reference4Ideal.Read.val_main_v44_eq, e2, e5, e6] at h3
    rw [Cert.Reference4Ideal.Read.val_main_v45_eq, e2, e3, e5, e6] at h4
    rw [Cert.Reference4Ideal.Read.val_main_v46_eq, e2, e4, e5, e6] at h5
    exact ⟨h0, h1, h2, h3, h4, h5, hargs⟩

end Cert.Proof.Merge

end
-- ==== Proof.OutPay.lean ====
module

public import proofs.«01_k».proof.Proof.Rows
public import proofs.«01_k».proof.Proof.Gen.Kernel11Ideal.Value
public import Idealize.ShloMosaic.Lib.Pipeline.Value
public import Idealize.ShloMosaic.Lib.Tactic
public import Idealize.ShloMosaic.Lib.Pointwise

@[expose] public section

set_option maxRecDepth 16384

noncomputable section

/-! What a point of `merge_out_post` leaves, at an index: the branches' products, the merge in four pieces of 256 columns, its
product with the output weights, and the two normalisations after it. -/

namespace Cert.Proof.Out

open Idealize.ShloMosaic Idealize.ShloMosaic.TcCoe Cert.Kernel11Ideal Cert.Kernel11Ideal.Gen Cert.Proof.Rows

theorem hz : (![0, 0] : Fin 2 → Nat) = fun _ => 0 := funext fun a => by fin_cases a <;> rfl

/-- A tile's rows times a weight. -/
def pr (x : Vec Ideal S512x1024 .bf16) (w : Vec Ideal S1024x1024 .bf16) (r : Fin 512) (n : Fin 1024) : EReal := ∑ k : Fin 1024, x (ix2 r k) * w (ix2 k n)

/-- The merge of two branches `y` and `z` under the gates' pre-activations. -/
def mg (a y b z : EReal) : EReal := Ideal.logistic a * y + Ideal.logistic b * z

/-- A normalised row, -/
def nrm (y g : Fin 1024 → EReal) (n : Fin 1024) : EReal := y n * rs y * g n

/-- and the residual stream it is added to. -/
def res (x y g : Fin 1024 → EReal) (n : Fin 1024) : EReal := x n + nrm y g n

theorem cols (n : Fin 1024) : (∃ k : Fin 256, n = ⟨0 + k.val, by omega⟩) ∨ (∃ k : Fin 256, n = ⟨256 + k.val, by omega⟩)
    ∨ (∃ k : Fin 256, n = ⟨512 + k.val, by omega⟩) ∨ (∃ k : Fin 256, n = ⟨768 + k.val, by omega⟩) := by
  rcases lt_or_ge n.val 512 with h | h
  · rcases lt_or_ge n.val 256 with h' | h'
    · exact .inl ⟨⟨n.val, h'⟩, Fin.ext (by simp)⟩
    · exact .inr (.inl ⟨⟨n.val - 256, by omega⟩, Fin.ext (by show n.val = 256 + (n.val - 256); omega)⟩)
  · rcases lt_or_ge n.val 768 with h' | h'
    · exact .inr (.inr (.inl ⟨⟨n.val - 512, by omega⟩, Fin.ext (by show n.val = 512 + (n.val - 512); omega)⟩))
    · exact .inr (.inr (.inr ⟨⟨n.val - 768, by omega⟩, Fin.ext (by show n.val = 768 + (n.val - 768); omega)⟩))

theorem pay3_at (x : Vec Ideal S512x1024 .bf16) (w : Vec Ideal S1024x1024 .bf16) (r : Fin 512) (n : Fin 1024) : k0_pay3 (F := Ideal) x w (ix2 r n) = pr x w r n := by
  pointwise [k0_pay3]; rfl
theorem pay4_at (x : Vec Ideal S512x1024 .bf16) (w : Vec Ideal S1024x1024 .bf16) (r : Fin 512) (n : Fin 1024) : k0_pay4 (F := Ideal) x w (ix2 r n) = pr x w r n := by
  pointwise [k0_pay4]; rfl

theorem pay5_at (x y : Vec Ideal S512x1024 .bf16) (v w : Vec Ideal S1024x1024 .bf16) (a b : Vec Ideal S512x256 .f32) (r : Fin 512) (k : Fin 256) :
    k0_pay5 (F := Ideal) x v y w a b (ix2 r k) = mg (a (ix2 r k)) (pr x v r ⟨0 + k.val, by omega⟩) (b (ix2 r k)) (pr y w r ⟨0 + k.val, by omega⟩) := by
  rw [← pay3_at, ← pay4_at]
  unfold k0_pay5
  generalize k0_pay3 (F := Ideal) x v = p
  generalize k0_pay4 (F := Ideal) y w = q
  pointwise
  try simp
  try rfl

theorem pay6_at (x : Vec Ideal S512x1024 .bf16) (w : Vec Ideal S1024x1024 .bf16) (a : Vec Ideal S512x256 .f32) (r : Fin 512) (k : Fin 256) :
    k0_pay6 (F := Ideal) x w a (ix2 r k) = Ideal.logistic (a (ix2 r k)) * pr x w r ⟨256 + k.val, by omega⟩ := by
  rw [← pay3_at]
  unfold k0_pay6
  generalize k0_pay3 (F := Ideal) x w = p
  pointwise

theorem pay7_at (x : Vec Ideal S512x1024 .bf16) (w : Vec Ideal S1024x1024 .bf16) (a : Vec Ideal S512x256 .f32) (r : Fin 512) (k : Fin 256) :
    k0_pay7 (F := Ideal) x w a (ix2 r k) = Ideal.logistic (a (ix2 r k)) * pr x w r ⟨256 + k.val, by omega⟩ := by
  rw [← pay4_at]
  unfold k0_pay7
  generalize k0_pay4 (F := Ideal) x w = p
  pointwise

theorem cat0 (y z : FVec Ideal S512x1024 .bf16) (p q s : FVec Ideal S512x256 .f32) (a b c d : Vec Ideal S512x256 .f32) (r : Fin 512) (k : Fin 256) :
    k0_pay8 (F := Ideal) y z p q s a b c d (ix2 r ⟨0 + k.val, by omega⟩) = p (ix2 r k) := by
  pointwise [k0_pay8]

theorem cat1 (y z : FVec Ideal S512x1024 .bf16) (p q s : FVec Ideal S512x256 .f32) (a b c d : Vec Ideal S512x256 .f32) (r : Fin 512) (k : Fin 256) :
    k0_pay8 (F := Ideal) y z p q s a b c d (ix2 r ⟨256 + k.val, by omega⟩) = q (ix2 r k) + s (ix2 r k) := by
  pointwise [k0_pay8]

theorem cat2 (y z : FVec Ideal S512x1024 .bf16) (p q s : FVec Ideal S512x256 .f32) (a b c d : Vec Ideal S512x256 .f32) (r : Fin 512) (k : Fin 256) :
    k0_pay8 (F := Ideal) y z p q s a b c d (ix2 r ⟨512 + k.val, by omega⟩) = mg (a (ix2 r k)) (y (ix2 r ⟨512 + k.val, by omega⟩)) (b (ix2 r k)) (z (ix2 r ⟨512 + k.val, by omega⟩)) := by
  pointwise [k0_pay8]
  have h0 : ¬ 512 + k.val < 256 := by omega
  have h1 : ¬ 512 + k.val - 256 < 256 := by omega
  have h2 : 512 + k.val - 256 - 256 < 256 := by omega
  rw [dif_neg h0, dif_neg h1, dif_pos h2]
  have e : (⟨512 + k.val - 256 - 256, h2⟩ : Fin 256) = k := Fin.ext (by show 512 + k.val - 256 - 256 = k.val; omega)
  have e' : (⟨512 + (512 + k.val - 256 - 256), by omega⟩ : Fin 1024) = ⟨512 + k.val, by omega⟩ := Fin.ext (by show 512 + (512 + k.val - 256 - 256) = 512 + k.val; omega)
  simp only [e, e']
  rfl

theorem cat3 (y z : FVec Ideal S512x1024 .bf16) (p q s : FVec Ideal S512x256 .f32) (a b c d : Vec Ideal S512x256 .f32) (r : Fin 512) (k : Fin 256) :
    k0_pay8 (F := Ideal) y z p q s a b c d (ix2 r ⟨768 + k.val, by omega⟩) = mg (c (ix2 r k)) (y (ix2 r ⟨768 + k.val, by omega⟩)) (d (ix2 r k)) (z (ix2 r ⟨768 + k.val, by omega⟩)) := by
  pointwise [k0_pay8]
  have h0 : ¬ 768 + k.val < 256 := by omega
  have h1 : ¬ 768 + k.val - 256 < 256 := by omega
  have h2 : ¬ 768 + k.val - 256 - 256 < 256 := by omega
  have h3 : 768 + k.val - 256 - 256 - 256 < 256 := by omega
  rw [dif_neg h0, dif_neg h1, dif_neg h2]
  have e : (⟨768 + k.val - 256 - 256 - 256, h3⟩ : Fin 256) = k := Fin.ext (by show 768 + k.val - 256 - 256 - 256 = k.val; omega)
  have e' : (⟨768 + (768 + k.val - 256 - 256 - 256), by omega⟩ : Fin 1024) = ⟨768 + k.val, by omega⟩ := Fin.ext (by show 768 + (768 + k.val - 256 - 256 - 256) = 768 + k.val; omega)
  simp only [e, e']
  rfl

theorem pay9_at (y z : FVec Ideal S512x1024 .bf16) (p q s : FVec Ideal S512x256 .f32) (a b c d : Vec Ideal S512x256 .f32) (w : Vec Ideal S1024x1024 .bf16) (r : Fin 512) (n : Fin 1024) :
    k0_pay9 (F := Ideal) y z p q s a b c d w (ix2 r n) = pr (k0_pay8 (F := Ideal) y z p q s a b c d) w r n := by
  unfold k0_pay9
  generalize k0_pay8 (F := Ideal) y z p q s a b c d = e
  pointwise; rfl

theorem pay10_at (y z : FVec Ideal S512x1024 .bf16) (p q s : FVec Ideal S512x256 .f32) (a b c d : Vec Ideal S512x256 .f32) (w : Vec Ideal S1024x1024 .bf16) (r : Fin 512) :
    k0_pay10 (F := Ideal) y z p q s a b c d w (ix2 r 0)
      = Ideal.div (∑ k : Fin 1024, k0_pay9 (F := Ideal) y z p q s a b c d w (ix2 r k) * k0_pay9 (F := Ideal) y z p q s a b c d w (ix2 r k)) (Ideal.ofBits .f32 1149239296#32) := by
  unfold k0_pay10
  generalize k0_pay9 (F := Ideal) y z p q s a b c d w = e
  pointwise

theorem pay1_at (p : FVec Ideal S512x1024 .f32) (x : Vec Ideal S512x1024 .f32) (g : Vec Ideal S1x1024 .f32) (q : FVec Ideal S512x1 .f32)
    (h : ∀ r : Fin 512, q (ix2 r 0) = Ideal.div (∑ k : Fin 1024, p (ix2 r k) * p (ix2 r k)) (Ideal.ofBits .f32 1149239296#32)) (r : Fin 512) (n : Fin 1024) :
    k0_pay1 (F := Ideal) p x g q (ix2 r n) = res (fun k => x (ix2 r k)) (fun k => p (ix2 r k)) (fun k => g (ix2 0 k)) n := by
  pointwise [k0_pay1]
  rw [h]; rfl

theorem pay2_at (p : FVec Ideal S512x1024 .f32) (x : Vec Ideal S512x1024 .f32) (g : Vec Ideal S1x1024 .f32) (q : FVec Ideal S512x1 .f32) (g' : Vec Ideal S1x1024 .f32) (r : Fin 512) (n : Fin 1024) :
    k0_pay2 (F := Ideal) p x g q g' (ix2 r n) = nrm (fun k => k0_pay1 (F := Ideal) p x g q (ix2 r k)) (fun k => g' (ix2 0 k)) n := by
  unfold k0_pay2
  generalize k0_pay1 (F := Ideal) p x g q = e
  pointwise; rfl

variable (x0 : Vec Ideal S512x256 .f32) (x1 : Vec Ideal S512x256 .f32) (x2 : Vec Ideal S512x256 .f32) (x3 : Vec Ideal S512x256 .f32) (x4 : Vec Ideal S512x256 .f32) (x5 : Vec Ideal S512x256 .f32) (x6 : Vec Ideal S512x256 .f32) (x7 : Vec Ideal S512x256 .f32) (x8 : Vec Ideal S512x1024 .bf16) (x9 : Vec Ideal S512x1024 .bf16) (x10 : Vec Ideal S1024x1024 .bf16) (x11 : Vec Ideal S1024x1024 .bf16) (x12 : Vec Ideal S1024x1024 .bf16) (x13 : Vec Ideal S512x1024 .f32) (x14 : Vec Ideal S1x1024 .f32) (x15 : Vec Ideal S1x1024 .f32) (G H : Fin 512 → Fin 1024 → EReal)

theorem out16_at (r : Fin 512) (n : Fin 1024) : out0_16 (F := Ideal) x0 x1 x2 x3 x4 x5 x6 x7 x8 x9 x10 x11 x12 x13 x14 x15 (ix2 r n) = pr x8 x10 r n := by
  unfold out0_16
  rw [View.canon_unit_zero hz, View.ld_unit_zero (S := S512x1024) hz, View.ld_unit_zero (S := S1024x1024) hz, pay3_at]

theorem out17_at (r : Fin 512) (n : Fin 1024) : out0_17 (F := Ideal) x0 x1 x2 x3 x4 x5 x6 x7 x8 x9 x10 x11 x12 x13 x14 x15 (ix2 r n) = pr x9 x11 r n := by
  unfold out0_17
  rw [View.canon_unit_zero hz, View.ld_unit_zero (S := S512x1024) hz, View.ld_unit_zero (S := S1024x1024) hz, pay4_at]

/-- The merge of a tile. -/
theorem merged_at (h0 : ∀ (r : Fin 512) (k : Fin 256), x0 (ix2 r k) = G r ⟨0 + k.val, by omega⟩) (h1 : ∀ (r : Fin 512) (k : Fin 256), x1 (ix2 r k) = G r ⟨256 + k.val, by omega⟩) (h2 : ∀ (r : Fin 512) (k : Fin 256), x2 (ix2 r k) = G r ⟨512 + k.val, by omega⟩) (h3 : ∀ (r : Fin 512) (k : Fin 256), x3 (ix2 r k) = G r ⟨768 + k.val, by omega⟩) (e0 : ∀ (r : Fin 512) (k : Fin 256), x4 (ix2 r k) = H r ⟨0 + k.val, by omega⟩) (e1 : ∀ (r : Fin 512) (k : Fin 256), x5 (ix2 r k) = H r ⟨256 + k.val, by omega⟩) (e2 : ∀ (r : Fin 512) (k : Fin 256), x6 (ix2 r k) = H r ⟨512 + k.val, by omega⟩) (e3 : ∀ (r : Fin 512) (k : Fin 256), x7 (ix2 r k) = H r ⟨768 + k.val, by omega⟩) (r : Fin 512) (n : Fin 1024) :
    k0_pay8 (F := Ideal) (k0_pay11 (F := Ideal) x0 x1 x2 x3 x4 x5 x6 x7 x8 x9 x10 x11 x12 x13 x14 x15) (k0_pay12 x0 x1 x2 x3 x4 x5 x6 x7 x8 x9 x10 x11 x12 x13 x14 x15) (k0_pay13 x0 x1 x2 x3 x4 x5 x6 x7 x8 x9 x10 x11 x12 x13 x14 x15) (k0_pay14 x0 x1 x2 x3 x4 x5 x6 x7 x8 x9 x10 x11 x12 x13 x14 x15) (k0_pay15 x0 x1 x2 x3 x4 x5 x6 x7 x8 x9 x10 x11 x12 x13 x14 x15) x2 x6 x3 x7 (ix2 r n) = mg (G r n) (pr x8 x10 r n) (H r n) (pr x9 x11 r n) := by
  rcases cols n with ⟨k, rfl⟩ | ⟨k, rfl⟩ | ⟨k, rfl⟩ | ⟨k, rfl⟩
  · rw [cat0]
    unfold k0_pay13
    simp only [View.ld_unit_zero (S := S512x1024) hz, View.ld_unit_zero (S := S1024x1024) hz, View.ld_unit_zero (S := S512x256) hz]
    rw [pay5_at, h0, e0]
  · rw [cat1]
    unfold k0_pay14 k0_pay15
    simp only [View.ld_unit_zero (S := S512x1024) hz, View.ld_unit_zero (S := S1024x1024) hz, View.ld_unit_zero (S := S512x256) hz]
    rw [pay6_at, pay7_at, h1, e1]
    rfl
  · rw [cat2]
    unfold k0_pay11 k0_pay12
    rw [pay3_at, pay4_at]
    simp only [View.ld_unit_zero (S := S512x1024) hz, View.ld_unit_zero (S := S1024x1024) hz, h2, e2]
  · rw [cat3]
    unfold k0_pay11 k0_pay12
    rw [pay3_at, pay4_at]
    simp only [View.ld_unit_zero (S := S512x1024) hz, View.ld_unit_zero (S := S1024x1024) hz, h3, e3]

theorem out18_at (h0 : ∀ (r : Fin 512) (k : Fin 256), x0 (ix2 r k) = G r ⟨0 + k.val, by omega⟩) (h1 : ∀ (r : Fin 512) (k : Fin 256), x1 (ix2 r k) = G r ⟨256 + k.val, by omega⟩) (h2 : ∀ (r : Fin 512) (k : Fin 256), x2 (ix2 r k) = G r ⟨512 + k.val, by omega⟩) (h3 : ∀ (r : Fin 512) (k : Fin 256), x3 (ix2 r k) = G r ⟨768 + k.val, by omega⟩) (e0 : ∀ (r : Fin 512) (k : Fin 256), x4 (ix2 r k) = H r ⟨0 + k.val, by omega⟩) (e1 : ∀ (r : Fin 512) (k : Fin 256), x5 (ix2 r k) = H r ⟨256 + k.val, by omega⟩) (e2 : ∀ (r : Fin 512) (k : Fin 256), x6 (ix2 r k) = H r ⟨512 + k.val, by omega⟩) (e3 : ∀ (r : Fin 512) (k : Fin 256), x7 (ix2 r k) = H r ⟨768 + k.val, by omega⟩) (r : Fin 512) (n : Fin 1024) :
    out0_18 (F := Ideal) x0 x1 x2 x3 x4 x5 x6 x7 x8 x9 x10 x11 x12 x13 x14 x15 (ix2 r n) = mg (G r n) (pr x8 x10 r n) (H r n) (pr x9 x11 r n) := by
  unfold out0_18
  rw [View.canon_unit_zero hz]
  simp only [View.ld_unit_zero (S := S512x256) hz]
  exact merged_at x0 x1 x2 x3 x4 x5 x6 x7 x8 x9 x10 x11 x12 x13 x14 x15 G H h0 h1 h2 h3 e0 e1 e2 e3 r n

/-- The merge times the output weights, -/
def mix (r : Fin 512) (n : Fin 1024) : EReal := ∑ k : Fin 1024, mg (G r k) (pr x8 x10 r k) (H r k) (pr x9 x11 r k) * x12 (ix2 k n)

theorem mix_at (h0 : ∀ (r : Fin 512) (k : Fin 256), x0 (ix2 r k) = G r ⟨0 + k.val, by omega⟩) (h1 : ∀ (r : Fin 512) (k : Fin 256), x1 (ix2 r k) = G r ⟨256 + k.val, by omega⟩) (h2 : ∀ (r : Fin 512) (k : Fin 256), x2 (ix2 r k) = G r ⟨512 + k.val, by omega⟩) (h3 : ∀ (r : Fin 512) (k : Fin 256), x3 (ix2 r k) = G r ⟨768 + k.val, by omega⟩) (e0 : ∀ (r : Fin 512) (k : Fin 256), x4 (ix2 r k) = H r ⟨0 + k.val, by omega⟩) (e1 : ∀ (r : Fin 512) (k : Fin 256), x5 (ix2 r k) = H r ⟨256 + k.val, by omega⟩) (e2 : ∀ (r : Fin 512) (k : Fin 256), x6 (ix2 r k) = H r ⟨512 + k.val, by omega⟩) (e3 : ∀ (r : Fin 512) (k : Fin 256), x7 (ix2 r k) = H r ⟨768 + k.val, by omega⟩) (r : Fin 512) (n : Fin 1024) :
    k0_pay9 (F := Ideal) (k0_pay11 (F := Ideal) x0 x1 x2 x3 x4 x5 x6 x7 x8 x9 x10 x11 x12 x13 x14 x15) (k0_pay12 x0 x1 x2 x3 x4 x5 x6 x7 x8 x9 x10 x11 x12 x13 x14 x15) (k0_pay13 x0 x1 x2 x3 x4 x5 x6 x7 x8 x9 x10 x11 x12 x13 x14 x15) (k0_pay14 x0 x1 x2 x3 x4 x5 x6 x7 x8 x9 x10 x11 x12 x13 x14 x15) (k0_pay15 x0 x1 x2 x3 x4 x5 x6 x7 x8 x9 x10 x11 x12 x13 x14 x15) x2 x6 x3 x7 x12 (ix2 r n) = mix x8 x9 x10 x11 x12 G H r n := by
  rw [pay9_at]
  unfold pr mix
  exact Finset.sum_congr rfl fun k _ => by rw [merged_at x0 x1 x2 x3 x4 x5 x6 x7 x8 x9 x10 x11 x12 x13 x14 x15 G H h0 h1 h2 h3 e0 e1 e2 e3 r k]

theorem out19_at (h0 : ∀ (r : Fin 512) (k : Fin 256), x0 (ix2 r k) = G r ⟨0 + k.val, by omega⟩) (h1 : ∀ (r : Fin 512) (k : Fin 256), x1 (ix2 r k) = G r ⟨256 + k.val, by omega⟩) (h2 : ∀ (r : Fin 512) (k : Fin 256), x2 (ix2 r k) = G r ⟨512 + k.val, by omega⟩) (h3 : ∀ (r : Fin 512) (k : Fin 256), x3 (ix2 r k) = G r ⟨768 + k.val, by omega⟩) (e0 : ∀ (r : Fin 512) (k : Fin 256), x4 (ix2 r k) = H r ⟨0 + k.val, by omega⟩) (e1 : ∀ (r : Fin 512) (k : Fin 256), x5 (ix2 r k) = H r ⟨256 + k.val, by omega⟩) (e2 : ∀ (r : Fin 512) (k : Fin 256), x6 (ix2 r k) = H r ⟨512 + k.val, by omega⟩) (e3 : ∀ (r : Fin 512) (k : Fin 256), x7 (ix2 r k) = H r ⟨768 + k.val, by omega⟩) (r : Fin 512) (n : Fin 1024) :
    out0_19 (F := Ideal) x0 x1 x2 x3 x4 x5 x6 x7 x8 x9 x10 x11 x12 x13 x14 x15 (ix2 r n) = mix x8 x9 x10 x11 x12 G H r n := by
  unfold out0_19
  rw [View.canon_unit_zero hz]
  simp only [View.ld_unit_zero (S := S512x256) hz, View.ld_unit_zero (S := S1024x1024) hz]
  exact mix_at x0 x1 x2 x3 x4 x5 x6 x7 x8 x9 x10 x11 x12 x13 x14 x15 G H h0 h1 h2 h3 e0 e1 e2 e3 r n

theorem p16_eq : k0_pay16 (F := Ideal) x0 x1 x2 x3 x4 x5 x6 x7 x8 x9 x10 x11 x12 x13 x14 x15 = k0_pay9 (k0_pay11 (F := Ideal) x0 x1 x2 x3 x4 x5 x6 x7 x8 x9 x10 x11 x12 x13 x14 x15) (k0_pay12 x0 x1 x2 x3 x4 x5 x6 x7 x8 x9 x10 x11 x12 x13 x14 x15) (k0_pay13 x0 x1 x2 x3 x4 x5 x6 x7 x8 x9 x10 x11 x12 x13 x14 x15) (k0_pay14 x0 x1 x2 x3 x4 x5 x6 x7 x8 x9 x10 x11 x12 x13 x14 x15) (k0_pay15 x0 x1 x2 x3 x4 x5 x6 x7 x8 x9 x10 x11 x12 x13 x14 x15) x2 x6 x3 x7 x12 := by
  unfold k0_pay16
  simp only [View.ld_unit_zero (S := S512x256) hz, View.ld_unit_zero (S := S1024x1024) hz]

theorem p17_eq : k0_pay17 (F := Ideal) x0 x1 x2 x3 x4 x5 x6 x7 x8 x9 x10 x11 x12 x13 x14 x15 = k0_pay10 (k0_pay11 (F := Ideal) x0 x1 x2 x3 x4 x5 x6 x7 x8 x9 x10 x11 x12 x13 x14 x15) (k0_pay12 x0 x1 x2 x3 x4 x5 x6 x7 x8 x9 x10 x11 x12 x13 x14 x15) (k0_pay13 x0 x1 x2 x3 x4 x5 x6 x7 x8 x9 x10 x11 x12 x13 x14 x15) (k0_pay14 x0 x1 x2 x3 x4 x5 x6 x7 x8 x9 x10 x11 x12 x13 x14 x15) (k0_pay15 x0 x1 x2 x3 x4 x5 x6 x7 x8 x9 x10 x11 x12 x13 x14 x15) x2 x6 x3 x7 x12 := by
  unfold k0_pay17
  simp only [View.ld_unit_zero (S := S512x256) hz, View.ld_unit_zero (S := S1024x1024) hz]

/-- the residual stream, -/
theorem stream_at (h0 : ∀ (r : Fin 512) (k : Fin 256), x0 (ix2 r k) = G r ⟨0 + k.val, by omega⟩) (h1 : ∀ (r : Fin 512) (k : Fin 256), x1 (ix2 r k) = G r ⟨256 + k.val, by omega⟩) (h2 : ∀ (r : Fin 512) (k : Fin 256), x2 (ix2 r k) = G r ⟨512 + k.val, by omega⟩) (h3 : ∀ (r : Fin 512) (k : Fin 256), x3 (ix2 r k) = G r ⟨768 + k.val, by omega⟩) (e0 : ∀ (r : Fin 512) (k : Fin 256), x4 (ix2 r k) = H r ⟨0 + k.val, by omega⟩) (e1 : ∀ (r : Fin 512) (k : Fin 256), x5 (ix2 r k) = H r ⟨256 + k.val, by omega⟩) (e2 : ∀ (r : Fin 512) (k : Fin 256), x6 (ix2 r k) = H r ⟨512 + k.val, by omega⟩) (e3 : ∀ (r : Fin 512) (k : Fin 256), x7 (ix2 r k) = H r ⟨768 + k.val, by omega⟩) (r : Fin 512) (n : Fin 1024) :
    k0_pay1 (F := Ideal) (k0_pay16 x0 x1 x2 x3 x4 x5 x6 x7 x8 x9 x10 x11 x12 x13 x14 x15) x13 x14 (k0_pay17 x0 x1 x2 x3 x4 x5 x6 x7 x8 x9 x10 x11 x12 x13 x14 x15) (ix2 r n)
      = res (fun k => x13 (ix2 r k)) (mix x8 x9 x10 x11 x12 G H r) (fun k => x14 (ix2 0 k)) n := by
  rw [p16_eq, p17_eq, pay1_at _ _ _ _ (pay10_at _ _ _ _ _ _ _ _ _ _)]
  have h := mix_at x0 x1 x2 x3 x4 x5 x6 x7 x8 x9 x10 x11 x12 x13 x14 x15 G H h0 h1 h2 h3 e0 e1 e2 e3 r
  simp only [h]

theorem out20_at (h0 : ∀ (r : Fin 512) (k : Fin 256), x0 (ix2 r k) = G r ⟨0 + k.val, by omega⟩) (h1 : ∀ (r : Fin 512) (k : Fin 256), x1 (ix2 r k) = G r ⟨256 + k.val, by omega⟩) (h2 : ∀ (r : Fin 512) (k : Fin 256), x2 (ix2 r k) = G r ⟨512 + k.val, by omega⟩) (h3 : ∀ (r : Fin 512) (k : Fin 256), x3 (ix2 r k) = G r ⟨768 + k.val, by omega⟩) (e0 : ∀ (r : Fin 512) (k : Fin 256), x4 (ix2 r k) = H r ⟨0 + k.val, by omega⟩) (e1 : ∀ (r : Fin 512) (k : Fin 256), x5 (ix2 r k) = H r ⟨256 + k.val, by omega⟩) (e2 : ∀ (r : Fin 512) (k : Fin 256), x6 (ix2 r k) = H r ⟨512 + k.val, by omega⟩) (e3 : ∀ (r : Fin 512) (k : Fin 256), x7 (ix2 r k) = H r ⟨768 + k.val, by omega⟩) (r : Fin 512) (n : Fin 1024) :
    out0_20 (F := Ideal) x0 x1 x2 x3 x4 x5 x6 x7 x8 x9 x10 x11 x12 x13 x14 x15 (ix2 r n) = res (fun k => x13 (ix2 r k)) (mix x8 x9 x10 x11 x12 G H r) (fun k => x14 (ix2 0 k)) n := by
  unfold out0_20
  rw [View.canon_unit_zero hz, View.ld_unit_zero (S := S512x1024) hz, View.ld_unit_zero (S := S1x1024) hz]
  exact stream_at x0 x1 x2 x3 x4 x5 x6 x7 x8 x9 x10 x11 x12 x13 x14 x15 G H h0 h1 h2 h3 e0 e1 e2 e3 r n

/-- and its normalised rows. -/
theorem out21_at (h0 : ∀ (r : Fin 512) (k : Fin 256), x0 (ix2 r k) = G r ⟨0 + k.val, by omega⟩) (h1 : ∀ (r : Fin 512) (k : Fin 256), x1 (ix2 r k) = G r ⟨256 + k.val, by omega⟩) (h2 : ∀ (r : Fin 512) (k : Fin 256), x2 (ix2 r k) = G r ⟨512 + k.val, by omega⟩) (h3 : ∀ (r : Fin 512) (k : Fin 256), x3 (ix2 r k) = G r ⟨768 + k.val, by omega⟩) (e0 : ∀ (r : Fin 512) (k : Fin 256), x4 (ix2 r k) = H r ⟨0 + k.val, by omega⟩) (e1 : ∀ (r : Fin 512) (k : Fin 256), x5 (ix2 r k) = H r ⟨256 + k.val, by omega⟩) (e2 : ∀ (r : Fin 512) (k : Fin 256), x6 (ix2 r k) = H r ⟨512 + k.val, by omega⟩) (e3 : ∀ (r : Fin 512) (k : Fin 256), x7 (ix2 r k) = H r ⟨768 + k.val, by omega⟩) (r : Fin 512) (n : Fin 1024) :
    out0_21 (F := Ideal) x0 x1 x2 x3 x4 x5 x6 x7 x8 x9 x10 x11 x12 x13 x14 x15 (ix2 r n)
      = nrm (res (fun k => x13 (ix2 r k)) (mix x8 x9 x10 x11 x12 G H r) (fun k => x14 (ix2 0 k))) (fun k => x15 (ix2 0 k)) n := by
  unfold out0_21
  rw [View.canon_unit_zero hz, View.ld_unit_zero (S := S512x1024) hz, View.ld_unit_zero (S := S1x1024) hz, View.ld_unit_zero (S := S1x1024) hz, pay2_at]
  have h := stream_at x0 x1 x2 x3 x4 x5 x6 x7 x8 x9 x10 x11 x12 x13 x14 x15 G H h0 h1 h2 h3 e0 e1 e2 e3 r
  simp only [h]

end Cert.Proof.Out

end
-- ==== Proof.Out.lean ====
module

public import proofs.«01_k».proof.Proof.OutPay
public import proofs.«01_k».proof.Proof.Gen.Reference11Ideal.Read

@[expose] public section

set_option maxRecDepth 16384

noncomputable section

/-! The result arrays of the kernel of `merge_out_post` are its reference's. Point `t` takes rows `512 t` to `512 t + 511`. -/

namespace Cert.Proof.Out

open Idealize.ShloMosaic Idealize.ShloMosaic.TcCoe Cert.Kernel11Ideal Cert.Kernel11Ideal.Gen Cert.Proof.Rows

section reference

variable (x0 : Vec Ideal S2048x9472 .f32) (x1 x2 : Vec Ideal S2048x1024 .f32) (x3 x4 x5 : Vec Ideal S1024x1024 .f32) (x6 : Vec Ideal S2048x1024 .f32) (x7 x8 : Vec Ideal S1x1024 .f32)

/-- The rows times a weight, -/
def prA (x : Vec Ideal S2048x1024 .f32) (w : Vec Ideal S1024x1024 .f32) (r : Fin 2048) (n : Fin 1024) : EReal := ∑ k : Fin 1024, x (ix2 r k) * w (ix2 k n)

/-- the merge, -/
def mgA (r : Fin 2048) (n : Fin 1024) : EReal := mg (x0 (ix2 r ⟨7424 + n.val, by omega⟩)) (prA x1 x3 r n) (x0 (ix2 r ⟨8448 + n.val, by omega⟩)) (prA x2 x4 r n)

/-- and the merge times the output weights. -/
def mixA (r : Fin 2048) (n : Fin 1024) : EReal := ∑ k : Fin 1024, mgA x0 x1 x2 x3 x4 r k * x5 (ix2 k n)

theorem ref2_at (r : Fin 2048) (n : Fin 1024) : Cert.Reference11Ideal.Read.val_main_v2 (F := Ideal) x1 x3 (ix2 r n) = prA x1 x3 r n := by
  pointwise [Cert.Reference11Ideal.Read.val_main_v2]; rfl
theorem ref3_at (r : Fin 2048) (n : Fin 1024) : Cert.Reference11Ideal.Read.val_main_v3 (F := Ideal) x2 x4 (ix2 r n) = prA x2 x4 r n := by
  pointwise [Cert.Reference11Ideal.Read.val_main_v3]; rfl
theorem ref9_at (r : Fin 2048) (n : Fin 1024) : Cert.Reference11Ideal.Read.val_main_v9 (F := Ideal) x0 (ix2 r n) = Ideal.logistic (x0 (ix2 r ⟨7424 + n.val, by omega⟩)) := by
  pointwise [Cert.Reference11Ideal.Read.val_main_v9, Cert.Reference11Ideal.Read.val_main_v8, Cert.Reference11Ideal.Read.val_main_cst_0, Cert.Reference11Ideal.Read.val_main_v7, Cert.Reference11Ideal.Read.val_main_v6, Cert.Reference11Ideal.Read.val_main_cst, Cert.Reference11Ideal.Read.val_main_v5, Cert.Reference11Ideal.Read.val_main_v4, Cert.Reference11Ideal.Read.val_main_v0]
  rfl
theorem ref16_at (r : Fin 2048) (n : Fin 1024) : Cert.Reference11Ideal.Read.val_main_v16 (F := Ideal) x0 (ix2 r n) = Ideal.logistic (x0 (ix2 r ⟨8448 + n.val, by omega⟩)) := by
  pointwise [Cert.Reference11Ideal.Read.val_main_v16, Cert.Reference11Ideal.Read.val_main_v15, Cert.Reference11Ideal.Read.val_main_cst_2, Cert.Reference11Ideal.Read.val_main_v14, Cert.Reference11Ideal.Read.val_main_v13, Cert.Reference11Ideal.Read.val_main_cst_1, Cert.Reference11Ideal.Read.val_main_v12, Cert.Reference11Ideal.Read.val_main_v11, Cert.Reference11Ideal.Read.val_main_v1]
  rfl
theorem ref18_at (r : Fin 2048) (n : Fin 1024) : Cert.Reference11Ideal.Read.val_main_v18 (F := Ideal) x0 x1 x2 x3 x4 (ix2 r n) = mgA x0 x1 x2 x3 x4 r n := by
  unfold mgA mg
  rw [← ref2_at, ← ref3_at, ← ref9_at, ← ref16_at]
  unfold Cert.Reference11Ideal.Read.val_main_v18 Cert.Reference11Ideal.Read.val_main_v10 Cert.Reference11Ideal.Read.val_main_v17
  generalize Cert.Reference11Ideal.Read.val_main_v2 (F := Ideal) x1 x3 = a
  generalize Cert.Reference11Ideal.Read.val_main_v3 (F := Ideal) x2 x4 = b
  generalize Cert.Reference11Ideal.Read.val_main_v9 (F := Ideal) x0 = d
  generalize Cert.Reference11Ideal.Read.val_main_v16 (F := Ideal) x0 = e
  pointwise
theorem ref19_at (r : Fin 2048) (n : Fin 1024) : Cert.Reference11Ideal.Read.val_main_v19 (F := Ideal) x0 x1 x2 x3 x4 x5 (ix2 r n) = mixA x0 x1 x2 x3 x4 x5 r n := by
  have h := ref18_at x0 x1 x2 x3 x4 r
  revert h
  unfold Cert.Reference11Ideal.Read.val_main_v19 mixA
  generalize Cert.Reference11Ideal.Read.val_main_v18 (F := Ideal) x0 x1 x2 x3 x4 = a
  intro h
  pointwise
  simp only [h]
theorem ref34_at (r : Fin 2048) (n : Fin 1024) : Cert.Reference11Ideal.Read.val_main_v34 (F := Ideal) x0 x1 x2 x3 x4 x5 x6 x7 (ix2 r n)
    = res (fun k => x6 (ix2 r k)) (mixA x0 x1 x2 x3 x4 x5 r) (fun k => x7 (ix2 0 k)) n := by
  have h := ref19_at x0 x1 x2 x3 x4 x5 r
  revert h
  unfold Cert.Reference11Ideal.Read.val_main_v34 Cert.Reference11Ideal.Read.val_main_v33 Cert.Reference11Ideal.Read.val_main_v30 Cert.Reference11Ideal.Read.val_main_v29 Cert.Reference11Ideal.Read.val_main_v28 Cert.Reference11Ideal.Read.val_main_v27 Cert.Reference11Ideal.Read.val_main_v25 Cert.Reference11Ideal.Read.val_main_v23 Cert.Reference11Ideal.Read.val_main_v22 Cert.Reference11Ideal.Read.val_main_v21
  generalize Cert.Reference11Ideal.Read.val_main_v19 (F := Ideal) x0 x1 x2 x3 x4 x5 = a
  intro h
  pointwise [Cert.Reference11Ideal.Read.val_main_v32, Cert.Reference11Ideal.Read.val_main_v31, Cert.Reference11Ideal.Read.val_main_v20, Cert.Reference11Ideal.Read.val_main_v26, Cert.Reference11Ideal.Read.val_main_v24, Cert.Reference11Ideal.Read.val_main_cst_3, Cert.Reference11Ideal.Read.val_main_cst_4, Cert.Reference11Ideal.Read.val_main_cst_5]
  simp only [h]
  rfl
theorem ref48_at (r : Fin 2048) (n : Fin 1024) : Cert.Reference11Ideal.Read.val_main_v48 (F := Ideal) x0 x1 x2 x3 x4 x5 x6 x7 x8 (ix2 r n)
    = nrm (res (fun k => x6 (ix2 r k)) (mixA x0 x1 x2 x3 x4 x5 r) (fun k => x7 (ix2 0 k))) (fun k => x8 (ix2 0 k)) n := by
  have h := ref34_at x0 x1 x2 x3 x4 x5 x6 x7 r
  revert h
  unfold Cert.Reference11Ideal.Read.val_main_v48 Cert.Reference11Ideal.Read.val_main_v45 Cert.Reference11Ideal.Read.val_main_v44 Cert.Reference11Ideal.Read.val_main_v43 Cert.Reference11Ideal.Read.val_main_v42 Cert.Reference11Ideal.Read.val_main_v40 Cert.Reference11Ideal.Read.val_main_v38 Cert.Reference11Ideal.Read.val_main_v37 Cert.Reference11Ideal.Read.val_main_v36
  generalize Cert.Reference11Ideal.Read.val_main_v34 (F := Ideal) x0 x1 x2 x3 x4 x5 x6 x7 = a
  intro h
  pointwise [Cert.Reference11Ideal.Read.val_main_v47, Cert.Reference11Ideal.Read.val_main_v46, Cert.Reference11Ideal.Read.val_main_v35, Cert.Reference11Ideal.Read.val_main_v41, Cert.Reference11Ideal.Read.val_main_v39, Cert.Reference11Ideal.Read.val_main_cst_6, Cert.Reference11Ideal.Read.val_main_cst_7, Cert.Reference11Ideal.Read.val_main_cst_8]
  simp only [h]
  rfl
theorem ref49_at (r : Fin 2048) (n : Fin 1024) : Cert.Reference11Ideal.Read.val_main_v49 (F := Ideal) x1 x3 (ix2 r n) = Cert.Reference11Ideal.Read.val_main_v2 (F := Ideal) x1 x3 (ix2 r n) := by
  unfold Cert.Reference11Ideal.Read.val_main_v49
  generalize Cert.Reference11Ideal.Read.val_main_v2 (F := Ideal) x1 x3 = a
  pointwise
theorem ref50_at (r : Fin 2048) (n : Fin 1024) : Cert.Reference11Ideal.Read.val_main_v50 (F := Ideal) x2 x4 (ix2 r n) = Cert.Reference11Ideal.Read.val_main_v3 (F := Ideal) x2 x4 (ix2 r n) := by
  unfold Cert.Reference11Ideal.Read.val_main_v50
  generalize Cert.Reference11Ideal.Read.val_main_v3 (F := Ideal) x2 x4 = a
  pointwise
theorem ref51_at (r : Fin 2048) (n : Fin 1024) : Cert.Reference11Ideal.Read.val_main_v51 (F := Ideal) x0 x1 x2 x3 x4 (ix2 r n) = Cert.Reference11Ideal.Read.val_main_v18 (F := Ideal) x0 x1 x2 x3 x4 (ix2 r n) := by
  unfold Cert.Reference11Ideal.Read.val_main_v51
  generalize Cert.Reference11Ideal.Read.val_main_v18 (F := Ideal) x0 x1 x2 x3 x4 = a
  pointwise
theorem ref52_at (r : Fin 2048) (n : Fin 1024) : Cert.Reference11Ideal.Read.val_main_v52 (F := Ideal) x0 x1 x2 x3 x4 x5 x6 x7 x8 (ix2 r n) = Cert.Reference11Ideal.Read.val_main_v48 (F := Ideal) x0 x1 x2 x3 x4 x5 x6 x7 x8 (ix2 r n) := by
  unfold Cert.Reference11Ideal.Read.val_main_v52
  generalize Cert.Reference11Ideal.Read.val_main_v48 (F := Ideal) x0 x1 x2 x3 x4 x5 x6 x7 x8 = a
  pointwise
end reference

variable (m : (ℓ : Loc nD τ sig) → Buf (Elt Ideal) ℓ) (c : Dev nD)

/-- The arguments on a device, as arrays. -/
abbrev a0 : Vec Ideal S2048x9472 .f32 := m ((c : Thread nD τ).loc main_arg0)
abbrev a1 : Vec Ideal S2048x1024 .f32 := m ((c : Thread nD τ).loc main_arg1)
abbrev a2 : Vec Ideal S2048x1024 .f32 := m ((c : Thread nD τ).loc main_arg2)
abbrev a3 : Vec Ideal S1024x1024 .f32 := m ((c : Thread nD τ).loc main_arg3)
abbrev a4 : Vec Ideal S1024x1024 .f32 := m ((c : Thread nD τ).loc main_arg4)
abbrev a5 : Vec Ideal S1024x1024 .f32 := m ((c : Thread nD τ).loc main_arg5)
abbrev a6 : Vec Ideal S2048x1024 .f32 := m ((c : Thread nD τ).loc main_arg6)
abbrev a7 : Vec Ideal S1x1024 .f32 := m ((c : Thread nD τ).loc main_arg7)
abbrev a8 : Vec Ideal S1x1024 .f32 := m ((c : Thread nD τ).loc main_arg8)

theorem V0 : (V m c main_v0 : Vec Ideal S1024x1024 .bf16) = (truncf .bf16 (a3 m c) bitsLt_bf16_f32 : FVec Ideal S1024x1024 .bf16) := by
  unfold V; after_results

theorem V1 : (V m c main_v1 : Vec Ideal S1024x1024 .bf16) = (truncf .bf16 (a4 m c) bitsLt_bf16_f32 : FVec Ideal S1024x1024 .bf16) := by
  unfold V; after_results

theorem V2 : (V m c main_v2 : Vec Ideal S1024x1024 .bf16) = (truncf .bf16 (a5 m c) bitsLt_bf16_f32 : FVec Ideal S1024x1024 .bf16) := by
  unfold V; after_results

theorem V3 : (V m c main_v3 : Vec Ideal S2048x1024 .bf16) = (truncf .bf16 (a1 m c) bitsLt_bf16_f32 : FVec Ideal S2048x1024 .bf16) := by
  unfold V; after_results

theorem V4 : (V m c main_v4 : Vec Ideal S2048x1024 .bf16) = (truncf .bf16 (a2 m c) bitsLt_bf16_f32 : FVec Ideal S2048x1024 .bf16) := by
  unfold V; after_results

theorem lt4 (t : Fin cfg0.N) : t.val < 4 := lt_of_lt_of_eq t.isLt N_0

/-- Row `r` of tile `k`. -/
def gr (k : Nat) (r : Fin 512) : Fin 2048 := Rows.row 4 512 (by omega) k r
theorem gr_eq (k : Nat) (r : Fin 512) : (gr k r).val = r.val + 512 * (k % 4) := rfl

theorem iblk0 (t : Fin cfg0.N) (r : Fin 512) (k : Fin 256) :
    (iblk m c 0 t : Vec Ideal S512x256 .f32) (ix2 r k) = a0 m c (ix2 (gr t.val r) ⟨7424 + (0 + k.val), by omega⟩) := by
  have hi := (by decide +kernel : ∀ t : Fin cfg0.N, win0_0.index t 0 = t.val % 4 ∧ win0_0.index t 1 = 29) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_0.index t 0 * 512 + 1 * r.val = (gr t.val r).val; rw [hi.1, gr_eq]; omega
  | ⟨1, _⟩ => show win0_0.index t 1 * 256 + 1 * k.val = 7424 + (0 + k.val); rw [hi.2]; omega

theorem iblk1 (t : Fin cfg0.N) (r : Fin 512) (k : Fin 256) :
    (iblk m c 1 t : Vec Ideal S512x256 .f32) (ix2 r k) = a0 m c (ix2 (gr t.val r) ⟨7424 + (256 + k.val), by omega⟩) := by
  have hi := (by decide +kernel : ∀ t : Fin cfg0.N, win0_1.index t 0 = t.val % 4 ∧ win0_1.index t 1 = 30) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_1.index t 0 * 512 + 1 * r.val = (gr t.val r).val; rw [hi.1, gr_eq]; omega
  | ⟨1, _⟩ => show win0_1.index t 1 * 256 + 1 * k.val = 7424 + (256 + k.val); rw [hi.2]; omega

theorem iblk2 (t : Fin cfg0.N) (r : Fin 512) (k : Fin 256) :
    (iblk m c 2 t : Vec Ideal S512x256 .f32) (ix2 r k) = a0 m c (ix2 (gr t.val r) ⟨7424 + (512 + k.val), by omega⟩) := by
  have hi := (by decide +kernel : ∀ t : Fin cfg0.N, win0_2.index t 0 = t.val % 4 ∧ win0_2.index t 1 = 31) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_2.index t 0 * 512 + 1 * r.val = (gr t.val r).val; rw [hi.1, gr_eq]; omega
  | ⟨1, _⟩ => show win0_2.index t 1 * 256 + 1 * k.val = 7424 + (512 + k.val); rw [hi.2]; omega

theorem iblk3 (t : Fin cfg0.N) (r : Fin 512) (k : Fin 256) :
    (iblk m c 3 t : Vec Ideal S512x256 .f32) (ix2 r k) = a0 m c (ix2 (gr t.val r) ⟨7424 + (768 + k.val), by omega⟩) := by
  have hi := (by decide +kernel : ∀ t : Fin cfg0.N, win0_3.index t 0 = t.val % 4 ∧ win0_3.index t 1 = 32) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_3.index t 0 * 512 + 1 * r.val = (gr t.val r).val; rw [hi.1, gr_eq]; omega
  | ⟨1, _⟩ => show win0_3.index t 1 * 256 + 1 * k.val = 7424 + (768 + k.val); rw [hi.2]; omega

theorem iblk4 (t : Fin cfg0.N) (r : Fin 512) (k : Fin 256) :
    (iblk m c 4 t : Vec Ideal S512x256 .f32) (ix2 r k) = a0 m c (ix2 (gr t.val r) ⟨8448 + (0 + k.val), by omega⟩) := by
  have hi := (by decide +kernel : ∀ t : Fin cfg0.N, win0_4.index t 0 = t.val % 4 ∧ win0_4.index t 1 = 33) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_4.index t 0 * 512 + 1 * r.val = (gr t.val r).val; rw [hi.1, gr_eq]; omega
  | ⟨1, _⟩ => show win0_4.index t 1 * 256 + 1 * k.val = 8448 + (0 + k.val); rw [hi.2]; omega

theorem iblk5 (t : Fin cfg0.N) (r : Fin 512) (k : Fin 256) :
    (iblk m c 5 t : Vec Ideal S512x256 .f32) (ix2 r k) = a0 m c (ix2 (gr t.val r) ⟨8448 + (256 + k.val), by omega⟩) := by
  have hi := (by decide +kernel : ∀ t : Fin cfg0.N, win0_5.index t 0 = t.val % 4 ∧ win0_5.index t 1 = 34) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_5.index t 0 * 512 + 1 * r.val = (gr t.val r).val; rw [hi.1, gr_eq]; omega
  | ⟨1, _⟩ => show win0_5.index t 1 * 256 + 1 * k.val = 8448 + (256 + k.val); rw [hi.2]; omega

theorem iblk6 (t : Fin cfg0.N) (r : Fin 512) (k : Fin 256) :
    (iblk m c 6 t : Vec Ideal S512x256 .f32) (ix2 r k) = a0 m c (ix2 (gr t.val r) ⟨8448 + (512 + k.val), by omega⟩) := by
  have hi := (by decide +kernel : ∀ t : Fin cfg0.N, win0_6.index t 0 = t.val % 4 ∧ win0_6.index t 1 = 35) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_6.index t 0 * 512 + 1 * r.val = (gr t.val r).val; rw [hi.1, gr_eq]; omega
  | ⟨1, _⟩ => show win0_6.index t 1 * 256 + 1 * k.val = 8448 + (512 + k.val); rw [hi.2]; omega

theorem iblk7 (t : Fin cfg0.N) (r : Fin 512) (k : Fin 256) :
    (iblk m c 7 t : Vec Ideal S512x256 .f32) (ix2 r k) = a0 m c (ix2 (gr t.val r) ⟨8448 + (768 + k.val), by omega⟩) := by
  have hi := (by decide +kernel : ∀ t : Fin cfg0.N, win0_7.index t 0 = t.val % 4 ∧ win0_7.index t 1 = 36) t
  rw [show a0 m c = V m c main_arg0 from (V_main_arg0 m c).symm]
  unfold iblk
  rw [View.read_apply]
  show V m c main_arg0 _ = V m c main_arg0 _
  congr 1
  funext a
  apply Fin.ext
  match a with
  | ⟨0, _⟩ => show win0_7.index t 0 * 512 + 1 * r.val = (gr t.val r).val; rw [hi.1, gr_eq]; omega
  | ⟨1, _⟩ => show win0_7.index t 1 * 256 + 1 * k.val = 8448 + (768 + k.val); rw [hi.2]; omega

theorem iblk8 (t : Fin cfg0.N) (r : Fin 512) (k : Fin 1024) :
    (iblk m c 8 t : Vec Ideal S512x1024 .bf16) (ix2 r k) = (V m c main_v3 : Vec Ideal S2048x1024 .bf16) (ix2 (gr (t.val) r) k) := by
  have hi := (by decide +kernel : ∀ t : Fin cfg0.N, win0_8.index t 0 = (t.val) % 4 ∧ win0_8.index t 1 = 0) t
  unfold iblk
  rw [View.read_apply]
  show V m c main_v3 _ = V m c main_v3 _
  congr 1
  funext a
  apply Fin.ext
  match a with
  | ⟨0, _⟩ => show win0_8.index t 0 * 512 + 1 * r.val = (gr (t.val) r).val; rw [hi.1, gr_eq]; omega
  | ⟨1, _⟩ => show win0_8.index t 1 * 1024 + 1 * k.val = _; rw [hi.2]; simp

theorem iblk9 (t : Fin cfg0.N) (r : Fin 512) (k : Fin 1024) :
    (iblk m c 9 t : Vec Ideal S512x1024 .bf16) (ix2 r k) = (V m c main_v4 : Vec Ideal S2048x1024 .bf16) (ix2 (gr (t.val) r) k) := by
  have hi := (by decide +kernel : ∀ t : Fin cfg0.N, win0_9.index t 0 = (t.val) % 4 ∧ win0_9.index t 1 = 0) t
  unfold iblk
  rw [View.read_apply]
  show V m c main_v4 _ = V m c main_v4 _
  congr 1
  funext a
  apply Fin.ext
  match a with
  | ⟨0, _⟩ => show win0_9.index t 0 * 512 + 1 * r.val = (gr (t.val) r).val; rw [hi.1, gr_eq]; omega
  | ⟨1, _⟩ => show win0_9.index t 1 * 1024 + 1 * k.val = _; rw [hi.2]; simp

theorem iblk10 (t : Fin cfg0.N) (r : Fin 1024) (k : Fin 1024) :
    (iblk m c 10 t : Vec Ideal S1024x1024 .bf16) (ix2 r k) = (V m c main_v0 : Vec Ideal S1024x1024 .bf16) (ix2 r k) := by
  have hi := (by decide +kernel : ∀ t : Fin cfg0.N, win0_10.index t 0 = 0 ∧ win0_10.index t 1 = 0) t
  unfold iblk
  rw [View.read_apply]
  show V m c main_v0 _ = V m c main_v0 _
  congr 1
  funext a
  apply Fin.ext
  match a with
  | ⟨0, _⟩ => show win0_10.index t 0 * 1024 + 1 * r.val = _; rw [hi.1]; simp
  | ⟨1, _⟩ => show win0_10.index t 1 * 1024 + 1 * k.val = _; rw [hi.2]; simp

theorem iblk11 (t : Fin cfg0.N) (r : Fin 1024) (k : Fin 1024) :
    (iblk m c 11 t : Vec Ideal S1024x1024 .bf16) (ix2 r k) = (V m c main_v1 : Vec Ideal S1024x1024 .bf16) (ix2 r k) := by
  have hi := (by decide +kernel : ∀ t : Fin cfg0.N, win0_11.index t 0 = 0 ∧ win0_11.index t 1 = 0) t
  unfold iblk
  rw [View.read_apply]
  show V m c main_v1 _ = V m c main_v1 _
  congr 1
  funext a
  apply Fin.ext
  match a with
  | ⟨0, _⟩ => show win0_11.index t 0 * 1024 + 1 * r.val = _; rw [hi.1]; simp
  | ⟨1, _⟩ => show win0_11.index t 1 * 1024 + 1 * k.val = _; rw [hi.2]; simp

theorem iblk12 (t : Fin cfg0.N) (r : Fin 1024) (k : Fin 1024) :
    (iblk m c 12 t : Vec Ideal S1024x1024 .bf16) (ix2 r k) = (V m c main_v2 : Vec Ideal S1024x1024 .bf16) (ix2 r k) := by
  have hi := (by decide +kernel : ∀ t : Fin cfg0.N, win0_12.index t 0 = 0 ∧ win0_12.index t 1 = 0) t
  unfold iblk
  rw [View.read_apply]
  show V m c main_v2 _ = V m c main_v2 _
  congr 1
  funext a
  apply Fin.ext
  match a with
  | ⟨0, _⟩ => show win0_12.index t 0 * 1024 + 1 * r.val = _; rw [hi.1]; simp
  | ⟨1, _⟩ => show win0_12.index t 1 * 1024 + 1 * k.val = _; rw [hi.2]; simp

theorem iblk13 (t : Fin cfg0.N) (r : Fin 512) (k : Fin 1024) :
    (iblk m c 13 t : Vec Ideal S512x1024 .f32) (ix2 r k) = a6 m c (ix2 (gr (t.val) r) k) := by
  have hi := (by decide +kernel : ∀ t : Fin cfg0.N, win0_13.index t 0 = (t.val) % 4 ∧ win0_13.index t 1 = 0) t
  rw [show a6 m c = V m c main_arg6 from (V_main_arg6 m c).symm]
  unfold iblk
  rw [View.read_apply]
  show V m c main_arg6 _ = V m c main_arg6 _
  congr 1
  funext a
  apply Fin.ext
  match a with
  | ⟨0, _⟩ => show win0_13.index t 0 * 512 + 1 * r.val = (gr (t.val) r).val; rw [hi.1, gr_eq]; omega
  | ⟨1, _⟩ => show win0_13.index t 1 * 1024 + 1 * k.val = _; rw [hi.2]; simp

theorem iblk14 (t : Fin cfg0.N) (k : Fin 1024) :
    (iblk m c 14 t : Vec Ideal S1x1024 .f32) (ix2 0 k) = a7 m c (ix2 0 k) := by
  have hi := (by decide +kernel : ∀ t : Fin cfg0.N, win0_14.index t 0 = 0 ∧ win0_14.index t 1 = 0) t
  rw [show a7 m c = V m c main_arg7 from (V_main_arg7 m c).symm]
  unfold iblk
  rw [View.read_apply]
  show V m c main_arg7 _ = V m c main_arg7 _
  congr 1
  funext a
  apply Fin.ext
  match a with
  | ⟨0, _⟩ => show win0_14.index t 0 * 1 + 1 * (0 : Fin 1).val = _; rw [hi.1]; simp
  | ⟨1, _⟩ => show win0_14.index t 1 * 1024 + 1 * k.val = _; rw [hi.2]; simp

theorem iblk15 (t : Fin cfg0.N) (k : Fin 1024) :
    (iblk m c 15 t : Vec Ideal S1x1024 .f32) (ix2 0 k) = a8 m c (ix2 0 k) := by
  have hi := (by decide +kernel : ∀ t : Fin cfg0.N, win0_15.index t 0 = 0 ∧ win0_15.index t 1 = 0) t
  rw [show a8 m c = V m c main_arg8 from (V_main_arg8 m c).symm]
  unfold iblk
  rw [View.read_apply]
  show V m c main_arg8 _ = V m c main_arg8 _
  congr 1
  funext a
  apply Fin.ext
  match a with
  | ⟨0, _⟩ => show win0_15.index t 0 * 1 + 1 * (0 : Fin 1).val = _; rw [hi.1]; simp
  | ⟨1, _⟩ => show win0_15.index t 1 * 1024 + 1 * k.val = _; rw [hi.2]; simp

theorem pra_at (t : Fin cfg0.N) (r : Fin 512) (n : Fin 1024) :
    pr (iblk m c 8 t) (iblk m c 10 t) r n = prA (a1 m c) (a3 m c) (gr t.val r) n := by
  unfold pr prA
  refine Finset.sum_congr rfl fun k _ => ?_
  rw [iblk8, iblk10, V3, V0]
  rfl

theorem prb_at (t : Fin cfg0.N) (r : Fin 512) (n : Fin 1024) :
    pr (iblk m c 9 t) (iblk m c 11 t) r n = prA (a2 m c) (a4 m c) (gr t.val r) n := by
  unfold pr prA
  refine Finset.sum_congr rfl fun k _ => ?_
  rw [iblk9, iblk11, V4, V1]
  rfl

theorem mix_eq (t : Fin cfg0.N) (r : Fin 512) :
    mix (iblk m c 8 t) (iblk m c 9 t) (iblk m c 10 t) (iblk m c 11 t) (iblk m c 12 t) (fun r n => a0 m c (ix2 (gr t.val r) ⟨7424 + n.val, by omega⟩)) (fun r n => a0 m c (ix2 (gr t.val r) ⟨8448 + n.val, by omega⟩)) r
      = mixA (a0 m c) (a1 m c) (a2 m c) (a3 m c) (a4 m c) (a5 m c) (gr t.val r) := by
  funext n
  unfold mix mixA mgA
  refine Finset.sum_congr rfl fun k _ => ?_
  rw [pra_at, prb_at, iblk12, V2]
  rfl

theorem outs16_at (t : Fin cfg0.N) (r : Fin 512) (n : Fin 1024) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : Vec Ideal S512x1024 .bf16) (ix2 r n) = Cert.Reference11Ideal.Read.val_main_v49 (F := Ideal) (a1 m c) (a3 m c) (ix2 (gr t.val r) n) := by
  rw [ref49_at, ref2_at, out16_at, pra_at]

theorem idx16 (t : Fin cfg0.N) : win0_16.index t 0 = (t.val) % 4 ∧ win0_16.index t 1 = 0 :=
  (by decide +kernel : ∀ t : Fin cfg0.N, win0_16.index t 0 = (t.val) % 4 ∧ win0_16.index t 1 = 0) t

theorem flushed_16 (t : Fin cfg0.N) (hf : (cfg0.win 16).flush t = true) :
    (dats m 0 c).flushed 16 t = ((cfg0.win 16).blk t).view.read (Elt Ideal) (Cert.Reference11Ideal.Read.val_main_v49 (F := Ideal) (a1 m c) (a3 m c)) := by
  rw [Cert.Kernel11Ideal.Value.flushed16 m c t]
  have hi := idx16 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 16).cut (grid0.coords t) X (ix2 p q) = X (ix2 p q) := fun _ => rfl
  refine (h2 _).trans ?_
  have he : (((cfg0.win 16).blk t).view.emb (ix2 p q) : S2048x1024.Idx) = ix2 (gr (t.val) p) q := by
    funext a
    apply Fin.ext
    match a with
    | ⟨0, _⟩ => show win0_16.index t 0 * 512 + 1 * p.val = (gr (t.val) p).val; rw [hi.1, gr_eq]; omega
    | ⟨1, _⟩ => show win0_16.index t 1 * 1024 + 1 * q.val = _; rw [hi.2]; simp
  rw [he]
  exact outs16_at m c t p q

/-- The result array is the reference's. -/
theorem final_16 : (dats m 0 c).arrAt 16 cfg0.N = Cert.Reference11Ideal.Read.val_main_v49 (F := Ideal) (a1 m c) (a3 m c) :=
  (dats m 0 c).arrAt_eq_of_cover 16 _ (flushed_16 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx16 t
    refine ⟨t, flush0_16 t, ?_⟩
    show i ∈ ((View.whole main_v5_0).slice (win0_16.rect t)).set
    rw [View.set_slice_whole, Rect.mem_set_unit]
    intro a
    match a with
    | ⟨0, _⟩ =>
      show win0_16.index t 0 * 512 ≤ (i 0 : Nat) ∧ (i 0 : Nat) < win0_16.index t 0 * 512 + 512
      rw [hi.1]; omega
    | ⟨1, _⟩ =>
      show win0_16.index t 1 * 1024 ≤ (i 1 : Nat) ∧ (i 1 : Nat) < win0_16.index t 1 * 1024 + 1024
      rw [hi.2]; omega

theorem outs17_at (t : Fin cfg0.N) (r : Fin 512) (n : Fin 1024) :
    (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : Vec Ideal S512x1024 .bf16) (ix2 r n) = Cert.Reference11Ideal.Read.val_main_v50 (F := Ideal) (a2 m c) (a4 m c) (ix2 (gr t.val r) n) := by
  rw [ref50_at, ref3_at, out17_at, prb_at]

theorem idx17 (t : Fin cfg0.N) : win0_17.index t 0 = (t.val) % 4 ∧ win0_17.index t 1 = 0 :=
  (by decide +kernel : ∀ t : Fin cfg0.N, win0_17.index t 0 = (t.val) % 4 ∧ win0_17.index t 1 = 0) t

theorem flushed_17 (t : Fin cfg0.N) (hf : (cfg0.win 17).flush t = true) :
    (dats m 0 c).flushed 17 t = ((cfg0.win 17).blk t).view.read (Elt Ideal) (Cert.Reference11Ideal.Read.val_main_v50 (F := Ideal) (a2 m c) (a4 m c)) := by
  rw [Cert.Kernel11Ideal.Value.flushed17 m c t]
  have hi := idx17 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 17).cut (grid0.coords t) X (ix2 p q) = X (ix2 p q) := fun _ => rfl
  refine (h2 _).trans ?_
  have he : (((cfg0.win 17).blk t).view.emb (ix2 p q) : S2048x1024.Idx) = ix2 (gr (t.val) p) q := by
    funext a
    apply Fin.ext
    match a with
    | ⟨0, _⟩ => show win0_17.index t 0 * 512 + 1 * p.val = (gr (t.val) p).val; rw [hi.1, gr_eq]; omega
    | ⟨1, _⟩ => show win0_17.index t 1 * 1024 + 1 * q.val = _; rw [hi.2]; simp
  rw [he]
  exact outs17_at m c t p q

/-- The result array is the reference's. -/
theorem final_17 : (dats m 0 c).arrAt 17 cfg0.N = Cert.Reference11Ideal.Read.val_main_v50 (F := Ideal) (a2 m c) (a4 m c) :=
  (dats m 0 c).arrAt_eq_of_cover 17 _ (flushed_17 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx17 t
    refine ⟨t, flush0_17 t, ?_⟩
    show i ∈ ((View.whole main_v5_1).slice (win0_17.rect t)).set
    rw [View.set_slice_whole, Rect.mem_set_unit]
    intro a
    match a with
    | ⟨0, _⟩ =>
      show win0_17.index t 0 * 512 ≤ (i 0 : Nat) ∧ (i 0 : Nat) < win0_17.index t 0 * 512 + 512
      rw [hi.1]; omega
    | ⟨1, _⟩ =>
      show win0_17.index t 1 * 1024 ≤ (i 1 : Nat) ∧ (i 1 : Nat) < win0_17.index t 1 * 1024 + 1024
      rw [hi.2]; omega

theorem outs18_at (t : Fin cfg0.N) (r : Fin 512) (n : Fin 1024) :
    (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : Vec Ideal S512x1024 .bf16) (ix2 r n) = Cert.Reference11Ideal.Read.val_main_v51 (F := Ideal) (a0 m c) (a1 m c) (a2 m c) (a3 m c) (a4 m c) (ix2 (gr t.val r) n) := by
  rw [ref51_at, ref18_at]
  refine (out18_at _ _ _ _ _ _ _ _ _ _ _ _ _ _ _ _ (fun r n => a0 m c (ix2 (gr t.val r) ⟨7424 + n.val, by omega⟩)) (fun r n => a0 m c (ix2 (gr t.val r) ⟨8448 + n.val, by omega⟩)) (iblk0 m c t) (iblk1 m c t) (iblk2 m c t) (iblk3 m c t) (iblk4 m c t) (iblk5 m c t) (iblk6 m c t) (iblk7 m c t) r n).trans ?_
  rw [pra_at, prb_at]
  rfl

theorem idx18 (t : Fin cfg0.N) : win0_18.index t 0 = (t.val) % 4 ∧ win0_18.index t 1 = 0 :=
  (by decide +kernel : ∀ t : Fin cfg0.N, win0_18.index t 0 = (t.val) % 4 ∧ win0_18.index t 1 = 0) t

theorem flushed_18 (t : Fin cfg0.N) (hf : (cfg0.win 18).flush t = true) :
    (dats m 0 c).flushed 18 t = ((cfg0.win 18).blk t).view.read (Elt Ideal) (Cert.Reference11Ideal.Read.val_main_v51 (F := Ideal) (a0 m c) (a1 m c) (a2 m c) (a3 m c) (a4 m c)) := by
  rw [Cert.Kernel11Ideal.Value.flushed18 m c t]
  have hi := idx18 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 18).cut (grid0.coords t) X (ix2 p q) = X (ix2 p q) := fun _ => rfl
  refine (h2 _).trans ?_
  have he : (((cfg0.win 18).blk t).view.emb (ix2 p q) : S2048x1024.Idx) = ix2 (gr (t.val) p) q := by
    funext a
    apply Fin.ext
    match a with
    | ⟨0, _⟩ => show win0_18.index t 0 * 512 + 1 * p.val = (gr (t.val) p).val; rw [hi.1, gr_eq]; omega
    | ⟨1, _⟩ => show win0_18.index t 1 * 1024 + 1 * q.val = _; rw [hi.2]; simp
  rw [he]
  exact outs18_at m c t p q

/-- The result array is the reference's. -/
theorem final_18 : (dats m 0 c).arrAt 18 cfg0.N = Cert.Reference11Ideal.Read.val_main_v51 (F := Ideal) (a0 m c) (a1 m c) (a2 m c) (a3 m c) (a4 m c) :=
  (dats m 0 c).arrAt_eq_of_cover 18 _ (flushed_18 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx18 t
    refine ⟨t, flush0_18 t, ?_⟩
    show i ∈ ((View.whole main_v5_2).slice (win0_18.rect t)).set
    rw [View.set_slice_whole, Rect.mem_set_unit]
    intro a
    match a with
    | ⟨0, _⟩ =>
      show win0_18.index t 0 * 512 ≤ (i 0 : Nat) ∧ (i 0 : Nat) < win0_18.index t 0 * 512 + 512
      rw [hi.1]; omega
    | ⟨1, _⟩ =>
      show win0_18.index t 1 * 1024 ≤ (i 1 : Nat) ∧ (i 1 : Nat) < win0_18.index t 1 * 1024 + 1024
      rw [hi.2]; omega

theorem outs19_at (t : Fin cfg0.N) (r : Fin 512) (n : Fin 1024) :
    (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : Vec Ideal S512x1024 .f32) (ix2 r n) = Cert.Reference11Ideal.Read.val_main_v19 (F := Ideal) (a0 m c) (a1 m c) (a2 m c) (a3 m c) (a4 m c) (a5 m c) (ix2 (gr t.val r) n) := by
  rw [ref19_at]
  refine (out19_at _ _ _ _ _ _ _ _ _ _ _ _ _ _ _ _ (fun r n => a0 m c (ix2 (gr t.val r) ⟨7424 + n.val, by omega⟩)) (fun r n => a0 m c (ix2 (gr t.val r) ⟨8448 + n.val, by omega⟩)) (iblk0 m c t) (iblk1 m c t) (iblk2 m c t) (iblk3 m c t) (iblk4 m c t) (iblk5 m c t) (iblk6 m c t) (iblk7 m c t) r n).trans ?_
  rw [mix_eq]

theorem idx19 (t : Fin cfg0.N) : win0_19.index t 0 = (t.val) % 4 ∧ win0_19.index t 1 = 0 :=
  (by decide +kernel : ∀ t : Fin cfg0.N, win0_19.index t 0 = (t.val) % 4 ∧ win0_19.index t 1 = 0) t

theorem flushed_19 (t : Fin cfg0.N) (hf : (cfg0.win 19).flush t = true) :
    (dats m 0 c).flushed 19 t = ((cfg0.win 19).blk t).view.read (Elt Ideal) (Cert.Reference11Ideal.Read.val_main_v19 (F := Ideal) (a0 m c) (a1 m c) (a2 m c) (a3 m c) (a4 m c) (a5 m c)) := by
  rw [Cert.Kernel11Ideal.Value.flushed19 m c t]
  have hi := idx19 t
  funext j
  rw [View.read_apply]
  obtain ⟨p, q, rfl⟩ : ∃ (p : Fin 512) (q : Fin 1024), j = ix2 p q := ⟨j 0, j 1, eq_ix2 j⟩
  have h2 : ∀ (X : Vec Ideal S512x1024 .f32), (cfg0.win 19).cut (grid0.coords t) X (ix2 p q) = X (ix2 p q) := fun _ => rfl
  refine (h2 _).trans ?_
  have he : (((cfg0.win 19).blk t).view.emb (ix2 p q) : S2048x1024.Idx) = ix2 (gr (t.val) p) q := by
    funext a
    apply Fin.ext
    match a with
    | ⟨0, _⟩ => show win0_19.index t 0 * 512 + 1 * p.val = (gr (t.val) p).val; rw [hi.1, gr_eq]; omega
    | ⟨1, _⟩ => show win0_19.index t 1 * 1024 + 1 * q.val = _; rw [hi.2]; simp
  rw [he]
  exact outs19_at m c t p q

/-- The result array is the reference's. -/
theorem final_19 : (dats m 0 c).arrAt 19 cfg0.N = Cert.Reference11Ideal.Read.val_main_v19 (F := Ideal) (a0 m c) (a1 m c) (a2 m c) (a3 m c) (a4 m c) (a5 m c) :=
  (dats m 0 c).arrAt_eq_of_cover 19 _ (flushed_19 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx19 t
    refine ⟨t, flush0_19 t, ?_⟩
    show i ∈ ((View.whole main_v5_3).slice (win0_19.rect t)).set
    rw [View.set_slice_whole, Rect.mem_set_unit]
    intro a
    match a with
    | ⟨0, _⟩ =>
      show win0_19.index t 0 * 512 ≤ (i 0 : Nat) ∧ (i 0 : Nat) < win0_19.index t 0 * 512 + 512
      rw [hi.1]; omega
    | ⟨1, _⟩ =>
      show win0_19.index t 1 * 1024 ≤ (i 1 : Nat) ∧ (i 1 : Nat) < win0_19.index t 1 * 1024 + 1024
      rw [hi.2]; omega

theorem outs20_at (t : Fin cfg0.N) (r : Fin 512) (n : Fin 1024) :
    (out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : Vec Ideal S512x1024 .f32) (ix2 r n) = Cert.Reference11Ideal.Read.val_main_v34 (F := Ideal) (a0 m c) (a1 m c) (a2 m c) (a3 m c) (a4 m c) (a5 m c) (a6 m c) (a7 m c) (ix2 (gr t.val r) n) := by
  rw [ref34_at]
  refine (out20_at _ _ _ _ _ _ _ _ _ _ _ _ _ _ _ _ (fun r n => a0 m c (ix2 (gr t.val r) ⟨7424 + n.val, by omega⟩)) (fun r n => a0 m c (ix2 (gr t.val r) ⟨8448 + n.val, by omega⟩)) (iblk0 m c t) (iblk1 m c t) (iblk2 m c t) (iblk3 m c t) (iblk4 m c t) (iblk5 m c t) (iblk6 m c t) (iblk7 m c t) r n).trans ?_
  rw [mix_eq]
  simp only [iblk13, iblk14]

theorem idx20 (t : Fin cfg0.N) : win0_20.index t 0 = (t.val) % 4 ∧ win0_20.index t 1 = 0 :=
  (by decide +kernel : ∀ t : Fin cfg0.N, win0_20.index t 0 = (t.val) % 4 ∧ win0_20.index t 1 = 0) t

theorem flushed_20 (t : Fin cfg0.N) (hf : (cfg0.win 20).flush t = true) :
    (dats m 0 c).flushed 20 t = ((cfg0.win 20).blk t).view.read (Elt Ideal) (Cert.Reference11Ideal.Read.val_main_v34 (F := Ideal) (a0 m c) (a1 m c) (a2 m c) (a3 m c) (a4 m c) (a5 m c) (a6 m c) (a7 m c)) := by
  rw [Cert.Kernel11Ideal.Value.flushed20 m c t]
  have hi := idx20 t
  funext j
  rw [View.read_apply]
  obtain ⟨p, q, rfl⟩ : ∃ (p : Fin 512) (q : Fin 1024), j = ix2 p q := ⟨j 0, j 1, eq_ix2 j⟩
  have h2 : ∀ (X : Vec Ideal S512x1024 .f32), (cfg0.win 20).cut (grid0.coords t) X (ix2 p q) = X (ix2 p q) := fun _ => rfl
  refine (h2 _).trans ?_
  have he : (((cfg0.win 20).blk t).view.emb (ix2 p q) : S2048x1024.Idx) = ix2 (gr (t.val) p) q := by
    funext a
    apply Fin.ext
    match a with
    | ⟨0, _⟩ => show win0_20.index t 0 * 512 + 1 * p.val = (gr (t.val) p).val; rw [hi.1, gr_eq]; omega
    | ⟨1, _⟩ => show win0_20.index t 1 * 1024 + 1 * q.val = _; rw [hi.2]; simp
  rw [he]
  exact outs20_at m c t p q

/-- The result array is the reference's. -/
theorem final_20 : (dats m 0 c).arrAt 20 cfg0.N = Cert.Reference11Ideal.Read.val_main_v34 (F := Ideal) (a0 m c) (a1 m c) (a2 m c) (a3 m c) (a4 m c) (a5 m c) (a6 m c) (a7 m c) :=
  (dats m 0 c).arrAt_eq_of_cover 20 _ (flushed_20 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx20 t
    refine ⟨t, flush0_20 t, ?_⟩
    show i ∈ ((View.whole main_v5_4).slice (win0_20.rect t)).set
    rw [View.set_slice_whole, Rect.mem_set_unit]
    intro a
    match a with
    | ⟨0, _⟩ =>
      show win0_20.index t 0 * 512 ≤ (i 0 : Nat) ∧ (i 0 : Nat) < win0_20.index t 0 * 512 + 512
      rw [hi.1]; omega
    | ⟨1, _⟩ =>
      show win0_20.index t 1 * 1024 ≤ (i 1 : Nat) ∧ (i 1 : Nat) < win0_20.index t 1 * 1024 + 1024
      rw [hi.2]; omega

theorem outs21_at (t : Fin cfg0.N) (r : Fin 512) (n : Fin 1024) :
    (out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) : Vec Ideal S512x1024 .bf16) (ix2 r n) = Cert.Reference11Ideal.Read.val_main_v52 (F := Ideal) (a0 m c) (a1 m c) (a2 m c) (a3 m c) (a4 m c) (a5 m c) (a6 m c) (a7 m c) (a8 m c) (ix2 (gr t.val r) n) := by
  rw [ref52_at, ref48_at]
  refine (out21_at _ _ _ _ _ _ _ _ _ _ _ _ _ _ _ _ (fun r n => a0 m c (ix2 (gr t.val r) ⟨7424 + n.val, by omega⟩)) (fun r n => a0 m c (ix2 (gr t.val r) ⟨8448 + n.val, by omega⟩)) (iblk0 m c t) (iblk1 m c t) (iblk2 m c t) (iblk3 m c t) (iblk4 m c t) (iblk5 m c t) (iblk6 m c t) (iblk7 m c t) r n).trans ?_
  rw [mix_eq]
  simp only [iblk13, iblk14, iblk15]

theorem idx21 (t : Fin cfg0.N) : win0_21.index t 0 = (t.val) % 4 ∧ win0_21.index t 1 = 0 :=
  (by decide +kernel : ∀ t : Fin cfg0.N, win0_21.index t 0 = (t.val) % 4 ∧ win0_21.index t 1 = 0) t

theorem flushed_21 (t : Fin cfg0.N) (hf : (cfg0.win 21).flush t = true) :
    (dats m 0 c).flushed 21 t = ((cfg0.win 21).blk t).view.read (Elt Ideal) (Cert.Reference11Ideal.Read.val_main_v52 (F := Ideal) (a0 m c) (a1 m c) (a2 m c) (a3 m c) (a4 m c) (a5 m c) (a6 m c) (a7 m c) (a8 m c)) := by
  rw [Cert.Kernel11Ideal.Value.flushed21 m c t]
  have hi := idx21 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 21).cut (grid0.coords t) X (ix2 p q) = X (ix2 p q) := fun _ => rfl
  refine (h2 _).trans ?_
  have he : (((cfg0.win 21).blk t).view.emb (ix2 p q) : S2048x1024.Idx) = ix2 (gr (t.val) p) q := by
    funext a
    apply Fin.ext
    match a with
    | ⟨0, _⟩ => show win0_21.index t 0 * 512 + 1 * p.val = (gr (t.val) p).val; rw [hi.1, gr_eq]; omega
    | ⟨1, _⟩ => show win0_21.index t 1 * 1024 + 1 * q.val = _; rw [hi.2]; simp
  rw [he]
  exact outs21_at m c t p q

/-- The result array is the reference's. -/
theorem final_21 : (dats m 0 c).arrAt 21 cfg0.N = Cert.Reference11Ideal.Read.val_main_v52 (F := Ideal) (a0 m c) (a1 m c) (a2 m c) (a3 m c) (a4 m c) (a5 m c) (a6 m c) (a7 m c) (a8 m c) :=
  (dats m 0 c).arrAt_eq_of_cover 21 _ (flushed_21 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx21 t
    refine ⟨t, flush0_21 t, ?_⟩
    show i ∈ ((View.whole main_v5_5).slice (win0_21.rect t)).set
    rw [View.set_slice_whole, Rect.mem_set_unit]
    intro a
    match a with
    | ⟨0, _⟩ =>
      show win0_21.index t 0 * 512 ≤ (i 0 : Nat) ∧ (i 0 : Nat) < win0_21.index t 0 * 512 + 512
      rw [hi.1]; omega
    | ⟨1, _⟩ =>
      show win0_21.index t 1 * 1024 ≤ (i 1 : Nat) ∧ (i 1 : Nat) < win0_21.index t 1 * 1024 + 1024
      rw [hi.2]; omega

end Cert.Proof.Out

end
-- ==== Proof.OutClaim.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Out
public import Idealize.ShloMosaic.Lib.Claim

@[expose] public section

set_option maxRecDepth 16384

noncomputable section

/-! The claims about the kernel of `merge_out_post` and its reference. -/

namespace Cert.Proof.Out

open Idealize.ShloMosaic Idealize.SL.Sem

attribute [local instance] Cert.Kernel11.Gen.facts Cert.Kernel11Ideal.Gen.facts Cert.Reference11Ideal.Gen.facts

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono
    (fun r h => ⟨fun c => (h c).2.2.2.2.2.2, sem_eq_zero_of_no_sems (by decide) r.2⟩)
    (Cert.Reference11Ideal.Value.run (F := Ideal) m ρ)

theorem algebraic : Cert.algebraic_Kernel11Ideal_Reference11Ideal := by
  intro m g m' g' _ hag
  refine ⟨fun c => Cert.Reference11Ideal.Read.val_main_v49 (F := Ideal) (a1 m c) (a3 m c),
    fun c => Cert.Reference11Ideal.Read.val_main_v50 (F := Ideal) (a2 m c) (a4 m c),
    fun c => Cert.Reference11Ideal.Read.val_main_v51 (F := Ideal) (a0 m c) (a1 m c) (a2 m c) (a3 m c) (a4 m c),
    fun c => Cert.Reference11Ideal.Read.val_main_v19 (F := Ideal) (a0 m c) (a1 m c) (a2 m c) (a3 m c) (a4 m c) (a5 m c),
    fun c => Cert.Reference11Ideal.Read.val_main_v34 (F := Ideal) (a0 m c) (a1 m c) (a2 m c) (a3 m c) (a4 m c) (a5 m c) (a6 m c) (a7 m c),
    fun c => Cert.Reference11Ideal.Read.val_main_v52 (F := Ideal) (a0 m c) (a1 m c) (a2 m c) (a3 m c) (a4 m c) (a5 m c) (a6 m c) (a7 m c) (a8 m c), ?_, ?_⟩
  · exact (θ_run Cert.Kernel11Ideal.defs _ _).mono
      (fun r h c => ⟨(h c).1.trans (final_16 m c), (h c).2.1.trans (final_17 m c), (h c).2.2.1.trans (final_18 m c), (h c).2.2.2.1.trans (final_19 m c), (h c).2.2.2.2.1.trans (final_20 m c), (h c).2.2.2.2.2.1.trans (final_21 m c), (h c).2.2.2.2.2.2⟩)
      (Cert.Kernel11Ideal.Value.run_blocks (F := Ideal) m g)
  · refine (θ_run Cert.Reference11Ideal.defs _ _).mono (fun r h c => ?_) (Cert.Reference11Ideal.Value.run (F := Ideal) m' g')
    obtain ⟨e0, e1, e2, e3, e4, e5, e6, e7, e8⟩ := hag c
    obtain ⟨h0, h1, h2, h3, h4, h5, hargs⟩ := h c
    rw [Cert.Reference11Ideal.Read.val_main_v49_eq, e1, e3] at h0
    rw [Cert.Reference11Ideal.Read.val_main_v50_eq, e2, e4] at h1
    rw [Cert.Reference11Ideal.Read.val_main_v51_eq, e0, e1, e2, e3, e4] at h2
    rw [Cert.Reference11Ideal.Read.val_main_v19_eq, e0, e1, e2, e3, e4, e5] at h3
    rw [Cert.Reference11Ideal.Read.val_main_v34_eq, e0, e1, e2, e3, e4, e5, e6, e7] at h4
    rw [Cert.Reference11Ideal.Read.val_main_v52_eq, e0, e1, e2, e3, e4, e5, e6, e7, e8] at h5
    exact ⟨h0, h1, h2, h3, h4, h5, hargs⟩

end Cert.Proof.Out

end
-- ==== Proof.LossOut.lean ====
module

public import proofs.«01_k».proof.Proof.Gen.Kernel7Ideal.Frame
public import Idealize.ShloMosaic.Lib.Pipeline.Value
public import Idealize.ShloMosaic.Lib.Tactic

@[expose] public section

set_option maxRecDepth 16384

noncomputable section

/-! What one point of the kernel of `down_loss` leaves, as its payloads of the point's blocks. -/

namespace Cert.Proof.Loss

open Idealize.ShloMosaic Cert.Kernel7Ideal Cert.Kernel7Ideal.Gen

theorem hz : (![0, 0] : Fin 2 → Nat) = fun _ => 0 := funext fun a => by fin_cases a <;> rfl

variable {F : FTy → Type} [FloatOps F]

theorem outA_5 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (hc0)
    (x0 : Vec F S512x2816 .bf16) (x1 : Vec F S2816x1024 .bf16) (x2 : Vec F S1x1024 .f32) (x3 : Vec F S512x1024 .f32) (x4 : Vec F S512x1024 .f32) :
    out0_A_5 c i arg1 harg1 arg2 harg2 arg3 harg3 arg4 harg4 arg5 harg5 arg6 harg6 arg7 harg7 arg8 harg8 arg9 harg9 hc0 x0 x1 x2 x3 x4 = k0_pay13 (k0_pay7 x0 x1 x4 x2 x3) k0_pay11 := by
  unfold out0_A_5
  rw [View.read_writes_junk_eq_canon]
  unfold kernelRun0_A
  dsimp only
  sl_unfold_words
  rw [View.canon_cons_unit_zero hz]
  simp only [View.readAt_eq_ld, View.readCov_unit_zero (S := S1x128) _ hz, harg1.read_unread, harg2.read_unread, harg3.read_unread, harg4.read_unread, harg5.read_unread, harg6.read_unread, harg7.read_unread, harg8.read_unread, harg9.read_unread, View.ld_unit_zero (S := S512x2816) hz, View.ld_unit_zero (S := S2816x1024) hz, View.ld_unit_zero (S := S512x1024) hz, View.ld_unit_zero (S := S1x1024) hz, View.ld_unit_zero (S := S1x128) hz]

theorem outA_6 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (hc0)
    (x0 : Vec F S512x2816 .bf16) (x1 : Vec F S2816x1024 .bf16) (x2 : Vec F S1x1024 .f32) (x3 : Vec F S512x1024 .f32) (x4 : Vec F S512x1024 .f32) :
    out0_A_6 c i arg1 harg1 arg2 harg2 arg3 harg3 arg4 harg4 arg5 harg5 arg6 harg6 arg7 harg7 arg8 harg8 arg9 harg9 hc0 x0 x1 x2 x3 x4 = k0_pay14 (k0_pay5 x0 x1) (k0_pay6 x0 x1 x4 x2 x3) k0_pay8 k0_pay9 k0_pay12 := by
  unfold out0_A_6
  rw [View.read_writes_junk_eq_canon]
  unfold kernelRun0_A
  dsimp only
  sl_unfold_words
  rw [View.canon_cons_unit_zero hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, View.ld_unit_zero (S := S512x2816) hz, View.ld_unit_zero (S := S2816x1024) hz, View.ld_unit_zero (S := S512x1024) hz, View.ld_unit_zero (S := S1x1024) hz, View.ld_unit_zero (S := S1x128) hz]

theorem outA_7 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (hc0)
    (x0 : Vec F S512x2816 .bf16) (x1 : Vec F S2816x1024 .bf16) (x2 : Vec F S1x1024 .f32) (x3 : Vec F S512x1024 .f32) (x4 : Vec F S512x1024 .f32) :
    out0_A_7 c i arg1 harg1 arg2 harg2 arg3 harg3 arg4 harg4 arg5 harg5 arg6 harg6 arg7 harg7 arg8 harg8 arg9 harg9 hc0 x0 x1 x2 x3 x4 = k0_pay10 (k0_pay6 x0 x1 x4 x2 x3) k0_pay8 k0_pay9 := by
  unfold out0_A_7
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x2816) hz, View.ld_unit_zero (S := S2816x1024) hz, View.ld_unit_zero (S := S512x1024) hz, View.ld_unit_zero (S := S1x1024) hz, View.ld_unit_zero (S := S1x128) hz]

theorem outA_8 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (hc0)
    (x0 : Vec F S512x2816 .bf16) (x1 : Vec F S2816x1024 .bf16) (x2 : Vec F S1x1024 .f32) (x3 : Vec F S512x1024 .f32) (x4 : Vec F S512x1024 .f32) :
    out0_A_8 c i arg1 harg1 arg2 harg2 arg3 harg3 arg4 harg4 arg5 harg5 arg6 harg6 arg7 harg7 arg8 harg8 arg9 harg9 hc0 x0 x1 x2 x3 x4 = k0_pay15 (k0_pay1 x0 x1) x2 (k0_pay3 x0 x1) (k0_pay4 x0 x1) (k0_pay6 x0 x1 x4 x2 x3) k0_pay8 k0_pay9 := by
  unfold out0_A_8
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x2816) hz, View.ld_unit_zero (S := S2816x1024) hz, View.ld_unit_zero (S := S512x1024) hz, View.ld_unit_zero (S := S1x1024) hz, View.ld_unit_zero (S := S1x128) hz]

theorem outB_5 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (hc0)
    (x0 : Vec F S512x2816 .bf16) (x1 : Vec F S2816x1024 .bf16) (x2 : Vec F S1x1024 .f32) (x3 : Vec F S512x1024 .f32) (x4 : Vec F S512x1024 .f32) (xo5 : Vec F S1x128 .f32) (xo6 : Vec F S1x1024 .f32) :
    out0_B_5 c i arg1 harg1 arg2 harg2 arg3 harg3 arg4 harg4 arg5 harg5 arg6 harg6 arg7 harg7 arg8 harg8 arg9 harg9 hc0 x0 x1 x2 x3 x4 xo5 xo6 = k0_pay13 (k0_pay7 x0 x1 x4 x2 x3) xo5 := by
  unfold out0_B_5
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x2816) hz, View.ld_unit_zero (S := S2816x1024) hz, View.ld_unit_zero (S := S512x1024) hz, View.ld_unit_zero (S := S1x1024) hz, View.ld_unit_zero (S := S1x128) hz]

theorem outB_6 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (hc0)
    (x0 : Vec F S512x2816 .bf16) (x1 : Vec F S2816x1024 .bf16) (x2 : Vec F S1x1024 .f32) (x3 : Vec F S512x1024 .f32) (x4 : Vec F S512x1024 .f32) (xo5 : Vec F S1x128 .f32) (xo6 : Vec F S1x1024 .f32) :
    out0_B_6 c i arg1 harg1 arg2 harg2 arg3 harg3 arg4 harg4 arg5 harg5 arg6 harg6 arg7 harg7 arg8 harg8 arg9 harg9 hc0 x0 x1 x2 x3 x4 xo5 xo6 = k0_pay14 (k0_pay5 x0 x1) (k0_pay6 x0 x1 x4 x2 x3) k0_pay8 k0_pay9 xo6 := by
  unfold out0_B_6
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x2816) hz, View.ld_unit_zero (S := S2816x1024) hz, View.ld_unit_zero (S := S512x1024) hz, View.ld_unit_zero (S := S1x1024) hz, View.ld_unit_zero (S := S1x128) hz]

theorem outB_7 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (hc0)
    (x0 : Vec F S512x2816 .bf16) (x1 : Vec F S2816x1024 .bf16) (x2 : Vec F S1x1024 .f32) (x3 : Vec F S512x1024 .f32) (x4 : Vec F S512x1024 .f32) (xo5 : Vec F S1x128 .f32) (xo6 : Vec F S1x1024 .f32) :
    out0_B_7 c i arg1 harg1 arg2 harg2 arg3 harg3 arg4 harg4 arg5 harg5 arg6 harg6 arg7 harg7 arg8 harg8 arg9 harg9 hc0 x0 x1 x2 x3 x4 xo5 xo6 = k0_pay10 (k0_pay6 x0 x1 x4 x2 x3) k0_pay8 k0_pay9 := by
  unfold out0_B_7
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x2816) hz, View.ld_unit_zero (S := S2816x1024) hz, View.ld_unit_zero (S := S512x1024) hz, View.ld_unit_zero (S := S1x1024) hz, View.ld_unit_zero (S := S1x128) hz]

theorem outB_8 (c : Dev nD) (i : grid0.Coords) (arg1 : Memref sig .tc .vmem S512x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (hc0)
    (x0 : Vec F S512x2816 .bf16) (x1 : Vec F S2816x1024 .bf16) (x2 : Vec F S1x1024 .f32) (x3 : Vec F S512x1024 .f32) (x4 : Vec F S512x1024 .f32) (xo5 : Vec F S1x128 .f32) (xo6 : Vec F S1x1024 .f32) :
    out0_B_8 c i arg1 harg1 arg2 harg2 arg3 harg3 arg4 harg4 arg5 harg5 arg6 harg6 arg7 harg7 arg8 harg8 arg9 harg9 hc0 x0 x1 x2 x3 x4 xo5 xo6 = k0_pay15 (k0_pay1 x0 x1) x2 (k0_pay3 x0 x1) (k0_pay4 x0 x1) (k0_pay6 x0 x1 x4 x2 x3) k0_pay8 k0_pay9 := by
  unfold out0_B_8
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x2816) hz, View.ld_unit_zero (S := S2816x1024) hz, View.ld_unit_zero (S := S512x1024) hz, View.ld_unit_zero (S := S1x1024) hz, View.ld_unit_zero (S := S1x128) hz]

end Cert.Proof.Loss

end
-- ==== Proof.LossPay.lean ====
module

public import proofs.«01_k».proof.Proof.Rows
public import proofs.«01_k».proof.Proof.LossOut
public import proofs.«01_k».proof.Proof.Gen.Reference7Ideal.Read

@[expose] public section

set_option maxRecDepth 16384

noncomputable section

/-! The payloads of the kernel of `down_loss` and its reference's results, at an index. -/

namespace Cert.Proof.Loss

open Idealize.ShloMosaic Cert.Proof.Rows

/-- What the loss takes the square of: the residual stream with the normalised row added, less the target. -/
def er (p g h t : Fin 1024 → EReal) (n : Fin 1024) : EReal := h n + p n * rs p * g n - t n

/-- The loss's factor, -/
abbrev half : EReal := Ideal.ofBits .f32 0x3F000000#32

/-- a row's part of the loss before it, -/
def sq (e : Fin 1024 → EReal) : EReal := Ideal.div (∑ k, e k * e k) (Ideal.ofBits .f32 0x44800000#32)

/-- and the gradient of a row's mean of squares. -/
def ct : EReal := Ideal.div (half * Ideal.ofBits .f32 0x3F800000#32) (Ideal.ofBits .f32 0x44800000#32)

theorem half_eq : half = (((1 : ℝ) / 2 : ℝ) : EReal) := by
  simp [half, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ct_eq : ct = (((1 : ℝ) / 2048 : ℝ) : EReal) := by
  unfold ct
  rw [Ideal.ofBits_one_f32, mul_one, half_eq, ofBits_1024, Ideal.div_coe (by norm_num), ← EReal.coe_mul]
  congr 1; norm_num

theorem ct_fold : Ideal.div (Ideal.ofBits .f32 0x3F000000#32) (Ideal.ofBits .f32 0x44800000#32) = ct := by
  unfold ct
  rw [Ideal.ofBits_one_f32, mul_one]

/-- The square's gradient, as one product with two or as the sum of the two factors' parts, infinities included. -/
theorem grad_sq (e : EReal) : ct * (Ideal.ofBits .f32 0x40000000#32 * e) = e * ct + ct * e := by
  rw [ct_eq, two_eq]
  induction e with
  | bot =>
    rw [EReal.coe_mul_bot_of_pos (by norm_num), EReal.coe_mul_bot_of_pos (by norm_num), EReal.bot_mul_coe_of_pos (by norm_num)]; rfl
  | top =>
    rw [EReal.coe_mul_top_of_pos (by norm_num), EReal.coe_mul_top_of_pos (by norm_num), EReal.top_mul_coe_of_pos (by norm_num)]; rfl
  | coe x =>
    rw [← EReal.coe_mul, ← EReal.coe_mul, ← EReal.coe_mul, ← EReal.coe_mul, ← EReal.coe_add]
    congr 1; ring

/-- The factor goes into a sum, infinities included. -/
theorem half_sum (f : ℕ → EReal) (n : ℕ) : ∑ k ∈ Finset.range n, half * f k = half * ∑ k ∈ Finset.range n, f k := by
  induction n with
  | zero => simp
  | succ n ih =>
    have h0 : (0 : EReal) ≤ half := by rw [half_eq]; exact_mod_cast (by norm_num : (0 : ℝ) ≤ 1 / 2)
    have h1 : half ≠ ⊤ := by rw [half_eq]; exact EReal.coe_ne_top _
    rw [Finset.sum_range_succ, Finset.sum_range_succ, ih, EReal.left_distrib_of_nonneg_of_ne_top h0 h1]

section kernel
open Cert.Kernel7Ideal Cert.Kernel7Ideal.Gen

variable (x0 : Vec Ideal S512x2816 .bf16) (x1 : Vec Ideal S2816x1024 .bf16) (x2 : Vec Ideal S1x1024 .f32) (x3 x4 : Vec Ideal S512x1024 .f32)

theorem pay1_at (r : Fin 512) (n : Fin 1024) : k0_pay1 (F := Ideal) x0 x1 (ix2 r n) = ∑ k : Fin 2816, x0 (ix2 r k) * x1 (ix2 k n) := by
  pointwise [k0_pay1]

theorem pay2_at (r : Fin 512) : k0_pay2 (F := Ideal) x0 x1 (ix2 r 0) = ms (fun k => k0_pay1 (F := Ideal) x0 x1 (ix2 r k)) := by
  unfold k0_pay2
  generalize k0_pay1 (F := Ideal) x0 x1 = p
  pointwise; rfl

theorem pay3_at (r : Fin 512) : k0_pay3 (F := Ideal) x0 x1 (ix2 r 0) = rs (fun k => k0_pay1 (F := Ideal) x0 x1 (ix2 r k)) := by
  have h := pay2_at x0 x1 r
  unfold k0_pay3
  revert h
  generalize k0_pay2 (F := Ideal) x0 x1 = a
  intro h
  pointwise
  rw [h]; rfl

theorem pay4_at (r : Fin 512) : k0_pay4 (F := Ideal) x0 x1 (ix2 r 0) = drs (fun k => k0_pay1 (F := Ideal) x0 x1 (ix2 r k)) := by
  have h := pay2_at x0 x1 r
  have h' := pay3_at x0 x1 r
  unfold k0_pay4
  revert h h'
  generalize k0_pay2 (F := Ideal) x0 x1 = a
  generalize k0_pay3 (F := Ideal) x0 x1 = b
  intro h h'
  pointwise
  rw [h, h']; rfl

theorem pay5_at (r : Fin 512) (n : Fin 1024) :
    k0_pay5 (F := Ideal) x0 x1 (ix2 r n) = k0_pay1 (F := Ideal) x0 x1 (ix2 r n) * rs (fun k => k0_pay1 (F := Ideal) x0 x1 (ix2 r k)) := by
  have h := pay3_at x0 x1 r
  unfold k0_pay5
  revert h
  generalize k0_pay1 (F := Ideal) x0 x1 = p
  generalize k0_pay3 (F := Ideal) x0 x1 = a
  intro h
  pointwise
  rw [h]

theorem pay6_at (r : Fin 512) (n : Fin 1024) :
    k0_pay6 (F := Ideal) x0 x1 x4 x2 x3 (ix2 r n)
      = er (fun k => k0_pay1 (F := Ideal) x0 x1 (ix2 r k)) (fun k => x2 (ix2 0 k)) (fun k => x3 (ix2 r k)) (fun k => x4 (ix2 r k)) n := by
  have h := pay5_at x0 x1 r n
  unfold k0_pay6
  revert h
  generalize k0_pay1 (F := Ideal) x0 x1 = p
  generalize k0_pay5 (F := Ideal) x0 x1 = a
  intro h
  pointwise
  rw [h]; rfl

theorem pay7_at : k0_pay7 (F := Ideal) x0 x1 x4 x2 x3 = half * ∑ r : Fin 512, sq (fun k => k0_pay6 (F := Ideal) x0 x1 x4 x2 x3 (ix2 r k)) := by
  unfold k0_pay7
  generalize k0_pay6 (F := Ideal) x0 x1 x4 x2 x3 = e
  show half * _ = _
  congr 1
  pointwise
  rfl

theorem pay10_at (e : FVec Ideal S512x1024 .f32) (r : Fin 512) (n : Fin 1024) :
    k0_pay10 (F := Ideal) e k0_pay8 k0_pay9 (ix2 r n) = e (ix2 r n) * ct + ct * e (ix2 r n) := by
  pointwise [k0_pay10, k0_pay8, k0_pay9]
  rw [ct_fold]

theorem pay11_at (n : Fin 128) : k0_pay11 (F := Ideal) (ix2 0 n) = 0 := by pointwise [k0_pay11]
theorem pay12_at (n : Fin 1024) : k0_pay12 (F := Ideal) (ix2 0 n) = 0 := by pointwise [k0_pay12]

theorem pay13_at (s : EReal) (a : Vec Ideal S1x128 .f32) (n : Fin 128) : k0_pay13 (F := Ideal) s a (ix2 0 n) = a (ix2 0 n) + s := by
  pointwise [k0_pay13]

theorem pay14_at (y e : FVec Ideal S512x1024 .f32) (a : Vec Ideal S1x1024 .f32) (n : Fin 1024) :
    k0_pay14 (F := Ideal) y e k0_pay8 k0_pay9 a (ix2 0 n)
      = a (ix2 0 n) + ∑ r : Fin 512, y (ix2 r n) * k0_pay10 (F := Ideal) e k0_pay8 k0_pay9 (ix2 r n) := by
  unfold k0_pay14
  generalize k0_pay10 (F := Ideal) e k0_pay8 k0_pay9 = d
  pointwise

theorem pay15_at (e : FVec Ideal S512x1024 .f32) (r : Fin 512) (n : Fin 1024) :
    k0_pay15 (F := Ideal) (k0_pay1 x0 x1) x2 (k0_pay3 x0 x1) (k0_pay4 x0 x1) e k0_pay8 k0_pay9 (ix2 r n)
      = gradX (fun k => k0_pay1 (F := Ideal) x0 x1 (ix2 r k)) (fun k => x2 (ix2 0 k)) (fun k => k0_pay10 (F := Ideal) e k0_pay8 k0_pay9 (ix2 r k)) n := by
  have h := pay3_at x0 x1 r
  have h' := pay4_at x0 x1 r
  unfold k0_pay15
  revert h h'
  generalize k0_pay1 (F := Ideal) x0 x1 = p
  generalize k0_pay3 (F := Ideal) x0 x1 = a
  generalize k0_pay4 (F := Ideal) x0 x1 = b
  generalize k0_pay10 (F := Ideal) e k0_pay8 k0_pay9 = d
  intro h h'
  pointwise
  simp only [Fin.sum_univ_one, h, h']
  rfl
end kernel

section reference
open Cert.Reference7Ideal Cert.Reference7Ideal.Read

variable (x0 : Vec Ideal S2048x2816 .f32) (x1 : Vec Ideal S2816x1024 .f32) (x2 : Vec Ideal S1x1024 .f32) (x3 x4 : Vec Ideal S2048x1024 .f32)

theorem ref0_at (r : Fin 2048) (n : Fin 1024) : val_main_v0 (F := Ideal) x0 x1 (ix2 r n) = ∑ k : Fin 2816, x0 (ix2 r k) * x1 (ix2 k n) := by
  pointwise [val_main_v0]

theorem ref14_at (r : Fin 2048) (n : Fin 1024) :
    val_main_v14 (F := Ideal) x0 x1 (ix2 r n) = val_main_v0 (F := Ideal) x0 x1 (ix2 r n) * rs (fun k => val_main_v0 (F := Ideal) x0 x1 (ix2 r k)) := by
  generalize hp : val_main_v0 (F := Ideal) x0 x1 = p
  pointwise [val_main_v14, val_main_v13, val_main_v9, val_main_v8, val_main_v7, val_main_v6, val_main_v5, val_main_v4, val_main_v3, val_main_v2, val_main_cst, val_main_cst_0, val_main_cst_1]
  simp only [hp]
  rfl

theorem ref19_at (r : Fin 2048) (n : Fin 1024) :
    val_main_v19 (F := Ideal) x0 x1 x2 x3 x4 (ix2 r n)
      = er (fun k => val_main_v0 (F := Ideal) x0 x1 (ix2 r k)) (fun k => x2 (ix2 0 k)) (fun k => x3 (ix2 r k)) (fun k => x4 (ix2 r k)) n := by
  generalize hp : val_main_v0 (F := Ideal) x0 x1 = p
  pointwise [val_main_v19, val_main_v18, val_main_v17, val_main_v16, val_main_v15, val_main_v14, val_main_v13, val_main_v1, val_main_v9, val_main_v8, val_main_v7, val_main_v6, val_main_v5, val_main_v4, val_main_v3, val_main_v2, val_main_cst, val_main_cst_0, val_main_cst_1]
  simp only [hp]
  rfl

theorem ref33_at (r : Fin 2048) (n : Fin 1024) :
    val_main_v33 (F := Ideal) x0 x1 x2 x3 x4 (ix2 r n)
      = val_main_v19 (F := Ideal) x0 x1 x2 x3 x4 (ix2 r n) * ct + ct * val_main_v19 (F := Ideal) x0 x1 x2 x3 x4 (ix2 r n) := by
  rw [← grad_sq]
  unfold val_main_v33 val_main_v22
  generalize val_main_v19 (F := Ideal) x0 x1 x2 x3 x4 = e
  pointwise [val_main_v32, val_main_v31, val_main_v30, val_main_v29, val_main_v28, val_main_v21, val_main_cst_3, val_main_cst_8, val_main_cst_9, val_main_cst_10]
  rw [ct_fold]

theorem ref25_at (r : Fin 2048) :
    val_main_v25 (F := Ideal) x0 x1 x2 x3 x4 (ix1 r) = sq (fun k => val_main_v19 (F := Ideal) x0 x1 x2 x3 x4 (ix2 r k)) := by
  unfold val_main_v25 val_main_v23 val_main_v20
  generalize val_main_v19 (F := Ideal) x0 x1 x2 x3 x4 = e
  pointwise [val_main_v24, val_main_cst_4, val_main_cst_5]
  rfl

theorem ref55_at (n : Fin 128) :
    val_main_v55 (F := Ideal) x0 x1 x2 x3 x4 (ix2 0 n) = half * ∑ r : Fin 2048, sq (fun k => val_main_v19 (F := Ideal) x0 x1 x2 x3 x4 (ix2 r k)) := by
  rw [val_main_v55_apply, val_main_v27_apply, val_main_v26_apply]
  show half * (Ideal.ofBits .f32 0x00000000#32 + _) = _
  rw [Ideal.ofBits_zero_f32, zero_add]
  refine congrArg (half * ·) ((sum_idx1 (n0 := 2048) _).trans ?_)
  exact Finset.sum_congr rfl fun r _ => ref25_at x0 x1 x2 x3 x4 r

theorem ref54_at (n : Fin 1024) :
    val_main_v54 (F := Ideal) x0 x1 x2 x3 x4 (ix2 0 n)
      = ∑ r : Fin 2048, val_main_v14 (F := Ideal) x0 x1 (ix2 r n) * val_main_v33 (F := Ideal) x0 x1 x2 x3 x4 (ix2 r n) := by
  unfold val_main_v54 val_main_v39 val_main_v36 val_main_v35 val_main_v34
  generalize val_main_v14 (F := Ideal) x0 x1 = y
  generalize val_main_v33 (F := Ideal) x0 x1 x2 x3 x4 = d
  pointwise [val_main_cst_11, val_main_cst_12]
  simp only [Fin.sum_univ_one]

theorem ref56_at (r : Fin 2048) (n : Fin 1024) :
    val_main_v56 (F := Ideal) x0 x1 x2 x3 x4 (ix2 r n)
      = gradX (fun k => val_main_v0 (F := Ideal) x0 x1 (ix2 r k)) (fun k => x2 (ix2 0 k)) (fun k => val_main_v33 (F := Ideal) x0 x1 x2 x3 x4 (ix2 r k)) n := by
  generalize hp : val_main_v0 (F := Ideal) x0 x1 = p
  generalize hd : val_main_v33 (F := Ideal) x0 x1 x2 x3 x4 = d
  pointwise [val_main_v56, val_main_v53, val_main_v52, val_main_v51, val_main_v50, val_main_v49, val_main_v48, val_main_v47, val_main_v46, val_main_v45, val_main_v44, val_main_v43, val_main_v42, val_main_v41, val_main_v40, val_main_v38, val_main_v37, val_main_v15, val_main_v1, val_main_v12, val_main_v11, val_main_v10, val_main_cst_2, val_main_cst_13, val_main_cst_14, val_main_cst_15, val_main_v9, val_main_v8, val_main_v7, val_main_v6, val_main_v5, val_main_v4, val_main_v3, val_main_v2, val_main_cst, val_main_cst_0, val_main_cst_1]
  simp only [hp, hd, Fin.sum_univ_one]
  rfl
end reference

end Cert.Proof.Loss

end
-- ==== Proof.Loss.lean ====
module

public import proofs.«01_k».proof.Proof.LossPay
public import proofs.«01_k».proof.Proof.Gen.Kernel7Ideal.Value

@[expose] public section

set_option maxRecDepth 16384

noncomputable section

/-! The result arrays of the kernel of `down_loss` are its reference's. Point `t` takes rows `512 t` to `512 t + 511`. -/

namespace Cert.Proof.Loss

open Idealize.ShloMosaic Idealize.ShloMosaic.TcCoe Cert.Kernel7Ideal Cert.Kernel7Ideal.Gen Cert.Proof.Rows

variable (m : (ℓ : Loc nD τ sig) → Buf (Elt Ideal) ℓ) (c : Dev nD)

/-- The arguments on a device, as arrays. -/
abbrev a0 : Vec Ideal S2048x2816 .f32 := m ((c : Thread nD τ).loc main_arg0)
abbrev a1 : Vec Ideal S2816x1024 .f32 := m ((c : Thread nD τ).loc main_arg1)
abbrev a2 : Vec Ideal S1x1024 .f32 := m ((c : Thread nD τ).loc main_arg2)
abbrev a3 : Vec Ideal S2048x1024 .f32 := m ((c : Thread nD τ).loc main_arg3)
abbrev a4 : Vec Ideal S2048x1024 .f32 := m ((c : Thread nD τ).loc main_arg4)

theorem V0 : (V m c main_v0 : Vec Ideal S2048x2816 .bf16) = (truncf .bf16 (a0 m c) bitsLt_bf16_f32 : FVec Ideal S2048x2816 .bf16) := by
  unfold V; after_results

theorem V1 : (V m c main_v1 : Vec Ideal S2816x1024 .bf16) = (truncf .bf16 (a1 m c) bitsLt_bf16_f32 : FVec Ideal S2816x1024 .bf16) := by
  unfold V; after_results

theorem lt4 (t : Fin cfg0.N) : t.val < 4 := lt_of_lt_of_eq t.isLt N_0

/-- Row `r` of tile `k`, in the whole arrays. -/
def row (k : Nat) (r : Fin 512) : Fin 2048 := Rows.row 4 512 (by omega) k r
theorem row_eq (k : Nat) (r : Fin 512) : (row k r).val = r.val + 512 * (k % 4) := rfl

theorem iblk0 (t : Fin cfg0.N) (r : Fin 512) (k : Fin 2816) :
    (iblk m c 0 t : Vec Ideal S512x2816 .bf16) (ix2 r k) = (V m c main_v0 : Vec Ideal S2048x2816 .bf16) (ix2 (row t.val r) k) := by
  have hi := (by decide +kernel : ∀ t : Fin cfg0.N, win0_0.index t 0 = t.val % 4 ∧ win0_0.index t 1 = 0) t
  unfold iblk
  rw [View.read_apply]
  show V m c main_v0 _ = V m c main_v0 _
  congr 1
  funext a
  apply Fin.ext
  match a with
  | ⟨0, _⟩ => show win0_0.index t 0 * 512 + 1 * r.val = (row t.val r).val; rw [hi.1, row_eq]; omega
  | ⟨1, _⟩ => show win0_0.index t 1 * 2816 + 1 * k.val = _; rw [hi.2]; simp

theorem iblk1 (t : Fin cfg0.N) (r : Fin 2816) (k : Fin 1024) :
    (iblk m c 1 t : Vec Ideal S2816x1024 .bf16) (ix2 r k) = (V m c main_v1 : Vec Ideal S2816x1024 .bf16) (ix2 r k) := by
  have hi := (by decide +kernel : ∀ t : Fin cfg0.N, win0_1.index t 0 = 0 ∧ win0_1.index t 1 = 0) t
  unfold iblk
  rw [View.read_apply]
  show V m c main_v1 _ = V m c main_v1 _
  congr 1
  funext a
  apply Fin.ext
  match a with
  | ⟨0, _⟩ => show win0_1.index t 0 * 2816 + 1 * r.val = _; rw [hi.1]; simp
  | ⟨1, _⟩ => show win0_1.index t 1 * 1024 + 1 * k.val = _; rw [hi.2]; simp

theorem iblk2 (t : Fin cfg0.N) (k : Fin 1024) :
    (iblk m c 2 t : Vec Ideal S1x1024 .f32) (ix2 0 k) = a2 m c (ix2 0 k) := by
  have hi := (by decide +kernel : ∀ t : Fin cfg0.N, win0_2.index t 0 = 0 ∧ win0_2.index t 1 = 0) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_2.index t 0 * 1 + 1 * (0 : Fin 1).val = _; rw [hi.1]; simp
  | ⟨1, _⟩ => show win0_2.index t 1 * 1024 + 1 * k.val = _; rw [hi.2]; simp

theorem iblk3 (t : Fin cfg0.N) (r : Fin 512) (k : Fin 1024) :
    (iblk m c 3 t : Vec Ideal S512x1024 .f32) (ix2 r k) = a3 m c (ix2 (row t.val r) k) := by
  have hi := (by decide +kernel : ∀ t : Fin cfg0.N, win0_3.index t 0 = t.val % 4 ∧ win0_3.index t 1 = 0) t
  rw [show a3 m c = V m c main_arg3 from (V_main_arg3 m c).symm]
  unfold iblk
  rw [View.read_apply]
  show V m c main_arg3 _ = V m c main_arg3 _
  congr 1
  funext a
  apply Fin.ext
  match a with
  | ⟨0, _⟩ => show win0_3.index t 0 * 512 + 1 * r.val = (row t.val r).val; rw [hi.1, row_eq]; omega
  | ⟨1, _⟩ => show win0_3.index t 1 * 1024 + 1 * k.val = _; rw [hi.2]; simp

theorem iblk4 (t : Fin cfg0.N) (r : Fin 512) (k : Fin 1024) :
    (iblk m c 4 t : Vec Ideal S512x1024 .f32) (ix2 r k) = a4 m c (ix2 (row t.val r) k) := by
  have hi := (by decide +kernel : ∀ t : Fin cfg0.N, win0_4.index t 0 = t.val % 4 ∧ win0_4.index t 1 = 0) t
  rw [show a4 m c = V m c main_arg4 from (V_main_arg4 m c).symm]
  unfold iblk
  rw [View.read_apply]
  show V m c main_arg4 _ = V m c main_arg4 _
  congr 1
  funext a
  apply Fin.ext
  match a with
  | ⟨0, _⟩ => show win0_4.index t 0 * 512 + 1 * r.val = (row t.val r).val; rw [hi.1, row_eq]; omega
  | ⟨1, _⟩ => show win0_4.index t 1 * 1024 + 1 * k.val = _; rw [hi.2]; simp

/-- The down projection, as the reference has it, -/
abbrev pr : Vec Ideal S2048x1024 .f32 := Cert.Reference7Ideal.Read.val_main_v0 (F := Ideal) (a0 m c) (a1 m c)

/-- it normalised, -/
abbrev yn : Vec Ideal S2048x1024 .f32 := Cert.Reference7Ideal.Read.val_main_v14 (F := Ideal) (a0 m c) (a1 m c)

/-- the error, -/
abbrev ee : Vec Ideal S2048x1024 .f32 := Cert.Reference7Ideal.Read.val_main_v19 (F := Ideal) (a0 m c) (a1 m c) (a2 m c) (a3 m c) (a4 m c)

/-- and its gradient. -/
abbrev dd : Vec Ideal S2048x1024 .f32 := Cert.Reference7Ideal.Read.val_main_v33 (F := Ideal) (a0 m c) (a1 m c) (a2 m c) (a3 m c) (a4 m c)

/-- The same of a tile, as a point has them. -/
abbrev bp (t : Fin cfg0.N) : FVec Ideal S512x1024 .f32 := k0_pay1 (F := Ideal) (iblk m c 0 t) (iblk m c 1 t)
abbrev bn (t : Fin cfg0.N) : FVec Ideal S512x1024 .f32 := k0_pay5 (F := Ideal) (iblk m c 0 t) (iblk m c 1 t)
abbrev be (t : Fin cfg0.N) : FVec Ideal S512x1024 .f32 := k0_pay6 (F := Ideal) (iblk m c 0 t) (iblk m c 1 t) (iblk m c 4 t) (iblk m c 2 t) (iblk m c 3 t)
abbrev bd (t : Fin cfg0.N) : FVec Ideal S512x1024 .f32 := k0_pay10 (F := Ideal) (be m c t) k0_pay8 k0_pay9

theorem bp_at (t : Fin cfg0.N) (r : Fin 512) (n : Fin 1024) : bp m c t (ix2 r n) = pr m c (ix2 (row t.val r) n) := by
  refine (pay1_at _ _ r n).trans (Eq.trans ?_ (ref0_at _ _ _ n).symm)
  exact Finset.sum_congr rfl fun k _ => by rw [iblk0, iblk1, V0, V1]; rfl

theorem bn_at (t : Fin cfg0.N) (r : Fin 512) (n : Fin 1024) : bn m c t (ix2 r n) = yn m c (ix2 (row t.val r) n) := by
  refine (pay5_at _ _ r n).trans (Eq.trans ?_ (ref14_at _ _ _ n).symm)
  have e : ∀ k, k0_pay1 (F := Ideal) (iblk m c 0 t) (iblk m c 1 t) (ix2 r k) = pr m c (ix2 (row t.val r) k) := bp_at m c t r
  simp only [e]

theorem be_at (t : Fin cfg0.N) (r : Fin 512) (n : Fin 1024) : be m c t (ix2 r n) = ee m c (ix2 (row t.val r) n) := by
  refine (pay6_at _ _ _ _ _ r n).trans (Eq.trans ?_ (ref19_at _ _ _ _ _ _ n).symm)
  have e : ∀ k, k0_pay1 (F := Ideal) (iblk m c 0 t) (iblk m c 1 t) (ix2 r k) = pr m c (ix2 (row t.val r) k) := bp_at m c t r
  simp only [e, iblk2, iblk3, iblk4]

theorem bd_at (t : Fin cfg0.N) (r : Fin 512) (n : Fin 1024) : bd m c t (ix2 r n) = dd m c (ix2 (row t.val r) n) := by
  refine (pay10_at _ r n).trans (Eq.trans ?_ (ref33_at _ _ _ _ _ _ n).symm)
  rw [be_at]

/-- A tile's part of the loss before its factor. -/
def lossPart (k : Nat) (r : Fin 512) : EReal := sq (fun j => ee m c (ix2 (row k r) j))

theorem loss_acc (t : Fin cfg0.N) (acc : Vec Ideal S1x128 .f32) (n : Fin 128) :
    k0_pay13 (F := Ideal) (k0_pay7 (F := Ideal) (iblk m c 0 t) (iblk m c 1 t) (iblk m c 4 t) (iblk m c 2 t) (iblk m c 3 t)) acc (ix2 0 n)
      = acc (ix2 0 n) + half * ∑ r : Fin 512, lossPart m c t.val r := by
  refine (pay13_at _ acc n).trans (congrArg (acc (ix2 0 n) + ·) ((pay7_at _ _ _ _ _).trans (congrArg (half * ·) ?_)))
  refine Finset.sum_congr rfl fun r _ => ?_
  have e : ∀ k, k0_pay6 (F := Ideal) (iblk m c 0 t) (iblk m c 1 t) (iblk m c 4 t) (iblk m c 2 t) (iblk m c 3 t) (ix2 r k) = ee m c (ix2 (row t.val r) k) := be_at m c t r
  simp only [e]
  rfl

/-- A row's part of the gradient of the norm's weights. -/
def gPart (k : Nat) (r : Fin 512) (n : Fin 1024) : EReal := yn m c (ix2 (row k r) n) * dd m c (ix2 (row k r) n)

theorem g_acc (t : Fin cfg0.N) (acc : Vec Ideal S1x1024 .f32) (n : Fin 1024) :
    k0_pay14 (F := Ideal) (bn m c t) (be m c t) k0_pay8 k0_pay9 acc (ix2 0 n) = acc (ix2 0 n) + ∑ r : Fin 512, gPart m c t.val r n := by
  refine (pay14_at _ _ acc n).trans (congrArg (acc (ix2 0 n) + ·) ?_)
  refine Finset.sum_congr rfl fun r _ => ?_
  exact congrArg₂ (· * ·) (bn_at m c t r n) (bd_at m c t r n)

/-- The sums after point `n`: those of the tiles so far. -/
theorem loss_sum (n : ℕ) (hn : n < cfg0.N) (q : Fin 128) :
    (outsAt0 m c n hn).1 (ix2 0 q) = ∑ k ∈ Finset.range (n + 1), half * ∑ r : Fin 512, lossPart m c k r := by
  have hN : cfg0.N = 4 := N_0
  induction n with
  | zero =>
    have e := outsAt0_A m c ⟨0, hn⟩ (Nat.zero_mod 4)
    rw [e, outA_5]
    refine (loss_acc m c ⟨0, hn⟩ _ q).trans ?_
    rw [pay11_at, zero_add, Finset.sum_range_one]
  | succ n ih =>
    have h0 : ¬ (n + 1) % 4 = 0 := by omega
    have e := outsAt0_B m c ⟨n + 1, hn⟩ h0
    rw [e, outB_5]
    refine (loss_acc m c ⟨n + 1, hn⟩ _ q).trans ?_
    rw [Finset.sum_range_succ _ (n + 1)]
    exact congrArg (· + _) (ih (by omega))

/-- The sums after point `n`: those of the tiles so far. -/
theorem g_sum (n : ℕ) (hn : n < cfg0.N) (q : Fin 1024) :
    (outsAt0 m c n hn).2.1 (ix2 0 q) = ∑ k ∈ Finset.range (n + 1), ∑ r : Fin 512, gPart m c k r q := by
  have hN : cfg0.N = 4 := N_0
  induction n with
  | zero =>
    have e := outsAt0_A m c ⟨0, hn⟩ (Nat.zero_mod 4)
    rw [e, outA_6]
    refine (g_acc m c ⟨0, hn⟩ _ q).trans ?_
    rw [pay12_at, zero_add, Finset.sum_range_one]
  | succ n ih =>
    have h0 : ¬ (n + 1) % 4 = 0 := by omega
    have e := outsAt0_B m c ⟨n + 1, hn⟩ h0
    rw [e, outB_6]
    refine (g_acc m c ⟨n + 1, hn⟩ _ q).trans ?_
    rw [Finset.sum_range_succ _ (n + 1)]
    exact congrArg (· + _) (ih (by omega))

theorem dh_at (t : Fin cfg0.N) (r : Fin 512) (n : Fin 1024) :
    (outsAt0 m c t.val t.isLt).2.2.1 (ix2 r n) = dd m c (ix2 (row t.val r) n) := by
  have key : bd m c t (ix2 r n) = dd m c (ix2 (row t.val r) n) := by
    exact bd_at m c t r n
  by_cases h0 : t.val % 4 = 0
  · rw [outsAt0_A m c t h0, outA_7]; exact key
  · rw [outsAt0_B m c t h0, outB_7]; exact key

theorem dff_at (t : Fin cfg0.N) (r : Fin 512) (n : Fin 1024) :
    (outsAt0 m c t.val t.isLt).2.2.2 (ix2 r n) = Cert.Reference7Ideal.Read.val_main_v56 (F := Ideal) (a0 m c) (a1 m c) (a2 m c) (a3 m c) (a4 m c) (ix2 (row t.val r) n) := by
  have key : k0_pay15 (F := Ideal) (bp m c t) (iblk m c 2 t) (k0_pay3 (F := Ideal) (iblk m c 0 t) (iblk m c 1 t)) (k0_pay4 (F := Ideal) (iblk m c 0 t) (iblk m c 1 t)) (be m c t) k0_pay8 k0_pay9 (ix2 r n) = Cert.Reference7Ideal.Read.val_main_v56 (F := Ideal) (a0 m c) (a1 m c) (a2 m c) (a3 m c) (a4 m c) (ix2 (row t.val r) n) := by
    refine (pay15_at _ _ _ _ r n).trans (Eq.trans ?_ (ref56_at _ _ _ _ _ _ n).symm)
    have e : ∀ k, k0_pay1 (F := Ideal) (iblk m c 0 t) (iblk m c 1 t) (ix2 r k) = pr m c (ix2 (row t.val r) k) := bp_at m c t r
    have e' : ∀ k, k0_pay10 (F := Ideal) (be m c t) k0_pay8 k0_pay9 (ix2 r k) = dd m c (ix2 (row t.val r) k) := bd_at m c t r
    simp only [e, e', iblk2]
  by_cases h0 : t.val % 4 = 0
  · rw [outsAt0_A m c t h0, outA_8]; exact key
  · rw [outsAt0_B m c t h0, outB_8]; exact key

/-! ## The result arrays -/

theorem idx5 (t : Fin cfg0.N) : win0_5.index t 0 = 0 ∧ win0_5.index t 1 = 0 :=
  (by decide +kernel : ∀ t : Fin cfg0.N, win0_5.index t 0 = 0 ∧ win0_5.index t 1 = 0) t

theorem flushed_5 (t : Fin cfg0.N) (hf : (cfg0.win 5).flush t = true) :
    (dats m 0 c).flushed 5 t = ((cfg0.win 5).blk t).view.read (Elt Ideal) (Cert.Reference7Ideal.Read.val_main_v55 (F := Ideal) (a0 m c) (a1 m c) (a2 m c) (a3 m c) (a4 m c)) := by
  have h7 := (flush0_5 t).mp hf
  have hN := lt4 t
  rw [Cert.Kernel7Ideal.Value.flushed5 m c t]
  have hi := idx5 t
  funext j
  rw [View.read_apply]
  obtain ⟨p, q, rfl⟩ : ∃ (p : Fin 1) (q : Fin 128), j = ix2 p q := ⟨j 0, j 1, eq_ix2 j⟩
  obtain rfl : p = 0 := Subsingleton.elim _ _
  have h2 : ∀ (X : Vec Ideal S1x128 .f32), (cfg0.win 5).cut (grid0.coords t) X (ix2 0 q) = X (ix2 0 q) := fun _ => rfl
  refine (h2 _).trans ?_
  have he : (((cfg0.win 5).blk t).view.emb (ix2 0 q) : S1x128.Idx) = ix2 0 q := by
    funext a
    apply Fin.ext
    match a with
    | ⟨0, _⟩ => show win0_5.index t 0 * 1 + 1 * (0 : Fin 1).val = _; rw [hi.1]; simp
    | ⟨1, _⟩ => show win0_5.index t 1 * 128 + 1 * q.val = _; rw [hi.2]; simp
  rw [he, loss_sum, show t.val = 3 by omega]
  refine Eq.trans ?_ (ref55_at _ _ _ _ _ q).symm
  exact (half_sum (fun k => ∑ r : Fin 512, lossPart m c k r) 4).trans (congrArg (half * ·) (sum_tiles 4 512 (by omega) fun s => sq (fun j => ee m c (ix2 s j))))

theorem final_5 : (dats m 0 c).arrAt 5 cfg0.N = Cert.Reference7Ideal.Read.val_main_v55 (F := Ideal) (a0 m c) (a1 m c) (a2 m c) (a3 m c) (a4 m c) :=
  (dats m 0 c).arrAt_eq_of_cover 5 _ (flushed_5 m c) fun i => by
    have h0 : (i 0 : Nat) < 1 := (i 0).isLt
    have h1 : (i 1 : Nat) < 128 := (i 1).isLt
    have hN : cfg0.N = 4 := N_0
    let t : Fin cfg0.N := ⟨3, by omega⟩
    have hi := idx5 t
    refine ⟨t, (flush0_5 t).mpr rfl, ?_⟩
    show i ∈ ((View.whole main_v2_0).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [hi.1]; omega
    | ⟨1, _⟩ =>
      show win0_5.index t 1 * 128 ≤ (i 1 : Nat) ∧ (i 1 : Nat) < win0_5.index t 1 * 128 + 128
      rw [hi.2]; omega

theorem idx6 (t : Fin cfg0.N) : win0_6.index t 0 = 0 ∧ win0_6.index t 1 = 0 :=
  (by decide +kernel : ∀ t : Fin cfg0.N, win0_6.index t 0 = 0 ∧ win0_6.index t 1 = 0) t

theorem flushed_6 (t : Fin cfg0.N) (hf : (cfg0.win 6).flush t = true) :
    (dats m 0 c).flushed 6 t = ((cfg0.win 6).blk t).view.read (Elt Ideal) (Cert.Reference7Ideal.Read.val_main_v54 (F := Ideal) (a0 m c) (a1 m c) (a2 m c) (a3 m c) (a4 m c)) := by
  have h7 := (flush0_6 t).mp hf
  have hN := lt4 t
  rw [Cert.Kernel7Ideal.Value.flushed6 m c t]
  have hi := idx6 t
  funext j
  rw [View.read_apply]
  obtain ⟨p, q, rfl⟩ : ∃ (p : Fin 1) (q : Fin 1024), j = ix2 p q := ⟨j 0, j 1, eq_ix2 j⟩
  obtain rfl : p = 0 := Subsingleton.elim _ _
  have h2 : ∀ (X : Vec Ideal S1x1024 .f32), (cfg0.win 6).cut (grid0.coords t) X (ix2 0 q) = X (ix2 0 q) := fun _ => rfl
  refine (h2 _).trans ?_
  have he : (((cfg0.win 6).blk t).view.emb (ix2 0 q) : S1x1024.Idx) = ix2 0 q := by
    funext a
    apply Fin.ext
    match a with
    | ⟨0, _⟩ => show win0_6.index t 0 * 1 + 1 * (0 : Fin 1).val = _; rw [hi.1]; simp
    | ⟨1, _⟩ => show win0_6.index t 1 * 1024 + 1 * q.val = _; rw [hi.2]; simp
  rw [he, g_sum, show t.val = 3 by omega]
  refine Eq.trans ?_ (ref54_at _ _ _ _ _ q).symm
  exact sum_tiles 4 512 (by omega) fun s => yn m c (ix2 s q) * dd m c (ix2 s q)

theorem final_6 : (dats m 0 c).arrAt 6 cfg0.N = Cert.Reference7Ideal.Read.val_main_v54 (F := Ideal) (a0 m c) (a1 m c) (a2 m c) (a3 m c) (a4 m c) :=
  (dats m 0 c).arrAt_eq_of_cover 6 _ (flushed_6 m c) fun i => by
    have h0 : (i 0 : Nat) < 1 := (i 0).isLt
    have h1 : (i 1 : Nat) < 1024 := (i 1).isLt
    have hN : cfg0.N = 4 := N_0
    let t : Fin cfg0.N := ⟨3, by omega⟩
    have hi := idx6 t
    refine ⟨t, (flush0_6 t).mpr rfl, ?_⟩
    show i ∈ ((View.whole main_v2_1).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [hi.1]; omega
    | ⟨1, _⟩ =>
      show win0_6.index t 1 * 1024 ≤ (i 1 : Nat) ∧ (i 1 : Nat) < win0_6.index t 1 * 1024 + 1024
      rw [hi.2]; omega

theorem idx7 (t : Fin cfg0.N) : win0_7.index t 0 = t.val % 4 ∧ win0_7.index t 1 = 0 :=
  (by decide +kernel : ∀ t : Fin cfg0.N, win0_7.index t 0 = t.val % 4 ∧ win0_7.index t 1 = 0) t

theorem flushed_7 (t : Fin cfg0.N) (hf : (cfg0.win 7).flush t = true) :
    (dats m 0 c).flushed 7 t = ((cfg0.win 7).blk t).view.read (Elt Ideal) (Cert.Reference7Ideal.Read.val_main_v33 (F := Ideal) (a0 m c) (a1 m c) (a2 m c) (a3 m c) (a4 m c)) := by
  rw [Cert.Kernel7Ideal.Value.flushed7 m c t]
  have hi := idx7 t
  funext j
  rw [View.read_apply]
  obtain ⟨p, q, rfl⟩ : ∃ (p : Fin 512) (q : Fin 1024), j = ix2 p q := ⟨j 0, j 1, eq_ix2 j⟩
  have h2 : ∀ (X : Vec Ideal S512x1024 .f32), (cfg0.win 7).cut (grid0.coords t) X (ix2 p q) = X (ix2 p q) := fun _ => rfl
  refine (h2 _).trans ?_
  have he : (((cfg0.win 7).blk t).view.emb (ix2 p q) : S2048x1024.Idx) = ix2 (row t.val p) q := by
    funext a
    apply Fin.ext
    match a with
    | ⟨0, _⟩ => show win0_7.index t 0 * 512 + 1 * p.val = (row t.val p).val; rw [hi.1, row_eq]; omega
    | ⟨1, _⟩ => show win0_7.index t 1 * 1024 + 1 * q.val = _; rw [hi.2]; simp
  rw [he]
  exact dh_at m c t p q

theorem final_7 : (dats m 0 c).arrAt 7 cfg0.N = Cert.Reference7Ideal.Read.val_main_v33 (F := Ideal) (a0 m c) (a1 m c) (a2 m c) (a3 m c) (a4 m c) :=
  (dats m 0 c).arrAt_eq_of_cover 7 _ (flushed_7 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx7 t
    refine ⟨t, flush0_7 t, ?_⟩
    show i ∈ ((View.whole main_v2_2).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [hi.1]; omega
    | ⟨1, _⟩ =>
      show win0_7.index t 1 * 1024 ≤ (i 1 : Nat) ∧ (i 1 : Nat) < win0_7.index t 1 * 1024 + 1024
      rw [hi.2]; omega

theorem idx8 (t : Fin cfg0.N) : win0_8.index t 0 = t.val % 4 ∧ win0_8.index t 1 = 0 :=
  (by decide +kernel : ∀ t : Fin cfg0.N, win0_8.index t 0 = t.val % 4 ∧ win0_8.index t 1 = 0) t

theorem flushed_8 (t : Fin cfg0.N) (hf : (cfg0.win 8).flush t = true) :
    (dats m 0 c).flushed 8 t = ((cfg0.win 8).blk t).view.read (Elt Ideal) (Cert.Reference7Ideal.Read.val_main_v56 (F := Ideal) (a0 m c) (a1 m c) (a2 m c) (a3 m c) (a4 m c)) := by
  rw [Cert.Kernel7Ideal.Value.flushed8 m c t]
  have hi := idx8 t
  funext j
  rw [View.read_apply]
  obtain ⟨p, q, rfl⟩ : ∃ (p : Fin 512) (q : Fin 1024), j = ix2 p q := ⟨j 0, j 1, eq_ix2 j⟩
  have h2 : ∀ (X : Vec Ideal S512x1024 .bf16), (cfg0.win 8).cut (grid0.coords t) X (ix2 p q) = X (ix2 p q) := fun _ => rfl
  refine (h2 _).trans ?_
  have he : (((cfg0.win 8).blk t).view.emb (ix2 p q) : S2048x1024.Idx) = ix2 (row t.val p) q := by
    funext a
    apply Fin.ext
    match a with
    | ⟨0, _⟩ => show win0_8.index t 0 * 512 + 1 * p.val = (row t.val p).val; rw [hi.1, row_eq]; omega
    | ⟨1, _⟩ => show win0_8.index t 1 * 1024 + 1 * q.val = _; rw [hi.2]; simp
  rw [he]
  exact dff_at m c t p q

theorem final_8 : (dats m 0 c).arrAt 8 cfg0.N = Cert.Reference7Ideal.Read.val_main_v56 (F := Ideal) (a0 m c) (a1 m c) (a2 m c) (a3 m c) (a4 m c) :=
  (dats m 0 c).arrAt_eq_of_cover 8 _ (flushed_8 m c) fun i => by
    have h0 : (i 0 : Nat) < 2048 := (i 0).isLt
    have h1 : (i 1 : Nat) < 1024 := (i 1).isLt
    have hN : cfg0.N = 4 := N_0
    let t : Fin cfg0.N := ⟨(i 0 : Nat) / 512, by omega⟩
    have ht : t.val = (i 0 : Nat) / 512 := rfl
    have hi := idx8 t
    refine ⟨t, flush0_8 t, ?_⟩
    show i ∈ ((View.whole main_v2_3).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [hi.1]; omega
    | ⟨1, _⟩ =>
      show win0_8.index t 1 * 1024 ≤ (i 1 : Nat) ∧ (i 1 : Nat) < win0_8.index t 1 * 1024 + 1024
      rw [hi.2]; omega

end Cert.Proof.Loss

end
-- ==== Proof.LossClaim.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Loss
public import Idealize.ShloMosaic.Lib.Claim

@[expose] public section

set_option maxRecDepth 16384

noncomputable section

/-! The claims about the kernel of `down_loss` and its reference. -/

namespace Cert.Proof.Loss

open Idealize.ShloMosaic Idealize.SL.Sem

attribute [local instance] Cert.Kernel7.Gen.facts Cert.Kernel7Ideal.Gen.facts Cert.Reference7Ideal.Gen.facts

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

theorem algebraic : Cert.algebraic_Kernel7Ideal_Reference7Ideal := by
  intro m g m' g' _ hag
  refine ⟨fun c => Cert.Reference7Ideal.Read.val_main_v55 (F := Ideal) (a0 m c) (a1 m c) (a2 m c) (a3 m c) (a4 m c),
    fun c => Cert.Reference7Ideal.Read.val_main_v54 (F := Ideal) (a0 m c) (a1 m c) (a2 m c) (a3 m c) (a4 m c),
    fun c => Cert.Reference7Ideal.Read.val_main_v33 (F := Ideal) (a0 m c) (a1 m c) (a2 m c) (a3 m c) (a4 m c),
    fun c => Cert.Reference7Ideal.Read.val_main_v56 (F := Ideal) (a0 m c) (a1 m c) (a2 m c) (a3 m c) (a4 m c), ?_, ?_⟩
  · exact (θ_run Cert.Kernel7Ideal.defs _ _).mono
      (fun r h c => ⟨(h c).1.trans (final_5 m c), (h c).2.1.trans (final_6 m c), (h c).2.2.1.trans (final_7 m c), (h c).2.2.2.1.trans (final_8 m c), (h c).2.2.2.2⟩)
      (Cert.Kernel7Ideal.Value.run_blocks (F := Ideal) m g)
  · refine (θ_run Cert.Reference7Ideal.defs _ _).mono (fun r h c => ?_) (Cert.Reference7Ideal.Value.run (F := Ideal) m' g')
    obtain ⟨e0, e1, e2, e3, e4⟩ := hag c
    obtain ⟨h0, h1, h2, h3, hargs⟩ := h c
    rw [Cert.Reference7Ideal.Read.val_main_v55_eq, e0, e1, e2, e3, e4] at h0
    rw [Cert.Reference7Ideal.Read.val_main_v54_eq, e0, e1, e2, e3, e4] at h1
    rw [Cert.Reference7Ideal.Read.val_main_v33_eq, e0, e1, e2, e3, e4] at h2
    rw [Cert.Reference7Ideal.Read.val_main_v56_eq, e0, e1, e2, e3, e4] at h3
    exact ⟨h0, h1, h2, h3, hargs⟩

end Cert.Proof.Loss

end
-- ==== Proof.UpOut.lean ====
module

public import proofs.«01_k».proof.Proof.Gen.Kernel12Ideal.Frame
public import Idealize.ShloMosaic.Lib.Pipeline.Value
public import Idealize.ShloMosaic.Lib.Tactic

@[expose] public section

set_option maxRecDepth 16384

noncomputable section

/-! What one point of the kernel of `up_conv` leaves, as its payloads of the point's blocks and of the rows carried from the
point before it. -/

namespace Cert.Proof.UpConv

open Idealize.ShloMosaic Cert.Kernel12Ideal Cert.Kernel12Ideal.Gen

theorem hz : (![0, 0] : Fin 2 → Nat) = fun _ => 0 := funext fun a => by fin_cases a <;> rfl

variable {F : FTy → Type} [FloatOps F]

/-- The rows that the gate's half carries, -/
def rows0 (xs : Vec F S16x1408 .f32) : Vec F S8x1408 .f32 := View.ld xs (Rect.unit (s := S16x1408) ![0, 0] ![8, 1408] inb_S16x1408_S8x1408_0_0)

/-- and the value's. -/
def rows8 (xs : Vec F S16x1408 .f32) : Vec F S8x1408 .f32 := View.ld xs (Rect.unit (s := S16x1408) ![8, 0] ![8, 1408] inb_S16x1408_S8x1408_8_0)

/-- The convolution of the gate's half: its tile, the carried rows, the taps and the bias; -/
def hG (X : FVec F S512x1408 .f32) (a : Vec F S8x1408 .f32) (w : Vec F S3x1408 .f32) (b : Vec F S1x1408 .f32) : FVec F S512x1408 .f32 :=
  k0_pay14 X (k0_pay12 X a w b (k0_pay9 a) k0_pay10 k0_pay11) (k0_pay13 w)

/-- of the value's half. -/
def hV (X : FVec F S512x1408 .f32) (a : Vec F S8x1408 .f32) (w : Vec F S3x1408 .f32) (b : Vec F S1x1408 .f32) : FVec F S512x1408 .f32 :=
  k0_pay1 X w (k0_pay15 X a) (k0_pay16 X a w b)

theorem halves_disjoint : Disjoint (Rect.unit (s := S16x1408) ![0, 0] ![8, 1408] inb_S16x1408_S8x1408_0_0).set (Rect.unit (s := S16x1408) ![8, 0] ![8, 1408] inb_S16x1408_S8x1408_8_0).set := Rect.unit_disjoint 0 (.inl (by decide))

theorem ld_first (S : Shape) (r : Rect S) (p : r.shape.Idx → Elt F .f32) (L : List (View.Piece (Elt F) S .f32)) :
    View.ld (View.canon (⟨r, p⟩ :: L)) r = p :=
  funext fun j => View.canon_cons_emb r p L j

theorem ld_other (S : Shape) (r r' : Rect S) (p : r.shape.Idx → Elt F .f32) (L : List (View.Piece (Elt F) S .f32)) (h : Disjoint r.set r'.set) :
    View.ld (View.canon (⟨r, p⟩ :: L)) r' = View.ld (View.canon L) r' :=
  funext fun j => View.canon_cons_of_not_mem (⟨r, p⟩ : View.Piece (Elt F) S .f32) L (Finset.disjoint_right.mp h (r'.toLoadRect.idx_mem j))

theorem rows8_canon (p : (Rect.unit (s := S16x1408) ![8, 0] ![8, 1408] inb_S16x1408_S8x1408_8_0).shape.Idx → Elt F .f32) (L : List (View.Piece (Elt F) S16x1408 .f32)) :
    rows8 (View.canon (⟨(Rect.unit (s := S16x1408) ![8, 0] ![8, 1408] inb_S16x1408_S8x1408_8_0), p⟩ :: L)) = p := by
  unfold rows8
  exact ld_first _ _ p L

theorem rows0_canon (p : (Rect.unit (s := S16x1408) ![8, 0] ![8, 1408] inb_S16x1408_S8x1408_8_0).shape.Idx → Elt F .f32) (q : (Rect.unit (s := S16x1408) ![0, 0] ![8, 1408] inb_S16x1408_S8x1408_0_0).shape.Idx → Elt F .f32) (L : List (View.Piece (Elt F) S16x1408 .f32)) :
    rows0 (View.canon (⟨(Rect.unit (s := S16x1408) ![8, 0] ![8, 1408] inb_S16x1408_S8x1408_8_0), p⟩ :: ⟨(Rect.unit (s := S16x1408) ![0, 0] ![8, 1408] inb_S16x1408_S8x1408_0_0), q⟩ :: L)) = q := by
  unfold rows0
  exact (ld_other _ _ _ p _ halves_disjoint.symm).trans (ld_first _ _ q L)

/-- At a first point both halves read what was just stored in the whole scratch. -/
theorem load0 (v : View sig .tc .vmem S16x1408 .f32) (z : Vec F S16x1408 .f32) :
    v.readCov [⟨(Rect.unit (s := S16x1408) ![0, 0] ![16, 1408] inb_S16x1408_S16x1408_0_0), z⟩] (Rect.unit (s := S16x1408) ![0, 0] ![8, 1408] inb_S16x1408_S8x1408_0_0).toLoadRect = rows0 z := by
  rw [View.readCov_eq_canon']
  unfold rows0
  exact congrArg (fun X => View.ld X (Rect.unit (s := S16x1408) ![0, 0] ![8, 1408] inb_S16x1408_S8x1408_0_0)) (View.canon_unit_zero (S := S16x1408) hz inb_S16x1408_S16x1408_0_0 z)

theorem load8 (v : View sig .tc .vmem S16x1408 .f32) (z : Vec F S16x1408 .f32) :
    v.readCov [⟨(Rect.unit (s := S16x1408) ![0, 0] ![16, 1408] inb_S16x1408_S16x1408_0_0), z⟩] (Rect.unit (s := S16x1408) ![8, 0] ![8, 1408] inb_S16x1408_S8x1408_8_0).toLoadRect = rows8 z := by
  rw [View.readCov_eq_canon']
  unfold rows8
  exact congrArg (fun X => View.ld X (Rect.unit (s := S16x1408) ![8, 0] ![8, 1408] inb_S16x1408_S8x1408_8_0)) (View.canon_unit_zero (S := S16x1408) hz inb_S16x1408_S16x1408_0_0 z)

theorem outA_7 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) :
    out0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay7 x0 x1 := by
  unfold out0_A_7
  rw [View.read_writes_junk_eq_canon]
  unfold kernelRun0_A
  dsimp only
  sl_unfold_words
  rw [View.canon_unit_zero hz]
  simp only [View.readAt_eq_ld, load0, load8, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]

theorem outA_8 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay8 x0 x2 := by
  unfold out0_A_8
  rw [View.read_writes_junk_eq_canon]
  unfold kernelRun0_A
  dsimp only
  sl_unfold_words
  rw [View.canon_unit_zero hz]
  simp only [View.readAt_eq_ld, load0, load8, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]

theorem outA_9 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay2 (k0_pay8 x0 x2) (hG (k0_pay7 x0 x1) (rows0 k0_pay5) x3 x5) x4 (k0_pay15 (k0_pay8 x0 x2) (rows8 k0_pay5)) (k0_pay16 (k0_pay8 x0 x2) (rows8 k0_pay5) x4 x6) := by
  unfold out0_A_9
  rw [View.read_writes_junk_eq_canon]
  unfold kernelRun0_A
  dsimp only
  sl_unfold_words
  rw [View.canon_unit_zero hz]
  simp only [View.readAt_eq_ld, load0, load8, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]
  rfl

theorem outA_10 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = hG (k0_pay7 x0 x1) (rows0 k0_pay5) x3 x5 := by
  unfold out0_A_10
  rw [View.read_writes_junk_eq_canon]
  unfold kernelRun0_A
  dsimp only
  sl_unfold_words
  rw [View.canon_unit_zero hz]
  simp only [View.readAt_eq_ld, load0, load8, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]
  rfl

theorem outA_11 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = hV (k0_pay8 x0 x2) (rows8 k0_pay5) x4 x6 := by
  unfold out0_A_11
  rw [View.read_writes_junk_eq_canon]
  unfold kernelRun0_A
  dsimp only
  sl_unfold_words
  rw [View.canon_unit_zero hz]
  simp only [View.readAt_eq_ld, load0, load8, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]
  rfl

theorem soutA_rows0 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) :
    rows0 (sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) = k0_pay3 (k0_pay7 x0 x1) := by
  unfold sout0_A_0
  rw [View.read_writes_junk_eq_canon]
  unfold kernelRun0_A
  dsimp only
  sl_unfold_words
  refine (rows0_canon _ _ _).trans ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]

theorem soutA_rows8 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) :
    rows8 (sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) = k0_pay4 (k0_pay8 x0 x2) := by
  unfold sout0_A_0
  rw [View.read_writes_junk_eq_canon]
  unfold kernelRun0_A
  dsimp only
  sl_unfold_words
  refine (rows8_canon _ _).trans ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]

theorem outB_7 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) (xs0 : Vec F S16x1408 .f32) :
    out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = k0_pay7 x0 x1 := by
  unfold out0_B_7
  rw [View.read_writes_junk_eq_canon]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]

theorem outB_8 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) (xs0 : Vec F S16x1408 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = k0_pay8 x0 x2 := by
  unfold out0_B_8
  rw [View.read_writes_junk_eq_canon]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]

theorem outB_9 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) (xs0 : Vec F S16x1408 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = k0_pay2 (k0_pay8 x0 x2) (hG (k0_pay7 x0 x1) (rows0 xs0) x3 x5) x4 (k0_pay15 (k0_pay8 x0 x2) (rows8 xs0)) (k0_pay16 (k0_pay8 x0 x2) (rows8 xs0) x4 x6) := by
  unfold out0_B_9
  rw [View.read_writes_junk_eq_canon]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]
  rfl

theorem outB_10 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) (xs0 : Vec F S16x1408 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = hG (k0_pay7 x0 x1) (rows0 xs0) x3 x5 := by
  unfold out0_B_10
  rw [View.read_writes_junk_eq_canon]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]
  rfl

theorem outB_11 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) (xs0 : Vec F S16x1408 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = hV (k0_pay8 x0 x2) (rows8 xs0) x4 x6 := by
  unfold out0_B_11
  rw [View.read_writes_junk_eq_canon]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]
  rfl

theorem soutB_rows0 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) (xs0 : Vec F S16x1408 .f32) :
    rows0 (sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0) = k0_pay3 (k0_pay7 x0 x1) := by
  unfold sout0_B_0
  rw [View.read_writes_junk_eq_canon]
  unfold kernelRun0_B
  dsimp only
  sl_unfold_words
  refine (rows0_canon _ _ _).trans ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]

theorem soutB_rows8 (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S3x1408 .f32) (harg5 : arg5.IsWhole) (arg6 : Memref sig .tc .vmem S3x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S512x1408 .f32) (harg9 : arg9.IsWhole) (arg10 : Memref sig .tc .vmem S512x1408 .f32) (harg10 : arg10.IsWhole) (arg11 : Memref sig .tc .vmem S512x1408 .bf16) (harg11 : arg11.IsWhole) (arg12 : Memref sig .tc .vmem S512x1408 .f32) (harg12 : arg12.IsWhole) (arg13 : Memref sig .tc .vmem S512x1408 .f32) (harg13 : arg13.IsWhole) (arg14 : Memref sig .tc .vmem S16x1408 .f32) (harg14 : arg14.IsWhole) (hc0)
    (x0 : Vec F S512x1024 .bf16) (x1 : Vec F S1408x1024 .bf16) (x2 : Vec F S1408x1024 .bf16) (x3 : Vec F S3x1408 .f32) (x4 : Vec F S3x1408 .f32) (x5 : Vec F S1x1408 .f32) (x6 : Vec F S1x1408 .f32) (xs0 : Vec F S16x1408 .f32) :
    rows8 (sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xs0) = k0_pay4 (k0_pay8 x0 x2) := by
  unfold sout0_B_0
  rw [View.read_writes_junk_eq_canon]
  unfold kernelRun0_B
  dsimp only
  sl_unfold_words
  refine (rows8_canon _ _).trans ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz, View.ld_unit_zero (S := S1408x1024) hz, View.ld_unit_zero (S := S512x1408) hz, View.ld_unit_zero (S := S3x1408) hz, View.ld_unit_zero (S := S1x1408) hz]

end Cert.Proof.UpConv

end
-- ==== Proof.UpPay.lean ====
module

public import proofs.«01_k».proof.Proof.Pay
public import proofs.«01_k».proof.Proof.UpOut
public import proofs.«01_k».proof.Proof.Gen.Reference12Ideal.Read

@[expose] public section

set_option maxRecDepth 16384

noncomputable section

/-! The payloads of the kernel of `up_conv` and its reference's results, at an index. -/

namespace Cert.Proof.UpConv

open Idealize.ShloMosaic

section kernel
open Cert.Kernel12Ideal Cert.Kernel12Ideal.Gen

theorem pay7_at (x0 : Vec Ideal S512x1024 .bf16) (x1 : Vec Ideal S1408x1024 .bf16) (r : Fin 512) (n : Fin 1408) :
    k0_pay7 (F := Ideal) x0 x1 (ix2 r n) = ∑ k : Fin 1024, x0 (ix2 r k) * x1 (ix2 n k) := by
  pointwise [k0_pay7, k0_pay6]

theorem pay8_at (x0 : Vec Ideal S512x1024 .bf16) (x1 : Vec Ideal S1408x1024 .bf16) (r : Fin 512) (n : Fin 1408) :
    k0_pay8 (F := Ideal) x0 x1 (ix2 r n) = ∑ k : Fin 1024, x0 (ix2 r k) * x1 (ix2 n k) := by
  pointwise [k0_pay8, k0_pay6]

variable (X : FVec Ideal S512x1408 .f32)

theorem pay3_at (q : Fin 8) (n : Fin 1408) : k0_pay3 (F := Ideal) X (ix2 q n) = X (ix2 ⟨504 + q.val, by omega⟩ n) := by
  pointwise [k0_pay3]

theorem pay4_at (q : Fin 8) (n : Fin 1408) : k0_pay4 (F := Ideal) X (ix2 q n) = X (ix2 ⟨504 + q.val, by omega⟩ n) := by
  pointwise [k0_pay4]

theorem zero0 (q : Fin 8) (n : Fin 1408) : rows0 (F := Ideal) (k0_pay5 (F := Ideal)) (ix2 q n) = 0 := by
  unfold rows0; pointwise [k0_pay5]

theorem zero8 (q : Fin 8) (n : Fin 1408) : rows8 (F := Ideal) (k0_pay5 (F := Ideal)) (ix2 q n) = 0 := by
  unfold rows8; pointwise [k0_pay5]

/-- The rows `f` starts two rows before the tile: those two are the last that were carried. -/
def Car (a : Vec Ideal S8x1408 .f32) (f : ℕ → Fin 1408 → EReal) : Prop := ∀ n, a (ix2 6 n) = f 0 n ∧ a (ix2 7 n) = f 1 n

variable (a : Vec Ideal S8x1408 .f32) (w : Vec Ideal S3x1408 .f32) (b : Vec Ideal S1x1408 .f32) (f : ℕ → Fin 1408 → EReal)
  (hX : ∀ (r : Fin 512) n, X (ix2 r n) = f (r.val + 2) n) (ha : Car a f)

include hX ha in
/-- One row down. -/
theorem pay15_at (r : Fin 512) (n : Fin 1408) : k0_pay15 (F := Ideal) X a (ix2 r n) = f (r.val + 1) n := by
  pointwise [k0_pay15]
  rw [Conv.select_eq_nat _ 0 (by omega) (by norm_num), Conv.sum_pick (n := 8) (by norm_num) 7 7 rfl (fun k => a (ix2 k n))]
  have hr := r.isLt
  split_ifs with h
  · rw [(ha n).2, h]
  · rw [hX]
    congr 1
    show (r.val + 512 - 1) % 512 + 2 = _
    omega

include hX ha in
/-- The convolution reads the row, the one before it and the one before that. -/
theorem hV_at (r : Fin 512) (n : Fin 1408) :
    hV (F := Ideal) X a w b (ix2 r n) = b (ix2 0 n) + w (ix2 0 n) * f r.val n + w (ix2 1 n) * f (r.val + 1) n + w (ix2 2 n) * f (r.val + 2) n := by
  have h1 := pay15_at X a f hX ha
  have h16 : k0_pay16 (F := Ideal) X a w b (ix2 r n) = b (ix2 0 n) + w (ix2 0 n) * f r.val n := by
    unfold k0_pay16
    revert h1
    generalize k0_pay15 (F := Ideal) X a = s
    intro h1
    pointwise
    rw [Conv.select_eq_nat _ 0 (by omega) (by norm_num), Conv.sum_pick (n := 8) (by norm_num) 6 6 rfl (fun k => a (ix2 k n)),
      Conv.sum_pick (n := 3) (by norm_num) 0 0 rfl (fun k => w (ix2 k n))]
    have hr := r.isLt
    congr 2
    split_ifs with h
    · rw [(ha n).1, h]
    · rw [h1]
      congr 1
      show (r.val + 512 - 1) % 512 + 1 = _
      omega
  unfold hV
  revert h1 h16
  generalize k0_pay15 (F := Ideal) X a = s
  generalize k0_pay16 (F := Ideal) X a w b = p
  intro h1 h16
  pointwise [k0_pay1]
  rw [h1, h16, hX, Conv.sum_pick (n := 3) (by norm_num) 1 1 rfl (fun k => w (ix2 k n)),
    Conv.sum_pick (n := 3) (by norm_num) 2 2 rfl (fun k => w (ix2 k n))]

/-- The gate's half is computed by the value half's operations. -/
theorem hG_eq : hG (F := Ideal) X a w b = hV X a w b := rfl

theorem pay2_at (g : FVec Ideal S512x1408 .f32) (r : Fin 512) (n : Fin 1408) :
    k0_pay2 (F := Ideal) X g w (k0_pay15 X a) (k0_pay16 X a w b) (ix2 r n)
      = g (ix2 r n) * Ideal.logistic (g (ix2 r n)) * hV (F := Ideal) X a w b (ix2 r n) := by
  unfold k0_pay2 hV
  generalize k0_pay1 (F := Ideal) X w (k0_pay15 X a) (k0_pay16 X a w b) = v
  pointwise
end kernel

section reference
open Cert.Reference12Ideal Cert.Reference12Ideal.Gen Cert.Reference12Ideal.Read

variable (x0 : Vec Ideal S2048x1024 .f32) (x1 : Vec Ideal S1024x5632 .f32) (x2 : Vec Ideal S3x5632 .f32) (x3 : Vec Ideal S1x5632 .f32)

/-- The gate's column, -/
abbrev lo (n : Fin 2816) : Fin 5632 := ⟨n.val, by omega⟩
/-- and the value's. -/
abbrev hi (n : Fin 2816) : Fin 5632 := ⟨2816 + n.val, by omega⟩

theorem ref0_at (r : Fin 2048) (n : Fin 5632) : val_main_v0 (F := Ideal) x0 x1 (ix2 r n) = ∑ k : Fin 1024, x0 (ix2 r k) * x1 (ix2 k n) := by
  pointwise [val_main_v0]

/-- Two rows of zeros, then the rows of `y`. -/
def hp (y : Vec Ideal S2048x5632 .f32) (s : ℕ) (n : Fin 5632) : EReal :=
  if h : 2 ≤ s ∧ s < 2050 then y (ix2 ⟨s - 2, by omega⟩ n) else 0

theorem ref4_at (s : Fin 2050) (n : Fin 5632) : val_main_v4 (F := Ideal) x0 x1 (ix3 0 s n) = hp (val_main_v0 (F := Ideal) x0 x1) s.val n := by
  unfold val_main_v4 val_main_v1 hp
  generalize val_main_v0 (F := Ideal) x0 x1 = y
  by_cases h : 2 ≤ s.val
  · rw [dif_pos ⟨h, s.isLt⟩]
    refine (concatenate_pair_apply_right (s₁ := S1x2x5632) (s₂ := S1x2048x5632) 1 _ _ _ (ix3 0 s n) rfl rfl (ix3 0 ⟨s.val - 2, by omega⟩ n)
      (fun b hb => by
        match b with
        | ⟨0, _⟩ => rfl
        | ⟨1, _⟩ => exact absurd rfl hb
        | ⟨2, _⟩ => rfl)
      (by show s.val - 2 + 2 = s.val; omega)).trans ?_
    pointwise
  · rw [dif_neg (by omega)]
    refine (concatenate_pair_apply_left (s₁ := S1x2x5632) (s₂ := S1x2048x5632) 1 _ _ _ (ix3 0 s n) rfl (ix3 0 ⟨s.val, by omega⟩ n)
      (fun b => by
        match b with
        | ⟨0, _⟩ => rfl
        | ⟨1, _⟩ => rfl
        | ⟨2, _⟩ => rfl)).trans ?_
    pointwise [val_main_v3, val_main_cst]

theorem ref28_at (r : Fin 2048) (n : Fin 5632) :
    val_main_v28 (F := Ideal) x0 x1 x2 x3 (ix2 r n)
      = x3 (ix2 0 n) + x2 (ix2 0 n) * hp (val_main_v0 (F := Ideal) x0 x1) r.val n + x2 (ix2 1 n) * hp (val_main_v0 (F := Ideal) x0 x1) (r.val + 1) n
        + x2 (ix2 2 n) * hp (val_main_v0 (F := Ideal) x0 x1) (r.val + 2) n := by
  have e := ref4_at x0 x1
  revert e
  unfold val_main_v28 val_main_v27 val_main_v26 val_main_v23 val_main_v20 val_main_v19 val_main_v16 val_main_v13 val_main_v10 val_main_v7
  generalize val_main_v4 (F := Ideal) x0 x1 = z
  generalize val_main_v0 (F := Ideal) x0 x1 = y
  intro e
  pointwise [val_main_v25, val_main_v24, val_main_v22, val_main_v21, val_main_v18, val_main_v17, val_main_v15, val_main_v14, val_main_v12, val_main_v11, val_main_v9, val_main_v8, val_main_v6, val_main_v5, val_main_v2]
  rw [e, e, e]
  simp only [Nat.add_comm 1, Nat.add_comm 2]

theorem ref33_at (r : Fin 2048) (n : Fin 2816) : val_main_v33 (F := Ideal) x0 x1 (ix2 r n) = val_main_v0 (F := Ideal) x0 x1 (ix2 r (lo n)) := by
  pointwise [val_main_v33]

theorem ref34_at (r : Fin 2048) (n : Fin 2816) : val_main_v34 (F := Ideal) x0 x1 (ix2 r n) = val_main_v0 (F := Ideal) x0 x1 (ix2 r (hi n)) := by
  pointwise [val_main_v34]

theorem ref36_at (r : Fin 2048) (n : Fin 2816) : val_main_v36 (F := Ideal) x0 x1 x2 x3 (ix2 r n) = val_main_v28 (F := Ideal) x0 x1 x2 x3 (ix2 r (lo n)) := by
  pointwise [val_main_v36]

theorem ref37_at (r : Fin 2048) (n : Fin 2816) : val_main_v37 (F := Ideal) x0 x1 x2 x3 (ix2 r n) = val_main_v28 (F := Ideal) x0 x1 x2 x3 (ix2 r (hi n)) := by
  pointwise [val_main_v37]

theorem ref35_at (r : Fin 2048) (n : Fin 2816) :
    val_main_v35 (F := Ideal) x0 x1 x2 x3 (ix2 r n)
      = val_main_v28 (F := Ideal) x0 x1 x2 x3 (ix2 r (lo n)) * Ideal.logistic (val_main_v28 (F := Ideal) x0 x1 x2 x3 (ix2 r (lo n)))
        * val_main_v28 (F := Ideal) x0 x1 x2 x3 (ix2 r (hi n)) := by
  unfold val_main_v35 val_main_v32 val_main_v31 val_main_v30 val_main_call0_v5 val_main_call0_v3 val_main_call0_v1 val_main_call0_v0 val_main_v29
  generalize val_main_v28 (F := Ideal) x0 x1 x2 x3 = y
  pointwise [val_main_call0_v4, val_main_call0_v2, val_main_call0_cst, val_main_call0_cst_0]
  rfl
end reference

end Cert.Proof.UpConv

end
-- ==== Proof.UpConv.lean ====
module

public import proofs.«01_k».proof.Proof.Rows
public import proofs.«01_k».proof.Proof.UpPay
public import proofs.«01_k».proof.Proof.Gen.Kernel12Ideal.Value

@[expose] public section

set_option maxRecDepth 16384

noncomputable section

/-! The result arrays of the kernel of `up_conv` are its reference's. Point `t` takes rows `512 (t % 4)` to `512 (t % 4) + 511`
and the columns of half `t / 4` of the gate and of the value; it carries the last rows of the tile above. -/

namespace Cert.Proof.UpConv

open Idealize.ShloMosaic Idealize.ShloMosaic.TcCoe Cert.Kernel12Ideal Cert.Kernel12Ideal.Gen Cert.Proof.Rows

variable (m : (ℓ : Loc nD τ sig) → Buf (Elt Ideal) ℓ) (c : Dev nD)

/-- The arguments on a device, as arrays. -/
abbrev a0 : Vec Ideal S2048x1024 .f32 := m ((c : Thread nD τ).loc main_arg0)
abbrev a1 : Vec Ideal S1024x5632 .f32 := m ((c : Thread nD τ).loc main_arg1)
abbrev a2 : Vec Ideal S3x5632 .f32 := m ((c : Thread nD τ).loc main_arg2)
abbrev a3 : Vec Ideal S1x5632 .f32 := m ((c : Thread nD τ).loc main_arg3)

theorem V0 : (V m c main_v0 : Vec Ideal S2048x1024 .bf16) = (truncf .bf16 (a0 m c) bitsLt_bf16_f32 : FVec Ideal S2048x1024 .bf16) := by
  unfold V; after_results

theorem V2 (k : Fin 5632) (n : Fin 1024) : (V m c main_v2 : Vec Ideal S5632x1024 .bf16) (ix2 k n) = a1 m c (ix2 n k) := by
  have e : V m c main_v2 = (truncf .bf16 (transpose S5632x1024 [1, 0] (a1 m c) transposes_S1024x5632_S5632x1024_1_0) bitsLt_bf16_f32 : FVec Ideal S5632x1024 .bf16) := by
    unfold V; after_results
  rw [e]; generalize a1 m c = x; pointwise

theorem lt8 (t : Fin cfg0.N) : t.val < 8 := lt_of_lt_of_eq t.isLt N_0

/-- Row `r` of row tile `k`, -/
def gr (k : Nat) (r : Fin 512) : Fin 2048 := Rows.row 4 512 (by omega) k r
theorem gr_eq (k : Nat) (r : Fin 512) : (gr k r).val = r.val + 512 * (k % 4) := rfl

/-- column `r` of column tile `k` of a half, -/
def gc (k : Nat) (r : Fin 1408) : Fin 2816 := Rows.row 2 1408 (by omega) k r
theorem gc_eq (k : Nat) (r : Fin 1408) : (gc k r).val = r.val + 1408 * (k % 2) := rfl

/-- and of both halves. -/
def wc (k : Nat) (r : Fin 1408) : Fin 5632 := Rows.row 4 1408 (by omega) k r
theorem wc_eq (k : Nat) (r : Fin 1408) : (wc k r).val = r.val + 1408 * (k % 4) := rfl

theorem wc_lo (t : Fin cfg0.N) (n : Fin 1408) : wc (t.val / 4) n = lo (gc (t.val / 4) n) :=
  Fin.ext (by have := lt8 t; show _ = (gc (t.val / 4) n).val; rw [wc_eq, gc_eq]; omega)

theorem wc_hi (t : Fin cfg0.N) (n : Fin 1408) : wc (t.val / 4 + 2) n = hi (gc (t.val / 4) n) :=
  Fin.ext (by have := lt8 t; show _ = 2816 + (gc (t.val / 4) n).val; rw [wc_eq, gc_eq]; omega)

theorem iblk0 (t : Fin cfg0.N) (r : Fin 512) (k : Fin 1024) :
    (iblk m c 0 t : Vec Ideal S512x1024 .bf16) (ix2 r k) = (V m c main_v0 : Vec Ideal S2048x1024 .bf16) (ix2 (gr (t.val) r) k) := by
  have hi := (by decide +kernel : ∀ t : Fin cfg0.N, win0_0.index t 0 = (t.val) % 4 ∧ win0_0.index t 1 = 0) t
  unfold iblk
  rw [View.read_apply]
  show V m c main_v0 _ = V m c main_v0 _
  congr 1
  funext a
  apply Fin.ext
  match a with
  | ⟨0, _⟩ => show win0_0.index t 0 * 512 + 1 * r.val = (gr (t.val) r).val; rw [hi.1, gr_eq]; omega
  | ⟨1, _⟩ => show win0_0.index t 1 * 1024 + 1 * k.val = _; rw [hi.2]; simp

theorem iblk1 (t : Fin cfg0.N) (r : Fin 1408) (k : Fin 1024) :
    (iblk m c 1 t : Vec Ideal S1408x1024 .bf16) (ix2 r k) = (V m c main_v2 : Vec Ideal S5632x1024 .bf16) (ix2 (wc (t.val / 4) r) k) := by
  have hi := (by decide +kernel : ∀ t : Fin cfg0.N, win0_1.index t 0 = (t.val / 4) % 4 ∧ win0_1.index t 1 = 0) t
  unfold iblk
  rw [View.read_apply]
  show V m c main_v2 _ = V m c main_v2 _
  congr 1
  funext a
  apply Fin.ext
  match a with
  | ⟨0, _⟩ => show win0_1.index t 0 * 1408 + 1 * r.val = (wc (t.val / 4) r).val; rw [hi.1, wc_eq]; omega
  | ⟨1, _⟩ => show win0_1.index t 1 * 1024 + 1 * k.val = _; rw [hi.2]; simp

theorem iblk2 (t : Fin cfg0.N) (r : Fin 1408) (k : Fin 1024) :
    (iblk m c 2 t : Vec Ideal S1408x1024 .bf16) (ix2 r k) = (V m c main_v2 : Vec Ideal S5632x1024 .bf16) (ix2 (wc (t.val / 4 + 2) r) k) := by
  have hi := (by decide +kernel : ∀ t : Fin cfg0.N, win0_2.index t 0 = (t.val / 4 + 2) % 4 ∧ win0_2.index t 1 = 0) t
  unfold iblk
  rw [View.read_apply]
  show V m c main_v2 _ = V m c main_v2 _
  congr 1
  funext a
  apply Fin.ext
  match a with
  | ⟨0, _⟩ => show win0_2.index t 0 * 1408 + 1 * r.val = (wc (t.val / 4 + 2) r).val; rw [hi.1, wc_eq]; omega
  | ⟨1, _⟩ => show win0_2.index t 1 * 1024 + 1 * k.val = _; rw [hi.2]; simp

theorem iblk3 (t : Fin cfg0.N) (r : Fin 3) (k : Fin 1408) :
    (iblk m c 3 t : Vec Ideal S3x1408 .f32) (ix2 r k) = a2 m c (ix2 r (wc (t.val / 4) k)) := by
  have hi := (by decide +kernel : ∀ t : Fin cfg0.N, win0_3.index t 0 = 0 ∧ win0_3.index t 1 = (t.val / 4) % 4) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_3.index t 0 * 3 + 1 * r.val = _; rw [hi.1]; simp
  | ⟨1, _⟩ => show win0_3.index t 1 * 1408 + 1 * k.val = (wc (t.val / 4) k).val; rw [hi.2, wc_eq]; omega

theorem iblk4 (t : Fin cfg0.N) (r : Fin 3) (k : Fin 1408) :
    (iblk m c 4 t : Vec Ideal S3x1408 .f32) (ix2 r k) = a2 m c (ix2 r (wc (t.val / 4 + 2) k)) := by
  have hi := (by decide +kernel : ∀ t : Fin cfg0.N, win0_4.index t 0 = 0 ∧ win0_4.index t 1 = (t.val / 4 + 2) % 4) t
  rw [show a2 m c = V m c main_arg2 from (V_main_arg2 m c).symm]
  unfold iblk
  rw [View.read_apply]
  show V m c main_arg2 _ = V m c main_arg2 _
  congr 1
  funext a
  apply Fin.ext
  match a with
  | ⟨0, _⟩ => show win0_4.index t 0 * 3 + 1 * r.val = _; rw [hi.1]; simp
  | ⟨1, _⟩ => show win0_4.index t 1 * 1408 + 1 * k.val = (wc (t.val / 4 + 2) k).val; rw [hi.2, wc_eq]; omega

theorem iblk5 (t : Fin cfg0.N) (k : Fin 1408) :
    (iblk m c 5 t : Vec Ideal S1x1408 .f32) (ix2 0 k) = a3 m c (ix2 0 (wc (t.val / 4) k)) := by
  have hi := (by decide +kernel : ∀ t : Fin cfg0.N, win0_5.index t 0 = 0 ∧ win0_5.index t 1 = (t.val / 4) % 4) t
  rw [show a3 m c = V m c main_arg3 from (V_main_arg3 m c).symm]
  unfold iblk
  rw [View.read_apply]
  show V m c main_arg3 _ = V m c main_arg3 _
  congr 1
  funext a
  apply Fin.ext
  match a with
  | ⟨0, _⟩ => show win0_5.index t 0 * 1 + 1 * (0 : Fin 1).val = _; rw [hi.1]; simp
  | ⟨1, _⟩ => show win0_5.index t 1 * 1408 + 1 * k.val = (wc (t.val / 4) k).val; rw [hi.2, wc_eq]; omega

theorem iblk6 (t : Fin cfg0.N) (k : Fin 1408) :
    (iblk m c 6 t : Vec Ideal S1x1408 .f32) (ix2 0 k) = a3 m c (ix2 0 (wc (t.val / 4 + 2) k)) := by
  have hi := (by decide +kernel : ∀ t : Fin cfg0.N, win0_6.index t 0 = 0 ∧ win0_6.index t 1 = (t.val / 4 + 2) % 4) t
  rw [show a3 m c = V m c main_arg3 from (V_main_arg3 m c).symm]
  unfold iblk
  rw [View.read_apply]
  show V m c main_arg3 _ = V m c main_arg3 _
  congr 1
  funext a
  apply Fin.ext
  match a with
  | ⟨0, _⟩ => show win0_6.index t 0 * 1 + 1 * (0 : Fin 1).val = _; rw [hi.1]; simp
  | ⟨1, _⟩ => show win0_6.index t 1 * 1408 + 1 * k.val = (wc (t.val / 4 + 2) k).val; rw [hi.2, wc_eq]; omega

/-- The up projection and its convolution, as the reference has them. -/
abbrev up : Vec Ideal Cert.Reference12Ideal.S2048x5632 .f32 := Cert.Reference12Ideal.Read.val_main_v0 (F := Ideal) (a0 m c) (a1 m c)
abbrev cv : Vec Ideal Cert.Reference12Ideal.S2048x5632 .f32 := Cert.Reference12Ideal.Read.val_main_v28 (F := Ideal) (a0 m c) (a1 m c) (a2 m c) (a3 m c)

/-- A point's tiles of the projection. -/
abbrev XG (t : Fin cfg0.N) : FVec Ideal S512x1408 .f32 := k0_pay7 (F := Ideal) (iblk m c 0 t) (iblk m c 1 t)
abbrev XV (t : Fin cfg0.N) : FVec Ideal S512x1408 .f32 := k0_pay8 (F := Ideal) (iblk m c 0 t) (iblk m c 2 t)

theorem XG_at (t : Fin cfg0.N) (r : Fin 512) (n : Fin 1408) : XG m c t (ix2 r n) = up m c (ix2 (gr t.val r) (wc (t.val / 4) n)) := by
  refine (pay7_at _ _ r n).trans (Eq.trans ?_ (ref0_at _ _ _ _).symm)
  exact Finset.sum_congr rfl fun k _ => by rw [iblk0, iblk1, V0, V2]; rfl

theorem XV_at (t : Fin cfg0.N) (r : Fin 512) (n : Fin 1408) : XV m c t (ix2 r n) = up m c (ix2 (gr t.val r) (wc (t.val / 4 + 2) n)) := by
  refine (pay8_at _ _ r n).trans (Eq.trans ?_ (ref0_at _ _ _ _).symm)
  exact Finset.sum_congr rfl fun k _ => by rw [iblk0, iblk2, V0, V2]; rfl

/-- The rows from two above point `t`'s tile on, in the columns of tile `j`. -/
def fr (t : Fin cfg0.N) (j : ℕ) (s : ℕ) (n : Fin 1408) : EReal := hp (up m c) (s + 512 * (t.val % 4)) (wc j n)

theorem up_fr (t : Fin cfg0.N) (j : ℕ) (r : Fin 512) (n : Fin 1408) : up m c (ix2 (gr t.val r) (wc j n)) = fr m c t j (r.val + 2) n := by
  unfold fr hp
  rw [dif_pos (by omega)]
  congr 2
  apply Fin.ext
  show (gr t.val r).val = r.val + 2 + 512 * (t.val % 4) - 2
  rw [gr_eq]; omega

theorem fr_first (t : Fin cfg0.N) (h0 : t.val % 4 = 0) (j : ℕ) (s : ℕ) (hs : s < 2) (n : Fin 1408) : fr m c t j s n = 0 := by
  unfold fr hp
  rw [dif_neg (by omega)]

/-- The rows above a tile are the last of the tile before. -/
theorem fr_prev (t u : Fin cfg0.N) (h0 : ¬ t.val % 4 = 0) (hu : u.val = t.val - 1) (j : ℕ) (s : ℕ) (hs : s < 2) (n : Fin 1408) :
    up m c (ix2 (gr u.val ⟨510 + s, by omega⟩) (wc j n)) = fr m c t j s n := by
  rw [up_fr]
  unfold fr
  congr 1
  show 510 + s + 2 + 512 * (u.val % 4) = s + 512 * (t.val % 4)
  omega

theorem carA_0 (t : Fin cfg0.N) (h0 : t.val % 4 = 0) (j : ℕ) : Car (rows0 (F := Ideal) (k0_pay5 (F := Ideal))) (fr m c t j) :=
  fun n => ⟨(zero0 6 n).trans (fr_first m c t h0 j 0 (by omega) n).symm, (zero0 7 n).trans (fr_first m c t h0 j 1 (by omega) n).symm⟩

theorem carA_8 (t : Fin cfg0.N) (h0 : t.val % 4 = 0) (j : ℕ) : Car (rows8 (F := Ideal) (k0_pay5 (F := Ideal))) (fr m c t j) :=
  fun n => ⟨(zero8 6 n).trans (fr_first m c t h0 j 0 (by omega) n).symm, (zero8 7 n).trans (fr_first m c t h0 j 1 (by omega) n).symm⟩

/-- What the scratch holds after a point: the last rows of its two tiles. -/
theorem scr0 (t : Fin cfg0.N) : rows0 (F := Ideal) (outsAt0 m c t.val t.isLt).2.2.2.2.2 = k0_pay3 (XG m c t) := by
  by_cases h0 : t.val % 4 = 0
  · rw [outsAt0_A m c t h0, soutA_rows0]
  · rw [outsAt0_B m c t h0, soutB_rows0]

theorem scr8 (t : Fin cfg0.N) : rows8 (F := Ideal) (outsAt0 m c t.val t.isLt).2.2.2.2.2 = k0_pay4 (XV m c t) := by
  by_cases h0 : t.val % 4 = 0
  · rw [outsAt0_A m c t h0, soutA_rows8]
  · rw [outsAt0_B m c t h0, soutB_rows8]

theorem carB_0 (t : Fin cfg0.N) (h0 : ¬ t.val % 4 = 0) :
    Car (rows0 (F := Ideal) (outsAt0 m c (t.val - 1) (Nat.lt_of_le_of_lt (Nat.sub_le _ _) t.isLt)).2.2.2.2.2) (fr m c t (t.val / 4)) := by
  let u : Fin cfg0.N := ⟨t.val - 1, Nat.lt_of_le_of_lt (Nat.sub_le _ _) t.isLt⟩
  have hu : u.val = t.val - 1 := rfl
  have hj : u.val / 4 = t.val / 4 := by omega
  have e : ∀ (s : ℕ) (hs : s < 2) n, k0_pay3 (F := Ideal) (XG m c u) (ix2 ⟨6 + s, by omega⟩ n) = fr m c t (t.val / 4) s n := fun s hs n => by
    refine (pay3_at _ _ n).trans ((XG_at m c u _ n).trans ?_)
    rw [hj, ← fr_prev m c t u h0 hu (t.val / 4) s hs n]
    congr 3
    exact Fin.ext (show 504 + (6 + s) = 510 + s by omega)
  exact fun n => ⟨(congrFun (scr0 m c u) (ix2 6 n)).trans (e 0 (by omega) n), (congrFun (scr0 m c u) (ix2 7 n)).trans (e 1 (by omega) n)⟩

theorem carB_8 (t : Fin cfg0.N) (h0 : ¬ t.val % 4 = 0) :
    Car (rows8 (F := Ideal) (outsAt0 m c (t.val - 1) (Nat.lt_of_le_of_lt (Nat.sub_le _ _) t.isLt)).2.2.2.2.2) (fr m c t (t.val / 4 + 2)) := by
  let u : Fin cfg0.N := ⟨t.val - 1, Nat.lt_of_le_of_lt (Nat.sub_le _ _) t.isLt⟩
  have hu : u.val = t.val - 1 := rfl
  have hj : u.val / 4 + 2 = t.val / 4 + 2 := by omega
  have e : ∀ (s : ℕ) (hs : s < 2) n, k0_pay4 (F := Ideal) (XV m c u) (ix2 ⟨6 + s, by omega⟩ n) = fr m c t (t.val / 4 + 2) s n := fun s hs n => by
    refine (pay4_at _ _ n).trans ((XV_at m c u _ n).trans ?_)
    rw [hj, ← fr_prev m c t u h0 hu (t.val / 4 + 2) s hs n]
    congr 3
    exact Fin.ext (show 504 + (6 + s) = 510 + s by omega)
  exact fun n => ⟨(congrFun (scr8 m c u) (ix2 6 n)).trans (e 0 (by omega) n), (congrFun (scr8 m c u) (ix2 7 n)).trans (e 1 (by omega) n)⟩

theorem hG_ref (t : Fin cfg0.N) (a : Vec Ideal S8x1408 .f32) (ha : Car a (fr m c t (t.val / 4))) (r : Fin 512) (n : Fin 1408) :
    hG (F := Ideal) (XG m c t) a (iblk m c 3 t) (iblk m c 5 t) (ix2 r n) = cv m c (ix2 (gr t.val r) (wc (t.val / 4) n)) := by
  refine ((congrFun (hG_eq _ _ _ _) (ix2 r n)).trans (hV_at _ a _ _ (fr m c t (t.val / 4)) (fun r n => (XG_at m c t r n).trans (up_fr m c t _ r n)) ha r n)).trans ?_
  refine Eq.trans ?_ (ref28_at _ _ _ _ _ _).symm
  rw [iblk3, iblk3, iblk3, iblk5]
  unfold fr
  rw [gr_eq, show r.val + 1 + 512 * (t.val % 4) = r.val + 512 * (t.val % 4) + 1 by omega, show r.val + 2 + 512 * (t.val % 4) = r.val + 512 * (t.val % 4) + 2 by omega]

theorem hV_ref (t : Fin cfg0.N) (a : Vec Ideal S8x1408 .f32) (ha : Car a (fr m c t (t.val / 4 + 2))) (r : Fin 512) (n : Fin 1408) :
    hV (F := Ideal) (XV m c t) a (iblk m c 4 t) (iblk m c 6 t) (ix2 r n) = cv m c (ix2 (gr t.val r) (wc (t.val / 4 + 2) n)) := by
  refine ((hV_at _ a _ _ (fr m c t (t.val / 4 + 2)) (fun r n => (XV_at m c t r n).trans (up_fr m c t _ r n)) ha r n)).trans ?_
  refine Eq.trans ?_ (ref28_at _ _ _ _ _ _).symm
  rw [iblk4, iblk4, iblk4, iblk6]
  unfold fr
  rw [gr_eq, show r.val + 1 + 512 * (t.val % 4) = r.val + 512 * (t.val % 4) + 1 by omega, show r.val + 2 + 512 * (t.val % 4) = r.val + 512 * (t.val % 4) + 2 by omega]

theorem outs7_at (t : Fin cfg0.N) (r : Fin 512) (n : Fin 1408) :
    (outsAt0 m c t.val t.isLt).1 (ix2 r n) = Cert.Reference12Ideal.Read.val_main_v33 (F := Ideal) (a0 m c) (a1 m c) (ix2 (gr t.val r) (gc (t.val / 4) n)) := by
  by_cases h0 : t.val % 4 = 0
  · rw [outsAt0_A m c t h0, outA_7]
    exact (XG_at m c t r n).trans (by rw [ref33_at, wc_lo])
  · rw [outsAt0_B m c t h0, outB_7]
    exact (XG_at m c t r n).trans (by rw [ref33_at, wc_lo])

theorem outs8_at (t : Fin cfg0.N) (r : Fin 512) (n : Fin 1408) :
    (outsAt0 m c t.val t.isLt).2.1 (ix2 r n) = Cert.Reference12Ideal.Read.val_main_v34 (F := Ideal) (a0 m c) (a1 m c) (ix2 (gr t.val r) (gc (t.val / 4) n)) := by
  by_cases h0 : t.val % 4 = 0
  · rw [outsAt0_A m c t h0, outA_8]
    exact (XV_at m c t r n).trans (by rw [ref34_at, wc_hi])
  · rw [outsAt0_B m c t h0, outB_8]
    exact (XV_at m c t r n).trans (by rw [ref34_at, wc_hi])

theorem outs9_at (t : Fin cfg0.N) (r : Fin 512) (n : Fin 1408) :
    (outsAt0 m c t.val t.isLt).2.2.1 (ix2 r n) = Cert.Reference12Ideal.Read.val_main_v35 (F := Ideal) (a0 m c) (a1 m c) (a2 m c) (a3 m c) (ix2 (gr t.val r) (gc (t.val / 4) n)) := by
  by_cases h0 : t.val % 4 = 0
  · rw [outsAt0_A m c t h0, outA_9]
    refine (pay2_at _ _ _ _ _ r n).trans ?_
    rw [ref35_at, ← wc_lo, ← wc_hi]
    have e := hG_ref m c t _ (carA_0 m c t h0 _) r n
    have e' := hV_ref m c t _ (carA_8 m c t h0 _) r n
    exact congrArg₂ (fun p q : EReal => p * Ideal.logistic p * q) e e'
  · rw [outsAt0_B m c t h0, outB_9]
    refine (pay2_at _ _ _ _ _ r n).trans ?_
    rw [ref35_at, ← wc_lo, ← wc_hi]
    have e := hG_ref m c t _ (carB_0 m c t h0) r n
    have e' := hV_ref m c t _ (carB_8 m c t h0) r n
    exact congrArg₂ (fun p q : EReal => p * Ideal.logistic p * q) e e'

theorem outs10_at (t : Fin cfg0.N) (r : Fin 512) (n : Fin 1408) :
    (outsAt0 m c t.val t.isLt).2.2.2.1 (ix2 r n) = Cert.Reference12Ideal.Read.val_main_v36 (F := Ideal) (a0 m c) (a1 m c) (a2 m c) (a3 m c) (ix2 (gr t.val r) (gc (t.val / 4) n)) := by
  by_cases h0 : t.val % 4 = 0
  · rw [outsAt0_A m c t h0, outA_10]
    exact (hG_ref m c t _ (carA_0 m c t h0 _) r n).trans (by rw [ref36_at, wc_lo])
  · rw [outsAt0_B m c t h0, outB_10]
    exact (hG_ref m c t _ (carB_0 m c t h0) r n).trans (by rw [ref36_at, wc_lo])

theorem outs11_at (t : Fin cfg0.N) (r : Fin 512) (n : Fin 1408) :
    (outsAt0 m c t.val t.isLt).2.2.2.2.1 (ix2 r n) = Cert.Reference12Ideal.Read.val_main_v37 (F := Ideal) (a0 m c) (a1 m c) (a2 m c) (a3 m c) (ix2 (gr t.val r) (gc (t.val / 4) n)) := by
  by_cases h0 : t.val % 4 = 0
  · rw [outsAt0_A m c t h0, outA_11]
    exact (hV_ref m c t _ (carA_8 m c t h0 _) r n).trans (by rw [ref37_at, wc_hi])
  · rw [outsAt0_B m c t h0, outB_11]
    exact (hV_ref m c t _ (carB_8 m c t h0) r n).trans (by rw [ref37_at, wc_hi])

theorem idx7 (t : Fin cfg0.N) : win0_7.index t 0 = (t.val) % 4 ∧ win0_7.index t 1 = (t.val / 4) % 2 :=
  (by decide +kernel : ∀ t : Fin cfg0.N, win0_7.index t 0 = (t.val) % 4 ∧ win0_7.index t 1 = (t.val / 4) % 2) t

theorem flushed_7 (t : Fin cfg0.N) (hf : (cfg0.win 7).flush t = true) :
    (dats m 0 c).flushed 7 t = ((cfg0.win 7).blk t).view.read (Elt Ideal) (Cert.Reference12Ideal.Read.val_main_v33 (F := Ideal) (a0 m c) (a1 m c)) := by
  rw [Cert.Kernel12Ideal.Value.flushed7 m c t]
  have hi := idx7 t
  funext j
  rw [View.read_apply]
  obtain ⟨p, q, rfl⟩ : ∃ (p : Fin 512) (q : Fin 1408), j = ix2 p q := ⟨j 0, j 1, eq_ix2 j⟩
  have h2 : ∀ (X : Vec Ideal S512x1408 .f32), (cfg0.win 7).cut (grid0.coords t) X (ix2 p q) = X (ix2 p q) := fun _ => rfl
  refine (h2 _).trans ?_
  have he : (((cfg0.win 7).blk t).view.emb (ix2 p q) : S2048x2816.Idx) = ix2 (gr (t.val) p) (gc (t.val / 4) q) := by
    funext a
    apply Fin.ext
    match a with
    | ⟨0, _⟩ => show win0_7.index t 0 * 512 + 1 * p.val = (gr (t.val) p).val; rw [hi.1, gr_eq]; omega
    | ⟨1, _⟩ => show win0_7.index t 1 * 1408 + 1 * q.val = (gc (t.val / 4) q).val; rw [hi.2, gc_eq]; omega
  rw [he]
  exact outs7_at m c t p q

/-- The gate's half of the projection, -/
theorem final_7 : (dats m 0 c).arrAt 7 cfg0.N = Cert.Reference12Ideal.Read.val_main_v33 (F := Ideal) (a0 m c) (a1 m c) :=
  (dats m 0 c).arrAt_eq_of_cover 7 _ (flushed_7 m c) fun i => by
    have h0 : (i 0 : Nat) < 2048 := (i 0).isLt
    have h1 : (i 1 : Nat) < 2816 := (i 1).isLt
    have hN : cfg0.N = 8 := N_0
    let t : Fin cfg0.N := ⟨(i 1 : Nat) / 1408 * 4 + (i 0 : Nat) / 512, by omega⟩
    have ht : t.val = (i 1 : Nat) / 1408 * 4 + (i 0 : Nat) / 512 := rfl
    have hi := idx7 t
    refine ⟨t, flush0_7 t, ?_⟩
    show i ∈ ((View.whole main_v3_0).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [hi.1]; omega
    | ⟨1, _⟩ =>
      show win0_7.index t 1 * 1408 ≤ (i 1 : Nat) ∧ (i 1 : Nat) < win0_7.index t 1 * 1408 + 1408
      rw [hi.2]; omega

theorem idx8 (t : Fin cfg0.N) : win0_8.index t 0 = (t.val) % 4 ∧ win0_8.index t 1 = (t.val / 4) % 2 :=
  (by decide +kernel : ∀ t : Fin cfg0.N, win0_8.index t 0 = (t.val) % 4 ∧ win0_8.index t 1 = (t.val / 4) % 2) t

theorem flushed_8 (t : Fin cfg0.N) (hf : (cfg0.win 8).flush t = true) :
    (dats m 0 c).flushed 8 t = ((cfg0.win 8).blk t).view.read (Elt Ideal) (Cert.Reference12Ideal.Read.val_main_v34 (F := Ideal) (a0 m c) (a1 m c)) := by
  rw [Cert.Kernel12Ideal.Value.flushed8 m c t]
  have hi := idx8 t
  funext j
  rw [View.read_apply]
  obtain ⟨p, q, rfl⟩ : ∃ (p : Fin 512) (q : Fin 1408), j = ix2 p q := ⟨j 0, j 1, eq_ix2 j⟩
  have h2 : ∀ (X : Vec Ideal S512x1408 .f32), (cfg0.win 8).cut (grid0.coords t) X (ix2 p q) = X (ix2 p q) := fun _ => rfl
  refine (h2 _).trans ?_
  have he : (((cfg0.win 8).blk t).view.emb (ix2 p q) : S2048x2816.Idx) = ix2 (gr (t.val) p) (gc (t.val / 4) q) := by
    funext a
    apply Fin.ext
    match a with
    | ⟨0, _⟩ => show win0_8.index t 0 * 512 + 1 * p.val = (gr (t.val) p).val; rw [hi.1, gr_eq]; omega
    | ⟨1, _⟩ => show win0_8.index t 1 * 1408 + 1 * q.val = (gc (t.val / 4) q).val; rw [hi.2, gc_eq]; omega
  rw [he]
  exact outs8_at m c t p q

/-- the value's, -/
theorem final_8 : (dats m 0 c).arrAt 8 cfg0.N = Cert.Reference12Ideal.Read.val_main_v34 (F := Ideal) (a0 m c) (a1 m c) :=
  (dats m 0 c).arrAt_eq_of_cover 8 _ (flushed_8 m c) fun i => by
    have h0 : (i 0 : Nat) < 2048 := (i 0).isLt
    have h1 : (i 1 : Nat) < 2816 := (i 1).isLt
    have hN : cfg0.N = 8 := N_0
    let t : Fin cfg0.N := ⟨(i 1 : Nat) / 1408 * 4 + (i 0 : Nat) / 512, by omega⟩
    have ht : t.val = (i 1 : Nat) / 1408 * 4 + (i 0 : Nat) / 512 := rfl
    have hi := idx8 t
    refine ⟨t, flush0_8 t, ?_⟩
    show i ∈ ((View.whole main_v3_1).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [hi.1]; omega
    | ⟨1, _⟩ =>
      show win0_8.index t 1 * 1408 ≤ (i 1 : Nat) ∧ (i 1 : Nat) < win0_8.index t 1 * 1408 + 1408
      rw [hi.2]; omega

theorem idx9 (t : Fin cfg0.N) : win0_9.index t 0 = (t.val) % 4 ∧ win0_9.index t 1 = (t.val / 4) % 2 :=
  (by decide +kernel : ∀ t : Fin cfg0.N, win0_9.index t 0 = (t.val) % 4 ∧ win0_9.index t 1 = (t.val / 4) % 2) t

theorem flushed_9 (t : Fin cfg0.N) (hf : (cfg0.win 9).flush t = true) :
    (dats m 0 c).flushed 9 t = ((cfg0.win 9).blk t).view.read (Elt Ideal) (Cert.Reference12Ideal.Read.val_main_v35 (F := Ideal) (a0 m c) (a1 m c) (a2 m c) (a3 m c)) := by
  rw [Cert.Kernel12Ideal.Value.flushed9 m c t]
  have hi := idx9 t
  funext j
  rw [View.read_apply]
  obtain ⟨p, q, rfl⟩ : ∃ (p : Fin 512) (q : Fin 1408), j = ix2 p q := ⟨j 0, j 1, eq_ix2 j⟩
  have h2 : ∀ (X : Vec Ideal S512x1408 .bf16), (cfg0.win 9).cut (grid0.coords t) X (ix2 p q) = X (ix2 p q) := fun _ => rfl
  refine (h2 _).trans ?_
  have he : (((cfg0.win 9).blk t).view.emb (ix2 p q) : S2048x2816.Idx) = ix2 (gr (t.val) p) (gc (t.val / 4) q) := by
    funext a
    apply Fin.ext
    match a with
    | ⟨0, _⟩ => show win0_9.index t 0 * 512 + 1 * p.val = (gr (t.val) p).val; rw [hi.1, gr_eq]; omega
    | ⟨1, _⟩ => show win0_9.index t 1 * 1408 + 1 * q.val = (gc (t.val / 4) q).val; rw [hi.2, gc_eq]; omega
  rw [he]
  exact outs9_at m c t p q

/-- the activations, -/
theorem final_9 : (dats m 0 c).arrAt 9 cfg0.N = Cert.Reference12Ideal.Read.val_main_v35 (F := Ideal) (a0 m c) (a1 m c) (a2 m c) (a3 m c) :=
  (dats m 0 c).arrAt_eq_of_cover 9 _ (flushed_9 m c) fun i => by
    have h0 : (i 0 : Nat) < 2048 := (i 0).isLt
    have h1 : (i 1 : Nat) < 2816 := (i 1).isLt
    have hN : cfg0.N = 8 := N_0
    let t : Fin cfg0.N := ⟨(i 1 : Nat) / 1408 * 4 + (i 0 : Nat) / 512, by omega⟩
    have ht : t.val = (i 1 : Nat) / 1408 * 4 + (i 0 : Nat) / 512 := rfl
    have hi := idx9 t
    refine ⟨t, flush0_9 t, ?_⟩
    show i ∈ ((View.whole main_v3_2).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [hi.1]; omega
    | ⟨1, _⟩ =>
      show win0_9.index t 1 * 1408 ≤ (i 1 : Nat) ∧ (i 1 : Nat) < win0_9.index t 1 * 1408 + 1408
      rw [hi.2]; omega

theorem idx10 (t : Fin cfg0.N) : win0_10.index t 0 = (t.val) % 4 ∧ win0_10.index t 1 = (t.val / 4) % 2 :=
  (by decide +kernel : ∀ t : Fin cfg0.N, win0_10.index t 0 = (t.val) % 4 ∧ win0_10.index t 1 = (t.val / 4) % 2) t

theorem flushed_10 (t : Fin cfg0.N) (hf : (cfg0.win 10).flush t = true) :
    (dats m 0 c).flushed 10 t = ((cfg0.win 10).blk t).view.read (Elt Ideal) (Cert.Reference12Ideal.Read.val_main_v36 (F := Ideal) (a0 m c) (a1 m c) (a2 m c) (a3 m c)) := by
  rw [Cert.Kernel12Ideal.Value.flushed10 m c t]
  have hi := idx10 t
  funext j
  rw [View.read_apply]
  obtain ⟨p, q, rfl⟩ : ∃ (p : Fin 512) (q : Fin 1408), j = ix2 p q := ⟨j 0, j 1, eq_ix2 j⟩
  have h2 : ∀ (X : Vec Ideal S512x1408 .f32), (cfg0.win 10).cut (grid0.coords t) X (ix2 p q) = X (ix2 p q) := fun _ => rfl
  refine (h2 _).trans ?_
  have he : (((cfg0.win 10).blk t).view.emb (ix2 p q) : S2048x2816.Idx) = ix2 (gr (t.val) p) (gc (t.val / 4) q) := by
    funext a
    apply Fin.ext
    match a with
    | ⟨0, _⟩ => show win0_10.index t 0 * 512 + 1 * p.val = (gr (t.val) p).val; rw [hi.1, gr_eq]; omega
    | ⟨1, _⟩ => show win0_10.index t 1 * 1408 + 1 * q.val = (gc (t.val / 4) q).val; rw [hi.2, gc_eq]; omega
  rw [he]
  exact outs10_at m c t p q

/-- the gate's half of the convolution -/
theorem final_10 : (dats m 0 c).arrAt 10 cfg0.N = Cert.Reference12Ideal.Read.val_main_v36 (F := Ideal) (a0 m c) (a1 m c) (a2 m c) (a3 m c) :=
  (dats m 0 c).arrAt_eq_of_cover 10 _ (flushed_10 m c) fun i => by
    have h0 : (i 0 : Nat) < 2048 := (i 0).isLt
    have h1 : (i 1 : Nat) < 2816 := (i 1).isLt
    have hN : cfg0.N = 8 := N_0
    let t : Fin cfg0.N := ⟨(i 1 : Nat) / 1408 * 4 + (i 0 : Nat) / 512, by omega⟩
    have ht : t.val = (i 1 : Nat) / 1408 * 4 + (i 0 : Nat) / 512 := rfl
    have hi := idx10 t
    refine ⟨t, flush0_10 t, ?_⟩
    show i ∈ ((View.whole main_v3_3).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [hi.1]; omega
    | ⟨1, _⟩ =>
      show win0_10.index t 1 * 1408 ≤ (i 1 : Nat) ∧ (i 1 : Nat) < win0_10.index t 1 * 1408 + 1408
      rw [hi.2]; omega

theorem idx11 (t : Fin cfg0.N) : win0_11.index t 0 = (t.val) % 4 ∧ win0_11.index t 1 = (t.val / 4) % 2 :=
  (by decide +kernel : ∀ t : Fin cfg0.N, win0_11.index t 0 = (t.val) % 4 ∧ win0_11.index t 1 = (t.val / 4) % 2) t

theorem flushed_11 (t : Fin cfg0.N) (hf : (cfg0.win 11).flush t = true) :
    (dats m 0 c).flushed 11 t = ((cfg0.win 11).blk t).view.read (Elt Ideal) (Cert.Reference12Ideal.Read.val_main_v37 (F := Ideal) (a0 m c) (a1 m c) (a2 m c) (a3 m c)) := by
  rw [Cert.Kernel12Ideal.Value.flushed11 m c t]
  have hi := idx11 t
  funext j
  rw [View.read_apply]
  obtain ⟨p, q, rfl⟩ : ∃ (p : Fin 512) (q : Fin 1408), j = ix2 p q := ⟨j 0, j 1, eq_ix2 j⟩
  have h2 : ∀ (X : Vec Ideal S512x1408 .f32), (cfg0.win 11).cut (grid0.coords t) X (ix2 p q) = X (ix2 p q) := fun _ => rfl
  refine (h2 _).trans ?_
  have he : (((cfg0.win 11).blk t).view.emb (ix2 p q) : S2048x2816.Idx) = ix2 (gr (t.val) p) (gc (t.val / 4) q) := by
    funext a
    apply Fin.ext
    match a with
    | ⟨0, _⟩ => show win0_11.index t 0 * 512 + 1 * p.val = (gr (t.val) p).val; rw [hi.1, gr_eq]; omega
    | ⟨1, _⟩ => show win0_11.index t 1 * 1408 + 1 * q.val = (gc (t.val / 4) q).val; rw [hi.2, gc_eq]; omega
  rw [he]
  exact outs11_at m c t p q

/-- and the value's are the reference's. -/
theorem final_11 : (dats m 0 c).arrAt 11 cfg0.N = Cert.Reference12Ideal.Read.val_main_v37 (F := Ideal) (a0 m c) (a1 m c) (a2 m c) (a3 m c) :=
  (dats m 0 c).arrAt_eq_of_cover 11 _ (flushed_11 m c) fun i => by
    have h0 : (i 0 : Nat) < 2048 := (i 0).isLt
    have h1 : (i 1 : Nat) < 2816 := (i 1).isLt
    have hN : cfg0.N = 8 := N_0
    let t : Fin cfg0.N := ⟨(i 1 : Nat) / 1408 * 4 + (i 0 : Nat) / 512, by omega⟩
    have ht : t.val = (i 1 : Nat) / 1408 * 4 + (i 0 : Nat) / 512 := rfl
    have hi := idx11 t
    refine ⟨t, flush0_11 t, ?_⟩
    show i ∈ ((View.whole main_v3_4).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [hi.1]; omega
    | ⟨1, _⟩ =>
      show win0_11.index t 1 * 1408 ≤ (i 1 : Nat) ∧ (i 1 : Nat) < win0_11.index t 1 * 1408 + 1408
      rw [hi.2]; omega

end Cert.Proof.UpConv

end
-- ==== Proof.UpConvClaim.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.UpConv
public import Idealize.ShloMosaic.Lib.Claim

@[expose] public section

set_option maxRecDepth 16384

noncomputable section

/-! The claims about the kernel of `up_conv` and its reference. -/

namespace Cert.Proof.UpConv

open Idealize.ShloMosaic Idealize.SL.Sem

attribute [local instance] Cert.Kernel12.Gen.facts Cert.Kernel12Ideal.Gen.facts Cert.Reference12Ideal.Gen.facts

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono
    (fun r h => ⟨fun c => (h c).2.2.2.2.2, sem_eq_zero_of_no_sems (by decide) r.2⟩)
    (Cert.Reference12Ideal.Value.run (F := Ideal) m ρ)

theorem algebraic : Cert.algebraic_Kernel12Ideal_Reference12Ideal := by
  intro m g m' g' _ hag
  refine ⟨fun c => Cert.Reference12Ideal.Read.val_main_v33 (F := Ideal) (a0 m c) (a1 m c),
    fun c => Cert.Reference12Ideal.Read.val_main_v34 (F := Ideal) (a0 m c) (a1 m c),
    fun c => Cert.Reference12Ideal.Read.val_main_v35 (F := Ideal) (a0 m c) (a1 m c) (a2 m c) (a3 m c),
    fun c => Cert.Reference12Ideal.Read.val_main_v36 (F := Ideal) (a0 m c) (a1 m c) (a2 m c) (a3 m c),
    fun c => Cert.Reference12Ideal.Read.val_main_v37 (F := Ideal) (a0 m c) (a1 m c) (a2 m c) (a3 m c), ?_, ?_⟩
  · exact (θ_run Cert.Kernel12Ideal.defs _ _).mono
      (fun r h c => ⟨(h c).1.trans (final_7 m c), (h c).2.1.trans (final_8 m c), (h c).2.2.1.trans (final_9 m c), (h c).2.2.2.1.trans (final_10 m c), (h c).2.2.2.2.1.trans (final_11 m c), (h c).2.2.2.2.2⟩)
      (Cert.Kernel12Ideal.Value.run_blocks (F := Ideal) m g)
  · refine (θ_run Cert.Reference12Ideal.defs _ _).mono (fun r h c => ?_) (Cert.Reference12Ideal.Value.run (F := Ideal) m' g')
    obtain ⟨e0, e1, e2, e3⟩ := hag c
    obtain ⟨h0, h1, h2, h3, h4, hargs⟩ := h c
    rw [Cert.Reference12Ideal.Read.val_main_v33_eq, e0, e1] at h0
    rw [Cert.Reference12Ideal.Read.val_main_v34_eq, e0, e1] at h1
    rw [Cert.Reference12Ideal.Read.val_main_v35_eq, e0, e1, e2, e3] at h2
    rw [Cert.Reference12Ideal.Read.val_main_v36_eq, e0, e1, e2, e3] at h3
    rw [Cert.Reference12Ideal.Read.val_main_v37_eq, e0, e1, e2, e3] at h4
    exact ⟨h0, h1, h2, h3, h4, hargs⟩

end Cert.Proof.UpConv

end
-- ==== Proof.AdamOut.lean ====
module

public import proofs.«01_k».proof.Proof.Gen.Kernel13Ideal.Frame
public import Idealize.ShloMosaic.Lib.Pipeline.Value
public import Idealize.ShloMosaic.Lib.Tactic

@[expose] public section

set_option maxRecDepth 16384

noncomputable section

/-! What one point of the kernel of `adam_w_in` leaves, as its payloads of the point's blocks. -/

namespace Cert.Proof.Adam

open Idealize.ShloMosaic Cert.Kernel13Ideal Cert.Kernel13Ideal.Gen

theorem hz : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- The parts of the gradient that three other devices sent. -/
def recv0 (x : Vec F S3x592x1024 .bf16) : Vec F S1x592x1024 .bf16 :=
  View.ld x (Rect.unit (s := S3x592x1024) ![0, 0, 0] ![1, 592, 1024] inb_S3x592x1024_S1x592x1024_0_0_0)
def recv1 (x : Vec F S3x592x1024 .bf16) : Vec F S1x592x1024 .bf16 :=
  View.ld x (Rect.unit (s := S3x592x1024) ![1, 0, 0] ![1, 592, 1024] inb_S3x592x1024_S1x592x1024_1_0_0)
def recv2 (x : Vec F S3x592x1024 .bf16) : Vec F S1x592x1024 .bf16 :=
  View.ld x (Rect.unit (s := S3x592x1024) ![2, 0, 0] ![1, 592, 1024] inb_S3x592x1024_S1x592x1024_2_0_0)

variable (c : Dev nD) (i : grid0.Coords) (arg2 : Memref sig .tc .vmem S1x592x1024 .f32) (harg2 : arg2.IsWhole) (arg3 : Memref sig .tc .vmem S3x592x1024 .bf16) (harg3 : arg3.IsWhole) (arg4 : Memref sig .tc .vmem S592x1024 .f32) (harg4 : arg4.IsWhole) (arg5 : Memref sig .tc .vmem S592x1024 .f32) (harg5 : arg5.IsWhole) (arg6 : Memref sig .tc .vmem S592x1024 .f32) (harg6 : arg6.IsWhole) (arg7 : Memref sig .tc .vmem S592x1024 .f32) (harg7 : arg7.IsWhole) (arg8 : Memref sig .tc .vmem S592x1024 .f32) (harg8 : arg8.IsWhole) (arg9 : Memref sig .tc .vmem S592x1024 .f32) (harg9 : arg9.IsWhole) (arg10 : Memref sig .tc .vmem S592x1024 .f32) (harg10 : arg10.IsWhole)
  (x0 : Vec F S1x592x1024 .f32) (x1 : Vec F S3x592x1024 .bf16) (x2 : Vec F S592x1024 .f32) (x3 : Vec F S592x1024 .f32) (x4 : Vec F S592x1024 .f32) (xt0 : TbBuf0 (F := F) c tbM0_0)

/-- The gradient, -/
theorem out_5 : out0_A_5 c i arg2 harg2 arg3 harg3 arg4 harg4 arg5 harg5 arg6 harg6 arg7 harg7 arg8 harg8 arg9 harg9 arg10 harg10 x0 x1 x2 x3 x4 xt0 = k0_pay2 x0 (recv0 x1) (recv1 x1) (recv2 x1) := by
  unfold out0_A_5
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S592x1024) hz, View.ld_unit_zero (S := S1x592x1024) hz3]
  rfl

/-- the step, -/
theorem out_6 : out0_A_6 c i arg2 harg2 arg3 harg3 arg4 harg4 arg5 harg5 arg6 harg6 arg7 harg7 arg8 harg8 arg9 harg9 arg10 harg10 x0 x1 x2 x3 x4 xt0 = k0_pay1 (k0_pay3 x2) (k0_pay6 x0 (recv0 x1) (recv1 x1) (recv2 x1) x3) (k0_pay7 x0 (recv0 x1) (recv1 x1) (recv2 x1) x4) := by
  unfold out0_A_6
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S592x1024) hz, View.ld_unit_zero (S := S1x592x1024) hz3]
  rfl

/-- the first moment -/
theorem out_7 : out0_A_7 c i arg2 harg2 arg3 harg3 arg4 harg4 arg5 harg5 arg6 harg6 arg7 harg7 arg8 harg8 arg9 harg9 arg10 harg10 x0 x1 x2 x3 x4 xt0 = k0_pay4 x0 (recv0 x1) (recv1 x1) (recv2 x1) x3 := by
  unfold out0_A_7
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S592x1024) hz, View.ld_unit_zero (S := S1x592x1024) hz3]
  rfl

/-- and the second. -/
theorem out_8 : out0_A_8 c i arg2 harg2 arg3 harg3 arg4 harg4 arg5 harg5 arg6 harg6 arg7 harg7 arg8 harg8 arg9 harg9 arg10 harg10 x0 x1 x2 x3 x4 xt0 = k0_pay5 x0 (recv0 x1) (recv1 x1) (recv2 x1) x4 := by
  unfold out0_A_8
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S592x1024) hz, View.ld_unit_zero (S := S1x592x1024) hz3]
  rfl

end Cert.Proof.Adam

end
-- ==== Proof.AdamPay.lean ====
module

public import proofs.«01_k».proof.Proof.Rows
public import proofs.«01_k».proof.Proof.AdamOut
public import proofs.«01_k».proof.Proof.Gen.Reference13Ideal.Read

@[expose] public section

set_option maxRecDepth 16384

noncomputable section

/-! The payloads of the kernel of `adam_w_in` and its reference's results, at an index. -/

namespace Cert.Proof.Adam

open Idealize.ShloMosaic Cert.Proof.Rows

/-- The first moment after the step, at a gradient and the moment before, -/
def mom (g m : EReal) : EReal := Ideal.ofBits .f32 1063675494#32 * m + Ideal.ofBits .f32 1036831949#32 * g

/-- the second, -/
def vel (g v : EReal) : EReal := Ideal.ofBits .f32 1065336439#32 * v + Ideal.ofBits .f32 981668463#32 * (g * g)

/-- and the step, from the weight and the moments after. -/
def step (w a b : EReal) : EReal :=
  Ideal.ofBits .f32 3129152111#32 *
    (Ideal.div (Ideal.div a (Ideal.ofBits .f32 1059503362#32))
        (Ideal.sqrt (Ideal.div b (Ideal.ofBits .f32 1008933580#32)) + Ideal.ofBits .f32 841731191#32) +
      Ideal.ofBits .f32 1008981770#32 * w)

section kernel
open Cert.Kernel13Ideal Cert.Kernel13Ideal.Gen

theorem recv0_at (x : Vec Ideal S3x592x1024 .bf16) (r : Fin 592) (n : Fin 1024) : recv0 x (ix3 0 r n) = x (ix3 0 r n) := by
  unfold recv0; pointwise
theorem recv1_at (x : Vec Ideal S3x592x1024 .bf16) (r : Fin 592) (n : Fin 1024) : recv1 x (ix3 0 r n) = x (ix3 1 r n) := by
  unfold recv1; pointwise
theorem recv2_at (x : Vec Ideal S3x592x1024 .bf16) (r : Fin 592) (n : Fin 1024) : recv2 x (ix3 0 r n) = x (ix3 2 r n) := by
  unfold recv2; pointwise

/-- The sum of the device's own part of the gradient and the three it received. -/
theorem pay2_at (x0 : Vec Ideal S1x592x1024 .f32) (x1 : Vec Ideal S3x592x1024 .bf16) (r : Fin 592) (n : Fin 1024) :
    k0_pay2 (F := Ideal) x0 (recv0 x1) (recv1 x1) (recv2 x1) (ix2 r n) = x0 (ix3 0 r n) + x1 (ix3 0 r n) + x1 (ix3 1 r n) + x1 (ix3 2 r n) := by
  simp only [← recv0_at, ← recv1_at, ← recv2_at]
  generalize recv0 x1 = a
  generalize recv1 x1 = b
  generalize recv2 x1 = d
  pointwise [k0_pay2]

variable (x0 : Vec Ideal S1x592x1024 .f32) (y0 y1 y2 : Vec Ideal S1x592x1024 .bf16) (m v w : Vec Ideal S592x1024 .f32) (r : Fin 592) (n : Fin 1024)

theorem pay4_at : k0_pay4 (F := Ideal) x0 y0 y1 y2 m (ix2 r n) = mom (k0_pay2 (F := Ideal) x0 y0 y1 y2 (ix2 r n)) (m (ix2 r n)) := by
  generalize hg : k0_pay2 (F := Ideal) x0 y0 y1 y2 = g
  unfold k0_pay4 mom
  rw [hg]
  pointwise

theorem pay5_at : k0_pay5 (F := Ideal) x0 y0 y1 y2 v (ix2 r n) = vel (k0_pay2 (F := Ideal) x0 y0 y1 y2 (ix2 r n)) (v (ix2 r n)) := by
  generalize hg : k0_pay2 (F := Ideal) x0 y0 y1 y2 = g
  unfold k0_pay5 vel
  rw [hg]
  pointwise

theorem pay1_at :
    k0_pay1 (F := Ideal) (k0_pay3 w) (k0_pay6 x0 y0 y1 y2 m) (k0_pay7 x0 y0 y1 y2 v) (ix2 r n) =
      step (w (ix2 r n)) (k0_pay4 (F := Ideal) x0 y0 y1 y2 m (ix2 r n)) (k0_pay5 (F := Ideal) x0 y0 y1 y2 v (ix2 r n)) := by
  unfold k0_pay6 k0_pay7
  generalize k0_pay4 (F := Ideal) x0 y0 y1 y2 m = a
  generalize k0_pay5 (F := Ideal) x0 y0 y1 y2 v = b
  unfold step
  pointwise [k0_pay1, k0_pay3]
end kernel

section reference
open Cert.Reference13Ideal Cert.Reference13Ideal.Read
variable (x0 : Vec Ideal S1184x1024 .f32) (x1 : Vec Ideal S3x1184x1024 .f32) (x2 x3 x4 : Vec Ideal S1024x1184 .f32) (r : Fin 1184) (n : Fin 1024)

theorem ref27_at : val_main_v27 (F := Ideal) x0 x1 (ix2 r n) = x0 (ix2 r n) + x1 (ix3 0 r n) + x1 (ix3 1 r n) + x1 (ix3 2 r n) := by
  have e : val_main_v27 (F := Ideal) x0 x1 (ix2 r n) = x0 (ix2 r n) + ∑ k : Fin 3, x1 (ix3 k r n) := by
    pointwise [val_main_v27, val_main_v2, val_main_v1, val_main_v0, val_main_cst]
  rw [e, Fin.sum_univ_three, ← add_assoc, ← add_assoc]

theorem ref2_at : val_main_v2 (F := Ideal) x0 x1 (ix2 n r) = val_main_v27 (F := Ideal) x0 x1 (ix2 r n) := by
  unfold val_main_v27
  generalize val_main_v2 (F := Ideal) x0 x1 = g
  pointwise

theorem ref29_at : val_main_v29 (F := Ideal) x0 x1 x3 (ix2 r n) = mom (val_main_v27 (F := Ideal) x0 x1 (ix2 r n)) (x3 (ix2 n r)) := by
  rw [← ref2_at]
  unfold mom val_main_v29 val_main_v7 val_main_v6
  generalize val_main_v2 (F := Ideal) x0 x1 = g
  pointwise [val_main_v5, val_main_v4, val_main_v3, val_main_cst_0, val_main_cst_1]

theorem ref30_at : val_main_v30 (F := Ideal) x0 x1 x4 (ix2 r n) = vel (val_main_v27 (F := Ideal) x0 x1 (ix2 r n)) (x4 (ix2 n r)) := by
  rw [← ref2_at]
  unfold vel val_main_v30 val_main_v13 val_main_v12 val_main_v10
  generalize val_main_v2 (F := Ideal) x0 x1 = g
  pointwise [val_main_v11, val_main_v9, val_main_v8, val_main_cst_2, val_main_cst_3]

theorem ref28_at : val_main_v28 (F := Ideal) x0 x1 x2 x3 x4 (ix2 r n) =
    step (x2 (ix2 n r)) (mom (val_main_v27 (F := Ideal) x0 x1 (ix2 r n)) (x3 (ix2 n r))) (vel (val_main_v27 (F := Ideal) x0 x1 (ix2 r n)) (x4 (ix2 n r))) := by
  rw [← ref2_at]
  unfold step mom vel
  pointwise [val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0, val_main_cst_1, val_main_cst_2, val_main_cst_3, val_main_cst_4, val_main_cst_5, val_main_cst_6, val_main_cst_7, val_main_cst_8]
end reference

end Cert.Proof.Adam

end
-- ==== Proof.Adam.lean ====
module

public import proofs.«01_k».proof.Proof.AdamPay

@[expose] public section

set_option maxRecDepth 16384

noncomputable section

/-! The result arrays of the kernel of `adam_w_in` are its reference's. Point `t` takes rows `592 t` to `592 t + 591`; the index
of the device's own part is the one the host passes, zero. -/

namespace Cert.Proof.Adam

open Idealize.ShloMosaic Idealize.ShloMosaic.TcCoe Cert.Kernel13Ideal Cert.Kernel13Ideal.Gen Cert.Proof.Rows

section table
variable {F : FTy → Type} [FloatOps F] (m : (ℓ : Loc nD τ sig) → Buf (Elt F) ℓ)

/-- The index passed to the kernel is zero, -/
theorem index_zero : (V m 0 main_v0 : S1.Idx → BitVec 32) = fun _ => 0#32 := by
  have e : V m 0 main_v0 = (broadcastInDim S1 ![] bcast_S_S1 (constantI S_ 32 0#32) : S1.Idx → BitVec 32) := by
    unfold V; after_results
  rw [e]; rfl

theorem tbl_at (x : S1.Idx) : (tbl m 0 : S1.Idx → BitVec 32) x = 0#32 := congrFun (index_zero m) x

theorem transform0 (i : grid0.Coords) : cc0_transform_0 inb_S1_S1_0 numel1_S1 (tbl m) i = ![0, (BitVec.ofNat 32 (i 0).val).toNat, 0] := by
  unfold cc0_transform_0
  rw [show (tbl m).at 0 (Rect.unit (s := S1) ![0] S1.size inb_S1_S1_0) numel1_S1 = 0#32 from tbl_at m _]
  rfl

theorem inside : ∀ (i : grid0.Coords) (a : Fin 3), ((![0, (BitVec.ofNat 32 (i 0).val).toNat, 0] : Fin 3 → Nat) a + 1) * S1x592x1024.size a ≤ S1x1184x1024.size a := by decide

/-- so its block lies in the array. -/
theorem ok : Ok m := by
  intro i
  refine ⟨fun a => ?_, .inl rfl⟩
  rw [transform0]
  exact inside i a
end table

theorem tr0 : ∀ t : Fin grid0.N, (BitVec.ofNat 32 ((grid0.coords t) 0).val).toNat = t.val := by decide +kernel
theorem tr1 : ∀ t : Fin grid0.N, cc0_transform_1 (grid0.coords t) 0 = 0 ∧ cc0_transform_1 (grid0.coords t) 1 = t.val ∧ cc0_transform_1 (grid0.coords t) 2 = 0 := by decide +kernel
theorem tr2 : ∀ t : Fin grid0.N, cc0_transform_2 (grid0.coords t) 0 = t.val ∧ cc0_transform_2 (grid0.coords t) 1 = 0 := by decide +kernel
theorem tr3 : ∀ t : Fin grid0.N, cc0_transform_3 (grid0.coords t) 0 = t.val ∧ cc0_transform_3 (grid0.coords t) 1 = 0 := by decide +kernel
theorem tr4 : ∀ t : Fin grid0.N, cc0_transform_4 (grid0.coords t) 0 = t.val ∧ cc0_transform_4 (grid0.coords t) 1 = 0 := by decide +kernel
theorem tr5 : ∀ t : Fin grid0.N, cc0_transform_5 (grid0.coords t) 0 = t.val ∧ cc0_transform_5 (grid0.coords t) 1 = 0 := by decide +kernel
theorem tr6 : ∀ t : Fin grid0.N, cc0_transform_6 (grid0.coords t) 0 = t.val ∧ cc0_transform_6 (grid0.coords t) 1 = 0 := by decide +kernel
theorem tr7 : ∀ t : Fin grid0.N, cc0_transform_7 (grid0.coords t) 0 = t.val ∧ cc0_transform_7 (grid0.coords t) 1 = 0 := by decide +kernel
theorem tr8 : ∀ t : Fin grid0.N, cc0_transform_8 (grid0.coords t) 0 = t.val ∧ cc0_transform_8 (grid0.coords t) 1 = 0 := by decide +kernel

variable (m : (ℓ : Loc nD τ sig) → Buf (Elt Ideal) ℓ) (c : Dev nD)

/-- The arguments on a device, as arrays. -/
abbrev a0 : Vec Ideal S1184x1024 .f32 := m ((c : Thread nD τ).loc main_arg0)
abbrev a1 : Vec Ideal S3x1184x1024 .f32 := m ((c : Thread nD τ).loc main_arg1)
abbrev a2 : Vec Ideal S1024x1184 .f32 := m ((c : Thread nD τ).loc main_arg2)
abbrev a3 : Vec Ideal S1024x1184 .f32 := m ((c : Thread nD τ).loc main_arg3)
abbrev a4 : Vec Ideal S1024x1184 .f32 := m ((c : Thread nD τ).loc main_arg4)

theorem V1 (r : Fin 1184) (n : Fin 1024) : (V m c main_v1 : Vec Ideal S1x1184x1024 .f32) (ix3 0 r n) = a0 m c (ix2 r n) := by
  have e : V m c main_v1 = (broadcastInDim S1x1184x1024 ![1, 2] bcast_S1184x1024_S1x1184x1024_1_2 (a0 m c) : FVec Ideal S1x1184x1024 .f32) := by
    unfold V; after_results
  rw [e]; generalize a0 m c = x; pointwise

theorem V2 (k : Fin 3) (r : Fin 1184) (n : Fin 1024) : (V m c main_v2 : Vec Ideal S3x1184x1024 .bf16) (ix3 k r n) = a1 m c (ix3 k r n) := by
  have e : V m c main_v2 = (truncf .bf16 (a1 m c) bitsLt_bf16_f32 : FVec Ideal S3x1184x1024 .bf16) := by
    unfold V; after_results
  rw [e]; rfl

theorem V3 (r : Fin 1184) (n : Fin 1024) : (V m c main_v3 : Vec Ideal S1184x1024 .f32) (ix2 r n) = a2 m c (ix2 n r) := by
  have e : V m c main_v3 = (transpose S1184x1024 [1, 0] (a2 m c) transposes_S1024x1184_S1184x1024_1_0 : FVec Ideal S1184x1024 .f32) := by
    unfold V; after_results
  rw [e]; generalize a2 m c = x; pointwise

theorem V4 (r : Fin 1184) (n : Fin 1024) : (V m c main_v4 : Vec Ideal S1184x1024 .f32) (ix2 r n) = a3 m c (ix2 n r) := by
  have e : V m c main_v4 = (transpose S1184x1024 [1, 0] (a3 m c) transposes_S1024x1184_S1184x1024_1_0 : FVec Ideal S1184x1024 .f32) := by
    unfold V; after_results
  rw [e]; generalize a3 m c = x; pointwise

theorem V5 (r : Fin 1184) (n : Fin 1024) : (V m c main_v5 : Vec Ideal S1184x1024 .f32) (ix2 r n) = a4 m c (ix2 n r) := by
  have e : V m c main_v5 = (transpose S1184x1024 [1, 0] (a4 m c) transposes_S1024x1184_S1184x1024_1_0 : FVec Ideal S1184x1024 .f32) := by
    unfold V; after_results
  rw [e]; generalize a4 m c = x; pointwise

variable (t : Fin (cfgM m (ok m)).N)

/-- The blocks of a point, their places and contents. -/
def ix_0 : Fin 3 → Nat := ((cfgM m (ok m)).win 0).index t
def ix_1 : Fin 3 → Nat := ((cfgM m (ok m)).win 1).index t
def ix_2 : Fin 2 → Nat := ((cfgM m (ok m)).win 2).index t
def ix_3 : Fin 2 → Nat := ((cfgM m (ok m)).win 3).index t
def ix_4 : Fin 2 → Nat := ((cfgM m (ok m)).win 4).index t
def ix_5 : Fin 2 → Nat := ((cfgM m (ok m)).win 5).index t
def ix_6 : Fin 2 → Nat := ((cfgM m (ok m)).win 6).index t
def ix_7 : Fin 2 → Nat := ((cfgM m (ok m)).win 7).index t
def ix_8 : Fin 2 → Nat := ((cfgM m (ok m)).win 8).index t
def bk0 : Vec Ideal S1x592x1024 .f32 := iblk m (ok m) c 0 t
def bk1 : Vec Ideal S3x592x1024 .bf16 := iblk m (ok m) c 1 t
def bk2 : Vec Ideal S592x1024 .f32 := iblk m (ok m) c 2 t
def bk3 : Vec Ideal S592x1024 .f32 := iblk m (ok m) c 3 t
def bk4 : Vec Ideal S592x1024 .f32 := iblk m (ok m) c 4 t

theorem lt2 : t.val < 2 := lt_of_lt_of_eq t.isLt (by decide : grid0.N = 2)

/-- Row `r` of row tile `k`. -/
def gr (k : Nat) (r : Fin 592) : Fin 1184 := Rows.row 2 592 (by omega) k r
theorem gr_eq (k : Nat) (r : Fin 592) : (gr k r).val = r.val + 592 * (k % 2) := rfl

theorem at0 : ix_0 m t 0 = 0 ∧ ix_0 m t 1 = t.val ∧ ix_0 m t 2 = 0 := by
  have e : ix_0 m t = cc0_transform_0 inb_S1_S1_0 numel1_S1 (tbl m) (grid0.coords t) := rfl
  rw [e, transform0]
  exact ⟨rfl, tr0 t, rfl⟩

theorem at1 : ix_1 m t 0 = 0 ∧ ix_1 m t 1 = t.val ∧ ix_1 m t 2 = 0 := by
  exact tr1 t

theorem at2 : ix_2 m t 0 = t.val ∧ ix_2 m t 1 = 0 := by
  exact tr2 t

theorem at3 : ix_3 m t 0 = t.val ∧ ix_3 m t 1 = 0 := by
  exact tr3 t

theorem at4 : ix_4 m t 0 = t.val ∧ ix_4 m t 1 = 0 := by
  exact tr4 t

theorem at5 : ix_5 m t 0 = t.val ∧ ix_5 m t 1 = 0 := by
  exact tr5 t

theorem at6 : ix_6 m t 0 = t.val ∧ ix_6 m t 1 = 0 := by
  exact tr6 t

theorem at7 : ix_7 m t 0 = t.val ∧ ix_7 m t 1 = 0 := by
  exact tr7 t

theorem at8 : ix_8 m t 0 = t.val ∧ ix_8 m t 1 = 0 := by
  exact tr8 t

theorem iblk0 (r : Fin 592) (n : Fin 1024) :
    (bk0 m c t : Vec Ideal S1x592x1024 .f32) (ix3 0 r n) = (V m c main_v1 : Vec Ideal S1x1184x1024 .f32) (ix3 0 (gr t.val r) n) := by
  have hi := at0 m t
  refine congrArg (V m c main_v1 : Vec Ideal S1x1184x1024 .f32) (show ((((cfgM m (ok m)).win 0).blk t).view.emb (ix3 0 r n) : S1x1184x1024.Idx) = ix3 0 (gr t.val r) n from ?_)
  funext a
  apply Fin.ext
  match a with
  | ⟨0, _⟩ => show ix_0 m t 0 * 1 + 1 * (0 : Fin 1).val = _; rw [hi.1]; simp
  | ⟨1, _⟩ => show ix_0 m t 1 * 592 + 1 * r.val = (gr t.val r).val; rw [hi.2.1, gr_eq]; have := lt2 m t; omega
  | ⟨2, _⟩ => show ix_0 m t 2 * 1024 + 1 * n.val = _; rw [hi.2.2]; simp

theorem iblk1 (k : Fin 3) (r : Fin 592) (n : Fin 1024) :
    (bk1 m c t : Vec Ideal S3x592x1024 .bf16) (ix3 k r n) = (V m c main_v2 : Vec Ideal S3x1184x1024 .bf16) (ix3 k (gr t.val r) n) := by
  have hi := at1 m t
  refine congrArg (V m c main_v2 : Vec Ideal S3x1184x1024 .bf16) (show ((((cfgM m (ok m)).win 1).blk t).view.emb (ix3 k r n) : S3x1184x1024.Idx) = ix3 k (gr t.val r) n from ?_)
  funext a
  apply Fin.ext
  match a with
  | ⟨0, _⟩ => show ix_1 m t 0 * 3 + 1 * k.val = _; rw [hi.1]; simp
  | ⟨1, _⟩ => show ix_1 m t 1 * 592 + 1 * r.val = (gr t.val r).val; rw [hi.2.1, gr_eq]; have := lt2 m t; omega
  | ⟨2, _⟩ => show ix_1 m t 2 * 1024 + 1 * n.val = _; rw [hi.2.2]; simp

theorem iblk2 (r : Fin 592) (n : Fin 1024) :
    (bk2 m c t : Vec Ideal S592x1024 .f32) (ix2 r n) = (V m c main_v3 : Vec Ideal S1184x1024 .f32) (ix2 (gr t.val r) n) := by
  have hi := at2 m t
  refine congrArg (V m c main_v3 : Vec Ideal S1184x1024 .f32) (show ((((cfgM m (ok m)).win 2).blk t).view.emb (ix2 r n) : S1184x1024.Idx) = ix2 (gr t.val r) n from ?_)
  funext a
  apply Fin.ext
  match a with
  | ⟨0, _⟩ => show ix_2 m t 0 * 592 + 1 * r.val = (gr t.val r).val; rw [hi.1, gr_eq]; have := lt2 m t; omega
  | ⟨1, _⟩ => show ix_2 m t 1 * 1024 + 1 * n.val = _; rw [hi.2]; simp

theorem iblk3 (r : Fin 592) (n : Fin 1024) :
    (bk3 m c t : Vec Ideal S592x1024 .f32) (ix2 r n) = (V m c main_v4 : Vec Ideal S1184x1024 .f32) (ix2 (gr t.val r) n) := by
  have hi := at3 m t
  refine congrArg (V m c main_v4 : Vec Ideal S1184x1024 .f32) (show ((((cfgM m (ok m)).win 3).blk t).view.emb (ix2 r n) : S1184x1024.Idx) = ix2 (gr t.val r) n from ?_)
  funext a
  apply Fin.ext
  match a with
  | ⟨0, _⟩ => show ix_3 m t 0 * 592 + 1 * r.val = (gr t.val r).val; rw [hi.1, gr_eq]; have := lt2 m t; omega
  | ⟨1, _⟩ => show ix_3 m t 1 * 1024 + 1 * n.val = _; rw [hi.2]; simp

theorem iblk4 (r : Fin 592) (n : Fin 1024) :
    (bk4 m c t : Vec Ideal S592x1024 .f32) (ix2 r n) = (V m c main_v5 : Vec Ideal S1184x1024 .f32) (ix2 (gr t.val r) n) := by
  have hi := at4 m t
  refine congrArg (V m c main_v5 : Vec Ideal S1184x1024 .f32) (show ((((cfgM m (ok m)).win 4).blk t).view.emb (ix2 r n) : S1184x1024.Idx) = ix2 (gr t.val r) n from ?_)
  funext a
  apply Fin.ext
  match a with
  | ⟨0, _⟩ => show ix_4 m t 0 * 592 + 1 * r.val = (gr t.val r).val; rw [hi.1, gr_eq]; have := lt2 m t; omega
  | ⟨1, _⟩ => show ix_4 m t 1 * 1024 + 1 * n.val = _; rw [hi.2]; simp

theorem grad_at (r : Fin 592) (n : Fin 1024) :
    k0_pay2 (F := Ideal) (bk0 m c t) (recv0 (bk1 m c t)) (recv1 (bk1 m c t)) (recv2 (bk1 m c t)) (ix2 r n) = Cert.Reference13Ideal.Read.val_main_v27 (F := Ideal) (a0 m c) (a1 m c) (ix2 (gr t.val r) n) := by
  rw [pay2_at, ref27_at, iblk0, iblk1, iblk1, iblk1, V1, V2, V2, V2]

theorem pay_5 (r : Fin 592) (n : Fin 1024) :
    (k0_pay2 (F := Ideal) (bk0 m c t) (recv0 (bk1 m c t)) (recv1 (bk1 m c t)) (recv2 (bk1 m c t)) : Vec Ideal S592x1024 .f32) (ix2 r n) = Cert.Reference13Ideal.Read.val_main_v27 (F := Ideal) (a0 m c) (a1 m c) (ix2 (gr t.val r) n) := grad_at m c t r n

theorem emb_5 (r : Fin 592) (n : Fin 1024) :
    ((((cfgM m (ok m)).win 5).blk t).view.emb (ix2 r n) : S1184x1024.Idx) = ix2 (gr t.val r) n := by
  have hi := at5 m t
  funext a
  apply Fin.ext
  match a with
  | ⟨0, _⟩ => show ix_5 m t 0 * 592 + 1 * r.val = (gr t.val r).val; rw [hi.1, gr_eq]; have := lt2 m t; omega
  | ⟨1, _⟩ => show ix_5 m t 1 * 1024 + 1 * n.val = _; rw [hi.2]; simp

theorem flushed_5 (hf : ((cfgM m (ok m)).win 5).flush t = true) :
    (dats m (ok m) 0 c).flushed 5 t = (((cfgM m (ok m)).win 5).blk t).view.read (Elt Ideal) (Cert.Reference13Ideal.Read.val_main_v27 (F := Ideal) (a0 m c) (a1 m c)) := by
  show ((cfgM m (ok m)).win 5).cut (grid0.coords t) ((dats m (ok m) 0 c).after 5 t) = _
  rw [after0_5]
  unfold outsAt0
  dsimp only
  refine funext fun (y : S592x1024.Idx) => ?_
  obtain ⟨r, n, rfl⟩ : ∃ (r : Fin 592) (n : Fin 1024), y = ix2 r n := ⟨y 0, y 1, eq_ix2 y⟩
  have h2 : ∀ (X : Vec Ideal S592x1024 .f32), ((cfgM m (ok m)).win 5).cut (grid0.coords t) X (ix2 r n) = X (ix2 r n) := fun _ => rfl
  refine (h2 _).trans ?_
  refine (congrFun (out_5 (F := Ideal) c (grid0.coords t) _ _ _ _ _ _ _ _ _ _ _ _ _ _ _ _ _ _ (bk0 m c t) (bk1 m c t) (bk2 m c t) (bk3 m c t) (bk4 m c t) (tbl m 0)) (ix2 r n)).trans ?_
  refine (pay_5 m c t r n).trans ?_
  refine (congrArg (Cert.Reference13Ideal.Read.val_main_v27 (F := Ideal) (a0 m c) (a1 m c)) (emb_5 m t r n).symm).trans ?_
  rfl

theorem final_5 : (dats m (ok m) 0 c).arrAt 5 (cfgM m (ok m)).N = (Cert.Reference13Ideal.Read.val_main_v27 (F := Ideal) (a0 m c) (a1 m c) : Vec Ideal S1184x1024 .f32) :=
  (dats m (ok m) 0 c).arrAt_eq_of_cover 5 _ (flushed_5 m c) fun (i : S1184x1024.Idx) => by
    have h0 : (i 0 : Nat) < 1184 := (i 0).isLt
    have h1 : (i 1 : Nat) < 1024 := (i 1).isLt
    have hN : (cfgM m (ok m)).N = 2 := (by decide : grid0.N = 2)
    let t : Fin (cfgM m (ok m)).N := ⟨(i 0 : Nat) / 592, by omega⟩
    have ht : t.val = (i 0 : Nat) / 592 := rfl
    have hi := at5 m t
    refine ⟨t, flush0_5 (adm m (ok m)) t, ?_⟩
    refine (View.set_slice_whole main_v6_0 (((cfgM m (ok m)).win 5).rect t)).symm.subset ?_
    refine Rect.mem_set_unit.mpr ?_
    intro a
    match a with
    | ⟨0, _⟩ =>
      show ix_5 m t 0 * 592 ≤ (i 0 : Nat) ∧ (i 0 : Nat) < ix_5 m t 0 * 592 + 592
      rw [hi.1]; omega
    | ⟨1, _⟩ =>
      show ix_5 m t 1 * 1024 ≤ (i 1 : Nat) ∧ (i 1 : Nat) < ix_5 m t 1 * 1024 + 1024
      rw [hi.2]; omega

theorem pay_6 (r : Fin 592) (n : Fin 1024) :
    (k0_pay1 (F := Ideal) (k0_pay3 (bk2 m c t)) (k0_pay6 (bk0 m c t) (recv0 (bk1 m c t)) (recv1 (bk1 m c t)) (recv2 (bk1 m c t)) (bk3 m c t)) (k0_pay7 (bk0 m c t) (recv0 (bk1 m c t)) (recv1 (bk1 m c t)) (recv2 (bk1 m c t)) (bk4 m c t)) : Vec Ideal S592x1024 .f32) (ix2 r n) = Cert.Reference13Ideal.Read.val_main_v28 (F := Ideal) (a0 m c) (a1 m c) (a2 m c) (a3 m c) (a4 m c) (ix2 (gr t.val r) n) := by rw [pay1_at, pay4_at, pay5_at, grad_at, iblk2, iblk3, iblk4, V3, V4, V5, ref28_at]

theorem emb_6 (r : Fin 592) (n : Fin 1024) :
    ((((cfgM m (ok m)).win 6).blk t).view.emb (ix2 r n) : S1184x1024.Idx) = ix2 (gr t.val r) n := by
  have hi := at6 m t
  funext a
  apply Fin.ext
  match a with
  | ⟨0, _⟩ => show ix_6 m t 0 * 592 + 1 * r.val = (gr t.val r).val; rw [hi.1, gr_eq]; have := lt2 m t; omega
  | ⟨1, _⟩ => show ix_6 m t 1 * 1024 + 1 * n.val = _; rw [hi.2]; simp

theorem flushed_6 (hf : ((cfgM m (ok m)).win 6).flush t = true) :
    (dats m (ok m) 0 c).flushed 6 t = (((cfgM m (ok m)).win 6).blk t).view.read (Elt Ideal) (Cert.Reference13Ideal.Read.val_main_v28 (F := Ideal) (a0 m c) (a1 m c) (a2 m c) (a3 m c) (a4 m c)) := by
  show ((cfgM m (ok m)).win 6).cut (grid0.coords t) ((dats m (ok m) 0 c).after 6 t) = _
  rw [after0_6]
  unfold outsAt0
  dsimp only
  refine funext fun (y : S592x1024.Idx) => ?_
  obtain ⟨r, n, rfl⟩ : ∃ (r : Fin 592) (n : Fin 1024), y = ix2 r n := ⟨y 0, y 1, eq_ix2 y⟩
  have h2 : ∀ (X : Vec Ideal S592x1024 .f32), ((cfgM m (ok m)).win 6).cut (grid0.coords t) X (ix2 r n) = X (ix2 r n) := fun _ => rfl
  refine (h2 _).trans ?_
  refine (congrFun (out_6 (F := Ideal) c (grid0.coords t) _ _ _ _ _ _ _ _ _ _ _ _ _ _ _ _ _ _ (bk0 m c t) (bk1 m c t) (bk2 m c t) (bk3 m c t) (bk4 m c t) (tbl m 0)) (ix2 r n)).trans ?_
  refine (pay_6 m c t r n).trans ?_
  refine (congrArg (Cert.Reference13Ideal.Read.val_main_v28 (F := Ideal) (a0 m c) (a1 m c) (a2 m c) (a3 m c) (a4 m c)) (emb_6 m t r n).symm).trans ?_
  rfl

theorem final_6 : (dats m (ok m) 0 c).arrAt 6 (cfgM m (ok m)).N = (Cert.Reference13Ideal.Read.val_main_v28 (F := Ideal) (a0 m c) (a1 m c) (a2 m c) (a3 m c) (a4 m c) : Vec Ideal S1184x1024 .f32) :=
  (dats m (ok m) 0 c).arrAt_eq_of_cover 6 _ (flushed_6 m c) fun (i : S1184x1024.Idx) => by
    have h0 : (i 0 : Nat) < 1184 := (i 0).isLt
    have h1 : (i 1 : Nat) < 1024 := (i 1).isLt
    have hN : (cfgM m (ok m)).N = 2 := (by decide : grid0.N = 2)
    let t : Fin (cfgM m (ok m)).N := ⟨(i 0 : Nat) / 592, by omega⟩
    have ht : t.val = (i 0 : Nat) / 592 := rfl
    have hi := at6 m t
    refine ⟨t, flush0_6 (adm m (ok m)) t, ?_⟩
    refine (View.set_slice_whole main_v6_1 (((cfgM m (ok m)).win 6).rect t)).symm.subset ?_
    refine Rect.mem_set_unit.mpr ?_
    intro a
    match a with
    | ⟨0, _⟩ =>
      show ix_6 m t 0 * 592 ≤ (i 0 : Nat) ∧ (i 0 : Nat) < ix_6 m t 0 * 592 + 592
      rw [hi.1]; omega
    | ⟨1, _⟩ =>
      show ix_6 m t 1 * 1024 ≤ (i 1 : Nat) ∧ (i 1 : Nat) < ix_6 m t 1 * 1024 + 1024
      rw [hi.2]; omega

theorem pay_7 (r : Fin 592) (n : Fin 1024) :
    (k0_pay4 (F := Ideal) (bk0 m c t) (recv0 (bk1 m c t)) (recv1 (bk1 m c t)) (recv2 (bk1 m c t)) (bk3 m c t) : Vec Ideal S592x1024 .f32) (ix2 r n) = Cert.Reference13Ideal.Read.val_main_v29 (F := Ideal) (a0 m c) (a1 m c) (a3 m c) (ix2 (gr t.val r) n) := by rw [pay4_at, grad_at, iblk3, V4, ref29_at]

theorem emb_7 (r : Fin 592) (n : Fin 1024) :
    ((((cfgM m (ok m)).win 7).blk t).view.emb (ix2 r n) : S1184x1024.Idx) = ix2 (gr t.val r) n := by
  have hi := at7 m t
  funext a
  apply Fin.ext
  match a with
  | ⟨0, _⟩ => show ix_7 m t 0 * 592 + 1 * r.val = (gr t.val r).val; rw [hi.1, gr_eq]; have := lt2 m t; omega
  | ⟨1, _⟩ => show ix_7 m t 1 * 1024 + 1 * n.val = _; rw [hi.2]; simp

theorem flushed_7 (hf : ((cfgM m (ok m)).win 7).flush t = true) :
    (dats m (ok m) 0 c).flushed 7 t = (((cfgM m (ok m)).win 7).blk t).view.read (Elt Ideal) (Cert.Reference13Ideal.Read.val_main_v29 (F := Ideal) (a0 m c) (a1 m c) (a3 m c)) := by
  show ((cfgM m (ok m)).win 7).cut (grid0.coords t) ((dats m (ok m) 0 c).after 7 t) = _
  rw [after0_7]
  unfold outsAt0
  dsimp only
  refine funext fun (y : S592x1024.Idx) => ?_
  obtain ⟨r, n, rfl⟩ : ∃ (r : Fin 592) (n : Fin 1024), y = ix2 r n := ⟨y 0, y 1, eq_ix2 y⟩
  have h2 : ∀ (X : Vec Ideal S592x1024 .f32), ((cfgM m (ok m)).win 7).cut (grid0.coords t) X (ix2 r n) = X (ix2 r n) := fun _ => rfl
  refine (h2 _).trans ?_
  refine (congrFun (out_7 (F := Ideal) c (grid0.coords t) _ _ _ _ _ _ _ _ _ _ _ _ _ _ _ _ _ _ (bk0 m c t) (bk1 m c t) (bk2 m c t) (bk3 m c t) (bk4 m c t) (tbl m 0)) (ix2 r n)).trans ?_
  refine (pay_7 m c t r n).trans ?_
  refine (congrArg (Cert.Reference13Ideal.Read.val_main_v29 (F := Ideal) (a0 m c) (a1 m c) (a3 m c)) (emb_7 m t r n).symm).trans ?_
  rfl

theorem final_7 : (dats m (ok m) 0 c).arrAt 7 (cfgM m (ok m)).N = (Cert.Reference13Ideal.Read.val_main_v29 (F := Ideal) (a0 m c) (a1 m c) (a3 m c) : Vec Ideal S1184x1024 .f32) :=
  (dats m (ok m) 0 c).arrAt_eq_of_cover 7 _ (flushed_7 m c) fun (i : S1184x1024.Idx) => by
    have h0 : (i 0 : Nat) < 1184 := (i 0).isLt
    have h1 : (i 1 : Nat) < 1024 := (i 1).isLt
    have hN : (cfgM m (ok m)).N = 2 := (by decide : grid0.N = 2)
    let t : Fin (cfgM m (ok m)).N := ⟨(i 0 : Nat) / 592, by omega⟩
    have ht : t.val = (i 0 : Nat) / 592 := rfl
    have hi := at7 m t
    refine ⟨t, flush0_7 (adm m (ok m)) t, ?_⟩
    refine (View.set_slice_whole main_v6_2 (((cfgM m (ok m)).win 7).rect t)).symm.subset ?_
    refine Rect.mem_set_unit.mpr ?_
    intro a
    match a with
    | ⟨0, _⟩ =>
      show ix_7 m t 0 * 592 ≤ (i 0 : Nat) ∧ (i 0 : Nat) < ix_7 m t 0 * 592 + 592
      rw [hi.1]; omega
    | ⟨1, _⟩ =>
      show ix_7 m t 1 * 1024 ≤ (i 1 : Nat) ∧ (i 1 : Nat) < ix_7 m t 1 * 1024 + 1024
      rw [hi.2]; omega

theorem pay_8 (r : Fin 592) (n : Fin 1024) :
    (k0_pay5 (F := Ideal) (bk0 m c t) (recv0 (bk1 m c t)) (recv1 (bk1 m c t)) (recv2 (bk1 m c t)) (bk4 m c t) : Vec Ideal S592x1024 .f32) (ix2 r n) = Cert.Reference13Ideal.Read.val_main_v30 (F := Ideal) (a0 m c) (a1 m c) (a4 m c) (ix2 (gr t.val r) n) := by rw [pay5_at, grad_at, iblk4, V5, ref30_at]

theorem emb_8 (r : Fin 592) (n : Fin 1024) :
    ((((cfgM m (ok m)).win 8).blk t).view.emb (ix2 r n) : S1184x1024.Idx) = ix2 (gr t.val r) n := by
  have hi := at8 m t
  funext a
  apply Fin.ext
  match a with
  | ⟨0, _⟩ => show ix_8 m t 0 * 592 + 1 * r.val = (gr t.val r).val; rw [hi.1, gr_eq]; have := lt2 m t; omega
  | ⟨1, _⟩ => show ix_8 m t 1 * 1024 + 1 * n.val = _; rw [hi.2]; simp

theorem flushed_8 (hf : ((cfgM m (ok m)).win 8).flush t = true) :
    (dats m (ok m) 0 c).flushed 8 t = (((cfgM m (ok m)).win 8).blk t).view.read (Elt Ideal) (Cert.Reference13Ideal.Read.val_main_v30 (F := Ideal) (a0 m c) (a1 m c) (a4 m c)) := by
  show ((cfgM m (ok m)).win 8).cut (grid0.coords t) ((dats m (ok m) 0 c).after 8 t) = _
  rw [after0_8]
  unfold outsAt0
  dsimp only
  refine funext fun (y : S592x1024.Idx) => ?_
  obtain ⟨r, n, rfl⟩ : ∃ (r : Fin 592) (n : Fin 1024), y = ix2 r n := ⟨y 0, y 1, eq_ix2 y⟩
  have h2 : ∀ (X : Vec Ideal S592x1024 .f32), ((cfgM m (ok m)).win 8).cut (grid0.coords t) X (ix2 r n) = X (ix2 r n) := fun _ => rfl
  refine (h2 _).trans ?_
  refine (congrFun (out_8 (F := Ideal) c (grid0.coords t) _ _ _ _ _ _ _ _ _ _ _ _ _ _ _ _ _ _ (bk0 m c t) (bk1 m c t) (bk2 m c t) (bk3 m c t) (bk4 m c t) (tbl m 0)) (ix2 r n)).trans ?_
  refine (pay_8 m c t r n).trans ?_
  refine (congrArg (Cert.Reference13Ideal.Read.val_main_v30 (F := Ideal) (a0 m c) (a1 m c) (a4 m c)) (emb_8 m t r n).symm).trans ?_
  rfl

theorem final_8 : (dats m (ok m) 0 c).arrAt 8 (cfgM m (ok m)).N = (Cert.Reference13Ideal.Read.val_main_v30 (F := Ideal) (a0 m c) (a1 m c) (a4 m c) : Vec Ideal S1184x1024 .f32) :=
  (dats m (ok m) 0 c).arrAt_eq_of_cover 8 _ (flushed_8 m c) fun (i : S1184x1024.Idx) => by
    have h0 : (i 0 : Nat) < 1184 := (i 0).isLt
    have h1 : (i 1 : Nat) < 1024 := (i 1).isLt
    have hN : (cfgM m (ok m)).N = 2 := (by decide : grid0.N = 2)
    let t : Fin (cfgM m (ok m)).N := ⟨(i 0 : Nat) / 592, by omega⟩
    have ht : t.val = (i 0 : Nat) / 592 := rfl
    have hi := at8 m t
    refine ⟨t, flush0_8 (adm m (ok m)) t, ?_⟩
    refine (View.set_slice_whole main_v6_3 (((cfgM m (ok m)).win 8).rect t)).symm.subset ?_
    refine Rect.mem_set_unit.mpr ?_
    intro a
    match a with
    | ⟨0, _⟩ =>
      show ix_8 m t 0 * 592 ≤ (i 0 : Nat) ∧ (i 0 : Nat) < ix_8 m t 0 * 592 + 592
      rw [hi.1]; omega
    | ⟨1, _⟩ =>
      show ix_8 m t 1 * 1024 ≤ (i 1 : Nat) ∧ (i 1 : Nat) < ix_8 m t 1 * 1024 + 1024
      rw [hi.2]; omega

end Cert.Proof.Adam

end
-- ==== Proof.AdamClaim.lean ====
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Adam
public import Idealize.ShloMosaic.Lib.Claim

@[expose] public section

set_option maxRecDepth 16384

noncomputable section

/-! The claims about the kernel of `adam_w_in` and its reference. -/

namespace Cert.Proof.Adam

open Idealize.ShloMosaic Idealize.SL.Sem

/-! The index the kernel as written is passed, as for the idealised one. -/

namespace Word
open Cert.Kernel13 Cert.Kernel13.Gen
variable {F : FTy → Type} [FloatOps F] (m : (ℓ : Loc nD τ sig) → Buf (Elt F) ℓ)

/-- The index passed to the kernel is zero, -/
theorem index_zero : (V m 0 main_v0 : S1.Idx → BitVec 32) = fun _ => 0#32 := by
  have e : V m 0 main_v0 = (broadcastInDim S1 ![] bcast_S_S1 (constantI S_ 32 0#32) : S1.Idx → BitVec 32) := by
    unfold V; after_results
  rw [e]; rfl

theorem tbl_at (x : S1.Idx) : (tbl m 0 : S1.Idx → BitVec 32) x = 0#32 := congrFun (index_zero m) x

theorem transform0 (i : grid0.Coords) : cc0_transform_0 inb_S1_S1_0 numel1_S1 (tbl m) i = ![0, (BitVec.ofNat 32 (i 0).val).toNat, 0] := by
  unfold cc0_transform_0
  rw [show (tbl m).at 0 (Rect.unit (s := S1) ![0] S1.size inb_S1_S1_0) numel1_S1 = 0#32 from tbl_at m _]
  rfl

theorem inside : ∀ (i : grid0.Coords) (a : Fin 3), ((![0, (BitVec.ofNat 32 (i 0).val).toNat, 0] : Fin 3 → Nat) a + 1) * S1x592x1024.size a ≤ S1x1184x1024.size a := by decide

/-- so its block lies in the array. -/
theorem ok : Ok m := by
  intro i
  refine ⟨fun a => ?_, .inl rfl⟩
  rw [transform0]
  exact inside i a
end Word

attribute [local instance] Cert.Kernel13.Gen.facts Cert.Kernel13Ideal.Gen.facts Cert.Reference13Ideal.Gen.facts

theorem frame_kernel : Cert.quiescent_Kernel13 := fun m ρ _ => Cert.Kernel13.Gen.frame m ρ (Word.ok m)

theorem frame_ideal : Cert.quiescent_Kernel13Ideal := fun m ρ _ => Cert.Kernel13Ideal.Gen.frame m ρ (ok m)

theorem frame_reference : Cert.quiescent_Reference13Ideal := fun m ρ _ =>
  (θ_run Cert.Reference13Ideal.defs _ _).mono
    (fun r h => ⟨fun c => (h c).2.2.2.2, sem_eq_zero_of_no_sems (by decide) r.2⟩)
    (Cert.Reference13Ideal.Value.run (F := Ideal) m ρ)

section run
open Cert.Kernel13Ideal Cert.Kernel13Ideal.Gen Idealize.ShloMosaic.TcCoe

/-- The kernel's run leaves the four result arrays and the arguments so. -/
theorem run_blocks (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v6_0) = (dats m (ok m) 0 c).arrAt 5 (cfgM m (ok m)).N
      ∧ r.2.mem ((c : Thread nD τ).loc main_v6_1) = (dats m (ok m) 0 c).arrAt 6 (cfgM m (ok m)).N
      ∧ r.2.mem ((c : Thread nD τ).loc main_v6_2) = (dats m (ok m) 0 c).arrAt 7 (cfgM m (ok m)).N
      ∧ r.2.mem ((c : Thread nD τ).loc main_v6_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1 5, (h c).1 6, (h c).1 7, (h c).1 8,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) (run_main m ρ (ok m))
end run

theorem algebraic : Cert.algebraic_Kernel13Ideal_Reference13Ideal := by
  intro m g m' g' _ hag
  refine ⟨fun c => Cert.Reference13Ideal.Read.val_main_v27 (F := Ideal) (a0 m c) (a1 m c),
    fun c => Cert.Reference13Ideal.Read.val_main_v28 (F := Ideal) (a0 m c) (a1 m c) (a2 m c) (a3 m c) (a4 m c),
    fun c => Cert.Reference13Ideal.Read.val_main_v29 (F := Ideal) (a0 m c) (a1 m c) (a3 m c),
    fun c => Cert.Reference13Ideal.Read.val_main_v30 (F := Ideal) (a0 m c) (a1 m c) (a4 m c), ?_, ?_⟩
  · exact (θ_run Cert.Kernel13Ideal.defs _ _).mono
      (fun r h c => ⟨(h c).1.trans (final_5 m c), (h c).2.1.trans (final_6 m c), (h c).2.2.1.trans (final_7 m c), (h c).2.2.2.1.trans (final_8 m c), (h c).2.2.2.2⟩)
      (run_blocks m g)
  · refine (θ_run Cert.Reference13Ideal.defs _ _).mono (fun r h c => ?_) (Cert.Reference13Ideal.Value.run (F := Ideal) m' g')
    obtain ⟨e0, e1, e2, e3, e4⟩ := hag c
    obtain ⟨h0, h1, h2, h3, hargs⟩ := h c
    rw [Cert.Reference13Ideal.Read.val_main_v27_eq, e0, e1] at h0
    rw [Cert.Reference13Ideal.Read.val_main_v28_eq, e0, e1, e2, e3, e4] at h1
    rw [Cert.Reference13Ideal.Read.val_main_v29_eq, e0, e1, e3] at h2
    rw [Cert.Reference13Ideal.Read.val_main_v30_eq, e0, e1, e4] at h3
    exact ⟨h0, h1, h2, h3, hargs⟩

end Cert.Proof.Adam

end
-- ==== Proof.SmallOut.lean ====
module

public import proofs.«01_k».proof.Proof.Gen.Kernel14Ideal.Frame
public import proofs.«01_k».proof.Proof.AdamPay

@[expose] public section

set_option maxRecDepth 16384

noncomputable section

/-! What the one point of the kernel of `adam_small` leaves, as its payloads of the point's blocks. -/

namespace Cert.Proof.Small

open Idealize.ShloMosaic Cert.Kernel14Ideal Cert.Kernel14Ideal.Gen
open Cert.Proof.Adam (hz hz3)

variable {F : FTy → Type} [FloatOps F]

/-- The parts of the gradient that three other devices sent. -/
def recv0 (x : Vec F S3x256x128 .bf16) : Vec F S1x256x128 .bf16 :=
  View.ld x (Rect.unit (s := S3x256x128) ![0, 0, 0] ![1, 256, 128] inb_S3x256x128_S1x256x128_0_0_0)
def recv1 (x : Vec F S3x256x128 .bf16) : Vec F S1x256x128 .bf16 :=
  View.ld x (Rect.unit (s := S3x256x128) ![1, 0, 0] ![1, 256, 128] inb_S3x256x128_S1x256x128_1_0_0)
def recv2 (x : Vec F S3x256x128 .bf16) : Vec F S1x256x128 .bf16 :=
  View.ld x (Rect.unit (s := S3x256x128) ![2, 0, 0] ![1, 256, 128] inb_S3x256x128_S1x256x128_2_0_0)

variable (c : Dev nD) (i : grid0.Coords) (arg2 : Memref sig .tc .vmem S1x256x128 .f32) (harg2 : arg2.IsWhole) (arg3 : Memref sig .tc .vmem S3x256x128 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole)
  (x0 : Vec F S1x256x128 .f32) (x1 : Vec F S3x256x128 .bf16) (x2 x3 x4 : Vec F S256x128 .f32) (xt0 : TbBuf0 (F := F) c tbM0_0)

/-- The gradient, -/
theorem out_5 : out0_A_5 c i arg2 harg2 arg3 harg3 arg4 harg4 arg5 harg5 arg6 harg6 arg7 harg7 arg8 harg8 arg9 harg9 arg10 harg10 x0 x1 x2 x3 x4 xt0 = k0_pay2 x0 (recv0 x1) (recv1 x1) (recv2 x1) := by
  unfold out0_A_5
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x128) hz, View.ld_unit_zero (S := S1x256x128) hz3]
  rfl

/-- the step, -/
theorem out_6 : out0_A_6 c i arg2 harg2 arg3 harg3 arg4 harg4 arg5 harg5 arg6 harg6 arg7 harg7 arg8 harg8 arg9 harg9 arg10 harg10 x0 x1 x2 x3 x4 xt0 = k0_pay1 (k0_pay3 x2) (k0_pay6 x0 (recv0 x1) (recv1 x1) (recv2 x1) x3) (k0_pay7 x0 (recv0 x1) (recv1 x1) (recv2 x1) x4) := by
  unfold out0_A_6
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x128) hz, View.ld_unit_zero (S := S1x256x128) hz3]
  rfl

/-- the first moment -/
theorem out_7 : out0_A_7 c i arg2 harg2 arg3 harg3 arg4 harg4 arg5 harg5 arg6 harg6 arg7 harg7 arg8 harg8 arg9 harg9 arg10 harg10 x0 x1 x2 x3 x4 xt0 = k0_pay4 x0 (recv0 x1) (recv1 x1) (recv2 x1) x3 := by
  unfold out0_A_7
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x128) hz, View.ld_unit_zero (S := S1x256x128) hz3]
  rfl

/-- and the second. -/
theorem out_8 : out0_A_8 c i arg2 harg2 arg3 harg3 arg4 harg4 arg5 harg5 arg6 harg6 arg7 harg7 arg8 harg8 arg9 harg9 arg10 harg10 x0 x1 x2 x3 x4 xt0 = k0_pay5 x0 (recv0 x1) (recv1 x1) (recv2 x1) x4 := by
  unfold out0_A_8
  rw [View.read_writes_junk_eq_canon]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S256x128) hz, View.ld_unit_zero (S := S1x256x128) hz3]
  rfl

end Cert.Proof.Small

end
-- ==== Proof.SmallPay.lean ====
module

public import proofs.«01_k».proof.Proof.Rows
public import proofs.«01_k».proof.Proof.SmallOut
public import proofs.«01_k».proof.Proof.Gen.Reference14Ideal.Read

@[expose] public section

set_option maxRecDepth 16384

noncomputable section

/-! The payloads of the kernel of `adam_small` and its reference's results, at an index. -/

namespace Cert.Proof.Small

open Idealize.ShloMosaic Cert.Proof.Rows
open Cert.Proof.Adam (mom vel step)

section kernel
open Cert.Kernel14Ideal Cert.Kernel14Ideal.Gen

theorem recv0_at (x : Vec Ideal S3x256x128 .bf16) (r : Fin 256) (n : Fin 128) : recv0 x (ix3 0 r n) = x (ix3 0 r n) := by
  unfold recv0; pointwise

theorem recv1_at (x : Vec Ideal S3x256x128 .bf16) (r : Fin 256) (n : Fin 128) : recv1 x (ix3 0 r n) = x (ix3 1 r n) := by
  unfold recv1; pointwise

theorem recv2_at (x : Vec Ideal S3x256x128 .bf16) (r : Fin 256) (n : Fin 128) : recv2 x (ix3 0 r n) = x (ix3 2 r n) := by
  unfold recv2; pointwise

/-- The sum of the device's own part of the gradient and the three it received. -/
theorem pay2_at (x0 : Vec Ideal S1x256x128 .f32) (x1 : Vec Ideal S3x256x128 .bf16) (r : Fin 256) (n : Fin 128) :
    k0_pay2 (F := Ideal) x0 (recv0 x1) (recv1 x1) (recv2 x1) (ix2 r n) = x0 (ix3 0 r n) + x1 (ix3 0 r n) + x1 (ix3 1 r n) + x1 (ix3 2 r n) := by
  simp only [← recv0_at, ← recv1_at, ← recv2_at]
  generalize recv0 x1 = a
  generalize recv1 x1 = b
  generalize recv2 x1 = d
  pointwise [k0_pay2]

variable (x0 : Vec Ideal S1x256x128 .f32) (y0 y1 y2 : Vec Ideal S1x256x128 .bf16) (m v w : Vec Ideal S256x128 .f32) (r : Fin 256) (n : Fin 128)

theorem pay4_at : k0_pay4 (F := Ideal) x0 y0 y1 y2 m (ix2 r n) = mom (k0_pay2 (F := Ideal) x0 y0 y1 y2 (ix2 r n)) (m (ix2 r n)) := by
  generalize hg : k0_pay2 (F := Ideal) x0 y0 y1 y2 = g
  unfold k0_pay4 mom
  rw [hg]
  pointwise

theorem pay5_at : k0_pay5 (F := Ideal) x0 y0 y1 y2 v (ix2 r n) = vel (k0_pay2 (F := Ideal) x0 y0 y1 y2 (ix2 r n)) (v (ix2 r n)) := by
  generalize hg : k0_pay2 (F := Ideal) x0 y0 y1 y2 = g
  unfold k0_pay5 vel
  rw [hg]
  pointwise

theorem pay1_at :
    k0_pay1 (F := Ideal) (k0_pay3 w) (k0_pay6 x0 y0 y1 y2 m) (k0_pay7 x0 y0 y1 y2 v) (ix2 r n) =
      step (w (ix2 r n)) (k0_pay4 (F := Ideal) x0 y0 y1 y2 m (ix2 r n)) (k0_pay5 (F := Ideal) x0 y0 y1 y2 v (ix2 r n)) := by
  unfold k0_pay6 k0_pay7
  generalize k0_pay4 (F := Ideal) x0 y0 y1 y2 m = a
  generalize k0_pay5 (F := Ideal) x0 y0 y1 y2 v = b
  unfold step
  pointwise [k0_pay1, k0_pay3]
end kernel

section reference
open Cert.Reference14Ideal Cert.Reference14Ideal.Read
variable (x0 : Vec Ideal S256x128 .f32) (x1 : Vec Ideal S3x256x128 .f32) (x2 x3 : Vec Ideal S64x128 .f32) (x4 : Vec Ideal S128x128 .f32)
  (x5 x6 : Vec Ideal S64x128 .f32) (x7 : Vec Ideal S128x128 .f32) (x8 x9 : Vec Ideal S64x128 .f32) (x10 : Vec Ideal S128x128 .f32) (r : Fin 256) (n : Fin 128)

theorem ref1_at : val_main_v1 (F := Ideal) x0 x1 (ix2 r n) = x0 (ix2 r n) + x1 (ix3 0 r n) + x1 (ix3 1 r n) + x1 (ix3 2 r n) := by
  have e : val_main_v1 (F := Ideal) x0 x1 (ix2 r n) = x0 (ix2 r n) + ∑ k : Fin 3, x1 (ix3 k r n) := by
    pointwise [val_main_v1, val_main_v0, val_main_cst]
  rw [e, Fin.sum_univ_three, ← add_assoc, ← add_assoc]

theorem ref9_at : val_main_v9 (F := Ideal) x0 x1 x5 x6 x7 (ix2 r n) = mom (val_main_v1 (F := Ideal) x0 x1 (ix2 r n)) (val_main_v3 (F := Ideal) x5 x6 x7 (ix2 r n)) := by
  unfold mom val_main_v9 val_main_v8 val_main_v6
  generalize val_main_v1 (F := Ideal) x0 x1 = g
  generalize val_main_v3 (F := Ideal) x5 x6 x7 = a
  pointwise [val_main_v7, val_main_v5, val_main_cst_0, val_main_cst_1]

theorem ref15_at : val_main_v15 (F := Ideal) x0 x1 x8 x9 x10 (ix2 r n) = vel (val_main_v1 (F := Ideal) x0 x1 (ix2 r n)) (val_main_v4 (F := Ideal) x8 x9 x10 (ix2 r n)) := by
  unfold vel val_main_v15 val_main_v14 val_main_v12 val_main_v11
  generalize val_main_v1 (F := Ideal) x0 x1 = g
  generalize val_main_v4 (F := Ideal) x8 x9 x10 = a
  pointwise [val_main_v13, val_main_v10, val_main_cst_2, val_main_cst_3]

theorem ref28_at : val_main_v28 (F := Ideal) x0 x1 x2 x3 x4 x5 x6 x7 x8 x9 x10 (ix2 r n) =
    step (val_main_v2 (F := Ideal) x2 x3 x4 (ix2 r n)) (val_main_v9 (F := Ideal) x0 x1 x5 x6 x7 (ix2 r n)) (val_main_v15 (F := Ideal) x0 x1 x8 x9 x10 (ix2 r n)) := by
  unfold step val_main_v28 val_main_v26 val_main_v25 val_main_v23 val_main_v22 val_main_v20 val_main_v19 val_main_v17
  generalize val_main_v9 (F := Ideal) x0 x1 x5 x6 x7 = a
  generalize val_main_v15 (F := Ideal) x0 x1 x8 x9 x10 = b
  generalize val_main_v2 (F := Ideal) x2 x3 x4 = w
  pointwise [val_main_v27, val_main_v24, val_main_v21, val_main_v18, val_main_v16, val_main_cst_4, val_main_cst_5, val_main_cst_6, val_main_cst_7, val_main_cst_8]
end reference

end Cert.Proof.Small

end
-- ==== Proof.Small.lean ====
module

public import proofs.«01_k».proof.Proof.SmallPay

@[expose] public section

set_option maxRecDepth 16384

noncomputable section

/-! The result arrays of the kernel of `adam_small` are its reference's. The one point takes the arrays whole; the index of the
device's own part is the one the host passes, zero. -/

namespace Cert.Proof.Small

open Idealize.ShloMosaic Idealize.ShloMosaic.TcCoe Cert.Kernel14Ideal Cert.Kernel14Ideal.Gen Cert.Proof.Rows

section table
variable {F : FTy → Type} [FloatOps F] (m : (ℓ : Loc nD τ sig) → Buf (Elt F) ℓ)

/-- The index passed to the kernel is zero, -/
theorem index_zero : (V m 0 main_v0 : S1.Idx → BitVec 32) = fun _ => 0#32 := by
  have e : V m 0 main_v0 = (broadcastInDim S1 ![] bcast_S_S1 (constantI S_ 32 0#32) : S1.Idx → BitVec 32) := by
    unfold V; after_results
  rw [e]; rfl

theorem tbl_at (x : S1.Idx) : (tbl m 0 : S1.Idx → BitVec 32) x = 0#32 := congrFun (index_zero m) x

theorem transform0 (i : grid0.Coords) : cc0_transform_0 inb_S1_S1_0 numel1_S1 (tbl m) i = ![0, (BitVec.ofNat 32 (i 0).val).toNat, 0] := by
  unfold cc0_transform_0
  rw [show (tbl m).at 0 (Rect.unit (s := S1) ![0] S1.size inb_S1_S1_0) numel1_S1 = 0#32 from tbl_at m _]
  rfl

theorem inside : ∀ (i : grid0.Coords) (a : Fin 3), ((![0, (BitVec.ofNat 32 (i 0).val).toNat, 0] : Fin 3 → Nat) a + 1) * S1x256x128.size a ≤ S1x256x128.size a := by decide

/-- so its block lies in the array. -/
theorem ok : Ok m := by
  intro i
  refine ⟨fun a => ?_, .inl rfl⟩
  rw [transform0]
  exact inside i a
end table

theorem tr0 : ∀ t : Fin grid0.N, (BitVec.ofNat 32 ((grid0.coords t) 0).val).toNat = 0 := by decide +kernel
theorem tr1 : ∀ t : Fin grid0.N, cc0_transform_1 (grid0.coords t) 0 = 0 ∧ cc0_transform_1 (grid0.coords t) 1 = 0 ∧ cc0_transform_1 (grid0.coords t) 2 = 0 := by decide +kernel
theorem tr2 : ∀ t : Fin grid0.N, cc0_transform_2 (grid0.coords t) 0 = 0 ∧ cc0_transform_2 (grid0.coords t) 1 = 0 := by decide +kernel
theorem tr3 : ∀ t : Fin grid0.N, cc0_transform_3 (grid0.coords t) 0 = 0 ∧ cc0_transform_3 (grid0.coords t) 1 = 0 := by decide +kernel
theorem tr4 : ∀ t : Fin grid0.N, cc0_transform_4 (grid0.coords t) 0 = 0 ∧ cc0_transform_4 (grid0.coords t) 1 = 0 := by decide +kernel
theorem tr5 : ∀ t : Fin grid0.N, cc0_transform_5 (grid0.coords t) 0 = 0 ∧ cc0_transform_5 (grid0.coords t) 1 = 0 := by decide +kernel
theorem tr6 : ∀ t : Fin grid0.N, cc0_transform_6 (grid0.coords t) 0 = 0 ∧ cc0_transform_6 (grid0.coords t) 1 = 0 := by decide +kernel
theorem tr7 : ∀ t : Fin grid0.N, cc0_transform_7 (grid0.coords t) 0 = 0 ∧ cc0_transform_7 (grid0.coords t) 1 = 0 := by decide +kernel
theorem tr8 : ∀ t : Fin grid0.N, cc0_transform_8 (grid0.coords t) 0 = 0 ∧ cc0_transform_8 (grid0.coords t) 1 = 0 := by decide +kernel

variable (m : (ℓ : Loc nD τ sig) → Buf (Elt Ideal) ℓ) (c : Dev nD)

/-- The arguments on a device, as arrays. -/
abbrev a0 : Vec Ideal S256x128 .f32 := m ((c : Thread nD τ).loc main_arg0)
abbrev a1 : Vec Ideal S3x256x128 .f32 := m ((c : Thread nD τ).loc main_arg1)
abbrev a2 : Vec Ideal S64x128 .f32 := m ((c : Thread nD τ).loc main_arg2)
abbrev a3 : Vec Ideal S64x128 .f32 := m ((c : Thread nD τ).loc main_arg3)
abbrev a4 : Vec Ideal S128x128 .f32 := m ((c : Thread nD τ).loc main_arg4)
abbrev a5 : Vec Ideal S64x128 .f32 := m ((c : Thread nD τ).loc main_arg5)
abbrev a6 : Vec Ideal S64x128 .f32 := m ((c : Thread nD τ).loc main_arg6)
abbrev a7 : Vec Ideal S128x128 .f32 := m ((c : Thread nD τ).loc main_arg7)
abbrev a8 : Vec Ideal S64x128 .f32 := m ((c : Thread nD τ).loc main_arg8)
abbrev a9 : Vec Ideal S64x128 .f32 := m ((c : Thread nD τ).loc main_arg9)
abbrev a10 : Vec Ideal S128x128 .f32 := m ((c : Thread nD τ).loc main_arg10)

theorem V1 (r : Fin 256) (n : Fin 128) : (V m c main_v1 : Vec Ideal S1x256x128 .f32) (ix3 0 r n) = a0 m c (ix2 r n) := by
  have e : V m c main_v1 = (broadcastInDim S1x256x128 ![1, 2] bcast_S256x128_S1x256x128_1_2 (a0 m c) : FVec Ideal S1x256x128 .f32) := by
    unfold V; after_results
  rw [e]; generalize a0 m c = x; pointwise

theorem V2 : (V m c main_v2 : Vec Ideal S3x256x128 .bf16) = a1 m c := by
  have e : V m c main_v2 = (truncf .bf16 (a1 m c) bitsLt_bf16_f32 : FVec Ideal S3x256x128 .bf16) := by
    unfold V; after_results
  rw [e]; rfl

/-- The three weights, one above another. -/
theorem V3 : (V m c main_v3 : Vec Ideal S256x128 .f32) = Cert.Reference14Ideal.Read.val_main_v2 (F := Ideal) (a2 m c) (a3 m c) (a4 m c) := by
  unfold V; after_results_simp <;> (try dsimp only [Matrix.cons_val]) <;> (try after_results_simp) <;> rfl

/-- The three first moments, one above another. -/
theorem V4 : (V m c main_v4 : Vec Ideal S256x128 .f32) = Cert.Reference14Ideal.Read.val_main_v3 (F := Ideal) (a5 m c) (a6 m c) (a7 m c) := by
  unfold V; after_results_simp <;> (try dsimp only [Matrix.cons_val]) <;> (try after_results_simp) <;> rfl

/-- The three second, one above another. -/
theorem V5 : (V m c main_v5 : Vec Ideal S256x128 .f32) = Cert.Reference14Ideal.Read.val_main_v4 (F := Ideal) (a8 m c) (a9 m c) (a10 m c) := by
  unfold V; after_results_simp <;> (try dsimp only [Matrix.cons_val]) <;> (try after_results_simp) <;> rfl

variable (t : Fin (cfgM m (ok m)).N)

/-- The blocks of a point, their places and contents. -/
def ix_0 : Fin 3 → Nat := ((cfgM m (ok m)).win 0).index t
def ix_1 : Fin 3 → Nat := ((cfgM m (ok m)).win 1).index t
def ix_2 : Fin 2 → Nat := ((cfgM m (ok m)).win 2).index t
def ix_3 : Fin 2 → Nat := ((cfgM m (ok m)).win 3).index t
def ix_4 : Fin 2 → Nat := ((cfgM m (ok m)).win 4).index t
def ix_5 : Fin 2 → Nat := ((cfgM m (ok m)).win 5).index t
def ix_6 : Fin 2 → Nat := ((cfgM m (ok m)).win 6).index t
def ix_7 : Fin 2 → Nat := ((cfgM m (ok m)).win 7).index t
def ix_8 : Fin 2 → Nat := ((cfgM m (ok m)).win 8).index t
def bk0 : Vec Ideal S1x256x128 .f32 := iblk m (ok m) c 0 t
def bk1 : Vec Ideal S3x256x128 .bf16 := iblk m (ok m) c 1 t
def bk2 : Vec Ideal S256x128 .f32 := iblk m (ok m) c 2 t
def bk3 : Vec Ideal S256x128 .f32 := iblk m (ok m) c 3 t
def bk4 : Vec Ideal S256x128 .f32 := iblk m (ok m) c 4 t

theorem at0 : ix_0 m t 0 = 0 ∧ ix_0 m t 1 = 0 ∧ ix_0 m t 2 = 0 := by
  have e : ix_0 m t = cc0_transform_0 inb_S1_S1_0 numel1_S1 (tbl m) (grid0.coords t) := rfl
  rw [e, transform0]
  exact ⟨rfl, tr0 t, rfl⟩
theorem at1 : ix_1 m t 0 = 0 ∧ ix_1 m t 1 = 0 ∧ ix_1 m t 2 = 0 := tr1 t
theorem at2 : ix_2 m t 0 = 0 ∧ ix_2 m t 1 = 0 := tr2 t
theorem at3 : ix_3 m t 0 = 0 ∧ ix_3 m t 1 = 0 := tr3 t
theorem at4 : ix_4 m t 0 = 0 ∧ ix_4 m t 1 = 0 := tr4 t
theorem at5 : ix_5 m t 0 = 0 ∧ ix_5 m t 1 = 0 := tr5 t
theorem at6 : ix_6 m t 0 = 0 ∧ ix_6 m t 1 = 0 := tr6 t
theorem at7 : ix_7 m t 0 = 0 ∧ ix_7 m t 1 = 0 := tr7 t
theorem at8 : ix_8 m t 0 = 0 ∧ ix_8 m t 1 = 0 := tr8 t

theorem iblk0 (r : Fin 256) (n : Fin 128) :
    bk0 m c t (ix3 0 r n) = (V m c main_v1 : Vec Ideal S1x256x128 .f32) (ix3 0 r n) := by
  have hi := at0 m t
  refine congrArg (V m c main_v1 : Vec Ideal S1x256x128 .f32) (show ((((cfgM m (ok m)).win 0).blk t).view.emb (ix3 0 r n) : S1x256x128.Idx) = ix3 0 r n from ?_)
  funext a
  apply Fin.ext
  match a with
  | ⟨0, _⟩ => show ix_0 m t 0 * 1 + 1 * (0 : Fin 1).val = _; rw [hi.1]; simp
  | ⟨1, _⟩ => show ix_0 m t 1 * 256 + 1 * r.val = _; rw [hi.2.1]; simp
  | ⟨2, _⟩ => show ix_0 m t 2 * 128 + 1 * n.val = _; rw [hi.2.2]; simp

theorem iblk1 (k : Fin 3) (r : Fin 256) (n : Fin 128) :
    bk1 m c t (ix3 k r n) = (V m c main_v2 : Vec Ideal S3x256x128 .bf16) (ix3 k r n) := by
  have hi := at1 m t
  refine congrArg (V m c main_v2 : Vec Ideal S3x256x128 .bf16) (show ((((cfgM m (ok m)).win 1).blk t).view.emb (ix3 k r n) : S3x256x128.Idx) = ix3 k r n from ?_)
  funext a
  apply Fin.ext
  match a with
  | ⟨0, _⟩ => show ix_1 m t 0 * 3 + 1 * k.val = _; rw [hi.1]; simp
  | ⟨1, _⟩ => show ix_1 m t 1 * 256 + 1 * r.val = _; rw [hi.2.1]; simp
  | ⟨2, _⟩ => show ix_1 m t 2 * 128 + 1 * n.val = _; rw [hi.2.2]; simp

theorem iblk2 (r : Fin 256) (n : Fin 128) :
    bk2 m c t (ix2 r n) = (V m c main_v3 : Vec Ideal S256x128 .f32) (ix2 r n) := by
  have hi := at2 m t
  refine congrArg (V m c main_v3 : Vec Ideal S256x128 .f32) (show ((((cfgM m (ok m)).win 2).blk t).view.emb (ix2 r n) : S256x128.Idx) = ix2 r n from ?_)
  funext a
  apply Fin.ext
  match a with
  | ⟨0, _⟩ => show ix_2 m t 0 * 256 + 1 * r.val = _; rw [hi.1]; simp
  | ⟨1, _⟩ => show ix_2 m t 1 * 128 + 1 * n.val = _; rw [hi.2]; simp

theorem iblk3 (r : Fin 256) (n : Fin 128) :
    bk3 m c t (ix2 r n) = (V m c main_v4 : Vec Ideal S256x128 .f32) (ix2 r n) := by
  have hi := at3 m t
  refine congrArg (V m c main_v4 : Vec Ideal S256x128 .f32) (show ((((cfgM m (ok m)).win 3).blk t).view.emb (ix2 r n) : S256x128.Idx) = ix2 r n from ?_)
  funext a
  apply Fin.ext
  match a with
  | ⟨0, _⟩ => show ix_3 m t 0 * 256 + 1 * r.val = _; rw [hi.1]; simp
  | ⟨1, _⟩ => show ix_3 m t 1 * 128 + 1 * n.val = _; rw [hi.2]; simp

theorem iblk4 (r : Fin 256) (n : Fin 128) :
    bk4 m c t (ix2 r n) = (V m c main_v5 : Vec Ideal S256x128 .f32) (ix2 r n) := by
  have hi := at4 m t
  refine congrArg (V m c main_v5 : Vec Ideal S256x128 .f32) (show ((((cfgM m (ok m)).win 4).blk t).view.emb (ix2 r n) : S256x128.Idx) = ix2 r n from ?_)
  funext a
  apply Fin.ext
  match a with
  | ⟨0, _⟩ => show ix_4 m t 0 * 256 + 1 * r.val = _; rw [hi.1]; simp
  | ⟨1, _⟩ => show ix_4 m t 1 * 128 + 1 * n.val = _; rw [hi.2]; simp

abbrev ref_5 : Vec Ideal S256x128 .f32 := Cert.Reference14Ideal.Read.val_main_v1 (F := Ideal) (a0 m c) (a1 m c)

theorem pay_5 (r : Fin 256) (n : Fin 128) :
    k0_pay2 (F := Ideal) (bk0 m c t) (recv0 (bk1 m c t)) (recv1 (bk1 m c t)) (recv2 (bk1 m c t)) (ix2 r n) = ref_5 m c (ix2 r n) := by unfold ref_5; rw [pay2_at, ref1_at, iblk0, iblk1, iblk1, iblk1, V1, V2]

theorem emb_5 (r : Fin 256) (n : Fin 128) :
    ((((cfgM m (ok m)).win 5).blk t).view.emb (ix2 r n) : S256x128.Idx) = ix2 r n := by
  have hi := at5 m t
  funext a
  apply Fin.ext
  match a with
  | ⟨0, _⟩ => show ix_5 m t 0 * 256 + 1 * r.val = _; rw [hi.1]; simp
  | ⟨1, _⟩ => show ix_5 m t 1 * 128 + 1 * n.val = _; rw [hi.2]; simp

theorem flushed_5 (hf : ((cfgM m (ok m)).win 5).flush t = true) :
    (dats m (ok m) 0 c).flushed 5 t = (((cfgM m (ok m)).win 5).blk t).view.read (Elt Ideal) (ref_5 m c) := by
  show ((cfgM m (ok m)).win 5).cut (grid0.coords t) ((dats m (ok m) 0 c).after 5 t) = _
  rw [after0_5]
  unfold outsAt0
  dsimp only
  refine funext fun (y : S256x128.Idx) => ?_
  obtain ⟨r, n, rfl⟩ : ∃ (r : Fin 256) (n : Fin 128), y = ix2 r n := ⟨y 0, y 1, eq_ix2 y⟩
  have h2 : ∀ (X : Vec Ideal S256x128 .f32), ((cfgM m (ok m)).win 5).cut (grid0.coords t) X (ix2 r n) = X (ix2 r n) := fun _ => rfl
  refine (h2 _).trans ?_
  refine (congrFun (out_5 (F := Ideal) c (grid0.coords t) _ _ _ _ _ _ _ _ _ _ _ _ _ _ _ _ _ _ (bk0 m c t) (bk1 m c t) (bk2 m c t) (bk3 m c t) (bk4 m c t) (tbl m 0)) (ix2 r n)).trans ?_
  refine (pay_5 m c t r n).trans ?_
  refine (congrArg (ref_5 m c) (emb_5 m t r n).symm).trans ?_
  rfl

theorem final_5 : (dats m (ok m) 0 c).arrAt 5 (cfgM m (ok m)).N = ref_5 m c :=
  (dats m (ok m) 0 c).arrAt_eq_of_cover 5 _ (flushed_5 m c) fun (i : S256x128.Idx) => by
    have h0 : (i 0 : Nat) < 256 := (i 0).isLt
    have h1 : (i 1 : Nat) < 128 := (i 1).isLt
    let t : Fin (cfgM m (ok m)).N := ⟨0, (by decide : 0 < grid0.N)⟩
    have hi := at5 m t
    refine ⟨t, flush0_5 (adm m (ok m)) t, ?_⟩
    refine (View.set_slice_whole main_v6_0 (((cfgM m (ok m)).win 5).rect t)).symm.subset ?_
    refine Rect.mem_set_unit.mpr ?_
    intro a
    match a with
    | ⟨0, _⟩ =>
      show ix_5 m t 0 * 256 ≤ (i 0 : Nat) ∧ (i 0 : Nat) < ix_5 m t 0 * 256 + 256
      rw [hi.1]; omega
    | ⟨1, _⟩ =>
      show ix_5 m t 1 * 128 ≤ (i 1 : Nat) ∧ (i 1 : Nat) < ix_5 m t 1 * 128 + 128
      rw [hi.2]; omega

abbrev ref_7 : Vec Ideal S256x128 .f32 := Cert.Reference14Ideal.Read.val_main_v9 (F := Ideal) (a0 m c) (a1 m c) (a5 m c) (a6 m c) (a7 m c)

theorem pay_7 (r : Fin 256) (n : Fin 128) :
    k0_pay4 (F := Ideal) (bk0 m c t) (recv0 (bk1 m c t)) (recv1 (bk1 m c t)) (recv2 (bk1 m c t)) (bk3 m c t) (ix2 r n) = ref_7 m c (ix2 r n) := by unfold ref_7; rw [pay4_at, ref9_at, pay_5, iblk3, V4]

theorem emb_7 (r : Fin 256) (n : Fin 128) :
    ((((cfgM m (ok m)).win 7).blk t).view.emb (ix2 r n) : S256x128.Idx) = ix2 r n := by
  have hi := at7 m t
  funext a
  apply Fin.ext
  match a with
  | ⟨0, _⟩ => show ix_7 m t 0 * 256 + 1 * r.val = _; rw [hi.1]; simp
  | ⟨1, _⟩ => show ix_7 m t 1 * 128 + 1 * n.val = _; rw [hi.2]; simp

theorem flushed_7 (hf : ((cfgM m (ok m)).win 7).flush t = true) :
    (dats m (ok m) 0 c).flushed 7 t = (((cfgM m (ok m)).win 7).blk t).view.read (Elt Ideal) (ref_7 m c) := by
  show ((cfgM m (ok m)).win 7).cut (grid0.coords t) ((dats m (ok m) 0 c).after 7 t) = _
  rw [after0_7]
  unfold outsAt0
  dsimp only
  refine funext fun (y : S256x128.Idx) => ?_
  obtain ⟨r, n, rfl⟩ : ∃ (r : Fin 256) (n : Fin 128), y = ix2 r n := ⟨y 0, y 1, eq_ix2 y⟩
  have h2 : ∀ (X : Vec Ideal S256x128 .f32), ((cfgM m (ok m)).win 7).cut (grid0.coords t) X (ix2 r n) = X (ix2 r n) := fun _ => rfl
  refine (h2 _).trans ?_
  refine (congrFun (out_7 (F := Ideal) c (grid0.coords t) _ _ _ _ _ _ _ _ _ _ _ _ _ _ _ _ _ _ (bk0 m c t) (bk1 m c t) (bk2 m c t) (bk3 m c t) (bk4 m c t) (tbl m 0)) (ix2 r n)).trans ?_
  refine (pay_7 m c t r n).trans ?_
  refine (congrArg (ref_7 m c) (emb_7 m t r n).symm).trans ?_
  rfl

theorem final_7 : (dats m (ok m) 0 c).arrAt 7 (cfgM m (ok m)).N = ref_7 m c :=
  (dats m (ok m) 0 c).arrAt_eq_of_cover 7 _ (flushed_7 m c) fun (i : S256x128.Idx) => by
    have h0 : (i 0 : Nat) < 256 := (i 0).isLt
    have h1 : (i 1 : Nat) < 128 := (i 1).isLt
    let t : Fin (cfgM m (ok m)).N := ⟨0, (by decide : 0 < grid0.N)⟩
    have hi := at7 m t
    refine ⟨t, flush0_7 (adm m (ok m)) t, ?_⟩
    refine (View.set_slice_whole main_v6_2 (((cfgM m (ok m)).win 7).rect t)).symm.subset ?_
    refine Rect.mem_set_unit.mpr ?_
    intro a
    match a with
    | ⟨0, _⟩ =>
      show ix_7 m t 0 * 256 ≤ (i 0 : Nat) ∧ (i 0 : Nat) < ix_7 m t 0 * 256 + 256
      rw [hi.1]; omega
    | ⟨1, _⟩ =>
      show ix_7 m t 1 * 128 ≤ (i 1 : Nat) ∧ (i 1 : Nat) < ix_7 m t 1 * 128 + 128
      rw [hi.2]; omega

abbrev ref_8 : Vec Ideal S256x128 .f32 := Cert.Reference14Ideal.Read.val_main_v15 (F := Ideal) (a0 m c) (a1 m c) (a8 m c) (a9 m c) (a10 m c)

theorem pay_8 (r : Fin 256) (n : Fin 128) :
    k0_pay5 (F := Ideal) (bk0 m c t) (recv0 (bk1 m c t)) (recv1 (bk1 m c t)) (recv2 (bk1 m c t)) (bk4 m c t) (ix2 r n) = ref_8 m c (ix2 r n) := by unfold ref_8; rw [pay5_at, ref15_at, pay_5, iblk4, V5]

theorem emb_8 (r : Fin 256) (n : Fin 128) :
    ((((cfgM m (ok m)).win 8).blk t).view.emb (ix2 r n) : S256x128.Idx) = ix2 r n := by
  have hi := at8 m t
  funext a
  apply Fin.ext
  match a with
  | ⟨0, _⟩ => show ix_8 m t 0 * 256 + 1 * r.val = _; rw [hi.1]; simp
  | ⟨1, _⟩ => show ix_8 m t 1 * 128 + 1 * n.val = _; rw [hi.2]; simp

theorem flushed_8 (hf : ((cfgM m (ok m)).win 8).flush t = true) :
    (dats m (ok m) 0 c).flushed 8 t = (((cfgM m (ok m)).win 8).blk t).view.read (Elt Ideal) (ref_8 m c) := by
  show ((cfgM m (ok m)).win 8).cut (grid0.coords t) ((dats m (ok m) 0 c).after 8 t) = _
  rw [after0_8]
  unfold outsAt0
  dsimp only
  refine funext fun (y : S256x128.Idx) => ?_
  obtain ⟨r, n, rfl⟩ : ∃ (r : Fin 256) (n : Fin 128), y = ix2 r n := ⟨y 0, y 1, eq_ix2 y⟩
  have h2 : ∀ (X : Vec Ideal S256x128 .f32), ((cfgM m (ok m)).win 8).cut (grid0.coords t) X (ix2 r n) = X (ix2 r n) := fun _ => rfl
  refine (h2 _).trans ?_
  refine (congrFun (out_8 (F := Ideal) c (grid0.coords t) _ _ _ _ _ _ _ _ _ _ _ _ _ _ _ _ _ _ (bk0 m c t) (bk1 m c t) (bk2 m c t) (bk3 m c t) (bk4 m c t) (tbl m 0)) (ix2 r n)).trans ?_
  refine (pay_8 m c t r n).trans ?_
  refine (congrArg (ref_8 m c) (emb_8 m t r n).symm).trans ?_
  rfl

theorem final_8 : (dats m (ok m) 0 c).arrAt 8 (cfgM m (ok m)).N = ref_8 m c :=
  (dats m (ok m) 0 c).arrAt_eq_of_cover 8 _ (flushed_8 m c) fun (i : S256x128.Idx) => by
    have h0 : (i 0 : Nat) < 256 := (i 0).isLt
    have h1 : (i 1 : Nat) < 128 := (i 1).isLt
    let t : Fin (cfgM m (ok m)).N := ⟨0, (by decide : 0 < grid0.N)⟩
    have hi := at8 m t
    refine ⟨t, flush0_8 (adm m (ok m)) t, ?_⟩
    refine (View.set_slice_whole main_v6_3 (((cfgM m (ok m)).win 8).rect t)).symm.subset ?_
    refine Rect.mem_set_unit.mpr ?_
    intro a
    match a with
    | ⟨0, _⟩ =>
      show ix_8 m t 0 * 256 ≤ (i 0 : Nat) ∧ (i 0 : Nat) < ix_8 m t 0 * 256 + 256
      rw [hi.1]; omega
    | ⟨1, _⟩ =>
      show ix_8 m t 1 * 128 ≤ (i 1 : Nat) ∧ (i 1 : Nat) < ix_8 m t 1 * 128 + 128
      rw [hi.2]; omega

abbrev ref_6 : Vec Ideal S256x128 .f32 := Cert.Reference14Ideal.Read.val_main_v28 (F := Ideal) (a0 m c) (a1 m c) (a2 m c) (a3 m c) (a4 m c) (a5 m c) (a6 m c) (a7 m c) (a8 m c) (a9 m c) (a10 m c)

theorem pay_6 (r : Fin 256) (n : Fin 128) :
    k0_pay1 (F := Ideal) (k0_pay3 (bk2 m c t)) (k0_pay6 (bk0 m c t) (recv0 (bk1 m c t)) (recv1 (bk1 m c t)) (recv2 (bk1 m c t)) (bk3 m c t)) (k0_pay7 (bk0 m c t) (recv0 (bk1 m c t)) (recv1 (bk1 m c t)) (recv2 (bk1 m c t)) (bk4 m c t)) (ix2 r n) = ref_6 m c (ix2 r n) := by unfold ref_6; rw [pay1_at, ref28_at, pay_7, pay_8, iblk2, V3]

theorem emb_6 (r : Fin 256) (n : Fin 128) :
    ((((cfgM m (ok m)).win 6).blk t).view.emb (ix2 r n) : S256x128.Idx) = ix2 r n := by
  have hi := at6 m t
  funext a
  apply Fin.ext
  match a with
  | ⟨0, _⟩ => show ix_6 m t 0 * 256 + 1 * r.val = _; rw [hi.1]; simp
  | ⟨1, _⟩ => show ix_6 m t 1 * 128 + 1 * n.val = _; rw [hi.2]; simp

theorem flushed_6 (hf : ((cfgM m (ok m)).win 6).flush t = true) :
    (dats m (ok m) 0 c).flushed 6 t = (((cfgM m (ok m)).win 6).blk t).view.read (Elt Ideal) (ref_6 m c) := by
  show ((cfgM m (ok m)).win 6).cut (grid0.coords t) ((dats m (ok m) 0 c).after 6 t) = _
  rw [after0_6]
  unfold outsAt0
  dsimp only
  refine funext fun (y : S256x128.Idx) => ?_
  obtain ⟨r, n, rfl⟩ : ∃ (r : Fin 256) (n : Fin 128), y = ix2 r n := ⟨y 0, y 1, eq_ix2 y⟩
  have h2 : ∀ (X : Vec Ideal S256x128 .f32), ((cfgM m (ok m)).win 6).cut (grid0.coords t) X (ix2 r n) = X (ix2 r n) := fun _ => rfl
  refine (h2 _).trans ?_
  refine (congrFun (out_6 (F := Ideal) c (grid0.coords t) _ _ _ _ _ _ _ _ _ _ _ _ _ _ _ _ _ _ (bk0 m c t) (bk1 m c t) (bk2 m c t) (bk3 m c t) (bk4 m c t) (tbl m 0)) (ix2 r n)).trans ?_
  refine (pay_6 m c t r n).trans ?_
  refine (congrArg (ref_6 m c) (emb_6 m t r n).symm).trans ?_
  rfl

theorem final_6 : (dats m (ok m) 0 c).arrAt 6 (cfgM m (ok m)).N = ref_6 m c :=
  (dats m (ok m) 0 c).arrAt_eq_of_cover 6 _ (flushed_6 m c) fun (i : S256x128.Idx) => by
    have h0 : (i 0 : Nat) < 256 := (i 0).isLt
    have h1 : (i 1 : Nat) < 128 := (i 1).isLt
    let t : Fin (cfgM m (ok m)).N := ⟨0, (by decide : 0 < grid0.N)⟩
    have hi := at6 m t
    refine ⟨t, flush0_6 (adm m (ok m)) t, ?_⟩
    refine (View.set_slice_whole main_v6_1 (((cfgM m (ok m)).win 6).rect t)).symm.subset ?_
    refine Rect.mem_set_unit.mpr ?_
    intro a
    match a with
    | ⟨0, _⟩ =>
      show ix_6 m t 0 * 256 ≤ (i 0 : Nat) ∧ (i 0 : Nat) < ix_6 m t 0 * 256 + 256
      rw [hi.1]; omega
    | ⟨1, _⟩ =>
      show ix_6 m t 1 * 128 ≤ (i 1 : Nat) ∧ (i 1 : Nat) < ix_6 m t 1 * 128 + 128
      rw [hi.2]; omega

end Cert.Proof.Small

end
-- ==== Proof.SmallClaim.lean ====
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Small
public import Idealize.ShloMosaic.Lib.Claim

@[expose] public section

set_option maxRecDepth 16384

noncomputable section

/-! The claims about the kernel of `adam_small` and its reference. -/

namespace Cert.Proof.Small

open Idealize.ShloMosaic Idealize.SL.Sem

/-! The index the kernel as written is passed, as for the idealised one. -/

namespace Word
open Cert.Kernel14 Cert.Kernel14.Gen
variable {F : FTy → Type} [FloatOps F] (m : (ℓ : Loc nD τ sig) → Buf (Elt F) ℓ)

/-- The index passed to the kernel is zero, -/
theorem index_zero : (V m 0 main_v0 : S1.Idx → BitVec 32) = fun _ => 0#32 := by
  have e : V m 0 main_v0 = (broadcastInDim S1 ![] bcast_S_S1 (constantI S_ 32 0#32) : S1.Idx → BitVec 32) := by
    unfold V; after_results
  rw [e]; rfl

theorem tbl_at (x : S1.Idx) : (tbl m 0 : S1.Idx → BitVec 32) x = 0#32 := congrFun (index_zero m) x

theorem transform0 (i : grid0.Coords) : cc0_transform_0 inb_S1_S1_0 numel1_S1 (tbl m) i = ![0, (BitVec.ofNat 32 (i 0).val).toNat, 0] := by
  unfold cc0_transform_0
  rw [show (tbl m).at 0 (Rect.unit (s := S1) ![0] S1.size inb_S1_S1_0) numel1_S1 = 0#32 from tbl_at m _]
  rfl

theorem inside : ∀ (i : grid0.Coords) (a : Fin 3), ((![0, (BitVec.ofNat 32 (i 0).val).toNat, 0] : Fin 3 → Nat) a + 1) * S1x256x128.size a ≤ S1x256x128.size a := by decide

/-- so its block lies in the array. -/
theorem ok : Ok m := by
  intro i
  refine ⟨fun a => ?_, .inl rfl⟩
  rw [transform0]
  exact inside i a
end Word

attribute [local instance] Cert.Kernel14.Gen.facts Cert.Kernel14Ideal.Gen.facts Cert.Reference14Ideal.Gen.facts

theorem frame_kernel : Cert.quiescent_Kernel14 := fun m ρ _ => Cert.Kernel14.Gen.frame m ρ (Word.ok m)

theorem frame_ideal : Cert.quiescent_Kernel14Ideal := fun m ρ _ => Cert.Kernel14Ideal.Gen.frame m ρ (ok m)

theorem frame_reference : Cert.quiescent_Reference14Ideal := fun m ρ _ =>
  (θ_run Cert.Reference14Ideal.defs _ _).mono
    (fun r h => ⟨fun c => (h c).2.2.2.2, sem_eq_zero_of_no_sems (by decide) r.2⟩)
    (Cert.Reference14Ideal.Value.run (F := Ideal) m ρ)

section run
open Cert.Kernel14Ideal Cert.Kernel14Ideal.Gen Idealize.ShloMosaic.TcCoe

/-- The kernel's run leaves the four result arrays and the arguments so. -/
theorem run_blocks (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v6_0) = ref_5 m c
      ∧ r.2.mem ((c : Thread nD τ).loc main_v6_1) = ref_6 m c
      ∧ r.2.mem ((c : Thread nD τ).loc main_v6_2) = ref_7 m c
      ∧ r.2.mem ((c : Thread nD τ).loc main_v6_3) = ref_8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨((h c).1 5).trans (final_5 m c), ((h c).1 6).trans (final_6 m c),
      ((h c).1 7).trans (final_7 m c), ((h c).1 8).trans (final_8 m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) (run_main m ρ (ok m))
end run

theorem algebraic : Cert.algebraic_Kernel14Ideal_Reference14Ideal := by
  intro m g m' g' _ hag
  refine ⟨fun c => ref_5 m c, fun c => ref_6 m c, fun c => ref_7 m c, fun c => ref_8 m c, run_blocks m g, ?_⟩
  refine (θ_run Cert.Reference14Ideal.defs _ _).mono (fun r h c => ?_) (Cert.Reference14Ideal.Value.run (F := Ideal) m' g')
  obtain ⟨e0, e1, e2, e3, e4, e5, e6, e7, e8, e9, e10⟩ := hag c
  obtain ⟨h0, h1, h2, h3, hargs⟩ := h c
  rw [Cert.Reference14Ideal.Read.val_main_v1_eq, e0, e1] at h0
  rw [Cert.Reference14Ideal.Read.val_main_v28_eq, e0, e1, e2, e3, e4, e5, e6, e7, e8, e9, e10] at h1
  rw [Cert.Reference14Ideal.Read.val_main_v9_eq, e0, e1, e5, e6, e7] at h2
  rw [Cert.Reference14Ideal.Read.val_main_v15_eq, e0, e1, e8, e9, e10] at h3
  exact ⟨h0, h1, h2, h3, hargs⟩

end Cert.Proof.Small

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.ConvClaim
public import proofs.«01_k».proof.Proof.Post1Claim
public import proofs.«01_k».proof.Proof.Pre1Claim
public import proofs.«01_k».proof.Proof.DwInClaim
public import proofs.«01_k».proof.Proof.DwUpClaim
public import proofs.«01_k».proof.Proof.DwDownClaim
public import proofs.«01_k».proof.Proof.DwBranchesClaim
public import proofs.«01_k».proof.Proof.InProjClaim
public import proofs.«01_k».proof.Proof.MergeClaim
public import proofs.«01_k».proof.Proof.OutClaim
public import proofs.«01_k».proof.Proof.LossClaim
public import proofs.«01_k».proof.Proof.UpConvClaim
public import proofs.«01_k».proof.Proof.AdamClaim
public import proofs.«01_k».proof.Proof.SmallClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel4.Gen.facts, Cert.Kernel4Ideal.Gen.facts, Cert.Reference4Ideal.Gen.facts,
    Cert.Kernel11.Gen.facts, Cert.Kernel11Ideal.Gen.facts, Cert.Reference11Ideal.Gen.facts,
    Cert.Kernel7.Gen.facts, Cert.Kernel7Ideal.Gen.facts, Cert.Reference7Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts,
    Conv.frame_kernel, Conv.frame_ideal, Conv.frame_ideal_finite, Conv.frame_reference, Conv.frame_reference_finite,
    Post1.frame_kernel, Post1.frame_ideal, Post1.frame_reference,
    Pre1.frame_kernel, Pre1.frame_ideal, Pre1.frame_reference,
    DwIn.frame_kernel, DwIn.frame_ideal, DwIn.frame_reference,
    DwUp.frame_kernel, DwUp.frame_ideal, DwUp.frame_reference,
    DwDown.frame_kernel, DwDown.frame_ideal, DwDown.frame_reference,
    DwBranches.frame_kernel, DwBranches.frame_ideal, DwBranches.frame_reference,
    InProj.frame_kernel, InProj.frame_ideal, InProj.frame_reference,
    Merge.frame_kernel, Merge.frame_ideal, Merge.frame_reference,
    Out.frame_kernel, Out.frame_ideal, Out.frame_reference,
    Loss.frame_kernel, Loss.frame_ideal, Loss.frame_reference,
    UpConv.frame_kernel, UpConv.frame_ideal, UpConv.frame_reference,
    Adam.frame_kernel, Adam.frame_ideal, Adam.frame_reference,
    Small.frame_kernel, Small.frame_ideal, Small.frame_reference,
    trivial, Conv.algebraic,
    trivial, Post1.algebraic,
    trivial, Pre1.algebraic,
    trivial, DwIn.algebraic,
    trivial, DwUp.algebraic,
    trivial, DwDown.algebraic,
    trivial, DwBranches.algebraic,
    trivial, InProj.algebraic,
    trivial, Merge.algebraic,
    trivial, Out.algebraic,
    trivial, Loss.algebraic,
    trivial, UpConv.algebraic,
    trivial, Adam.algebraic,
    trivial, Small.algebraic⟩

end Cert.Proof

end
